-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v1) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)
      ∧ m' ((c.tc : Thread Cert.WeightsReferenceIdeal.nD Cert.WeightsReferenceIdeal.τ).loc Cert.WeightsReferenceIdeal.main_arg3) = m ((c.tc : Thread Cert.WeightsIdeal.nD Cert.WeightsIdeal.τ).loc Cert.WeightsIdeal.main_arg3)
      ∧ m' ((c.tc : Thread Cert.WeightsReferenceIdeal.nD Cert.WeightsReferenceIdeal.τ).loc Cert.WeightsReferenceIdeal.main_arg4) = m ((c.tc : Thread Cert.WeightsIdeal.nD Cert.WeightsIdeal.τ).loc Cert.WeightsIdeal.main_arg4)) →
    ∃ (v0 : (c : Dev Cert.WeightsIdeal.nD) → Buf (Elt Ideal) ((c.tc : Thread Cert.WeightsIdeal.nD Cert.WeightsIdeal.τ).loc Cert.WeightsIdeal.main_v2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v2) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v21) = v0 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2)
          ∧ r.2.mem ((c.tc : Thread Cert.WeightsReferenceIdeal.nD Cert.WeightsReferenceIdeal.τ).loc Cert.WeightsReferenceIdeal.main_arg3) = m' ((c.tc : Thread Cert.WeightsReferenceIdeal.nD Cert.WeightsReferenceIdeal.τ).loc Cert.WeightsReferenceIdeal.main_arg3)
          ∧ r.2.mem ((c.tc : Thread Cert.WeightsReferenceIdeal.nD Cert.WeightsReferenceIdeal.τ).loc Cert.WeightsReferenceIdeal.main_arg4) = m' ((c.tc : Thread Cert.WeightsReferenceIdeal.nD Cert.WeightsReferenceIdeal.τ).loc Cert.WeightsReferenceIdeal.main_arg4))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hWeights : Cert.Weights.Facts) (hWeightsIdeal : Cert.WeightsIdeal.Facts) (hWeightsReferenceIdeal : Cert.WeightsReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ quiescent_Combine (hCombine := hCombine)
    ∧ quiescent_CombineIdeal (hCombineIdeal := hCombineIdeal)
    ∧ quiescent_CombineReferenceIdeal (hCombineReferenceIdeal := hCombineReferenceIdeal)
    ∧ quiescent_Weights (hWeights := hWeights)
    ∧ quiescent_WeightsIdeal (hWeightsIdeal := hWeightsIdeal)
    ∧ quiescent_WeightsReferenceIdeal (hWeightsReferenceIdeal := hWeightsReferenceIdeal)
    ∧ preserves_Kernel_KernelIdeal
    ∧ algebraic_KernelIdeal_ReferenceIdeal (hKernelIdeal := hKernelIdeal) (hReferenceIdeal := hReferenceIdeal) (hPre_sorted_ids := hPre_sorted_ids)
    ∧ preserves_Combine_CombineIdeal
    ∧ algebraic_CombineIdeal_CombineReferenceIdeal (hCombineIdeal := hCombineIdeal) (hCombineReferenceIdeal := hCombineReferenceIdeal)
    ∧ preserves_Weights_WeightsIdeal
    ∧ algebraic_WeightsIdeal_WeightsReferenceIdeal (hWeightsIdeal := hWeightsIdeal) (hWeightsReferenceIdeal := hWeightsReferenceIdeal)
-- ==== Pre_sorted_ids.lean ====
abbrev S100000x8x64 : Shape := ⟨3, ![100000, 8, 64]⟩
abbrev S100000x64 : Shape := ⟨2, ![100000, 64]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x8x64 .f32) (main_arg1 : FVec F S100000x64 .f32) (main_arg2 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 512#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg2
  let main_v8 : IVec S99999 32 := (extractStridedSlice S99999 ![1] · slices_S100000_S99999_1) main_arg2
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x8x64 : Shape := ⟨3, ![100000, 8, 64]⟩
abbrev S100000x64 : Shape := ⟨2, ![100000, 64]⟩
abbrev S100000 : Shape := ⟨1, ![100000]⟩
abbrev S100000x512 : Shape := ⟨2, ![100000, 512]⟩
abbrev S1024x512 : Shape := ⟨2, ![1024, 512]⟩
abbrev S2x32x512 : Shape := ⟨3, ![2, 32, 512]⟩
abbrev S2x32x64 : Shape := ⟨3, ![2, 32, 64]⟩
abbrev S3136 : Shape := ⟨1, ![3136]⟩
abbrev S16 : Shape := ⟨1, ![16]⟩
abbrev S256 : Shape := ⟨1, ![256]⟩
abbrev S1x512 : Shape := ⟨2, ![1, 512]⟩
abbrev S544x512 : Shape := ⟨2, ![544, 512]⟩
abbrev S2 : Shape := ⟨1, ![2]⟩
abbrev S1x16 : Shape := ⟨2, ![1, 16]⟩
abbrev S_ : Shape := ⟨0, ![]⟩
abbrev S1x32x512 : Shape := ⟨3, ![1, 32, 512]⟩
abbrev S32x512 : Shape := ⟨2, ![32, 512]⟩
abbrev S1 : Shape := ⟨1, ![1]⟩
abbrev S1x32x64 : Shape := ⟨3, ![1, 32, 64]⟩
abbrev S32x64 : Shape := ⟨2, ![32, 64]⟩
abbrev S1x1x16 : Shape := ⟨3, ![1, 1, 16]⟩

abbrev nBuf : Table → Nat
  | .hbm => 5
  | .shared => 2
  | .local .scVector .vmem => 8
  | _ => 0

abbrev bufTy : (tb : Table) → Fin (nBuf tb) → BufTy
  | .hbm, ⟨0, _⟩ => ⟨S100000x8x64, .f32⟩
  | .hbm, ⟨1, _⟩ => ⟨S100000x64, .f32⟩
  | .hbm, ⟨2, _⟩ => ⟨S100000, .i32⟩
  | .hbm, ⟨3, _⟩ => ⟨S100000x512, .f32⟩
  | .hbm, ⟨4, _⟩ => ⟨S1024x512, .f32⟩
  | .shared, ⟨0, _⟩ => ⟨S544x512, .f32⟩
  | .shared, ⟨1, _⟩ => ⟨S256, .i32⟩
  | .local .scVector .vmem, ⟨0, _⟩ => ⟨S2x32x512, .f32⟩
  | .local .scVector .vmem, ⟨1, _⟩ => ⟨S2x32x64, .f32⟩
  | .local .scVector .vmem, ⟨2, _⟩ => ⟨S3136, .i32⟩
  | .local .scVector .vmem, ⟨3, _⟩ => ⟨S16, .i32⟩
  | .local .scVector .vmem, ⟨4, _⟩ => ⟨S16, .i32⟩
  | .local .scVector .vmem, ⟨5, _⟩ => ⟨S256, .i32⟩
  | .local .scVector .vmem, ⟨6, _⟩ => ⟨S1x512, .f32⟩
  | .local .scVector .vmem, ⟨7, _⟩ => ⟨S1x512, .f32⟩
  | _, _ => ⟨S100000x8x64, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 5 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch8 : Ref sig .scVector := ⟨.shared, 0, rfl⟩
abbrev cc0_scratch9 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_38 : BitVec 32 := 0#32
  let c34_i32 : BitVec 32 := 34#32
  let v90 : BitVec 32 := Scalar.addi c0_i32_38 c34_i32
  let c1_i32_39 : BitVec 32 := 1#32
  ⟨c0_i32_38, v90, c1_i32_39⟩
def k0_off1 (i : grid0.Coords) (k0_t1 : Fin k0_t1_loop.trips) : Fin 2 → Nat :=
  let arg1 : BitVec 32 := BitVec.ofNat 32 (i 1).val
  let c34_i32_324 : BitVec 32 := 34#32
  let v543 : BitVec 32 := Scalar.muli arg1 c34_i32_324
  let c0_i32_38 : BitVec 32 := 0#32
  let c1_i32_39 : BitVec 32 := 1#32
  let arg18 : BitVec 32 := Scf.iv c0_i32_38 c1_i32_39 k0_t1
  let v544 : BitVec 32 := Scalar.addi v543 arg18
  let c0_i32_326_r0 : BitVec 32 := 0#32
  ![v544.toNat, 0]
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  v22
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v92 : BitVec 32 := v22
  ![v92.toNat]
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c16_i32_41 : BitVec 32 := 16#32
  let v93 : BitVec 32 := Scalar.subi v2 c16_i32_41
  let c0_i32_42 : BitVec 32 := 0#32
  let v94 : BitVec 32 := Scalar.maxsi v93 c0_i32_42
  v94
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c16_i32_41 : BitVec 32 := 16#32
  let v93 : BitVec 32 := Scalar.subi v2 c16_i32_41
  let c0_i32_42 : BitVec 32 := 0#32
  let v94 : BitVec 32 := Scalar.maxsi v93 c0_i32_42
  let v95 : BitVec 32 := v94
  ![v95.toNat]
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  v23
def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let v96 : BitVec 32 := v23
  let v97 : Index := Scalar.indexCast v96
  ![v97.toNat]
def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let c3136_i32_0 : BitVec 32 := 3136#32
  let c100000_i32 : BitVec 32 := 100000#32
  let v3 : BitVec 32 := Scalar.subi c100000_i32 v2
  let v4 : BitVec 32 := Scalar.minsi c3136_i32_0 v3
  let v105 : BitVec 32 := Scalar.addi v23 v4
  let c16_i32_43 : BitVec 32 := 16#32
  let v106 : BitVec 32 := Scalar.subi v105 c16_i32_43
  v106
def k0_off5 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let c3136_i32_0 : BitVec 32 := 3136#32
  let c100000_i32 : BitVec 32 := 100000#32
  let v3 : BitVec 32 := Scalar.subi c100000_i32 v2
  let v4 : BitVec 32 := Scalar.minsi c3136_i32_0 v3
  let v105 : BitVec 32 := Scalar.addi v23 v4
  let c16_i32_43 : BitVec 32 := 16#32
  let v106 : BitVec 32 := Scalar.subi v105 c16_i32_43
  let v107 : BitVec 32 := v106
  let v108 : Index := Scalar.indexCast v107
  ![v108.toNat]
def k0_mult5 (i : grid0.Coords) : BitVec 32 :=
  let arg1 : BitVec 32 := BitVec.ofNat 32 (i 1).val
  let c16_i32_51 : BitVec 32 := 16#32
  let v130 : BitVec 32 := Scalar.muli arg1 c16_i32_51
  v130
def k0_off6 (i : grid0.Coords) : Fin 1 → Nat :=
  let arg1 : BitVec 32 := BitVec.ofNat 32 (i 1).val
  let c16_i32_51 : BitVec 32 := 16#32
  let v130 : BitVec 32 := Scalar.muli arg1 c16_i32_51
  let v131 : BitVec 32 := v130
  ![v131.toNat]
def k0_off7 (i : grid0.Coords) (c0_i32_54 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_53 : BitVec 32 := 1#32
  let v132 : BitVec 32 := Scalar.subi v21 c1_i32_53
  let v133 : BitVec 32 := Scalar.minsi c0_i32_54 v132
  let c32_i32_55 : BitVec 32 := 32#32
  let v134 : BitVec 32 := Scalar.muli v133 c32_i32_55
  let v135 : BitVec 32 := Scalar.addi v2 v134
  let c0_i32_60 : BitVec 32 := 0#32
  ![v135.toNat, 0]
def k0_off8 (i : grid0.Coords) (c0_i32_54 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_53 : BitVec 32 := 1#32
  let v132 : BitVec 32 := Scalar.subi v21 c1_i32_53
  let v133 : BitVec 32 := Scalar.minsi c0_i32_54 v132
  let c32_i32_55 : BitVec 32 := 32#32
  let v134 : BitVec 32 := Scalar.muli v133 c32_i32_55
  let v135 : BitVec 32 := Scalar.addi v2 v134
  let c0_i32_68 : BitVec 32 := 0#32
  ![v135.toNat, 0]
@[reducible] def k0_t2_loop : Scf.Loop 32 :=
  let c0_i32_92 : BitVec 32 := 0#32
  let c49_i32 : BitVec 32 := 49#32
  let v172 : BitVec 32 := Scalar.addi c0_i32_92 c49_i32
  let c1_i32_93 : BitVec 32 := 1#32
  ⟨c0_i32_92, v172, c1_i32_93⟩
def k0_off9 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_326 : BitVec 32 := 1#32
  let v545 : BitVec 32 := Scalar.subi v21 c1_i32_326
  let v546 : BitVec 32 := Scalar.minsi v544 v545
  let c32_i32_327 : BitVec 32 := 32#32
  let v547 : BitVec 32 := Scalar.muli v546 c32_i32_327
  let v548 : BitVec 32 := Scalar.addi v2 v547
  let c0_i32_332 : BitVec 32 := 0#32
  ![v548.toNat, 0]
def k0_off10 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_326 : BitVec 32 := 1#32
  let v545 : BitVec 32 := Scalar.subi v21 c1_i32_326
  let v546 : BitVec 32 := Scalar.minsi v544 v545
  let c32_i32_327 : BitVec 32 := 32#32
  let v547 : BitVec 32 := Scalar.muli v546 c32_i32_327
  let v548 : BitVec 32 := Scalar.addi v2 v547
  let c0_i32_340 : BitVec 32 := 0#32
  ![v548.toNat, 0]
@[reducible] def k0_t3_loop : Scf.Loop 32 :=
  let c0_i32_344 : BitVec 32 := 0#32
  let c2_i32_345 : BitVec 32 := 2#32
  let v565 : BitVec 32 := Scalar.addi c0_i32_344 c2_i32_345
  let c1_i32_346 : BitVec 32 := 1#32
  ⟨c0_i32_344, v565, c1_i32_346⟩
def k0_mult6 (i : grid0.Coords) (k0_t2 : Fin k0_t2_loop.trips) (k0_t3 : Fin k0_t3_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c32_i32_377 : BitVec 32 := 32#32
  let v599 : BitVec 32 := Scalar.muli v544 c32_i32_377
  let c16_i32_378 : BitVec 32 := 16#32
  let c0_i32_344 : BitVec 32 := 0#32
  let c1_i32_346 : BitVec 32 := 1#32
  let arg20 : BitVec 32 := Scf.iv c0_i32_344 c1_i32_346 k0_t3
  let v600 : BitVec 32 := Scalar.muli c16_i32_378 arg20
  let v601 : BitVec 32 := Scalar.addi v599 v600
  let c3136_i32_0 : BitVec 32 := 3136#32
  let c100000_i32 : BitVec 32 := 100000#32
  let v3 : BitVec 32 := Scalar.subi c100000_i32 v2
  let v4 : BitVec 32 := Scalar.minsi c3136_i32_0 v3
  let c16_i32_379 : BitVec 32 := 16#32
  let v602 : BitVec 32 := Scalar.subi v4 c16_i32_379
  let v603 : BitVec 32 := Scalar.minsi v601 v602
  let v604 : BitVec 32 := Scalar.addi v23 v603
  v604
def k0_off11 (i : grid0.Coords) (k0_t2 : Fin k0_t2_loop.trips) (k0_t3 : Fin k0_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c32_i32_377 : BitVec 32 := 32#32
  let v599 : BitVec 32 := Scalar.muli v544 c32_i32_377
  let c16_i32_378 : BitVec 32 := 16#32
  let c0_i32_344 : BitVec 32 := 0#32
  let c1_i32_346 : BitVec 32 := 1#32
  let arg20 : BitVec 32 := Scf.iv c0_i32_344 c1_i32_346 k0_t3
  let v600 : BitVec 32 := Scalar.muli c16_i32_378 arg20
  let v601 : BitVec 32 := Scalar.addi v599 v600
  let c3136_i32_0 : BitVec 32 := 3136#32
  let c100000_i32 : BitVec 32 := 100000#32
  let v3 : BitVec 32 := Scalar.subi c100000_i32 v2
  let v4 : BitVec 32 := Scalar.minsi c3136_i32_0 v3
  let c16_i32_379 : BitVec 32 := 16#32
  let v602 : BitVec 32 := Scalar.subi v4 c16_i32_379
  let v603 : BitVec 32 := Scalar.minsi v601 v602
  let v604 : BitVec 32 := Scalar.addi v23 v603
  let v605 : BitVec 32 := v604
  let v606 : Index := Scalar.indexCast v605
  ![v606.toNat]
def k0_off12 (i : grid0.Coords) (v104 : BitVec 32) (v122 : BitVec 32) (arg21 : BitVec 32) : Fin 2 → Nat :=
  let v3672 : BitVec 1 := Scalar.cmpi .eq arg21 v104
  let arg1 : BitVec 32 := BitVec.ofNat 32 (i 1).val
  let c0_i32_49 : BitVec 32 := 0#32
  let v123 : BitVec 1 := Scalar.cmpi .eq arg1 c0_i32_49
  let v124 : BitVec 1 := Scalar.cmpi .ne v122 v104
  let v125 : BitVec 1 := Scalar.ori v123 v124
  let true_1797 : BitVec 1 := 1#1
  let v3673 : BitVec 1 := Scalar.xori v125 true_1797
  let v3674 : BitVec 1 := Scalar.andi v3672 v3673
  let c513_i32_1798 : BitVec 32 := 513#32
  let v3675 : BitVec 32 := Scalar.addi c513_i32_1798 arg1
  let c0_i32_1795 : BitVec 32 := 0#32
  let v3670 : BitVec 1 := Scalar.cmpi .slt arg21 c0_i32_1795
  let c512_i32_1796 : BitVec 32 := 512#32
  let v3671 : BitVec 32 := Scalar.select v3670 c512_i32_1796 arg21
  let v3676 : BitVec 32 := Scalar.select v3674 v3675 v3671
  let c0_i32_1863_r4 : BitVec 32 := 0#32
  ![v3676.toNat, 0]
def k0_cond1 (v616 : BitVec 32) (v622 : BitVec 32) : BitVec 1 :=
  let v623 : BitVec 1 := Scalar.cmpi .eq v616 v622
  let v624 : BitVec 32 := Scalar.extui v623
  let c0_i32_385 : BitVec 32 := 0#32
  let v625 : BitVec 1 := Scalar.cmpi .ne v624 c0_i32_385
  v625

def k0_cond2 (arg21 : BitVec 32) (v616 : BitVec 32) : BitVec 1 :=
  let v627 : BitVec 1 := Scalar.cmpi .ne v616 arg21
  let v628 : BitVec 32 := Scalar.extui v627
  let c0_i32_386 : BitVec 32 := 0#32
  let v629 : BitVec 1 := Scalar.cmpi .ne v628 c0_i32_386
  v629

def k0_chk1 (i : grid0.Coords) (v104 : BitVec 32) (v122 : BitVec 32) (arg21 : BitVec 32) (v616 : BitVec 32) (v622 : BitVec 32) : Prop :=
  (∀ (k0_h1 : k0_cond1 v616 v622 = 1#1), ∀ (k0_h2 : k0_cond2 arg21 v616 = 1#1), ∀ a, (k0_off12 i v104 v122 arg21) a + S1x512.size a ≤ S544x512.size a)
theorem k0_off12_inb : ∀ (i : grid0.Coords) (v104 : BitVec 32) (v122 : BitVec 32) (arg21 : BitVec 32) (v616 : BitVec 32) (v622 : BitVec 32) (k0_hw1 : k0_chk1 i v104 v122 arg21 v616 v622), ∀ (k0_h1 : k0_cond1 v616 v622 = 1#1), ∀ (k0_h2 : k0_cond2 arg21 v616 = 1#1), ∀ a, (k0_off12 i v104 v122 arg21) a + S1x512.size a ≤ S544x512.size a := fun i v104 v122 arg21 v616 v622 k0_hw1 k0_h1 k0_h2 => k0_hw1 k0_h1 k0_h2

def k0_off13 (k0_t3 : Fin k0_t3_loop.trips) (c0_i32_388 : BitVec 32) : Fin 3 → Nat :=
  let c0_i32_389 : BitVec 32 := 0#32
  let v632 : Index := Scalar.indexCast c0_i32_389
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v633 : Index := Scalar.indexCast v631
  let c0_390 : Index := 0#32
  ![0, v633.toNat, 0]
def k0_off14 (k0_t3 : Fin k0_t3_loop.trips) (c0_i32_388 : BitVec 32) : Fin 3 → Nat :=
  let c0_i32_391 : BitVec 32 := 0#32
  let v635 : Index := Scalar.indexCast c0_i32_391
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v636 : Index := Scalar.indexCast v631
  let c0_392 : Index := 0#32
  ![0, v636.toNat, 0]
def k0_off15 (k0_t3 : Fin k0_t3_loop.trips) (c0_i32_388 : BitVec 32) : Fin 3 → Nat :=
  let c0_i32_393 : BitVec 32 := 0#32
  let v640 : Index := Scalar.indexCast c0_i32_393
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v641 : Index := Scalar.indexCast v631
  let c64_394 : Index := 64#32
  ![0, v641.toNat, 64]
def k0_off16 (k0_t3 : Fin k0_t3_loop.trips) (c0_i32_388 : BitVec 32) : Fin 3 → Nat :=
  let c0_i32_395 : BitVec 32 := 0#32
  let v645 : Index := Scalar.indexCast c0_i32_395
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v646 : Index := Scalar.indexCast v631
  let c128_396 : Index := 128#32
  ![0, v646.toNat, 128]
def k0_off17 (k0_t3 : Fin k0_t3_loop.trips) (c0_i32_388 : BitVec 32) : Fin 3 → Nat :=
  let c0_i32_397 : BitVec 32 := 0#32
  let v650 : Index := Scalar.indexCast c0_i32_397
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v651 : Index := Scalar.indexCast v631
  let c192_398 : Index := 192#32
  ![0, v651.toNat, 192]
def k0_off18 (k0_t3 : Fin k0_t3_loop.trips) (c0_i32_388 : BitVec 32) : Fin 3 → Nat :=
  let c0_i32_399 : BitVec 32 := 0#32
  let v655 : Index := Scalar.indexCast c0_i32_399
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v656 : Index := Scalar.indexCast v631
  let c256_400 : Index := 256#32
  ![0, v656.toNat, 256]
def k0_off19 (k0_t3 : Fin k0_t3_loop.trips) (c0_i32_388 : BitVec 32) : Fin 3 → Nat :=
  let c0_i32_401 : BitVec 32 := 0#32
  let v660 : Index := Scalar.indexCast c0_i32_401
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v661 : Index := Scalar.indexCast v631
  let c320_402 : Index := 320#32
  ![0, v661.toNat, 320]
def k0_off20 (k0_t3 : Fin k0_t3_loop.trips) (c0_i32_388 : BitVec 32) : Fin 3 → Nat :=
  let c0_i32_403 : BitVec 32 := 0#32
  let v665 : Index := Scalar.indexCast c0_i32_403
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v666 : Index := Scalar.indexCast v631
  let c384_404 : Index := 384#32
  ![0, v666.toNat, 384]
def k0_off21 (k0_t3 : Fin k0_t3_loop.trips) (c0_i32_388 : BitVec 32) : Fin 3 → Nat :=
  let c0_i32_405 : BitVec 32 := 0#32
  let v670 : Index := Scalar.indexCast c0_i32_405
  let c16_i32_387 : BitVec 32 := 16#32
  let c0_i32_344 : BitVec 32 := 0#32
  let c1_i32_346 : BitVec 32 := 1#32
  let arg20 : BitVec 32 := Scf.iv c0_i32_344 c1_i32_346 k0_t3
  let v630 : BitVec 32 := Scalar.muli c16_i32_387 arg20
  let v631 : BitVec 32 := Scalar.addi v630 c0_i32_388
  let v671 : Index := Scalar.indexCast v631
  let c448_406 : Index := 448#32
  ![0, v671.toNat, 448]
def k0_off22 (k0_t3 : Fin k0_t3_loop.trips) (c0_i32_740 : BitVec 32) : Fin 3 → Nat :=
  let c0_i32_741 : BitVec 32 := 0#32
  let v1392 : Index := Scalar.indexCast c0_i32_741
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1393 : Index := Scalar.indexCast v1391
  let c16_742 : Index := 16#32
  ![0, v1393.toNat, 16]
def k0_off23 (k0_t3 : Fin k0_t3_loop.trips) (c0_i32_740 : BitVec 32) : Fin 3 → Nat :=
  let c0_i32_743 : BitVec 32 := 0#32
  let v1395 : Index := Scalar.indexCast c0_i32_743
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1396 : Index := Scalar.indexCast v1391
  let c16_744 : Index := 16#32
  ![0, v1396.toNat, 16]
def k0_off24 (k0_t3 : Fin k0_t3_loop.trips) (c0_i32_740 : BitVec 32) : Fin 3 → Nat :=
  let c0_i32_745 : BitVec 32 := 0#32
  let v1400 : Index := Scalar.indexCast c0_i32_745
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1401 : Index := Scalar.indexCast v1391
  let c80_746 : Index := 80#32
  ![0, v1401.toNat, 80]
def k0_off25 (k0_t3 : Fin k0_t3_loop.trips) (c0_i32_740 : BitVec 32) : Fin 3 → Nat :=
  let c0_i32_747 : BitVec 32 := 0#32
  let v1405 : Index := Scalar.indexCast c0_i32_747
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1406 : Index := Scalar.indexCast v1391
  let c144_748 : Index := 144#32
  ![0, v1406.toNat, 144]
def k0_off26 (k0_t3 : Fin k0_t3_loop.trips) (c0_i32_740 : BitVec 32) : Fin 3 → Nat :=
  let c0_i32_749 : BitVec 32 := 0#32
  let v1410 : Index := Scalar.indexCast c0_i32_749
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1411 : Index := Scalar.indexCast v1391
  let c208_750 : Index := 208#32
  ![0, v1411.toNat, 208]
def k0_off27 (k0_t3 : Fin k0_t3_loop.trips) (c0_i32_740 : BitVec 32) : Fin 3 → Nat :=
  let c0_i32_751 : BitVec 32 := 0#32
  let v1415 : Index := Scalar.indexCast c0_i32_751
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1416 : Index := Scalar.indexCast v1391
  let c272_752 : Index := 272#32
  ![0, v1416.toNat, 272]
def k0_off28 (k0_t3 : Fin k0_t3_loop.trips) (c0_i32_740 : BitVec 32) : Fin 3 → Nat :=
  let c0_i32_753 : BitVec 32 := 0#32
  let v1420 : Index := Scalar.indexCast c0_i32_753
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1421 : Index := Scalar.indexCast v1391
  let c336_754 : Index := 336#32
  ![0, v1421.toNat, 336]
def k0_off29 (k0_t3 : Fin k0_t3_loop.trips) (c0_i32_740 : BitVec 32) : Fin 3 → Nat :=
  let c0_i32_755 : BitVec 32 := 0#32
  let v1425 : Index := Scalar.indexCast c0_i32_755
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1426 : Index := Scalar.indexCast v1391
  let c400_756 : Index := 400#32
  ![0, v1426.toNat, 400]
def k0_off30 (k0_t3 : Fin k0_t3_loop.trips) (c0_i32_740 : BitVec 32) : Fin 3 → Nat :=
  let c0_i32_757 : BitVec 32 := 0#32
  let v1430 : Index := Scalar.indexCast c0_i32_757
  let c16_i32_739 : BitVec 32 := 16#32
  let c0_i32_344 : BitVec 32 := 0#32
  let c1_i32_346 : BitVec 32 := 1#32
  let arg20 : BitVec 32 := Scf.iv c0_i32_344 c1_i32_346 k0_t3
  let v1390 : BitVec 32 := Scalar.muli c16_i32_739 arg20
  let v1391 : BitVec 32 := Scalar.addi v1390 c0_i32_740
  let v1431 : Index := Scalar.indexCast v1391
  let c464_758 : Index := 464#32
  ![0, v1431.toNat, 464]
def k0_off31 (k0_t3 : Fin k0_t3_loop.trips) (c0_i32_1092 : BitVec 32) : Fin 3 → Nat :=
  let c0_i32_1093 : BitVec 32 := 0#32
  let v2152 : Index := Scalar.indexCast c0_i32_1093
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2153 : Index := Scalar.indexCast v2151
  let c32_1094 : Index := 32#32
  ![0, v2153.toNat, 32]
def k0_off32 (k0_t3 : Fin k0_t3_loop.trips) (c0_i32_1092 : BitVec 32) : Fin 3 → Nat :=
  let c0_i32_1095 : BitVec 32 := 0#32
  let v2155 : Index := Scalar.indexCast c0_i32_1095
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2156 : Index := Scalar.indexCast v2151
  let c32_1096 : Index := 32#32
  ![0, v2156.toNat, 32]
def k0_off33 (k0_t3 : Fin k0_t3_loop.trips) (c0_i32_1092 : BitVec 32) : Fin 3 → Nat :=
  let c0_i32_1097 : BitVec 32 := 0#32
  let v2160 : Index := Scalar.indexCast c0_i32_1097
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2161 : Index := Scalar.indexCast v2151
  let c96_1098 : Index := 96#32
  ![0, v2161.toNat, 96]
def k0_off34 (k0_t3 : Fin k0_t3_loop.trips) (c0_i32_1092 : BitVec 32) : Fin 3 → Nat :=
  let c0_i32_1099 : BitVec 32 := 0#32
  let v2165 : Index := Scalar.indexCast c0_i32_1099
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2166 : Index := Scalar.indexCast v2151
  let c160_1100 : Index := 160#32
  ![0, v2166.toNat, 160]
def k0_off35 (k0_t3 : Fin k0_t3_loop.trips) (c0_i32_1092 : BitVec 32) : Fin 3 → Nat :=
  let c0_i32_1101 : BitVec 32 := 0#32
  let v2170 : Index := Scalar.indexCast c0_i32_1101
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2171 : Index := Scalar.indexCast v2151
  let c224_1102 : Index := 224#32
  ![0, v2171.toNat, 224]
def k0_off36 (k0_t3 : Fin k0_t3_loop.trips) (c0_i32_1092 : BitVec 32) : Fin 3 → Nat :=
  let c0_i32_1103 : BitVec 32 := 0#32
  let v2175 : Index := Scalar.indexCast c0_i32_1103
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2176 : Index := Scalar.indexCast v2151
  let c288_1104 : Index := 288#32
  ![0, v2176.toNat, 288]
def k0_off37 (k0_t3 : Fin k0_t3_loop.trips) (c0_i32_1092 : BitVec 32) : Fin 3 → Nat :=
  let c0_i32_1105 : BitVec 32 := 0#32
  let v2180 : Index := Scalar.indexCast c0_i32_1105
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2181 : Index := Scalar.indexCast v2151
  let c352_1106 : Index := 352#32
  ![0, v2181.toNat, 352]
def k0_off38 (k0_t3 : Fin k0_t3_loop.trips) (c0_i32_1092 : BitVec 32) : Fin 3 → Nat :=
  let c0_i32_1107 : BitVec 32 := 0#32
  let v2185 : Index := Scalar.indexCast c0_i32_1107
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2186 : Index := Scalar.indexCast v2151
  let c416_1108 : Index := 416#32
  ![0, v2186.toNat, 416]
def k0_off39 (k0_t3 : Fin k0_t3_loop.trips) (c0_i32_1092 : BitVec 32) : Fin 3 → Nat :=
  let c0_i32_1109 : BitVec 32 := 0#32
  let v2190 : Index := Scalar.indexCast c0_i32_1109
  let c16_i32_1091 : BitVec 32 := 16#32
  let c0_i32_344 : BitVec 32 := 0#32
  let c1_i32_346 : BitVec 32 := 1#32
  let arg20 : BitVec 32 := Scf.iv c0_i32_344 c1_i32_346 k0_t3
  let v2150 : BitVec 32 := Scalar.muli c16_i32_1091 arg20
  let v2151 : BitVec 32 := Scalar.addi v2150 c0_i32_1092
  let v2191 : Index := Scalar.indexCast v2151
  let c480_1110 : Index := 480#32
  ![0, v2191.toNat, 480]
def k0_off40 (k0_t3 : Fin k0_t3_loop.trips) (c0_i32_1444 : BitVec 32) : Fin 3 → Nat :=
  let c0_i32_1445 : BitVec 32 := 0#32
  let v2912 : Index := Scalar.indexCast c0_i32_1445
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2913 : Index := Scalar.indexCast v2911
  let c48_1446 : Index := 48#32
  ![0, v2913.toNat, 48]
def k0_off41 (k0_t3 : Fin k0_t3_loop.trips) (c0_i32_1444 : BitVec 32) : Fin 3 → Nat :=
  let c0_i32_1447 : BitVec 32 := 0#32
  let v2915 : Index := Scalar.indexCast c0_i32_1447
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2916 : Index := Scalar.indexCast v2911
  let c48_1448 : Index := 48#32
  ![0, v2916.toNat, 48]
def k0_off42 (k0_t3 : Fin k0_t3_loop.trips) (c0_i32_1444 : BitVec 32) : Fin 3 → Nat :=
  let c0_i32_1449 : BitVec 32 := 0#32
  let v2920 : Index := Scalar.indexCast c0_i32_1449
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2921 : Index := Scalar.indexCast v2911
  let c112_1450 : Index := 112#32
  ![0, v2921.toNat, 112]
def k0_off43 (k0_t3 : Fin k0_t3_loop.trips) (c0_i32_1444 : BitVec 32) : Fin 3 → Nat :=
  let c0_i32_1451 : BitVec 32 := 0#32
  let v2925 : Index := Scalar.indexCast c0_i32_1451
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2926 : Index := Scalar.indexCast v2911
  let c176_1452 : Index := 176#32
  ![0, v2926.toNat, 176]
def k0_off44 (k0_t3 : Fin k0_t3_loop.trips) (c0_i32_1444 : BitVec 32) : Fin 3 → Nat :=
  let c0_i32_1453 : BitVec 32 := 0#32
  let v2930 : Index := Scalar.indexCast c0_i32_1453
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2931 : Index := Scalar.indexCast v2911
  let c240_1454 : Index := 240#32
  ![0, v2931.toNat, 240]
def k0_off45 (k0_t3 : Fin k0_t3_loop.trips) (c0_i32_1444 : BitVec 32) : Fin 3 → Nat :=
  let c0_i32_1455 : BitVec 32 := 0#32
  let v2935 : Index := Scalar.indexCast c0_i32_1455
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2936 : Index := Scalar.indexCast v2911
  let c304_1456 : Index := 304#32
  ![0, v2936.toNat, 304]
def k0_off46 (k0_t3 : Fin k0_t3_loop.trips) (c0_i32_1444 : BitVec 32) : Fin 3 → Nat :=
  let c0_i32_1457 : BitVec 32 := 0#32
  let v2940 : Index := Scalar.indexCast c0_i32_1457
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2941 : Index := Scalar.indexCast v2911
  let c368_1458 : Index := 368#32
  ![0, v2941.toNat, 368]
def k0_off47 (k0_t3 : Fin k0_t3_loop.trips) (c0_i32_1444 : BitVec 32) : Fin 3 → Nat :=
  let c0_i32_1459 : BitVec 32 := 0#32
  let v2945 : Index := Scalar.indexCast c0_i32_1459
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2946 : Index := Scalar.indexCast v2911
  let c432_1460 : Index := 432#32
  ![0, v2946.toNat, 432]
def k0_off48 (k0_t3 : Fin k0_t3_loop.trips) (c0_i32_1444 : BitVec 32) : Fin 3 → Nat :=
  let c0_i32_1461 : BitVec 32 := 0#32
  let v2950 : Index := Scalar.indexCast c0_i32_1461
  let c16_i32_1443 : BitVec 32 := 16#32
  let c0_i32_344 : BitVec 32 := 0#32
  let c1_i32_346 : BitVec 32 := 1#32
  let arg20 : BitVec 32 := Scf.iv c0_i32_344 c1_i32_346 k0_t3
  let v2910 : BitVec 32 := Scalar.muli c16_i32_1443 arg20
  let v2911 : BitVec 32 := Scalar.addi v2910 c0_i32_1444
  let v2951 : Index := Scalar.indexCast v2911
  let c496_1462 : Index := 496#32
  ![0, v2951.toNat, 496]
@[reducible] def k0_t4_loop : Scf.Loop 32 :=
  let c0_i32_386 : BitVec 32 := 0#32
  let c16_i32_387 : BitVec 32 := 16#32
  let v627 : BitVec 32 := Scalar.addi c0_i32_386 c16_i32_387
  let c1_i32_388 : BitVec 32 := 1#32
  ⟨c0_i32_386, v627, c1_i32_388⟩
def k0_off49 (i : grid0.Coords) (v104 : BitVec 32) (v122 : BitVec 32) (arg23 : BitVec 32) : Fin 2 → Nat :=
  let v946 : BitVec 1 := Scalar.cmpi .eq arg23 v104
  let arg1 : BitVec 32 := BitVec.ofNat 32 (i 1).val
  let c0_i32_49 : BitVec 32 := 0#32
  let v123 : BitVec 1 := Scalar.cmpi .eq arg1 c0_i32_49
  let v124 : BitVec 1 := Scalar.cmpi .ne v122 v104
  let v125 : BitVec 1 := Scalar.ori v123 v124
  let true_596 : BitVec 1 := 1#1
  let v947 : BitVec 1 := Scalar.xori v125 true_596
  let v948 : BitVec 1 := Scalar.andi v946 v947
  let c513_i32_597 : BitVec 32 := 513#32
  let v949 : BitVec 32 := Scalar.addi c513_i32_597 arg1
  let c0_i32_594 : BitVec 32 := 0#32
  let v944 : BitVec 1 := Scalar.cmpi .slt arg23 c0_i32_594
  let c512_i32_595 : BitVec 32 := 512#32
  let v945 : BitVec 32 := Scalar.select v944 c512_i32_595 arg23
  let v950 : BitVec 32 := Scalar.select v948 v949 v945
  let c0_i32_662_r5 : BitVec 32 := 0#32
  ![v950.toNat, 0]
def k0_cond3 (arg23 : BitVec 32) (v638 : BitVec 32) : BitVec 1 :=
  let v639 : BitVec 1 := Scalar.cmpi .ne v638 arg23
  let v640 : BitVec 32 := Scalar.extui v639
  let c0_i32_392 : BitVec 32 := 0#32
  let v641 : BitVec 1 := Scalar.cmpi .ne v640 c0_i32_392
  v641

def k0_chk2 (i : grid0.Coords) (v104 : BitVec 32) (v122 : BitVec 32) (v616 : BitVec 32) (v622 : BitVec 32) (arg23 : BitVec 32) (v638 : BitVec 32) : Prop :=
  (∀ (k0_h1 : ¬(k0_cond1 v616 v622 = 1#1)), ∀ (k0_h3 : k0_cond3 arg23 v638 = 1#1), ∀ a, (k0_off49 i v104 v122 arg23) a + S1x512.size a ≤ S544x512.size a)
theorem k0_off49_inb : ∀ (i : grid0.Coords) (v104 : BitVec 32) (v122 : BitVec 32) (v616 : BitVec 32) (v622 : BitVec 32) (arg23 : BitVec 32) (v638 : BitVec 32) (k0_hw2 : k0_chk2 i v104 v122 v616 v622 arg23 v638), ∀ (k0_h1 : ¬(k0_cond1 v616 v622 = 1#1)), ∀ (k0_h3 : k0_cond3 arg23 v638 = 1#1), ∀ a, (k0_off49 i v104 v122 arg23) a + S1x512.size a ≤ S544x512.size a := fun i v104 v122 v616 v622 arg23 v638 k0_hw2 k0_h1 k0_h3 => k0_hw2 k0_h1 k0_h3

def k0_off50 (k0_t3 : Fin k0_t3_loop.trips) (k0_t4 : Fin k0_t4_loop.trips) : Fin 3 → Nat :=
  let c0_i32_394 : BitVec 32 := 0#32
  let v644 : Index := Scalar.indexCast c0_i32_394
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v645 : Index := Scalar.indexCast v643
  let c0_395 : Index := 0#32
  ![0, v645.toNat, 0]
def k0_off51 (k0_t3 : Fin k0_t3_loop.trips) (k0_t4 : Fin k0_t4_loop.trips) : Fin 3 → Nat :=
  let c0_i32_396 : BitVec 32 := 0#32
  let v647 : Index := Scalar.indexCast c0_i32_396
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v648 : Index := Scalar.indexCast v643
  let c16_397 : Index := 16#32
  ![0, v648.toNat, 16]
def k0_off52 (k0_t3 : Fin k0_t3_loop.trips) (k0_t4 : Fin k0_t4_loop.trips) : Fin 3 → Nat :=
  let c0_i32_398 : BitVec 32 := 0#32
  let v650 : Index := Scalar.indexCast c0_i32_398
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v651 : Index := Scalar.indexCast v643
  let c32_399 : Index := 32#32
  ![0, v651.toNat, 32]
def k0_off53 (k0_t3 : Fin k0_t3_loop.trips) (k0_t4 : Fin k0_t4_loop.trips) : Fin 3 → Nat :=
  let c0_i32_400 : BitVec 32 := 0#32
  let v653 : Index := Scalar.indexCast c0_i32_400
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v654 : Index := Scalar.indexCast v643
  let c48_401 : Index := 48#32
  ![0, v654.toNat, 48]
def k0_off54 (k0_t3 : Fin k0_t3_loop.trips) (k0_t4 : Fin k0_t4_loop.trips) : Fin 3 → Nat :=
  let c0_i32_404 : BitVec 32 := 0#32
  let v658 : Index := Scalar.indexCast c0_i32_404
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v659 : Index := Scalar.indexCast v643
  let c0_405 : Index := 0#32
  ![0, v659.toNat, 0]
def k0_off55 (k0_t3 : Fin k0_t3_loop.trips) (k0_t4 : Fin k0_t4_loop.trips) : Fin 3 → Nat :=
  let c0_i32_410 : BitVec 32 := 0#32
  let v667 : Index := Scalar.indexCast c0_i32_410
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v668 : Index := Scalar.indexCast v643
  let c16_411 : Index := 16#32
  ![0, v668.toNat, 16]
def k0_off56 (k0_t3 : Fin k0_t3_loop.trips) (k0_t4 : Fin k0_t4_loop.trips) : Fin 3 → Nat :=
  let c0_i32_416 : BitVec 32 := 0#32
  let v676 : Index := Scalar.indexCast c0_i32_416
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v677 : Index := Scalar.indexCast v643
  let c32_417 : Index := 32#32
  ![0, v677.toNat, 32]
def k0_off57 (k0_t3 : Fin k0_t3_loop.trips) (k0_t4 : Fin k0_t4_loop.trips) : Fin 3 → Nat :=
  let c0_i32_422 : BitVec 32 := 0#32
  let v685 : Index := Scalar.indexCast c0_i32_422
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v686 : Index := Scalar.indexCast v643
  let c48_423 : Index := 48#32
  ![0, v686.toNat, 48]
def k0_off58 (k0_t3 : Fin k0_t3_loop.trips) (k0_t4 : Fin k0_t4_loop.trips) : Fin 3 → Nat :=
  let c0_i32_428 : BitVec 32 := 0#32
  let v694 : Index := Scalar.indexCast c0_i32_428
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v695 : Index := Scalar.indexCast v643
  let c64_429 : Index := 64#32
  ![0, v695.toNat, 64]
def k0_off59 (k0_t3 : Fin k0_t3_loop.trips) (k0_t4 : Fin k0_t4_loop.trips) : Fin 3 → Nat :=
  let c0_i32_434 : BitVec 32 := 0#32
  let v703 : Index := Scalar.indexCast c0_i32_434
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v704 : Index := Scalar.indexCast v643
  let c80_435 : Index := 80#32
  ![0, v704.toNat, 80]
def k0_off60 (k0_t3 : Fin k0_t3_loop.trips) (k0_t4 : Fin k0_t4_loop.trips) : Fin 3 → Nat :=
  let c0_i32_440 : BitVec 32 := 0#32
  let v712 : Index := Scalar.indexCast c0_i32_440
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v713 : Index := Scalar.indexCast v643
  let c96_441 : Index := 96#32
  ![0, v713.toNat, 96]
def k0_off61 (k0_t3 : Fin k0_t3_loop.trips) (k0_t4 : Fin k0_t4_loop.trips) : Fin 3 → Nat :=
  let c0_i32_446 : BitVec 32 := 0#32
  let v721 : Index := Scalar.indexCast c0_i32_446
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v722 : Index := Scalar.indexCast v643
  let c112_447 : Index := 112#32
  ![0, v722.toNat, 112]
def k0_off62 (k0_t3 : Fin k0_t3_loop.trips) (k0_t4 : Fin k0_t4_loop.trips) : Fin 3 → Nat :=
  let c0_i32_452 : BitVec 32 := 0#32
  let v730 : Index := Scalar.indexCast c0_i32_452
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v731 : Index := Scalar.indexCast v643
  let c128_453 : Index := 128#32
  ![0, v731.toNat, 128]
def k0_off63 (k0_t3 : Fin k0_t3_loop.trips) (k0_t4 : Fin k0_t4_loop.trips) : Fin 3 → Nat :=
  let c0_i32_458 : BitVec 32 := 0#32
  let v739 : Index := Scalar.indexCast c0_i32_458
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v740 : Index := Scalar.indexCast v643
  let c144_459 : Index := 144#32
  ![0, v740.toNat, 144]
def k0_off64 (k0_t3 : Fin k0_t3_loop.trips) (k0_t4 : Fin k0_t4_loop.trips) : Fin 3 → Nat :=
  let c0_i32_464 : BitVec 32 := 0#32
  let v748 : Index := Scalar.indexCast c0_i32_464
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v749 : Index := Scalar.indexCast v643
  let c160_465 : Index := 160#32
  ![0, v749.toNat, 160]
def k0_off65 (k0_t3 : Fin k0_t3_loop.trips) (k0_t4 : Fin k0_t4_loop.trips) : Fin 3 → Nat :=
  let c0_i32_470 : BitVec 32 := 0#32
  let v757 : Index := Scalar.indexCast c0_i32_470
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v758 : Index := Scalar.indexCast v643
  let c176_471 : Index := 176#32
  ![0, v758.toNat, 176]
def k0_off66 (k0_t3 : Fin k0_t3_loop.trips) (k0_t4 : Fin k0_t4_loop.trips) : Fin 3 → Nat :=
  let c0_i32_476 : BitVec 32 := 0#32
  let v766 : Index := Scalar.indexCast c0_i32_476
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v767 : Index := Scalar.indexCast v643
  let c192_477 : Index := 192#32
  ![0, v767.toNat, 192]
def k0_off67 (k0_t3 : Fin k0_t3_loop.trips) (k0_t4 : Fin k0_t4_loop.trips) : Fin 3 → Nat :=
  let c0_i32_482 : BitVec 32 := 0#32
  let v775 : Index := Scalar.indexCast c0_i32_482
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v776 : Index := Scalar.indexCast v643
  let c208_483 : Index := 208#32
  ![0, v776.toNat, 208]
def k0_off68 (k0_t3 : Fin k0_t3_loop.trips) (k0_t4 : Fin k0_t4_loop.trips) : Fin 3 → Nat :=
  let c0_i32_488 : BitVec 32 := 0#32
  let v784 : Index := Scalar.indexCast c0_i32_488
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v785 : Index := Scalar.indexCast v643
  let c224_489 : Index := 224#32
  ![0, v785.toNat, 224]
def k0_off69 (k0_t3 : Fin k0_t3_loop.trips) (k0_t4 : Fin k0_t4_loop.trips) : Fin 3 → Nat :=
  let c0_i32_494 : BitVec 32 := 0#32
  let v793 : Index := Scalar.indexCast c0_i32_494
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v794 : Index := Scalar.indexCast v643
  let c240_495 : Index := 240#32
  ![0, v794.toNat, 240]
def k0_off70 (k0_t3 : Fin k0_t3_loop.trips) (k0_t4 : Fin k0_t4_loop.trips) : Fin 3 → Nat :=
  let c0_i32_500 : BitVec 32 := 0#32
  let v802 : Index := Scalar.indexCast c0_i32_500
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v803 : Index := Scalar.indexCast v643
  let c256_501 : Index := 256#32
  ![0, v803.toNat, 256]
def k0_off71 (k0_t3 : Fin k0_t3_loop.trips) (k0_t4 : Fin k0_t4_loop.trips) : Fin 3 → Nat :=
  let c0_i32_506 : BitVec 32 := 0#32
  let v811 : Index := Scalar.indexCast c0_i32_506
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v812 : Index := Scalar.indexCast v643
  let c272_507 : Index := 272#32
  ![0, v812.toNat, 272]
def k0_off72 (k0_t3 : Fin k0_t3_loop.trips) (k0_t4 : Fin k0_t4_loop.trips) : Fin 3 → Nat :=
  let c0_i32_512 : BitVec 32 := 0#32
  let v820 : Index := Scalar.indexCast c0_i32_512
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v821 : Index := Scalar.indexCast v643
  let c288_513 : Index := 288#32
  ![0, v821.toNat, 288]
def k0_off73 (k0_t3 : Fin k0_t3_loop.trips) (k0_t4 : Fin k0_t4_loop.trips) : Fin 3 → Nat :=
  let c0_i32_518 : BitVec 32 := 0#32
  let v829 : Index := Scalar.indexCast c0_i32_518
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v830 : Index := Scalar.indexCast v643
  let c304_519 : Index := 304#32
  ![0, v830.toNat, 304]
def k0_off74 (k0_t3 : Fin k0_t3_loop.trips) (k0_t4 : Fin k0_t4_loop.trips) : Fin 3 → Nat :=
  let c0_i32_524 : BitVec 32 := 0#32
  let v838 : Index := Scalar.indexCast c0_i32_524
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v839 : Index := Scalar.indexCast v643
  let c320_525 : Index := 320#32
  ![0, v839.toNat, 320]
def k0_off75 (k0_t3 : Fin k0_t3_loop.trips) (k0_t4 : Fin k0_t4_loop.trips) : Fin 3 → Nat :=
  let c0_i32_530 : BitVec 32 := 0#32
  let v847 : Index := Scalar.indexCast c0_i32_530
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v848 : Index := Scalar.indexCast v643
  let c336_531 : Index := 336#32
  ![0, v848.toNat, 336]
def k0_off76 (k0_t3 : Fin k0_t3_loop.trips) (k0_t4 : Fin k0_t4_loop.trips) : Fin 3 → Nat :=
  let c0_i32_536 : BitVec 32 := 0#32
  let v856 : Index := Scalar.indexCast c0_i32_536
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v857 : Index := Scalar.indexCast v643
  let c352_537 : Index := 352#32
  ![0, v857.toNat, 352]
def k0_off77 (k0_t3 : Fin k0_t3_loop.trips) (k0_t4 : Fin k0_t4_loop.trips) : Fin 3 → Nat :=
  let c0_i32_542 : BitVec 32 := 0#32
  let v865 : Index := Scalar.indexCast c0_i32_542
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v866 : Index := Scalar.indexCast v643
  let c368_543 : Index := 368#32
  ![0, v866.toNat, 368]
def k0_off78 (k0_t3 : Fin k0_t3_loop.trips) (k0_t4 : Fin k0_t4_loop.trips) : Fin 3 → Nat :=
  let c0_i32_548 : BitVec 32 := 0#32
  let v874 : Index := Scalar.indexCast c0_i32_548
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v875 : Index := Scalar.indexCast v643
  let c384_549 : Index := 384#32
  ![0, v875.toNat, 384]
def k0_off79 (k0_t3 : Fin k0_t3_loop.trips) (k0_t4 : Fin k0_t4_loop.trips) : Fin 3 → Nat :=
  let c0_i32_554 : BitVec 32 := 0#32
  let v883 : Index := Scalar.indexCast c0_i32_554
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v884 : Index := Scalar.indexCast v643
  let c400_555 : Index := 400#32
  ![0, v884.toNat, 400]
def k0_off80 (k0_t3 : Fin k0_t3_loop.trips) (k0_t4 : Fin k0_t4_loop.trips) : Fin 3 → Nat :=
  let c0_i32_560 : BitVec 32 := 0#32
  let v892 : Index := Scalar.indexCast c0_i32_560
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v893 : Index := Scalar.indexCast v643
  let c416_561 : Index := 416#32
  ![0, v893.toNat, 416]
def k0_off81 (k0_t3 : Fin k0_t3_loop.trips) (k0_t4 : Fin k0_t4_loop.trips) : Fin 3 → Nat :=
  let c0_i32_566 : BitVec 32 := 0#32
  let v901 : Index := Scalar.indexCast c0_i32_566
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v902 : Index := Scalar.indexCast v643
  let c432_567 : Index := 432#32
  ![0, v902.toNat, 432]
def k0_off82 (k0_t3 : Fin k0_t3_loop.trips) (k0_t4 : Fin k0_t4_loop.trips) : Fin 3 → Nat :=
  let c0_i32_572 : BitVec 32 := 0#32
  let v910 : Index := Scalar.indexCast c0_i32_572
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v911 : Index := Scalar.indexCast v643
  let c448_573 : Index := 448#32
  ![0, v911.toNat, 448]
def k0_off83 (k0_t3 : Fin k0_t3_loop.trips) (k0_t4 : Fin k0_t4_loop.trips) : Fin 3 → Nat :=
  let c0_i32_578 : BitVec 32 := 0#32
  let v919 : Index := Scalar.indexCast c0_i32_578
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v920 : Index := Scalar.indexCast v643
  let c464_579 : Index := 464#32
  ![0, v920.toNat, 464]
def k0_off84 (k0_t3 : Fin k0_t3_loop.trips) (k0_t4 : Fin k0_t4_loop.trips) : Fin 3 → Nat :=
  let c0_i32_584 : BitVec 32 := 0#32
  let v928 : Index := Scalar.indexCast c0_i32_584
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v929 : Index := Scalar.indexCast v643
  let c480_585 : Index := 480#32
  ![0, v929.toNat, 480]
def k0_off85 (k0_t3 : Fin k0_t3_loop.trips) (k0_t4 : Fin k0_t4_loop.trips) : Fin 3 → Nat :=
  let c0_i32_590 : BitVec 32 := 0#32
  let v937 : Index := Scalar.indexCast c0_i32_590
  let c16_i32_393 : BitVec 32 := 16#32
  let c0_i32_344 : BitVec 32 := 0#32
  let c1_i32_346 : BitVec 32 := 1#32
  let arg20 : BitVec 32 := Scf.iv c0_i32_344 c1_i32_346 k0_t3
  let v642 : BitVec 32 := Scalar.muli c16_i32_393 arg20
  let c0_i32_386 : BitVec 32 := 0#32
  let c1_i32_388 : BitVec 32 := 1#32
  let arg22 : BitVec 32 := Scf.iv c0_i32_386 c1_i32_388 k0_t4
  let v643 : BitVec 32 := Scalar.addi v642 arg22
  let v938 : Index := Scalar.indexCast v643
  let c496_591 : Index := 496#32
  ![0, v938.toNat, 496]
def k0_cond4 (k0_t2 : Fin k0_t2_loop.trips) : BitVec 1 :=
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c2_i32_348 : BitVec 32 := 2#32
  let v567 : BitVec 32 := Scalar.addi v544 c2_i32_348
  let c98_i32 : BitVec 32 := 98#32
  let v568 : BitVec 1 := Scalar.cmpi .slt v567 c98_i32
  let v569 : BitVec 32 := Scalar.extui v568
  let c0_i32_349 : BitVec 32 := 0#32
  let v570 : BitVec 1 := Scalar.cmpi .ne v569 c0_i32_349
  v570

def k0_off86 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c2_i32_377 : BitVec 32 := 2#32
  let v599 : BitVec 32 := Scalar.addi v544 c2_i32_377
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_378 : BitVec 32 := 1#32
  let v600 : BitVec 32 := Scalar.subi v21 c1_i32_378
  let v601 : BitVec 32 := Scalar.minsi v599 v600
  let c32_i32_379 : BitVec 32 := 32#32
  let v602 : BitVec 32 := Scalar.muli v601 c32_i32_379
  let v603 : BitVec 32 := Scalar.addi v2 v602
  let c0_i32_384 : BitVec 32 := 0#32
  ![v603.toNat, 0]
def k0_off87 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_324 : BitVec 32 := 2#32
  let c0_i32_92 : BitVec 32 := 0#32
  let c1_i32_93 : BitVec 32 := 1#32
  let arg18 : BitVec 32 := Scf.iv c0_i32_92 c1_i32_93 k0_t2
  let v543 : BitVec 32 := Scalar.muli c2_i32_324 arg18
  let c0_i32_325 : BitVec 32 := 0#32
  let v544 : BitVec 32 := Scalar.addi v543 c0_i32_325
  let c2_i32_377 : BitVec 32 := 2#32
  let v599 : BitVec 32 := Scalar.addi v544 c2_i32_377
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_378 : BitVec 32 := 1#32
  let v600 : BitVec 32 := Scalar.subi v21 c1_i32_378
  let v601 : BitVec 32 := Scalar.minsi v599 v600
  let c32_i32_379 : BitVec 32 := 32#32
  let v602 : BitVec 32 := Scalar.muli v601 c32_i32_379
  let v603 : BitVec 32 := Scalar.addi v2 v602
  let c0_i32_392 : BitVec 32 := 0#32
  ![v603.toNat, 0]
def k0_off88 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_352 : BitVec 32 := 1#32
  let v573 : BitVec 32 := Scalar.subi v21 c1_i32_352
  let v574 : BitVec 32 := Scalar.minsi v572 v573
  let c32_i32_353 : BitVec 32 := 32#32
  let v575 : BitVec 32 := Scalar.muli v574 c32_i32_353
  let v576 : BitVec 32 := Scalar.addi v2 v575
  let c0_i32_358 : BitVec 32 := 0#32
  ![v576.toNat, 0]
def k0_off89 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_352 : BitVec 32 := 1#32
  let v573 : BitVec 32 := Scalar.subi v21 c1_i32_352
  let v574 : BitVec 32 := Scalar.minsi v572 v573
  let c32_i32_353 : BitVec 32 := 32#32
  let v575 : BitVec 32 := Scalar.muli v574 c32_i32_353
  let v576 : BitVec 32 := Scalar.addi v2 v575
  let c0_i32_366 : BitVec 32 := 0#32
  ![v576.toNat, 0]
@[reducible] def k0_t5_loop : Scf.Loop 32 :=
  let c0_i32_370 : BitVec 32 := 0#32
  let c2_i32_371 : BitVec 32 := 2#32
  let v593 : BitVec 32 := Scalar.addi c0_i32_370 c2_i32_371
  let c1_i32_372 : BitVec 32 := 1#32
  ⟨c0_i32_370, v593, c1_i32_372⟩
def k0_mult7 (i : grid0.Coords) (k0_t2 : Fin k0_t2_loop.trips) (k0_t5 : Fin k0_t5_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c32_i32_377 : BitVec 32 := 32#32
  let v599 : BitVec 32 := Scalar.muli v572 c32_i32_377
  let c16_i32_378 : BitVec 32 := 16#32
  let c0_i32_370 : BitVec 32 := 0#32
  let c1_i32_372 : BitVec 32 := 1#32
  let arg20 : BitVec 32 := Scf.iv c0_i32_370 c1_i32_372 k0_t5
  let v600 : BitVec 32 := Scalar.muli c16_i32_378 arg20
  let v601 : BitVec 32 := Scalar.addi v599 v600
  let c3136_i32_0 : BitVec 32 := 3136#32
  let c100000_i32 : BitVec 32 := 100000#32
  let v3 : BitVec 32 := Scalar.subi c100000_i32 v2
  let v4 : BitVec 32 := Scalar.minsi c3136_i32_0 v3
  let c16_i32_379 : BitVec 32 := 16#32
  let v602 : BitVec 32 := Scalar.subi v4 c16_i32_379
  let v603 : BitVec 32 := Scalar.minsi v601 v602
  let v604 : BitVec 32 := Scalar.addi v23 v603
  v604
def k0_off90 (i : grid0.Coords) (k0_t2 : Fin k0_t2_loop.trips) (k0_t5 : Fin k0_t5_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c96864_i32 : BitVec 32 := 96864#32
  let v22 : BitVec 32 := Scalar.minsi v2 c96864_i32
  let v23 : BitVec 32 := Scalar.subi v2 v22
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c32_i32_377 : BitVec 32 := 32#32
  let v599 : BitVec 32 := Scalar.muli v572 c32_i32_377
  let c16_i32_378 : BitVec 32 := 16#32
  let c0_i32_370 : BitVec 32 := 0#32
  let c1_i32_372 : BitVec 32 := 1#32
  let arg20 : BitVec 32 := Scf.iv c0_i32_370 c1_i32_372 k0_t5
  let v600 : BitVec 32 := Scalar.muli c16_i32_378 arg20
  let v601 : BitVec 32 := Scalar.addi v599 v600
  let c3136_i32_0 : BitVec 32 := 3136#32
  let c100000_i32 : BitVec 32 := 100000#32
  let v3 : BitVec 32 := Scalar.subi c100000_i32 v2
  let v4 : BitVec 32 := Scalar.minsi c3136_i32_0 v3
  let c16_i32_379 : BitVec 32 := 16#32
  let v602 : BitVec 32 := Scalar.subi v4 c16_i32_379
  let v603 : BitVec 32 := Scalar.minsi v601 v602
  let v604 : BitVec 32 := Scalar.addi v23 v603
  let v605 : BitVec 32 := v604
  let v606 : Index := Scalar.indexCast v605
  ![v606.toNat]
def k0_off91 (i : grid0.Coords) (v104 : BitVec 32) (v122 : BitVec 32) (arg21 : BitVec 32) : Fin 2 → Nat :=
  let v3672 : BitVec 1 := Scalar.cmpi .eq arg21 v104
  let arg1 : BitVec 32 := BitVec.ofNat 32 (i 1).val
  let c0_i32_49 : BitVec 32 := 0#32
  let v123 : BitVec 1 := Scalar.cmpi .eq arg1 c0_i32_49
  let v124 : BitVec 1 := Scalar.cmpi .ne v122 v104
  let v125 : BitVec 1 := Scalar.ori v123 v124
  let true_1797 : BitVec 1 := 1#1
  let v3673 : BitVec 1 := Scalar.xori v125 true_1797
  let v3674 : BitVec 1 := Scalar.andi v3672 v3673
  let c513_i32_1798 : BitVec 32 := 513#32
  let v3675 : BitVec 32 := Scalar.addi c513_i32_1798 arg1
  let c0_i32_1795 : BitVec 32 := 0#32
  let v3670 : BitVec 1 := Scalar.cmpi .slt arg21 c0_i32_1795
  let c512_i32_1796 : BitVec 32 := 512#32
  let v3671 : BitVec 32 := Scalar.select v3670 c512_i32_1796 arg21
  let v3676 : BitVec 32 := Scalar.select v3674 v3675 v3671
  let c0_i32_1863_r6 : BitVec 32 := 0#32
  ![v3676.toNat, 0]
def k0_cond5 (v616 : BitVec 32) (v622 : BitVec 32) : BitVec 1 :=
  let v623 : BitVec 1 := Scalar.cmpi .eq v616 v622
  let v624 : BitVec 32 := Scalar.extui v623
  let c0_i32_385 : BitVec 32 := 0#32
  let v625 : BitVec 1 := Scalar.cmpi .ne v624 c0_i32_385
  v625

def k0_cond6 (arg21 : BitVec 32) (v616 : BitVec 32) : BitVec 1 :=
  let v627 : BitVec 1 := Scalar.cmpi .ne v616 arg21
  let v628 : BitVec 32 := Scalar.extui v627
  let c0_i32_386 : BitVec 32 := 0#32
  let v629 : BitVec 1 := Scalar.cmpi .ne v628 c0_i32_386
  v629

def k0_chk3 (i : grid0.Coords) (v104 : BitVec 32) (v122 : BitVec 32) (arg21 : BitVec 32) (v616 : BitVec 32) (v622 : BitVec 32) : Prop :=
  (∀ (k0_h5 : k0_cond5 v616 v622 = 1#1), ∀ (k0_h6 : k0_cond6 arg21 v616 = 1#1), ∀ a, (k0_off91 i v104 v122 arg21) a + S1x512.size a ≤ S544x512.size a)
theorem k0_off91_inb : ∀ (i : grid0.Coords) (v104 : BitVec 32) (v122 : BitVec 32) (arg21 : BitVec 32) (v616 : BitVec 32) (v622 : BitVec 32) (k0_hw3 : k0_chk3 i v104 v122 arg21 v616 v622), ∀ (k0_h5 : k0_cond5 v616 v622 = 1#1), ∀ (k0_h6 : k0_cond6 arg21 v616 = 1#1), ∀ a, (k0_off91 i v104 v122 arg21) a + S1x512.size a ≤ S544x512.size a := fun i v104 v122 arg21 v616 v622 k0_hw3 k0_h5 k0_h6 => k0_hw3 k0_h5 k0_h6

def k0_off92 (k0_t5 : Fin k0_t5_loop.trips) (c0_i32_388 : BitVec 32) : Fin 3 → Nat :=
  let c1_i32_389 : BitVec 32 := 1#32
  let v632 : Index := Scalar.indexCast c1_i32_389
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v633 : Index := Scalar.indexCast v631
  let c0_390 : Index := 0#32
  ![1, v633.toNat, 0]
def k0_off93 (k0_t5 : Fin k0_t5_loop.trips) (c0_i32_388 : BitVec 32) : Fin 3 → Nat :=
  let c1_i32_391 : BitVec 32 := 1#32
  let v635 : Index := Scalar.indexCast c1_i32_391
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v636 : Index := Scalar.indexCast v631
  let c0_392 : Index := 0#32
  ![1, v636.toNat, 0]
def k0_off94 (k0_t5 : Fin k0_t5_loop.trips) (c0_i32_388 : BitVec 32) : Fin 3 → Nat :=
  let c1_i32_393 : BitVec 32 := 1#32
  let v640 : Index := Scalar.indexCast c1_i32_393
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v641 : Index := Scalar.indexCast v631
  let c64_394 : Index := 64#32
  ![1, v641.toNat, 64]
def k0_off95 (k0_t5 : Fin k0_t5_loop.trips) (c0_i32_388 : BitVec 32) : Fin 3 → Nat :=
  let c1_i32_395 : BitVec 32 := 1#32
  let v645 : Index := Scalar.indexCast c1_i32_395
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v646 : Index := Scalar.indexCast v631
  let c128_396 : Index := 128#32
  ![1, v646.toNat, 128]
def k0_off96 (k0_t5 : Fin k0_t5_loop.trips) (c0_i32_388 : BitVec 32) : Fin 3 → Nat :=
  let c1_i32_397 : BitVec 32 := 1#32
  let v650 : Index := Scalar.indexCast c1_i32_397
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v651 : Index := Scalar.indexCast v631
  let c192_398 : Index := 192#32
  ![1, v651.toNat, 192]
def k0_off97 (k0_t5 : Fin k0_t5_loop.trips) (c0_i32_388 : BitVec 32) : Fin 3 → Nat :=
  let c1_i32_399 : BitVec 32 := 1#32
  let v655 : Index := Scalar.indexCast c1_i32_399
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v656 : Index := Scalar.indexCast v631
  let c256_400 : Index := 256#32
  ![1, v656.toNat, 256]
def k0_off98 (k0_t5 : Fin k0_t5_loop.trips) (c0_i32_388 : BitVec 32) : Fin 3 → Nat :=
  let c1_i32_401 : BitVec 32 := 1#32
  let v660 : Index := Scalar.indexCast c1_i32_401
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v661 : Index := Scalar.indexCast v631
  let c320_402 : Index := 320#32
  ![1, v661.toNat, 320]
def k0_off99 (k0_t5 : Fin k0_t5_loop.trips) (c0_i32_388 : BitVec 32) : Fin 3 → Nat :=
  let c1_i32_403 : BitVec 32 := 1#32
  let v665 : Index := Scalar.indexCast c1_i32_403
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v666 : Index := Scalar.indexCast v631
  let c384_404 : Index := 384#32
  ![1, v666.toNat, 384]
def k0_off100 (k0_t5 : Fin k0_t5_loop.trips) (c0_i32_388 : BitVec 32) : Fin 3 → Nat :=
  let c1_i32_405 : BitVec 32 := 1#32
  let v670 : Index := Scalar.indexCast c1_i32_405
  let c16_i32_387 : BitVec 32 := 16#32
  let c0_i32_370 : BitVec 32 := 0#32
  let c1_i32_372 : BitVec 32 := 1#32
  let arg20 : BitVec 32 := Scf.iv c0_i32_370 c1_i32_372 k0_t5
  let v630 : BitVec 32 := Scalar.muli c16_i32_387 arg20
  let v631 : BitVec 32 := Scalar.addi v630 c0_i32_388
  let v671 : Index := Scalar.indexCast v631
  let c448_406 : Index := 448#32
  ![1, v671.toNat, 448]
def k0_off101 (k0_t5 : Fin k0_t5_loop.trips) (c0_i32_740 : BitVec 32) : Fin 3 → Nat :=
  let c1_i32_741 : BitVec 32 := 1#32
  let v1392 : Index := Scalar.indexCast c1_i32_741
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1393 : Index := Scalar.indexCast v1391
  let c16_742 : Index := 16#32
  ![1, v1393.toNat, 16]
def k0_off102 (k0_t5 : Fin k0_t5_loop.trips) (c0_i32_740 : BitVec 32) : Fin 3 → Nat :=
  let c1_i32_743 : BitVec 32 := 1#32
  let v1395 : Index := Scalar.indexCast c1_i32_743
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1396 : Index := Scalar.indexCast v1391
  let c16_744 : Index := 16#32
  ![1, v1396.toNat, 16]
def k0_off103 (k0_t5 : Fin k0_t5_loop.trips) (c0_i32_740 : BitVec 32) : Fin 3 → Nat :=
  let c1_i32_745 : BitVec 32 := 1#32
  let v1400 : Index := Scalar.indexCast c1_i32_745
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1401 : Index := Scalar.indexCast v1391
  let c80_746 : Index := 80#32
  ![1, v1401.toNat, 80]
def k0_off104 (k0_t5 : Fin k0_t5_loop.trips) (c0_i32_740 : BitVec 32) : Fin 3 → Nat :=
  let c1_i32_747 : BitVec 32 := 1#32
  let v1405 : Index := Scalar.indexCast c1_i32_747
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1406 : Index := Scalar.indexCast v1391
  let c144_748 : Index := 144#32
  ![1, v1406.toNat, 144]
def k0_off105 (k0_t5 : Fin k0_t5_loop.trips) (c0_i32_740 : BitVec 32) : Fin 3 → Nat :=
  let c1_i32_749 : BitVec 32 := 1#32
  let v1410 : Index := Scalar.indexCast c1_i32_749
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1411 : Index := Scalar.indexCast v1391
  let c208_750 : Index := 208#32
  ![1, v1411.toNat, 208]
def k0_off106 (k0_t5 : Fin k0_t5_loop.trips) (c0_i32_740 : BitVec 32) : Fin 3 → Nat :=
  let c1_i32_751 : BitVec 32 := 1#32
  let v1415 : Index := Scalar.indexCast c1_i32_751
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1416 : Index := Scalar.indexCast v1391
  let c272_752 : Index := 272#32
  ![1, v1416.toNat, 272]
def k0_off107 (k0_t5 : Fin k0_t5_loop.trips) (c0_i32_740 : BitVec 32) : Fin 3 → Nat :=
  let c1_i32_753 : BitVec 32 := 1#32
  let v1420 : Index := Scalar.indexCast c1_i32_753
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1421 : Index := Scalar.indexCast v1391
  let c336_754 : Index := 336#32
  ![1, v1421.toNat, 336]
def k0_off108 (k0_t5 : Fin k0_t5_loop.trips) (c0_i32_740 : BitVec 32) : Fin 3 → Nat :=
  let c1_i32_755 : BitVec 32 := 1#32
  let v1425 : Index := Scalar.indexCast c1_i32_755
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1426 : Index := Scalar.indexCast v1391
  let c400_756 : Index := 400#32
  ![1, v1426.toNat, 400]
def k0_off109 (k0_t5 : Fin k0_t5_loop.trips) (c0_i32_740 : BitVec 32) : Fin 3 → Nat :=
  let c1_i32_757 : BitVec 32 := 1#32
  let v1430 : Index := Scalar.indexCast c1_i32_757
  let c16_i32_739 : BitVec 32 := 16#32
  let c0_i32_370 : BitVec 32 := 0#32
  let c1_i32_372 : BitVec 32 := 1#32
  let arg20 : BitVec 32 := Scf.iv c0_i32_370 c1_i32_372 k0_t5
  let v1390 : BitVec 32 := Scalar.muli c16_i32_739 arg20
  let v1391 : BitVec 32 := Scalar.addi v1390 c0_i32_740
  let v1431 : Index := Scalar.indexCast v1391
  let c464_758 : Index := 464#32
  ![1, v1431.toNat, 464]
def k0_off110 (k0_t5 : Fin k0_t5_loop.trips) (c0_i32_1092 : BitVec 32) : Fin 3 → Nat :=
  let c1_i32_1093 : BitVec 32 := 1#32
  let v2152 : Index := Scalar.indexCast c1_i32_1093
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2153 : Index := Scalar.indexCast v2151
  let c32_1094 : Index := 32#32
  ![1, v2153.toNat, 32]
def k0_off111 (k0_t5 : Fin k0_t5_loop.trips) (c0_i32_1092 : BitVec 32) : Fin 3 → Nat :=
  let c1_i32_1095 : BitVec 32 := 1#32
  let v2155 : Index := Scalar.indexCast c1_i32_1095
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2156 : Index := Scalar.indexCast v2151
  let c32_1096 : Index := 32#32
  ![1, v2156.toNat, 32]
def k0_off112 (k0_t5 : Fin k0_t5_loop.trips) (c0_i32_1092 : BitVec 32) : Fin 3 → Nat :=
  let c1_i32_1097 : BitVec 32 := 1#32
  let v2160 : Index := Scalar.indexCast c1_i32_1097
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2161 : Index := Scalar.indexCast v2151
  let c96_1098 : Index := 96#32
  ![1, v2161.toNat, 96]
def k0_off113 (k0_t5 : Fin k0_t5_loop.trips) (c0_i32_1092 : BitVec 32) : Fin 3 → Nat :=
  let c1_i32_1099 : BitVec 32 := 1#32
  let v2165 : Index := Scalar.indexCast c1_i32_1099
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2166 : Index := Scalar.indexCast v2151
  let c160_1100 : Index := 160#32
  ![1, v2166.toNat, 160]
def k0_off114 (k0_t5 : Fin k0_t5_loop.trips) (c0_i32_1092 : BitVec 32) : Fin 3 → Nat :=
  let c1_i32_1101 : BitVec 32 := 1#32
  let v2170 : Index := Scalar.indexCast c1_i32_1101
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2171 : Index := Scalar.indexCast v2151
  let c224_1102 : Index := 224#32
  ![1, v2171.toNat, 224]
def k0_off115 (k0_t5 : Fin k0_t5_loop.trips) (c0_i32_1092 : BitVec 32) : Fin 3 → Nat :=
  let c1_i32_1103 : BitVec 32 := 1#32
  let v2175 : Index := Scalar.indexCast c1_i32_1103
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2176 : Index := Scalar.indexCast v2151
  let c288_1104 : Index := 288#32
  ![1, v2176.toNat, 288]
def k0_off116 (k0_t5 : Fin k0_t5_loop.trips) (c0_i32_1092 : BitVec 32) : Fin 3 → Nat :=
  let c1_i32_1105 : BitVec 32 := 1#32
  let v2180 : Index := Scalar.indexCast c1_i32_1105
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2181 : Index := Scalar.indexCast v2151
  let c352_1106 : Index := 352#32
  ![1, v2181.toNat, 352]
def k0_off117 (k0_t5 : Fin k0_t5_loop.trips) (c0_i32_1092 : BitVec 32) : Fin 3 → Nat :=
  let c1_i32_1107 : BitVec 32 := 1#32
  let v2185 : Index := Scalar.indexCast c1_i32_1107
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2186 : Index := Scalar.indexCast v2151
  let c416_1108 : Index := 416#32
  ![1, v2186.toNat, 416]
def k0_off118 (k0_t5 : Fin k0_t5_loop.trips) (c0_i32_1092 : BitVec 32) : Fin 3 → Nat :=
  let c1_i32_1109 : BitVec 32 := 1#32
  let v2190 : Index := Scalar.indexCast c1_i32_1109
  let c16_i32_1091 : BitVec 32 := 16#32
  let c0_i32_370 : BitVec 32 := 0#32
  let c1_i32_372 : BitVec 32 := 1#32
  let arg20 : BitVec 32 := Scf.iv c0_i32_370 c1_i32_372 k0_t5
  let v2150 : BitVec 32 := Scalar.muli c16_i32_1091 arg20
  let v2151 : BitVec 32 := Scalar.addi v2150 c0_i32_1092
  let v2191 : Index := Scalar.indexCast v2151
  let c480_1110 : Index := 480#32
  ![1, v2191.toNat, 480]
def k0_off119 (k0_t5 : Fin k0_t5_loop.trips) (c0_i32_1444 : BitVec 32) : Fin 3 → Nat :=
  let c1_i32_1445 : BitVec 32 := 1#32
  let v2912 : Index := Scalar.indexCast c1_i32_1445
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2913 : Index := Scalar.indexCast v2911
  let c48_1446 : Index := 48#32
  ![1, v2913.toNat, 48]
def k0_off120 (k0_t5 : Fin k0_t5_loop.trips) (c0_i32_1444 : BitVec 32) : Fin 3 → Nat :=
  let c1_i32_1447 : BitVec 32 := 1#32
  let v2915 : Index := Scalar.indexCast c1_i32_1447
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2916 : Index := Scalar.indexCast v2911
  let c48_1448 : Index := 48#32
  ![1, v2916.toNat, 48]
def k0_off121 (k0_t5 : Fin k0_t5_loop.trips) (c0_i32_1444 : BitVec 32) : Fin 3 → Nat :=
  let c1_i32_1449 : BitVec 32 := 1#32
  let v2920 : Index := Scalar.indexCast c1_i32_1449
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2921 : Index := Scalar.indexCast v2911
  let c112_1450 : Index := 112#32
  ![1, v2921.toNat, 112]
def k0_off122 (k0_t5 : Fin k0_t5_loop.trips) (c0_i32_1444 : BitVec 32) : Fin 3 → Nat :=
  let c1_i32_1451 : BitVec 32 := 1#32
  let v2925 : Index := Scalar.indexCast c1_i32_1451
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2926 : Index := Scalar.indexCast v2911
  let c176_1452 : Index := 176#32
  ![1, v2926.toNat, 176]
def k0_off123 (k0_t5 : Fin k0_t5_loop.trips) (c0_i32_1444 : BitVec 32) : Fin 3 → Nat :=
  let c1_i32_1453 : BitVec 32 := 1#32
  let v2930 : Index := Scalar.indexCast c1_i32_1453
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2931 : Index := Scalar.indexCast v2911
  let c240_1454 : Index := 240#32
  ![1, v2931.toNat, 240]
def k0_off124 (k0_t5 : Fin k0_t5_loop.trips) (c0_i32_1444 : BitVec 32) : Fin 3 → Nat :=
  let c1_i32_1455 : BitVec 32 := 1#32
  let v2935 : Index := Scalar.indexCast c1_i32_1455
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2936 : Index := Scalar.indexCast v2911
  let c304_1456 : Index := 304#32
  ![1, v2936.toNat, 304]
def k0_off125 (k0_t5 : Fin k0_t5_loop.trips) (c0_i32_1444 : BitVec 32) : Fin 3 → Nat :=
  let c1_i32_1457 : BitVec 32 := 1#32
  let v2940 : Index := Scalar.indexCast c1_i32_1457
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2941 : Index := Scalar.indexCast v2911
  let c368_1458 : Index := 368#32
  ![1, v2941.toNat, 368]
def k0_off126 (k0_t5 : Fin k0_t5_loop.trips) (c0_i32_1444 : BitVec 32) : Fin 3 → Nat :=
  let c1_i32_1459 : BitVec 32 := 1#32
  let v2945 : Index := Scalar.indexCast c1_i32_1459
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2946 : Index := Scalar.indexCast v2911
  let c432_1460 : Index := 432#32
  ![1, v2946.toNat, 432]
def k0_off127 (k0_t5 : Fin k0_t5_loop.trips) (c0_i32_1444 : BitVec 32) : Fin 3 → Nat :=
  let c1_i32_1461 : BitVec 32 := 1#32
  let v2950 : Index := Scalar.indexCast c1_i32_1461
  let c16_i32_1443 : BitVec 32 := 16#32
  let c0_i32_370 : BitVec 32 := 0#32
  let c1_i32_372 : BitVec 32 := 1#32
  let arg20 : BitVec 32 := Scf.iv c0_i32_370 c1_i32_372 k0_t5
  let v2910 : BitVec 32 := Scalar.muli c16_i32_1443 arg20
  let v2911 : BitVec 32 := Scalar.addi v2910 c0_i32_1444
  let v2951 : Index := Scalar.indexCast v2911
  let c496_1462 : Index := 496#32
  ![1, v2951.toNat, 496]
@[reducible] def k0_t6_loop : Scf.Loop 32 :=
  let c0_i32_386 : BitVec 32 := 0#32
  let c16_i32_387 : BitVec 32 := 16#32
  let v627 : BitVec 32 := Scalar.addi c0_i32_386 c16_i32_387
  let c1_i32_388 : BitVec 32 := 1#32
  ⟨c0_i32_386, v627, c1_i32_388⟩
def k0_off128 (i : grid0.Coords) (v104 : BitVec 32) (v122 : BitVec 32) (arg23 : BitVec 32) : Fin 2 → Nat :=
  let v946 : BitVec 1 := Scalar.cmpi .eq arg23 v104
  let arg1 : BitVec 32 := BitVec.ofNat 32 (i 1).val
  let c0_i32_49 : BitVec 32 := 0#32
  let v123 : BitVec 1 := Scalar.cmpi .eq arg1 c0_i32_49
  let v124 : BitVec 1 := Scalar.cmpi .ne v122 v104
  let v125 : BitVec 1 := Scalar.ori v123 v124
  let true_596 : BitVec 1 := 1#1
  let v947 : BitVec 1 := Scalar.xori v125 true_596
  let v948 : BitVec 1 := Scalar.andi v946 v947
  let c513_i32_597 : BitVec 32 := 513#32
  let v949 : BitVec 32 := Scalar.addi c513_i32_597 arg1
  let c0_i32_594 : BitVec 32 := 0#32
  let v944 : BitVec 1 := Scalar.cmpi .slt arg23 c0_i32_594
  let c512_i32_595 : BitVec 32 := 512#32
  let v945 : BitVec 32 := Scalar.select v944 c512_i32_595 arg23
  let v950 : BitVec 32 := Scalar.select v948 v949 v945
  let c0_i32_662_r7 : BitVec 32 := 0#32
  ![v950.toNat, 0]
def k0_cond7 (arg23 : BitVec 32) (v638 : BitVec 32) : BitVec 1 :=
  let v639 : BitVec 1 := Scalar.cmpi .ne v638 arg23
  let v640 : BitVec 32 := Scalar.extui v639
  let c0_i32_392 : BitVec 32 := 0#32
  let v641 : BitVec 1 := Scalar.cmpi .ne v640 c0_i32_392
  v641

def k0_chk4 (i : grid0.Coords) (v104 : BitVec 32) (v122 : BitVec 32) (v616 : BitVec 32) (v622 : BitVec 32) (arg23 : BitVec 32) (v638 : BitVec 32) : Prop :=
  (∀ (k0_h5 : ¬(k0_cond5 v616 v622 = 1#1)), ∀ (k0_h7 : k0_cond7 arg23 v638 = 1#1), ∀ a, (k0_off128 i v104 v122 arg23) a + S1x512.size a ≤ S544x512.size a)
theorem k0_off128_inb : ∀ (i : grid0.Coords) (v104 : BitVec 32) (v122 : BitVec 32) (v616 : BitVec 32) (v622 : BitVec 32) (arg23 : BitVec 32) (v638 : BitVec 32) (k0_hw4 : k0_chk4 i v104 v122 v616 v622 arg23 v638), ∀ (k0_h5 : ¬(k0_cond5 v616 v622 = 1#1)), ∀ (k0_h7 : k0_cond7 arg23 v638 = 1#1), ∀ a, (k0_off128 i v104 v122 arg23) a + S1x512.size a ≤ S544x512.size a := fun i v104 v122 v616 v622 arg23 v638 k0_hw4 k0_h5 k0_h7 => k0_hw4 k0_h5 k0_h7

def k0_off129 (k0_t5 : Fin k0_t5_loop.trips) (k0_t6 : Fin k0_t6_loop.trips) : Fin 3 → Nat :=
  let c1_i32_394 : BitVec 32 := 1#32
  let v644 : Index := Scalar.indexCast c1_i32_394
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v645 : Index := Scalar.indexCast v643
  let c0_395 : Index := 0#32
  ![1, v645.toNat, 0]
def k0_off130 (k0_t5 : Fin k0_t5_loop.trips) (k0_t6 : Fin k0_t6_loop.trips) : Fin 3 → Nat :=
  let c1_i32_396 : BitVec 32 := 1#32
  let v647 : Index := Scalar.indexCast c1_i32_396
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v648 : Index := Scalar.indexCast v643
  let c16_397 : Index := 16#32
  ![1, v648.toNat, 16]
def k0_off131 (k0_t5 : Fin k0_t5_loop.trips) (k0_t6 : Fin k0_t6_loop.trips) : Fin 3 → Nat :=
  let c1_i32_398 : BitVec 32 := 1#32
  let v650 : Index := Scalar.indexCast c1_i32_398
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v651 : Index := Scalar.indexCast v643
  let c32_399 : Index := 32#32
  ![1, v651.toNat, 32]
def k0_off132 (k0_t5 : Fin k0_t5_loop.trips) (k0_t6 : Fin k0_t6_loop.trips) : Fin 3 → Nat :=
  let c1_i32_400 : BitVec 32 := 1#32
  let v653 : Index := Scalar.indexCast c1_i32_400
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v654 : Index := Scalar.indexCast v643
  let c48_401 : Index := 48#32
  ![1, v654.toNat, 48]
def k0_off133 (k0_t5 : Fin k0_t5_loop.trips) (k0_t6 : Fin k0_t6_loop.trips) : Fin 3 → Nat :=
  let c1_i32_404 : BitVec 32 := 1#32
  let v658 : Index := Scalar.indexCast c1_i32_404
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v659 : Index := Scalar.indexCast v643
  let c0_405 : Index := 0#32
  ![1, v659.toNat, 0]
def k0_off134 (k0_t5 : Fin k0_t5_loop.trips) (k0_t6 : Fin k0_t6_loop.trips) : Fin 3 → Nat :=
  let c1_i32_410 : BitVec 32 := 1#32
  let v667 : Index := Scalar.indexCast c1_i32_410
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v668 : Index := Scalar.indexCast v643
  let c16_411 : Index := 16#32
  ![1, v668.toNat, 16]
def k0_off135 (k0_t5 : Fin k0_t5_loop.trips) (k0_t6 : Fin k0_t6_loop.trips) : Fin 3 → Nat :=
  let c1_i32_416 : BitVec 32 := 1#32
  let v676 : Index := Scalar.indexCast c1_i32_416
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v677 : Index := Scalar.indexCast v643
  let c32_417 : Index := 32#32
  ![1, v677.toNat, 32]
def k0_off136 (k0_t5 : Fin k0_t5_loop.trips) (k0_t6 : Fin k0_t6_loop.trips) : Fin 3 → Nat :=
  let c1_i32_422 : BitVec 32 := 1#32
  let v685 : Index := Scalar.indexCast c1_i32_422
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v686 : Index := Scalar.indexCast v643
  let c48_423 : Index := 48#32
  ![1, v686.toNat, 48]
def k0_off137 (k0_t5 : Fin k0_t5_loop.trips) (k0_t6 : Fin k0_t6_loop.trips) : Fin 3 → Nat :=
  let c1_i32_428 : BitVec 32 := 1#32
  let v694 : Index := Scalar.indexCast c1_i32_428
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v695 : Index := Scalar.indexCast v643
  let c64_429 : Index := 64#32
  ![1, v695.toNat, 64]
def k0_off138 (k0_t5 : Fin k0_t5_loop.trips) (k0_t6 : Fin k0_t6_loop.trips) : Fin 3 → Nat :=
  let c1_i32_434 : BitVec 32 := 1#32
  let v703 : Index := Scalar.indexCast c1_i32_434
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v704 : Index := Scalar.indexCast v643
  let c80_435 : Index := 80#32
  ![1, v704.toNat, 80]
def k0_off139 (k0_t5 : Fin k0_t5_loop.trips) (k0_t6 : Fin k0_t6_loop.trips) : Fin 3 → Nat :=
  let c1_i32_440 : BitVec 32 := 1#32
  let v712 : Index := Scalar.indexCast c1_i32_440
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v713 : Index := Scalar.indexCast v643
  let c96_441 : Index := 96#32
  ![1, v713.toNat, 96]
def k0_off140 (k0_t5 : Fin k0_t5_loop.trips) (k0_t6 : Fin k0_t6_loop.trips) : Fin 3 → Nat :=
  let c1_i32_446 : BitVec 32 := 1#32
  let v721 : Index := Scalar.indexCast c1_i32_446
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v722 : Index := Scalar.indexCast v643
  let c112_447 : Index := 112#32
  ![1, v722.toNat, 112]
def k0_off141 (k0_t5 : Fin k0_t5_loop.trips) (k0_t6 : Fin k0_t6_loop.trips) : Fin 3 → Nat :=
  let c1_i32_452 : BitVec 32 := 1#32
  let v730 : Index := Scalar.indexCast c1_i32_452
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v731 : Index := Scalar.indexCast v643
  let c128_453 : Index := 128#32
  ![1, v731.toNat, 128]
def k0_off142 (k0_t5 : Fin k0_t5_loop.trips) (k0_t6 : Fin k0_t6_loop.trips) : Fin 3 → Nat :=
  let c1_i32_458 : BitVec 32 := 1#32
  let v739 : Index := Scalar.indexCast c1_i32_458
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v740 : Index := Scalar.indexCast v643
  let c144_459 : Index := 144#32
  ![1, v740.toNat, 144]
def k0_off143 (k0_t5 : Fin k0_t5_loop.trips) (k0_t6 : Fin k0_t6_loop.trips) : Fin 3 → Nat :=
  let c1_i32_464 : BitVec 32 := 1#32
  let v748 : Index := Scalar.indexCast c1_i32_464
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v749 : Index := Scalar.indexCast v643
  let c160_465 : Index := 160#32
  ![1, v749.toNat, 160]
def k0_off144 (k0_t5 : Fin k0_t5_loop.trips) (k0_t6 : Fin k0_t6_loop.trips) : Fin 3 → Nat :=
  let c1_i32_470 : BitVec 32 := 1#32
  let v757 : Index := Scalar.indexCast c1_i32_470
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v758 : Index := Scalar.indexCast v643
  let c176_471 : Index := 176#32
  ![1, v758.toNat, 176]
def k0_off145 (k0_t5 : Fin k0_t5_loop.trips) (k0_t6 : Fin k0_t6_loop.trips) : Fin 3 → Nat :=
  let c1_i32_476 : BitVec 32 := 1#32
  let v766 : Index := Scalar.indexCast c1_i32_476
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v767 : Index := Scalar.indexCast v643
  let c192_477 : Index := 192#32
  ![1, v767.toNat, 192]
def k0_off146 (k0_t5 : Fin k0_t5_loop.trips) (k0_t6 : Fin k0_t6_loop.trips) : Fin 3 → Nat :=
  let c1_i32_482 : BitVec 32 := 1#32
  let v775 : Index := Scalar.indexCast c1_i32_482
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v776 : Index := Scalar.indexCast v643
  let c208_483 : Index := 208#32
  ![1, v776.toNat, 208]
def k0_off147 (k0_t5 : Fin k0_t5_loop.trips) (k0_t6 : Fin k0_t6_loop.trips) : Fin 3 → Nat :=
  let c1_i32_488 : BitVec 32 := 1#32
  let v784 : Index := Scalar.indexCast c1_i32_488
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v785 : Index := Scalar.indexCast v643
  let c224_489 : Index := 224#32
  ![1, v785.toNat, 224]
def k0_off148 (k0_t5 : Fin k0_t5_loop.trips) (k0_t6 : Fin k0_t6_loop.trips) : Fin 3 → Nat :=
  let c1_i32_494 : BitVec 32 := 1#32
  let v793 : Index := Scalar.indexCast c1_i32_494
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v794 : Index := Scalar.indexCast v643
  let c240_495 : Index := 240#32
  ![1, v794.toNat, 240]
def k0_off149 (k0_t5 : Fin k0_t5_loop.trips) (k0_t6 : Fin k0_t6_loop.trips) : Fin 3 → Nat :=
  let c1_i32_500 : BitVec 32 := 1#32
  let v802 : Index := Scalar.indexCast c1_i32_500
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v803 : Index := Scalar.indexCast v643
  let c256_501 : Index := 256#32
  ![1, v803.toNat, 256]
def k0_off150 (k0_t5 : Fin k0_t5_loop.trips) (k0_t6 : Fin k0_t6_loop.trips) : Fin 3 → Nat :=
  let c1_i32_506 : BitVec 32 := 1#32
  let v811 : Index := Scalar.indexCast c1_i32_506
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v812 : Index := Scalar.indexCast v643
  let c272_507 : Index := 272#32
  ![1, v812.toNat, 272]
def k0_off151 (k0_t5 : Fin k0_t5_loop.trips) (k0_t6 : Fin k0_t6_loop.trips) : Fin 3 → Nat :=
  let c1_i32_512 : BitVec 32 := 1#32
  let v820 : Index := Scalar.indexCast c1_i32_512
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v821 : Index := Scalar.indexCast v643
  let c288_513 : Index := 288#32
  ![1, v821.toNat, 288]
def k0_off152 (k0_t5 : Fin k0_t5_loop.trips) (k0_t6 : Fin k0_t6_loop.trips) : Fin 3 → Nat :=
  let c1_i32_518 : BitVec 32 := 1#32
  let v829 : Index := Scalar.indexCast c1_i32_518
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v830 : Index := Scalar.indexCast v643
  let c304_519 : Index := 304#32
  ![1, v830.toNat, 304]
def k0_off153 (k0_t5 : Fin k0_t5_loop.trips) (k0_t6 : Fin k0_t6_loop.trips) : Fin 3 → Nat :=
  let c1_i32_524 : BitVec 32 := 1#32
  let v838 : Index := Scalar.indexCast c1_i32_524
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v839 : Index := Scalar.indexCast v643
  let c320_525 : Index := 320#32
  ![1, v839.toNat, 320]
def k0_off154 (k0_t5 : Fin k0_t5_loop.trips) (k0_t6 : Fin k0_t6_loop.trips) : Fin 3 → Nat :=
  let c1_i32_530 : BitVec 32 := 1#32
  let v847 : Index := Scalar.indexCast c1_i32_530
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v848 : Index := Scalar.indexCast v643
  let c336_531 : Index := 336#32
  ![1, v848.toNat, 336]
def k0_off155 (k0_t5 : Fin k0_t5_loop.trips) (k0_t6 : Fin k0_t6_loop.trips) : Fin 3 → Nat :=
  let c1_i32_536 : BitVec 32 := 1#32
  let v856 : Index := Scalar.indexCast c1_i32_536
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v857 : Index := Scalar.indexCast v643
  let c352_537 : Index := 352#32
  ![1, v857.toNat, 352]
def k0_off156 (k0_t5 : Fin k0_t5_loop.trips) (k0_t6 : Fin k0_t6_loop.trips) : Fin 3 → Nat :=
  let c1_i32_542 : BitVec 32 := 1#32
  let v865 : Index := Scalar.indexCast c1_i32_542
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v866 : Index := Scalar.indexCast v643
  let c368_543 : Index := 368#32
  ![1, v866.toNat, 368]
def k0_off157 (k0_t5 : Fin k0_t5_loop.trips) (k0_t6 : Fin k0_t6_loop.trips) : Fin 3 → Nat :=
  let c1_i32_548 : BitVec 32 := 1#32
  let v874 : Index := Scalar.indexCast c1_i32_548
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v875 : Index := Scalar.indexCast v643
  let c384_549 : Index := 384#32
  ![1, v875.toNat, 384]
def k0_off158 (k0_t5 : Fin k0_t5_loop.trips) (k0_t6 : Fin k0_t6_loop.trips) : Fin 3 → Nat :=
  let c1_i32_554 : BitVec 32 := 1#32
  let v883 : Index := Scalar.indexCast c1_i32_554
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v884 : Index := Scalar.indexCast v643
  let c400_555 : Index := 400#32
  ![1, v884.toNat, 400]
def k0_off159 (k0_t5 : Fin k0_t5_loop.trips) (k0_t6 : Fin k0_t6_loop.trips) : Fin 3 → Nat :=
  let c1_i32_560 : BitVec 32 := 1#32
  let v892 : Index := Scalar.indexCast c1_i32_560
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v893 : Index := Scalar.indexCast v643
  let c416_561 : Index := 416#32
  ![1, v893.toNat, 416]
def k0_off160 (k0_t5 : Fin k0_t5_loop.trips) (k0_t6 : Fin k0_t6_loop.trips) : Fin 3 → Nat :=
  let c1_i32_566 : BitVec 32 := 1#32
  let v901 : Index := Scalar.indexCast c1_i32_566
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v902 : Index := Scalar.indexCast v643
  let c432_567 : Index := 432#32
  ![1, v902.toNat, 432]
def k0_off161 (k0_t5 : Fin k0_t5_loop.trips) (k0_t6 : Fin k0_t6_loop.trips) : Fin 3 → Nat :=
  let c1_i32_572 : BitVec 32 := 1#32
  let v910 : Index := Scalar.indexCast c1_i32_572
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v911 : Index := Scalar.indexCast v643
  let c448_573 : Index := 448#32
  ![1, v911.toNat, 448]
def k0_off162 (k0_t5 : Fin k0_t5_loop.trips) (k0_t6 : Fin k0_t6_loop.trips) : Fin 3 → Nat :=
  let c1_i32_578 : BitVec 32 := 1#32
  let v919 : Index := Scalar.indexCast c1_i32_578
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v920 : Index := Scalar.indexCast v643
  let c464_579 : Index := 464#32
  ![1, v920.toNat, 464]
def k0_off163 (k0_t5 : Fin k0_t5_loop.trips) (k0_t6 : Fin k0_t6_loop.trips) : Fin 3 → Nat :=
  let c1_i32_584 : BitVec 32 := 1#32
  let v928 : Index := Scalar.indexCast c1_i32_584
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v929 : Index := Scalar.indexCast v643
  let c480_585 : Index := 480#32
  ![1, v929.toNat, 480]
def k0_off164 (k0_t5 : Fin k0_t5_loop.trips) (k0_t6 : Fin k0_t6_loop.trips) : Fin 3 → Nat :=
  let c1_i32_590 : BitVec 32 := 1#32
  let v937 : Index := Scalar.indexCast c1_i32_590
  let c16_i32_393 : BitVec 32 := 16#32
  let c0_i32_370 : BitVec 32 := 0#32
  let c1_i32_372 : BitVec 32 := 1#32
  let arg20 : BitVec 32 := Scf.iv c0_i32_370 c1_i32_372 k0_t5
  let v642 : BitVec 32 := Scalar.muli c16_i32_393 arg20
  let c0_i32_386 : BitVec 32 := 0#32
  let c1_i32_388 : BitVec 32 := 1#32
  let arg22 : BitVec 32 := Scf.iv c0_i32_386 c1_i32_388 k0_t6
  let v643 : BitVec 32 := Scalar.addi v642 arg22
  let v938 : Index := Scalar.indexCast v643
  let c496_591 : Index := 496#32
  ![1, v938.toNat, 496]
def k0_cond8 (k0_t2 : Fin k0_t2_loop.trips) : BitVec 1 :=
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c2_i32_374 : BitVec 32 := 2#32
  let v595 : BitVec 32 := Scalar.addi v572 c2_i32_374
  let c98_i32_375 : BitVec 32 := 98#32
  let v596 : BitVec 1 := Scalar.cmpi .slt v595 c98_i32_375
  let v597 : BitVec 32 := Scalar.extui v596
  let c0_i32_376 : BitVec 32 := 0#32
  let v598 : BitVec 1 := Scalar.cmpi .ne v597 c0_i32_376
  v598

def k0_off165 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c2_i32_377 : BitVec 32 := 2#32
  let v599 : BitVec 32 := Scalar.addi v572 c2_i32_377
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_378 : BitVec 32 := 1#32
  let v600 : BitVec 32 := Scalar.subi v21 c1_i32_378
  let v601 : BitVec 32 := Scalar.minsi v599 v600
  let c32_i32_379 : BitVec 32 := 32#32
  let v602 : BitVec 32 := Scalar.muli v601 c32_i32_379
  let v603 : BitVec 32 := Scalar.addi v2 v602
  let c0_i32_384 : BitVec 32 := 0#32
  ![v603.toNat, 0]
def k0_off166 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3136_i32 : BitVec 32 := 3136#32
  let v2 : BitVec 32 := Scalar.muli v1 c3136_i32
  let c2_i32_350 : BitVec 32 := 2#32
  let c0_i32_92 : BitVec 32 := 0#32
  let c1_i32_93 : BitVec 32 := 1#32
  let arg18 : BitVec 32 := Scf.iv c0_i32_92 c1_i32_93 k0_t2
  let v571 : BitVec 32 := Scalar.muli c2_i32_350 arg18
  let c1_i32_351 : BitVec 32 := 1#32
  let v572 : BitVec 32 := Scalar.addi v571 c1_i32_351
  let c2_i32_377 : BitVec 32 := 2#32
  let v599 : BitVec 32 := Scalar.addi v572 c2_i32_377
  let c3136_i32_0 : BitVec 32 := 3136#32
  let c100000_i32 : BitVec 32 := 100000#32
  let v3 : BitVec 32 := Scalar.subi c100000_i32 v2
  let v4 : BitVec 32 := Scalar.minsi c3136_i32_0 v3
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c1_i32_378 : BitVec 32 := 1#32
  let v600 : BitVec 32 := Scalar.subi v21 c1_i32_378
  let v601 : BitVec 32 := Scalar.minsi v599 v600
  let c32_i32_379 : BitVec 32 := 32#32
  let v602 : BitVec 32 := Scalar.muli v601 c32_i32_379
  let v603 : BitVec 32 := Scalar.addi v2 v602
  let c0_i32_392 : BitVec 32 := 0#32
  ![v603.toNat, 0]
def k0_off167 (i : grid0.Coords) (v104 : BitVec 32) (v122 : BitVec 32) (v173 : BitVec 32) : Fin 2 → Nat :=
  let v176 : BitVec 1 := Scalar.cmpi .eq v173 v104
  let arg1 : BitVec 32 := BitVec.ofNat 32 (i 1).val
  let c0_i32_49 : BitVec 32 := 0#32
  let v123 : BitVec 1 := Scalar.cmpi .eq arg1 c0_i32_49
  let v124 : BitVec 1 := Scalar.cmpi .ne v122 v104
  let v125 : BitVec 1 := Scalar.ori v123 v124
  let true_96 : BitVec 1 := 1#1
  let v177 : BitVec 1 := Scalar.xori v125 true_96
  let v178 : BitVec 1 := Scalar.andi v176 v177
  let c513_i32 : BitVec 32 := 513#32
  let v179 : BitVec 32 := Scalar.addi c513_i32 arg1
  let c0_i32_95 : BitVec 32 := 0#32
  let v174 : BitVec 1 := Scalar.cmpi .slt v173 c0_i32_95
  let c512_i32 : BitVec 32 := 512#32
  let v175 : BitVec 32 := Scalar.select v174 c512_i32 v173
  let v180 : BitVec 32 := Scalar.select v178 v179 v175
  let c0_i32_324_r8 : BitVec 32 := 0#32
  ![v180.toNat, 0]

def k0_chk5 (i : grid0.Coords) (v104 : BitVec 32) (v122 : BitVec 32) (v173 : BitVec 32) : Prop :=
  (∀ a, (k0_off167 i v104 v122 v173) a + S1x512.size a ≤ S544x512.size a)
theorem k0_off167_inb : ∀ (i : grid0.Coords) (v104 : BitVec 32) (v122 : BitVec 32) (v173 : BitVec 32) (k0_hw5 : k0_chk5 i v104 v122 v173), ∀ a, (k0_off167 i v104 v122 v173) a + S1x512.size a ≤ S544x512.size a := fun i v104 v122 v173 k0_hw5 => k0_hw5

def k0_off168 (v115 : BitVec 32) : Fin 2 → Nat :=
  let c0_i32_516_r25 : BitVec 32 := 0#32
  ![v115.toNat, 0]
def k0_cond24 (i : grid0.Coords) (v104 : BitVec 32) (v115 : BitVec 32) (v122 : BitVec 32) (v317 : BitVec 32) (v332 : BitVec 32) (v347 : BitVec 32) (v362 : BitVec 32) (v377 : BitVec 32) (v392 : BitVec 32) (v407 : BitVec 32) (v422 : BitVec 32) (v437 : BitVec 32) (v452 : BitVec 32) (v467 : BitVec 32) (v482 : BitVec 32) (v497 : BitVec 32) (v512 : BitVec 32) (v527 : BitVec 32) : BitVec 1 :=
  let c0_i32_233 : BitVec 32 := 0#32
  let arg1 : BitVec 32 := BitVec.ofNat 32 (i 1).val
  let c1_i32_229 : BitVec 32 := 1#32
  let v318 : BitVec 1 := Scalar.cmpi .slt arg1 c1_i32_229
  let c0_i32_49 : BitVec 32 := 0#32
  let v123 : BitVec 1 := Scalar.cmpi .eq arg1 c0_i32_49
  let v124 : BitVec 1 := Scalar.cmpi .ne v122 v104
  let v125 : BitVec 1 := Scalar.ori v123 v124
  let v245 : BitVec 1 := Scalar.cmpi .ne v115 v104
  let v246 : BitVec 1 := Scalar.ori v125 v245
  let v319 : BitVec 1 := Scalar.andi v318 v246
  let v320 : BitVec 1 := Scalar.cmpi .eq v317 v115
  let v321 : BitVec 1 := Scalar.andi v319 v320
  let c1_i32_231 : BitVec 32 := 1#32
  let c0_i32_232 : BitVec 32 := 0#32
  let v324 : BitVec 32 := Scalar.select v321 c1_i32_231 c0_i32_232
  let v325 : BitVec 32 := Scalar.addi c0_i32_233 v324
  let c2_i32 : BitVec 32 := 2#32
  let v333 : BitVec 1 := Scalar.cmpi .slt arg1 c2_i32
  let v334 : BitVec 1 := Scalar.andi v333 v246
  let v335 : BitVec 1 := Scalar.cmpi .eq v332 v115
  let v336 : BitVec 1 := Scalar.andi v334 v335
  let c1_i32_238 : BitVec 32 := 1#32
  let c0_i32_239 : BitVec 32 := 0#32
  let v339 : BitVec 32 := Scalar.select v336 c1_i32_238 c0_i32_239
  let v340 : BitVec 32 := Scalar.addi v325 v339
  let c3_i32 : BitVec 32 := 3#32
  let v348 : BitVec 1 := Scalar.cmpi .slt arg1 c3_i32
  let v349 : BitVec 1 := Scalar.andi v348 v246
  let v350 : BitVec 1 := Scalar.cmpi .eq v347 v115
  let v351 : BitVec 1 := Scalar.andi v349 v350
  let c1_i32_244 : BitVec 32 := 1#32
  let c0_i32_245 : BitVec 32 := 0#32
  let v354 : BitVec 32 := Scalar.select v351 c1_i32_244 c0_i32_245
  let v355 : BitVec 32 := Scalar.addi v340 v354
  let c4_i32 : BitVec 32 := 4#32
  let v363 : BitVec 1 := Scalar.cmpi .slt arg1 c4_i32
  let v364 : BitVec 1 := Scalar.andi v363 v246
  let v365 : BitVec 1 := Scalar.cmpi .eq v362 v115
  let v366 : BitVec 1 := Scalar.andi v364 v365
  let c1_i32_250 : BitVec 32 := 1#32
  let c0_i32_251 : BitVec 32 := 0#32
  let v369 : BitVec 32 := Scalar.select v366 c1_i32_250 c0_i32_251
  let v370 : BitVec 32 := Scalar.addi v355 v369
  let c5_i32 : BitVec 32 := 5#32
  let v378 : BitVec 1 := Scalar.cmpi .slt arg1 c5_i32
  let v379 : BitVec 1 := Scalar.andi v378 v246
  let v380 : BitVec 1 := Scalar.cmpi .eq v377 v115
  let v381 : BitVec 1 := Scalar.andi v379 v380
  let c1_i32_256 : BitVec 32 := 1#32
  let c0_i32_257 : BitVec 32 := 0#32
  let v384 : BitVec 32 := Scalar.select v381 c1_i32_256 c0_i32_257
  let v385 : BitVec 32 := Scalar.addi v370 v384
  let c6_i32 : BitVec 32 := 6#32
  let v393 : BitVec 1 := Scalar.cmpi .slt arg1 c6_i32
  let v394 : BitVec 1 := Scalar.andi v393 v246
  let v395 : BitVec 1 := Scalar.cmpi .eq v392 v115
  let v396 : BitVec 1 := Scalar.andi v394 v395
  let c1_i32_262 : BitVec 32 := 1#32
  let c0_i32_263 : BitVec 32 := 0#32
  let v399 : BitVec 32 := Scalar.select v396 c1_i32_262 c0_i32_263
  let v400 : BitVec 32 := Scalar.addi v385 v399
  let c7_i32 : BitVec 32 := 7#32
  let v408 : BitVec 1 := Scalar.cmpi .slt arg1 c7_i32
  let v409 : BitVec 1 := Scalar.andi v408 v246
  let v410 : BitVec 1 := Scalar.cmpi .eq v407 v115
  let v411 : BitVec 1 := Scalar.andi v409 v410
  let c1_i32_268 : BitVec 32 := 1#32
  let c0_i32_269 : BitVec 32 := 0#32
  let v414 : BitVec 32 := Scalar.select v411 c1_i32_268 c0_i32_269
  let v415 : BitVec 32 := Scalar.addi v400 v414
  let c8_i32 : BitVec 32 := 8#32
  let v423 : BitVec 1 := Scalar.cmpi .slt arg1 c8_i32
  let v424 : BitVec 1 := Scalar.andi v423 v246
  let v425 : BitVec 1 := Scalar.cmpi .eq v422 v115
  let v426 : BitVec 1 := Scalar.andi v424 v425
  let c1_i32_274 : BitVec 32 := 1#32
  let c0_i32_275 : BitVec 32 := 0#32
  let v429 : BitVec 32 := Scalar.select v426 c1_i32_274 c0_i32_275
  let v430 : BitVec 32 := Scalar.addi v415 v429
  let c9_i32 : BitVec 32 := 9#32
  let v438 : BitVec 1 := Scalar.cmpi .slt arg1 c9_i32
  let v439 : BitVec 1 := Scalar.andi v438 v246
  let v440 : BitVec 1 := Scalar.cmpi .eq v437 v115
  let v441 : BitVec 1 := Scalar.andi v439 v440
  let c1_i32_280 : BitVec 32 := 1#32
  let c0_i32_281 : BitVec 32 := 0#32
  let v444 : BitVec 32 := Scalar.select v441 c1_i32_280 c0_i32_281
  let v445 : BitVec 32 := Scalar.addi v430 v444
  let c10_i32 : BitVec 32 := 10#32
  let v453 : BitVec 1 := Scalar.cmpi .slt arg1 c10_i32
  let v454 : BitVec 1 := Scalar.andi v453 v246
  let v455 : BitVec 1 := Scalar.cmpi .eq v452 v115
  let v456 : BitVec 1 := Scalar.andi v454 v455
  let c1_i32_286 : BitVec 32 := 1#32
  let c0_i32_287 : BitVec 32 := 0#32
  let v459 : BitVec 32 := Scalar.select v456 c1_i32_286 c0_i32_287
  let v460 : BitVec 32 := Scalar.addi v445 v459
  let c11_i32 : BitVec 32 := 11#32
  let v468 : BitVec 1 := Scalar.cmpi .slt arg1 c11_i32
  let v469 : BitVec 1 := Scalar.andi v468 v246
  let v470 : BitVec 1 := Scalar.cmpi .eq v467 v115
  let v471 : BitVec 1 := Scalar.andi v469 v470
  let c1_i32_292 : BitVec 32 := 1#32
  let c0_i32_293 : BitVec 32 := 0#32
  let v474 : BitVec 32 := Scalar.select v471 c1_i32_292 c0_i32_293
  let v475 : BitVec 32 := Scalar.addi v460 v474
  let c12_i32 : BitVec 32 := 12#32
  let v483 : BitVec 1 := Scalar.cmpi .slt arg1 c12_i32
  let v484 : BitVec 1 := Scalar.andi v483 v246
  let v485 : BitVec 1 := Scalar.cmpi .eq v482 v115
  let v486 : BitVec 1 := Scalar.andi v484 v485
  let c1_i32_298 : BitVec 32 := 1#32
  let c0_i32_299 : BitVec 32 := 0#32
  let v489 : BitVec 32 := Scalar.select v486 c1_i32_298 c0_i32_299
  let v490 : BitVec 32 := Scalar.addi v475 v489
  let c13_i32 : BitVec 32 := 13#32
  let v498 : BitVec 1 := Scalar.cmpi .slt arg1 c13_i32
  let v499 : BitVec 1 := Scalar.andi v498 v246
  let v500 : BitVec 1 := Scalar.cmpi .eq v497 v115
  let v501 : BitVec 1 := Scalar.andi v499 v500
  let c1_i32_304 : BitVec 32 := 1#32
  let c0_i32_305 : BitVec 32 := 0#32
  let v504 : BitVec 32 := Scalar.select v501 c1_i32_304 c0_i32_305
  let v505 : BitVec 32 := Scalar.addi v490 v504
  let c14_i32 : BitVec 32 := 14#32
  let v513 : BitVec 1 := Scalar.cmpi .slt arg1 c14_i32
  let v514 : BitVec 1 := Scalar.andi v513 v246
  let v515 : BitVec 1 := Scalar.cmpi .eq v512 v115
  let v516 : BitVec 1 := Scalar.andi v514 v515
  let c1_i32_310 : BitVec 32 := 1#32
  let c0_i32_311 : BitVec 32 := 0#32
  let v519 : BitVec 32 := Scalar.select v516 c1_i32_310 c0_i32_311
  let v520 : BitVec 32 := Scalar.addi v505 v519
  let c15_i32 : BitVec 32 := 15#32
  let v528 : BitVec 1 := Scalar.cmpi .slt arg1 c15_i32
  let v529 : BitVec 1 := Scalar.andi v528 v246
  let v530 : BitVec 1 := Scalar.cmpi .eq v527 v115
  let v531 : BitVec 1 := Scalar.andi v529 v530
  let c1_i32_316 : BitVec 32 := 1#32
  let c0_i32_317 : BitVec 32 := 0#32
  let v534 : BitVec 32 := Scalar.select v531 c1_i32_316 c0_i32_317
  let v535 : BitVec 32 := Scalar.addi v520 v534
  let c0_i32_318 : BitVec 32 := 0#32
  let v536 : BitVec 1 := Scalar.cmpi .sgt v535 c0_i32_318
  let v537 : BitVec 32 := Scalar.extui v536
  let c0_i32_319 : BitVec 32 := 0#32
  let v538 : BitVec 1 := Scalar.cmpi .ne v537 c0_i32_319
  v538

def k0_chk6 (i : grid0.Coords) (v104 : BitVec 32) (v115 : BitVec 32) (v122 : BitVec 32) (v317 : BitVec 32) (v332 : BitVec 32) (v347 : BitVec 32) (v362 : BitVec 32) (v377 : BitVec 32) (v392 : BitVec 32) (v407 : BitVec 32) (v422 : BitVec 32) (v437 : BitVec 32) (v452 : BitVec 32) (v467 : BitVec 32) (v482 : BitVec 32) (v497 : BitVec 32) (v512 : BitVec 32) (v527 : BitVec 32) : Prop :=
  (∀ (k0_h24 : k0_cond24 i v104 v115 v122 v317 v332 v347 v362 v377 v392 v407 v422 v437 v452 v467 v482 v497 v512 v527 = 1#1), ∀ a, (k0_off168 v115) a + S1x512.size a ≤ S544x512.size a)
theorem k0_off168_inb : ∀ (i : grid0.Coords) (v104 : BitVec 32) (v115 : BitVec 32) (v122 : BitVec 32) (v317 : BitVec 32) (v332 : BitVec 32) (v347 : BitVec 32) (v362 : BitVec 32) (v377 : BitVec 32) (v392 : BitVec 32) (v407 : BitVec 32) (v422 : BitVec 32) (v437 : BitVec 32) (v452 : BitVec 32) (v467 : BitVec 32) (v482 : BitVec 32) (v497 : BitVec 32) (v512 : BitVec 32) (v527 : BitVec 32) (k0_hw6 : k0_chk6 i v104 v115 v122 v317 v332 v347 v362 v377 v392 v407 v422 v437 v452 v467 v482 v497 v512 v527), ∀ (k0_h24 : k0_cond24 i v104 v115 v122 v317 v332 v347 v362 v377 v392 v407 v422 v437 v452 v467 v482 v497 v512 v527 = 1#1), ∀ a, (k0_off168 v115) a + S1x512.size a ≤ S544x512.size a := fun i v104 v115 v122 v317 v332 v347 v362 v377 v392 v407 v422 v437 v452 v467 v482 v497 v512 v527 k0_hw6 k0_h24 => k0_hw6 k0_h24

def k0_off169 (i : grid0.Coords) : Fin 2 → Nat :=
  let arg0 : BitVec 32 := BitVec.ofNat 32 (i 0).val
  let c512_i32_321 : BitVec 32 := 512#32
  let v539 : BitVec 32 := Scalar.muli arg0 c512_i32_321
  let arg1 : BitVec 32 := BitVec.ofNat 32 (i 1).val
  let c32_i32_322 : BitVec 32 := 32#32
  let v540 : BitVec 32 := Scalar.muli arg1 c32_i32_322
  let v541 : BitVec 32 := Scalar.addi v539 v540
  let c0_i32_324_r27 : BitVec 32 := 0#32
  ![v541.toNat, 0]
def k0_off170 (i : grid0.Coords) : Fin 2 → Nat :=
  let arg1 : BitVec 32 := BitVec.ofNat 32 (i 1).val
  let c32_i32_323 : BitVec 32 := 32#32
  let v542 : BitVec 32 := Scalar.muli arg1 c32_i32_323
  let c0_i32_325_r27 : BitVec 32 := 0#32
  ![v542.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x8x64 : Shape := ⟨3, ![100000, 8, 64]⟩
abbrev S100000x64 : Shape := ⟨2, ![100000, 64]⟩
abbrev S100000 : Shape := ⟨1, ![100000]⟩
abbrev S100000x1x64 : Shape := ⟨3, ![100000, 1, 64]⟩
abbrev S_ : Shape := ⟨0, ![]⟩
abbrev S1024x8x64 : Shape := ⟨3, ![1024, 8, 64]⟩
abbrev S100000x1 : Shape := ⟨2, ![100000, 1]⟩
abbrev S1024x512 : Shape := ⟨2, ![1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S100000x8x64, .f32⟩
  | .hbm, ⟨1, _⟩ => ⟨S100000x64, .f32⟩
  | .hbm, ⟨2, _⟩ => ⟨S100000, .i32⟩
  | .hbm, ⟨3, _⟩ => ⟨S100000x1x64, .f32⟩
  | .hbm, ⟨4, _⟩ => ⟨S100000x8x64, .f32⟩
  | .hbm, ⟨5, _⟩ => ⟨S100000x8x64, .f32⟩
  | .hbm, ⟨6, _⟩ => ⟨S100000, .i32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S_, .f32⟩
  | .hbm, ⟨15, _⟩ => ⟨S1024x8x64, .f32⟩
  | .hbm, ⟨16, _⟩ => ⟨S100000x1, .i32⟩
  | .hbm, ⟨17, _⟩ => ⟨S1024x8x64, .f32⟩
  | .hbm, ⟨18, _⟩ => ⟨S1024x512, .f32⟩
  | _, _ => ⟨S100000x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Combine.lean ====
abbrev S1024x512 : Shape := ⟨2, ![1024, 512]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .local _ .vmem, ⟨0, _⟩ => ⟨S1024x512, .f32⟩
  | .local _ .vmem, ⟨1, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CombineReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Weights.lean ====
abbrev S100000x3 : Shape := ⟨2, ![100000, 3]⟩
abbrev S3x64 : Shape := ⟨2, ![3, 64]⟩
abbrev S64 : Shape := ⟨1, ![64]⟩
abbrev S64x64 : Shape := ⟨2, ![64, 64]⟩
abbrev S1x64 : Shape := ⟨2, ![1, 64]⟩
abbrev S100000x64 : Shape := ⟨2, ![100000, 64]⟩
abbrev S2000x3 : Shape := ⟨2, ![2000, 3]⟩
abbrev S2000x64 : Shape := ⟨2, ![2000, 64]⟩
abbrev S2000 : Shape := ⟨1, ![2000]⟩
abbrev S2000x1 : Shape := ⟨2, ![2000, 1]⟩

abbrev nBuf : Space → Nat
  | .hbm => 8
  | .vmem => 8
  | .smem => 0
  | _ => 0

abbrev bufTy : (tb : Table) → Fin (tcTables nBuf tb) → BufTy
  | .hbm, ⟨0, _⟩ => ⟨S100000x3, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1x64, .f32⟩
  | .hbm, ⟨7, _⟩ => ⟨S100000x64, .f32⟩
  | .local _ .vmem, ⟨0, _⟩ => ⟨S2000x3, .f32⟩
  | .local _ .vmem, ⟨1, _⟩ => ⟨S2000x3, .f32⟩
  | .local _ .vmem, ⟨2, _⟩ => ⟨S3x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WeightsReferenceIdeal.lean ====
abbrev S100000x3 : Shape := ⟨2, ![100000, 3]⟩
abbrev S3x64 : Shape := ⟨2, ![3, 64]⟩
abbrev S64 : Shape := ⟨1, ![64]⟩
abbrev S64x64 : Shape := ⟨2, ![64, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S100000x1 : Shape := ⟨2, ![100000, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S100000x64, .f32⟩
  | .hbm, ⟨6, _⟩ => ⟨S1x64, .f32⟩
  | .hbm, ⟨7, _⟩ => ⟨S100000x64, .f32⟩
  | .hbm, ⟨8, _⟩ => ⟨S100000x64, .f32⟩
  | .hbm, ⟨9, _⟩ => ⟨S_, .f32⟩
  | .hbm, ⟨10, _⟩ => ⟨S100000x64, .f32⟩
  | .hbm, ⟨11, _⟩ => ⟨S100000x64, .i1⟩
  | .hbm, ⟨12, _⟩ => ⟨S_, .f32⟩
  | .hbm, ⟨13, _⟩ => ⟨S100000x64, .f32⟩
  | .hbm, ⟨14, _⟩ => ⟨S100000x64, .i1⟩
  | .hbm, ⟨15, _⟩ => ⟨S_, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== Proof.Pieces.lean ====
module

public import proofs.«01_k».proof.KernelIdeal

@[expose] public section

noncomputable section

namespace Cert.KernelIdeal

open Idealize.ShloMosaic Idealize.SL.Sem

variable {F : FTy → Type} [FloatOps F]

variable [Facts]
open Facts₀ Facts

/-- The effects of a tile's program. -/
abbrev TE (F : FTy → Type) (i : grid0.Coords) : Type → Type _ :=
  TpuEff nD τ sig (Elt F) Λ₀ (.scVector ((i 0).castLE hcore0) ((i 1).castLE hsub0))

theorem op_congr {E : Type → Type _} {α β : Type} {e : E β} {k k' : β → Prog E α} (h : ∀ x, k x = k' x) :
    Prog.op e k = Prog.op e k' := by rw [funext h]

section Runs
variable {E : Type → Type _} {β : Type}

/-- `n` pieces one after the other, then `k`; a piece is a program of the one after it. -/
def repK : (n : ℕ) → (Fin n → Prog E β → Prog E β) → Prog E β → Prog E β
  | 0, _, k => k
  | n + 1, f, k => f 0 (repK n (fun j => f j.succ) k)

/-- `n` pieces one after the other, a value carried through, then `k`. -/
def foldK {σ : Type} : (n : ℕ) → (Fin n → σ → (σ → Prog E β) → Prog E β) → σ → (σ → Prog E β) → Prog E β
  | 0, _, a, k => k a
  | n + 1, f, a, k => f 0 a fun b => foldK n (fun j => f j.succ) b k

/-- `n` pieces one after the other, then `k` of their results side by side. -/
def collK {α : Type} : (n : ℕ) → (Fin n → (α → Prog E β) → Prog E β) → ((Fin n → α) → Prog E β) → Prog E β
  | 0, _, k => k Fin.elim0
  | n + 1, f, k => f 0 fun a => collK n (fun j => f j.succ) fun r => k (Fin.cons a r)

end Runs

/-- A slot of 16 lanes lies in the accumulator row. -/
theorem lane_inb (j : Fin 32) : ∀ a, (![0, 16 * j.val] : Fin 2 → ℕ) a + S1x16.size a ≤ S1x512.size a := by
  intro a
  have := j.isLt
  fin_cases a
  · show 0 + 1 ≤ 1
    omega
  · show 16 * j.val + 16 ≤ 512
    omega

theorem x_inb (p : Fin 2) (j : Fin 32) {r : ℕ} (h : r < 32) :
    ∀ a, (![p.val, r, 16 * j.val] : Fin 3 → ℕ) a + S1x1x16.size a ≤ S2x32x512.size a := by
  intro a
  have := j.isLt
  have := p.isLt
  fin_cases a
  · show p.val + 1 ≤ 2
    omega
  · show r + 1 ≤ 32
    omega
  · show 16 * j.val + 16 ≤ 512
    omega

theorem w_inb (p : Fin 2) (q : Fin 4) {r : ℕ} (h : r < 32) :
    ∀ a, (![p.val, r, 16 * q.val] : Fin 3 → ℕ) a + S1x1x16.size a ≤ S2x32x64.size a := by
  intro a
  have := q.isLt
  have := p.isLt
  fin_cases a
  · show p.val + 1 ≤ 2
    omega
  · show r + 1 ≤ 32
    omega
  · show 16 * q.val + 16 ≤ 64
    omega

theorem slotX_inb (p : Fin 2) : ∀ a, (![p.val, 0, 0] : Fin 3 → ℕ) a + S1x32x512.size a ≤ S2x32x512.size a := by
  intro a
  have := p.isLt
  fin_cases a
  · show p.val + 1 ≤ 2
    omega
  · show 0 + 32 ≤ 32
    omega
  · show 0 + 512 ≤ 512
    omega

theorem slotW_inb (p : Fin 2) : ∀ a, (![p.val, 0, 0] : Fin 3 → ℕ) a + S1x32x64.size a ≤ S2x32x64.size a := by
  intro a
  have := p.isLt
  fin_cases a
  · show p.val + 1 ≤ 2
    omega
  · show 0 + 32 ≤ 32
    omega
  · show 0 + 64 ≤ 64
    omega

theorem sem_inb (p : Fin 2) : ∀ a, (![p.val] : Fin 1 → ℕ) a + S1.size a ≤ S2.size a := by
  intro a
  have := p.isLt
  fin_cases a
  show p.val + 1 ≤ 2
  omega

/-- The word of the row `16·g + r` of a slot. -/
def rowW (t3 : Fin k0_t3_loop.trips) (c : BitVec 32) : BitVec 32 :=
  Scalar.indexCast (Scalar.addi (Scalar.muli 16#32 (Scf.iv 0#32 1#32 t3)) c)

theorem rowW_lt (t3 : Fin k0_t3_loop.trips) {c : BitVec 32} (h : c.toNat < 16) :
    (rowW t3 c).toNat = 16 * t3.val + c.toNat := by
  have h3 : t3.val < 2 := t3.isLt
  show ((16#32 * (0#32 + BitVec.ofNat 32 t3.val * 1#32)) + c).toNat = _
  simp [BitVec.toNat_add, BitVec.toNat_mul]
  omega

theorem rowW_lt' (t3 : Fin k0_t3_loop.trips) {c : BitVec 32} (h : c.toNat < 16) : (rowW t3 c).toNat < 32 := by
  have h3 : t3.val < 2 := t3.isLt
  rw [rowW_lt t3 h]; omega

/-- The smallest of sixteen words. -/
def minOf (v : IVec S16 32) : BitVec 32 :=
  extractAt ![15] (xori (scan .min (xori v (broadcast S16 2147483648#32))) (broadcast S16 2147483648#32)) inpos_S16_p15

/-- The largest of sixteen words. -/
def maxOf (v : IVec S16 32) : BitVec 32 :=
  extractAt ![15] (xori (scan .max (xori v (broadcast S16 2147483648#32))) (broadcast S16 2147483648#32)) inpos_S16_p15

variable (i : grid0.Coords)

variable {β : Type}

/-- The accumulator row's slot `j` gets `v`. -/
def putAcc (arg13 : Memref sig .scVector .vmem S1x512 .f32) (j : Fin 32) (v : FVec F S16 .f32) (k : Prog (TE F i) β) : Prog (TE F i) β :=
  .op (.load arg13 (Rect.unit (s := S1x512) ![0, 16 * j.val] S1x16.size (lane_inb j)).toLoadRect (View.loadsAt_vmem h_S1x16)) fun _ =>
  .op (.store arg13 (Rect.unit (s := S1x512) ![0, 16 * j.val] S1x16.size (lane_inb j)) (shapeCast S1x16 v shapeCasts_S16_S1x16) Finset.univ (View.stores_vmem_bits_univ h_S1x16 rfl) (.inl rfl)) fun _ => k

/-- Slot `j` of a row. -/
def getRow (arg13 : Memref sig .scVector .vmem S1x512 .f32) (j : Fin 32) (k : FVec F S16 .f32 → Prog (TE F i) β) : Prog (TE F i) β :=
  .op (.load arg13 (Rect.unit (s := S1x512) ![0, 16 * j.val] S1x16.size (lane_inb j)).toLoadRect (View.loadsAt_vmem h_S1x16)) fun v =>
  k (shapeCast S16 v shapeCasts_S1x16_S16)

/-- Slot `j` of row `r` of the values' slot `p`. -/
def getX (arg6 : Memref sig .scVector .vmem S2x32x512 .f32) (p : Fin 2) (j : Fin 32) (r : ℕ) (hr : r < 32)
    (k : FVec F S16 .f32 → Prog (TE F i) β) : Prog (TE F i) β :=
  .op (.load arg6 (Rect.unit (s := S2x32x512) ![p.val, r, 16 * j.val] S1x1x16.size (x_inb p j hr)).toLoadRect (View.loadsAt_vmem h_S1x1x16)) fun v =>
  k (shapeCast S16 v shapeCasts_S1x1x16_S16)

/-- Slot `q` of row `r` of the weights' slot `p`. -/
def getW (arg7 : Memref sig .scVector .vmem S2x32x64 .f32) (p : Fin 2) (q : Fin 4) (r : ℕ) (hr : r < 32)
    (k : FVec F S16 .f32 → Prog (TE F i) β) : Prog (TE F i) β :=
  .op (.load arg7 (Rect.unit (s := S2x32x64) ![p.val, r, 16 * q.val] S1x1x16.size (w_inb p q hr)).toLoadRect (View.loadsAt_vmem h_S1x1x16)) fun v =>
  k (shapeCast S16 v shapeCasts_S1x1x16_S16)

/-- The accumulator row zeroed. -/
def zeroAcc (arg13 : Memref sig .scVector .vmem S1x512 .f32) (z : FVec F S16 .f32) (k : Prog (TE F i) β) : Prog (TE F i) β :=
  repK 32 (fun j K => putAcc i arg13 j z K) k

/-- A row's copy out to the shared rows, and its wait. -/
def rowOut (arg13 : Memref sig .scVector .vmem S1x512 .f32) (harg13 : arg13.IsWhole)
    (arg14 : Memref sig .scVector .shared S544x512 .f32) (sem : DmaSems sig S_) (off : Fin 2 → ℕ)
    (h : ∀ a, off a + S1x512.size a ≤ S544x512.size a) (k : Prog (TE F i) β) : Prog (TE F i) β :=
  .op (.enqueueDma arg13 (.here (arg14.slice (Rect.unit (s := S544x512) off S1x512.size h) (fun _ => rfl))) (.dma sem.sem) harg13.wordExact (View.wordExact_bits rfl) ⟨Or.inl rfl, trivial⟩) fun _ =>
  .op (.waitDma2 sem.sem arg13 (arg14.slice (Rect.unit (s := S544x512) off S1x512.size h) (fun _ => rfl)) harg13.wordExact (View.wordExact_bits rfl)) fun _ => k

/-- A row's copy in from the shared rows, and its wait. -/
def rowIn (arg12 : Memref sig .scVector .vmem S1x512 .f32) (harg12 : arg12.IsWhole)
    (arg14 : Memref sig .scVector .shared S544x512 .f32) (sem : DmaSems sig S_) (off : Fin 2 → ℕ)
    (h : ∀ a, off a + S1x512.size a ≤ S544x512.size a) (k : Prog (TE F i) β) : Prog (TE F i) β :=
  .op (.enqueueDma (arg14.slice (Rect.unit (s := S544x512) off S1x512.size h) (fun _ => rfl)) (.here arg12) (.dma sem.sem) (View.wordExact_bits rfl) harg12.wordExact ⟨Or.inl rfl, trivial⟩) fun _ =>
  .op (.waitDma2 sem.sem (arg14.slice (Rect.unit (s := S544x512) off S1x512.size h) (fun _ => rfl)) arg12 (View.wordExact_bits rfl) harg12.wordExact) fun _ => k

/-- The row written out, then zeroed. -/
def flushP (arg13 : Memref sig .scVector .vmem S1x512 .f32) (harg13 : arg13.IsWhole)
    (arg14 : Memref sig .scVector .shared S544x512 .f32) (sem : DmaSems sig S_) (z : FVec F S16 .f32) (off : Fin 2 → ℕ)
    (h : ∀ a, off a + S1x512.size a ≤ S544x512.size a) (k : Prog (TE F i) β) : Prog (TE F i) β :=
  rowOut i arg13 harg13 arg14 sem off h (zeroAcc i arg13 z k)

/-- Slot `j` of the accumulator row increased by `v`. -/
def addAcc (arg13 : Memref sig .scVector .vmem S1x512 .f32) (j : Fin 32) (v : FVec F S16 .f32) (k : Prog (TE F i) β) : Prog (TE F i) β :=
  getRow i arg13 j fun a => putAcc i arg13 j (addf a v) k

theorem ofNat16 (r : Fin 16) : (BitVec.ofNat 32 r.val).toNat < 16 := by
  have := r.isLt
  simp
  omega

/-- Slot `4·d + q` of a row. -/
def slotOf (q : Fin 4) (d : Fin 8) : Fin 32 := ⟨4 * d.val + q.val, by omega⟩

/-- The eight sums of a row's slots `q`, after rows. -/
def accRows (arg6 : Memref sig .scVector .vmem S2x32x512 .f32) (arg7 : Memref sig .scVector .vmem S2x32x64 .f32)
    (p : Fin 2) (t3 : Fin k0_t3_loop.trips) (q : Fin 4) (z : FVec F S16 .f32) (k : (Fin 8 → FVec F S16 .f32) → Prog (TE F i) β) : Prog (TE F i) β :=
  foldK 16 (fun r acc K => getW i arg7 p q (rowW t3 (BitVec.ofNat 32 r.val)).toNat (rowW_lt' t3 (ofNat16 r)) fun w =>
    collK 8 (fun d K' => getX i arg6 p (slotOf q d) (rowW t3 (BitVec.ofNat 32 r.val)).toNat (rowW_lt' t3 (ofNat16 r)) fun x =>
      K' (addf (acc d) (mulf x w))) K) (fun _ => z) k

/-- Sixteen rows of one segment summed into the accumulator row. -/
def run16 (arg6 : Memref sig .scVector .vmem S2x32x512 .f32) (arg7 : Memref sig .scVector .vmem S2x32x64 .f32)
    (arg13 : Memref sig .scVector .vmem S1x512 .f32) (p : Fin 2) (t3 : Fin k0_t3_loop.trips) (z : FVec F S16 .f32) (k : Prog (TE F i) β) : Prog (TE F i) β :=
  repK 4 (fun q K => accRows i arg6 arg7 p t3 q z fun acc => repK 8 (fun d K' => addAcc i arg13 (slotOf q d) (acc d) K') K) k

/-- Slot `j` of the accumulator row increased by row `r`'s slot times `w`. -/
def addMul (arg6 : Memref sig .scVector .vmem S2x32x512 .f32) (arg13 : Memref sig .scVector .vmem S1x512 .f32)
    (p : Fin 2) (r : ℕ) (hr : r < 32) (j : Fin 32) (w : FVec F S16 .f32) (k : Prog (TE F i) β) : Prog (TE F i) β :=
  getRow i arg13 j fun a => getX i arg6 p j r hr fun x => putAcc i arg13 j (addf a (mulf x w)) k

/-- One row added to the accumulator row. -/
def accumRow (arg6 : Memref sig .scVector .vmem S2x32x512 .f32) (arg7 : Memref sig .scVector .vmem S2x32x64 .f32)
    (arg13 : Memref sig .scVector .vmem S1x512 .f32) (p : Fin 2) (r : ℕ) (hr : r < 32) (k : Prog (TE F i) β) : Prog (TE F i) β :=
  collK 4 (fun q K => getW i arg7 p q r hr K) fun w =>
  repK 8 (fun d K => repK 4 (fun q K' => addMul i arg6 arg13 p r hr (slotOf q d) (w q) K') K) k

/-- The fetched row added to the accumulator row. -/
def addTmp (arg12 : Memref sig .scVector .vmem S1x512 .f32) (arg13 : Memref sig .scVector .vmem S1x512 .f32) (k : Prog (TE F i) β) : Prog (TE F i) β :=
  repK 32 (fun j K => getRow i arg13 j fun a => getRow i arg12 j fun b => putAcc i arg13 j (addf a b) K) k

/-- A block of rows and of weights asked for. -/
def issue (arg2 : Memref sig .scVector .hbm S100000x512 .f32) (arg3 : Memref sig .scVector .hbm S100000x64 .f32)
    (arg6 : Memref sig .scVector .vmem S2x32x512 .f32) (arg7 : Memref sig .scVector .vmem S2x32x64 .f32)
    (arg16 arg17 : DmaSems sig S2) (p : Fin 2)
    (ox : Fin 2 → ℕ) (hx : ∀ a, ox a + S32x512.size a ≤ S100000x512.size a)
    (ow : Fin 2 → ℕ) (hw : ∀ a, ow a + S32x64.size a ≤ S100000x64.size a) (k : Prog (TE F i) β) : Prog (TE F i) β :=
  .op (.enqueueDma (arg2.slice (Rect.unit (s := S100000x512) ox S32x512.size hx) (fun _ => rfl))
    (.here ((arg6.slice (Rect.unit (s := S2x32x512) ![p.val, 0, 0] S1x32x512.size (slotX_inb p)) (fun _ => rfl)).squeeze S32x512 squeezes_S1x32x512_S32x512))
    (.dma ((arg16.slice (Rect.unit (s := S2) ![p.val] S1.size (sem_inb p))).squeeze S_ squeezes_S1_S_).sem)
    (View.wordExact_bits rfl) ((View.wordExact_bits rfl).reshape _ _) ⟨Or.inl rfl, trivial⟩) fun _ =>
  .op (.enqueueDma (arg3.slice (Rect.unit (s := S100000x64) ow S32x64.size hw) (fun _ => rfl))
    (.here ((arg7.slice (Rect.unit (s := S2x32x64) ![p.val, 0, 0] S1x32x64.size (slotW_inb p)) (fun _ => rfl)).squeeze S32x64 squeezes_S1x32x64_S32x64))
    (.dma ((arg17.slice (Rect.unit (s := S2) ![p.val] S1.size (sem_inb p))).squeeze S_ squeezes_S1_S_).sem)
    (View.wordExact_bits rfl) ((View.wordExact_bits rfl).reshape _ _) ⟨Or.inl rfl, trivial⟩) fun _ => k

/-- A block of rows and of weights waited for. -/
def await (arg2 : Memref sig .scVector .hbm S100000x512 .f32) (arg3 : Memref sig .scVector .hbm S100000x64 .f32)
    (arg6 : Memref sig .scVector .vmem S2x32x512 .f32) (arg7 : Memref sig .scVector .vmem S2x32x64 .f32)
    (arg16 arg17 : DmaSems sig S2) (p : Fin 2)
    (ox : Fin 2 → ℕ) (hx : ∀ a, ox a + S32x512.size a ≤ S100000x512.size a)
    (ow : Fin 2 → ℕ) (hw : ∀ a, ow a + S32x64.size a ≤ S100000x64.size a) (k : Prog (TE F i) β) : Prog (TE F i) β :=
  .op (.waitDma2 ((arg16.slice (Rect.unit (s := S2) ![p.val] S1.size (sem_inb p))).squeeze S_ squeezes_S1_S_).sem
    (arg2.slice (Rect.unit (s := S100000x512) ox S32x512.size hx) (fun _ => rfl))
    ((arg6.slice (Rect.unit (s := S2x32x512) ![p.val, 0, 0] S1x32x512.size (slotX_inb p)) (fun _ => rfl)).squeeze S32x512 squeezes_S1x32x512_S32x512)
    (View.wordExact_bits rfl) ((View.wordExact_bits rfl).reshape _ _)) fun _ =>
  .op (.waitDma2 ((arg17.slice (Rect.unit (s := S2) ![p.val] S1.size (sem_inb p))).squeeze S_ squeezes_S1_S_).sem
    (arg3.slice (Rect.unit (s := S100000x64) ow S32x64.size hw) (fun _ => rfl))
    ((arg7.slice (Rect.unit (s := S2x32x64) ![p.val, 0, 0] S1x32x64.size (slotW_inb p)) (fun _ => rfl)).squeeze S32x64 squeezes_S1x32x64_S32x64)
    (View.wordExact_bits rfl) ((View.wordExact_bits rfl).reshape _ _)) fun _ => k

/-- A row of a group of mixed segments: a flush where its segment is not the current one, then the row added. -/
def rowStep (arg6 : Memref sig .scVector .vmem S2x32x512 .f32) (arg7 : Memref sig .scVector .vmem S2x32x64 .f32)
    (arg13 : Memref sig .scVector .vmem S1x512 .f32) (harg13 : arg13.IsWhole)
    (arg14 : Memref sig .scVector .shared S544x512 .f32) (sem : DmaSems sig S_) (z : FVec F S16 .f32) (v104 v122 : BitVec 32)
    (p : Fin 2) (t3 : Fin k0_t3_loop.trips) (C : BitVec 32 → BitVec 32 → Prop) (dC : ∀ c sid, Decidable (C c sid))
    (hC : ∀ c sid, C c sid → k0_cond3 c sid = 1#1 → ∀ a, (k0_off49 i v104 v122 c) a + S1x512.size a ≤ S544x512.size a)
    (sid : BitVec 32) (c : BitVec 32) (r : BitVec 32) (hr : r.toNat < 16) : Prog (TE F i) (BitVec 32) :=
  .op (.assume (C c sid) (dC c sid)) fun hw =>
  (if h3 : k0_cond3 c sid = 1#1 then flushP (β := PUnit) i arg13 harg13 arg14 sem z (k0_off49 i v104 v122 c) (hC c sid hw.down h3) (.ret ⟨⟩) else .ret ⟨⟩).bind fun _ =>
  accumRow i arg6 arg7 arg13 p (rowW t3 r).toNat (rowW_lt' t3 hr) (.ret sid)

theorem iv16 (t4 : Fin k0_t4_loop.trips) : (Scf.iv 0#32 1#32 t4).toNat < 16 := by
  have h : t4.val < 16 := t4.isLt
  show (0#32 + BitVec.ofNat 32 t4.val * 1#32).toNat < 16
  simp
  omega

/-- The sixteen segment numbers of a group. -/
def gidsOf (inR : BitVec 1) (ids : IVec S16 32) : IVec S16 32 := Scalar.select inR ids (broadcast S16 512#32)

/-- The segment number of row `t4` of a group. -/
def sidOf (v25 : IVec S16 32) (g : IVec S16 32) (t4 : Fin k0_t4_loop.trips) : BitVec 32 :=
  maxOf (select (cmpi .eq v25 (broadcast S16 (Scf.iv 0#32 1#32 t4))) g (broadcast S16 2147483649#32))

/-- A group of sixteen rows. -/
def grp (arg6 : Memref sig .scVector .vmem S2x32x512 .f32) (arg7 : Memref sig .scVector .vmem S2x32x64 .f32)
    (arg8 : Memref sig .scVector .vmem S3136 .i32)
    (arg13 : Memref sig .scVector .vmem S1x512 .f32) (harg13 : arg13.IsWhole)
    (arg14 : Memref sig .scVector .shared S544x512 .f32) (su ss : DmaSems sig S_) (z : FVec F S16 .f32) (v25 : IVec S16 32) (v104 v122 : BitVec 32)
    (p : Fin 2) (t3 : Fin k0_t3_loop.trips)
    (C : BitVec 32 → BitVec 32 → BitVec 32 → Prop) (dC : ∀ c mn mx, Decidable (C c mn mx))
    (hC : ∀ c mn mx, C c mn mx → k0_cond1 mn mx = 1#1 → k0_cond2 c mn = 1#1 → ∀ a, (k0_off12 i v104 v122 c) a + S1x512.size a ≤ S544x512.size a)
    (C2 : BitVec 32 → BitVec 32 → BitVec 32 → BitVec 32 → Prop) (dC2 : ∀ mn mx c sid, Decidable (C2 mn mx c sid))
    (hC2 : ∀ mn mx c sid, C2 mn mx c sid → ¬ k0_cond1 mn mx = 1#1 → k0_cond3 c sid = 1#1 → ∀ a, (k0_off49 i v104 v122 c) a + S1x512.size a ≤ S544x512.size a)
    (og : Fin 1 → ℕ) (hg : ∀ a, og a + S16.size a ≤ S3136.size a) (inR : BitVec 1) (cur : BitVec 32) : Prog (TE F i) (BitVec 32) :=
  .op (.load arg8 (Rect.unit (s := S3136) og S16.size hg).toLoadRect (View.loadsAt_vmem h_S16)) fun (ids : S16.Idx → Elt F .i32) =>
  .op (.assume (C cur (minOf (gidsOf inR ids)) (maxOf (gidsOf inR ids))) (dC cur (minOf (gidsOf inR ids)) (maxOf (gidsOf inR ids)))) fun hw =>
  if h1 : k0_cond1 (minOf (gidsOf inR ids)) (maxOf (gidsOf inR ids)) = 1#1 then
    (if h2 : k0_cond2 cur (minOf (gidsOf inR ids)) = 1#1 then flushP (β := PUnit) i arg13 harg13 arg14 su z (k0_off12 i v104 v122 cur) (hC cur _ _ hw.down h1 h2) (.ret ⟨⟩) else .ret ⟨⟩).bind fun _ =>
    run16 i arg6 arg7 arg13 p t3 z (.ret (minOf (gidsOf inR ids)))
  else
    Scf.Loop.for k0_t4_loop k0_t4_ok cur fun t4 c =>
      rowStep i arg6 arg7 arg13 harg13 arg14 ss z v104 v122 p t3 (C2 (minOf (gidsOf inR ids)) (maxOf (gidsOf inR ids))) (dC2 _ _)
        (fun c sid h => hC2 _ _ c sid h h1) (sidOf v25 (gidsOf inR ids) t4) c (Scf.iv 0#32 1#32 t4) (iv16 t4)

/-- The read of tag `t`. -/
def getTag (arg11 : Memref sig .scVector .vmem S256 .i32) (t : ℕ) (ht : ∀ a, (![16 * t] : Fin 1 → ℕ) a + S16.size a ≤ S256.size a)
    (k : BitVec 32 → Prog (TE F i) β) : Prog (TE F i) β :=
  .op (.load arg11 (Rect.unit (s := S256) ![16 * t] S16.size ht).toLoadRect (View.loadsAt_vmem h_S16)) fun (v : S16.Idx → Elt F .i32) => k (maxOf v)

/-- Whether tile `t`'s first run belongs to this tile's last segment. -/
def takes (v115 : BitVec 32) (v246 : BitVec 1) (t : ℕ) (stag : BitVec 32) : BitVec 1 :=
  Scalar.andi (Scalar.andi (Scalar.cmpi .slt (BitVec.ofNat 32 (i 1).val) (BitVec.ofNat 32 t)) v246) (Scalar.cmpi .eq stag v115)

/-- Tile `t`'s first run added, where it belongs to this tile's last segment. -/
def tStep (arg12 : Memref sig .scVector .vmem S1x512 .f32) (harg12 : arg12.IsWhole) (arg13 : Memref sig .scVector .vmem S1x512 .f32)
    (arg14 : Memref sig .scVector .shared S544x512 .f32) (sem : DmaSems sig S_) (m : BitVec 1) (t : ℕ)
    (h : ∀ a, (![513 + t, 0] : Fin 2 → ℕ) a + S1x512.size a ≤ S544x512.size a) : Prog (TE F i) PUnit :=
  if Scalar.cmpi .ne (Scalar.extui m : BitVec 32) 0#32 = 1#1 then
    rowIn i arg12 harg12 arg14 sem ![513 + t, 0] h (addTmp i arg12 arg13 (.ret ⟨⟩))
  else .ret ⟨⟩

theorem tag_inb (t : Fin 14) : ∀ a, (![16 * (t.val + 1)] : Fin 1 → ℕ) a + S16.size a ≤ S256.size a := by
  intro a
  have := t.isLt
  fin_cases a
  show 16 * (t.val + 1) + 16 ≤ 256
  omega

theorem part_inb (t : Fin 14) : ∀ a, (![513 + (t.val + 1), 0] : Fin 2 → ℕ) a + S1x512.size a ≤ S544x512.size a := by
  intro a
  have := t.isLt
  fin_cases a
  · show 513 + (t.val + 1) + 1 ≤ 544
    omega
  · show 0 + 512 ≤ 512
    omega

theorem tag_inb15 : ∀ a, (![16 * 15] : Fin 1 → ℕ) a + S16.size a ≤ S256.size a := by
  intro a
  fin_cases a
  show 16 * 15 + 16 ≤ 256
  omega

theorem part_inb15 : ∀ a, (![513 + 15, 0] : Fin 2 → ℕ) a + S1x512.size a ≤ S544x512.size a := by
  intro a
  fin_cases a
  · show 513 + 15 + 1 ≤ 544
    omega
  · show 0 + 512 ≤ 512
    omega

/-- Tags `1` to `14` read and the runs they name added; then `k` of the tags. -/
def tLoop (arg11 : Memref sig .scVector .vmem S256 .i32) (arg12 : Memref sig .scVector .vmem S1x512 .f32) (harg12 : arg12.IsWhole) (arg13 : Memref sig .scVector .vmem S1x512 .f32)
    (arg14 : Memref sig .scVector .shared S544x512 .f32) (sems : Fin 14 → DmaSems sig S_) (v115 : BitVec 32) (v246 : BitVec 1) (k : (ℕ → BitVec 32) → Prog (TE F i) β) : Prog (TE F i) β :=
  foldK 14 (fun t tags K => getTag i arg11 (t.val + 1) (tag_inb t) fun stag =>
    (tStep i arg12 harg12 arg13 arg14 (sems t) (takes i v115 v246 (t.val + 1) stag) (t.val + 1) (part_inb t)).bind fun _ =>
    K fun k => if k = t.val + 1 then stag else tags k) (fun _ => 0#32) k

/-- The last segment's row fetched, added and written back. -/
def pickup (arg12 : Memref sig .scVector .vmem S1x512 .f32) (harg12 : arg12.IsWhole) (arg13 : Memref sig .scVector .vmem S1x512 .f32) (harg13 : arg13.IsWhole)
    (arg14 : Memref sig .scVector .shared S544x512 .f32) (s1 s2 : DmaSems sig S_) (off : Fin 2 → ℕ)
    (h : ∀ a, off a + S1x512.size a ≤ S544x512.size a) (k : Prog (TE F i) β) : Prog (TE F i) β :=
  rowIn i arg12 harg12 arg14 s1 off h (addTmp i arg12 arg13 (rowOut i arg13 harg13 arg14 s2 off h k))

/-- The block number of slot `p` in super-step `t2`. -/
def blkNo (p : Fin 2) (t2 : Fin k0_t2_loop.trips) : BitVec 32 :=
  Scalar.addi (Scalar.muli 2#32 (Scf.iv 0#32 1#32 t2)) (BitVec.ofNat 32 p.val)

/-- One slot of a super-step: the block waited for, its two groups, and the next block asked for. -/
def slotStep (arg2 : Memref sig .scVector .hbm S100000x512 .f32) (arg3 : Memref sig .scVector .hbm S100000x64 .f32)
    (arg6 : Memref sig .scVector .vmem S2x32x512 .f32) (arg7 : Memref sig .scVector .vmem S2x32x64 .f32)
    (arg8 : Memref sig .scVector .vmem S3136 .i32)
    (arg13 : Memref sig .scVector .vmem S1x512 .f32) (harg13 : arg13.IsWhole)
    (arg14 : Memref sig .scVector .shared S544x512 .f32) (arg16 arg17 : DmaSems sig S2) (su ss : DmaSems sig S_)
    (z : FVec F S16 .f32) (v25 : IVec S16 32) (v104 v122 v21 : BitVec 32) (p : Fin 2)
    (C : BitVec 32 → BitVec 32 → BitVec 32 → Prop) (dC : ∀ c mn mx, Decidable (C c mn mx))
    (hC : ∀ c mn mx, C c mn mx → k0_cond1 mn mx = 1#1 → k0_cond2 c mn = 1#1 → ∀ a, (k0_off12 i v104 v122 c) a + S1x512.size a ≤ S544x512.size a)
    (C2 : BitVec 32 → BitVec 32 → BitVec 32 → BitVec 32 → Prop) (dC2 : ∀ mn mx c sid, Decidable (C2 mn mx c sid))
    (hC2 : ∀ mn mx c sid, C2 mn mx c sid → ¬ k0_cond1 mn mx = 1#1 → k0_cond3 c sid = 1#1 → ∀ a, (k0_off49 i v104 v122 c) a + S1x512.size a ≤ S544x512.size a)
    (t2 : Fin k0_t2_loop.trips)
    (ox : Fin 2 → ℕ) (hx : ∀ a, ox a + S32x512.size a ≤ S100000x512.size a)
    (ow : Fin 2 → ℕ) (hw : ∀ a, ow a + S32x64.size a ≤ S100000x64.size a)
    (og : Fin k0_t3_loop.trips → Fin 1 → ℕ) (hg : ∀ t3, ∀ a, og t3 a + S16.size a ≤ S3136.size a)
    (cn : BitVec 1)
    (ox' : Fin 2 → ℕ) (hx' : cn = 1#1 → ∀ a, ox' a + S32x512.size a ≤ S100000x512.size a)
    (ow' : Fin 2 → ℕ) (hw' : cn = 1#1 → ∀ a, ow' a + S32x64.size a ≤ S100000x64.size a)
    (cur : BitVec 32) : Prog (TE F i) (BitVec 32) :=
  await i arg2 arg3 arg6 arg7 arg16 arg17 p ox hx ow hw <|
  (Scf.Loop.for k0_t3_loop k0_t3_ok cur fun t3 c =>
    grp i arg6 arg7 arg8 arg13 harg13 arg14 su ss z v25 v104 v122 p t3 C dC hC C2 dC2 hC2 (og t3) (hg t3) (Scalar.cmpi .slt (blkNo p t2) v21) c).bind fun c =>
  (if hn : cn = 1#1 then issue (β := PUnit) i arg2 arg3 arg6 arg7 arg16 arg17 p ox' (hx' hn) ow' (hw' hn) (.ret ⟨⟩) else .ret ⟨⟩).bind fun _ => .ret c

/-- Row `n` of the padded rows zeroed, `34` of them. -/
def zeroRows (arg13 : Memref sig .scVector .vmem S1x512 .f32) (harg13 : arg13.IsWhole)
    (arg14 : Memref sig .scVector .shared S544x512 .f32) (sem : DmaSems sig S_) : Prog (TE F i) (BitVec 32) :=
  Scf.Loop.for k0_t1_loop k0_t1_ok 0#32 fun t1 _ =>
    rowOut i arg13 harg13 arg14 sem (k0_off1 i t1) (k0_off1_inb i t1) (.ret 0#32)

/-- The number of blocks of rows of a tile. -/
def nbOf : BitVec 32 :=
  let v2 : BitVec 32 := Scalar.muli (Scalar.addi (Scalar.muli (BitVec.ofNat 32 (i 0).val) 16#32) (BitVec.ofNat 32 (i 1).val)) 3136#32
  let v4 : BitVec 32 := Scalar.minsi 3136#32 (Scalar.subi 100000#32 v2)
  Scalar.select (Scalar.andi
      (Scalar.cmpi .ne
        (Scalar.subi (Scalar.extui (Scalar.cmpi .sgt v4 0#32)) (Scalar.extui (Scalar.cmpi .slt v4 0#32)))
        (Scalar.subi (Scalar.extui (Scalar.cmpi .sgt 32#32 0#32)) (Scalar.extui (Scalar.cmpi .slt 32#32 0#32)) : BitVec 32))
      (Scalar.cmpi .ne (Scalar.remsi v4 32#32) 0#32))
    (Scalar.subi (Scalar.divsi v4 32#32) 1#32) (Scalar.divsi v4 32#32)

/-- Whether the tile owns its first segment. -/
def ownFirst (v104 v122 : BitVec 32) : BitVec 1 :=
  Scalar.ori (Scalar.cmpi .eq (BitVec.ofNat 32 (i 1).val) 0#32) (Scalar.cmpi .ne v122 v104)

/-- The super-steps. -/
def supers (arg2 : Memref sig .scVector .hbm S100000x512 .f32) (arg3 : Memref sig .scVector .hbm S100000x64 .f32)
    (arg6 : Memref sig .scVector .vmem S2x32x512 .f32) (arg7 : Memref sig .scVector .vmem S2x32x64 .f32)
    (arg8 : Memref sig .scVector .vmem S3136 .i32)
    (arg13 : Memref sig .scVector .vmem S1x512 .f32) (harg13 : arg13.IsWhole)
    (arg14 : Memref sig .scVector .shared S544x512 .f32) (arg16 arg17 : DmaSems sig S2) (s4 s5 s6 s7 : DmaSems sig S_)
    (z : FVec F S16 .f32) (v25 : IVec S16 32) (v104 v122 v21 : BitVec 32) : Prog (TE F i) (BitVec 32) :=
  Scf.Loop.for k0_t2_loop k0_t2_ok 4294967295#32 fun t2 cur =>
    (slotStep i arg2 arg3 arg6 arg7 arg8 arg13 harg13 arg14 arg16 arg17 s4 s5 z v25 v104 v122 v21 0
      (k0_chk1 i v104 v122) (k0_chk1.dec i v104 v122) (k0_off12_inb i v104 v122)
      (k0_chk2 i v104 v122) (k0_chk2.dec i v104 v122) (fun mn mx c sid => k0_off49_inb i v104 v122 mn mx c sid) t2
      (k0_off9 i t2) (k0_off9_inb i t2) (k0_off10 i t2) (k0_off10_inb i t2) (k0_off11 i t2) (k0_off11_inb i t2)
      (k0_cond4 t2) (k0_off86 i t2) (k0_off86_inb i t2) (k0_off87 i t2) (k0_off87_inb i t2) cur).bind fun cur =>
    slotStep i arg2 arg3 arg6 arg7 arg8 arg13 harg13 arg14 arg16 arg17 s6 s7 z v25 v104 v122 v21 1
      (k0_chk3 i v104 v122) (k0_chk3.dec i v104 v122) (fun c mn mx h h1 h2 => k0_off91_inb i v104 v122 c mn mx h h1 h2)
      (k0_chk4 i v104 v122) (k0_chk4.dec i v104 v122) (fun mn mx c sid h h1 h3 => k0_off128_inb i v104 v122 mn mx c sid h h1 h3) t2
      (k0_off88 i t2) (k0_off88_inb i t2) (k0_off89 i t2) (k0_off89_inb i t2) (k0_off90 i t2) (k0_off90_inb i t2)
      (k0_cond8 t2) (k0_off165 i t2) (k0_off165_inb i t2) (k0_off166 i t2) (k0_off166_inb i t2) cur

/-- The tile's own part of the work: its rows zeroed, its segment numbers fetched, its tag published; its first, last and previous segment numbers. -/
def phaseA (arg2 : Memref sig .scVector .hbm S100000x512 .f32) (arg3 : Memref sig .scVector .hbm S100000x64 .f32)
    (arg4 : Memref sig .scVector .hbm S100000 .i32) (arg5 : Memref sig .scVector .hbm S1024x512 .f32)
    (arg6 : Memref sig .scVector .vmem S2x32x512 .f32) (arg7 : Memref sig .scVector .vmem S2x32x64 .f32)
    (arg8 : Memref sig .scVector .vmem S3136 .i32) (harg8 : arg8.IsWhole) (arg9 : Memref sig .scVector .vmem S16 .i32) (harg9 : arg9.IsWhole)
    (arg10 : Memref sig .scVector .vmem S16 .i32) (harg10 : arg10.IsWhole) (arg11 : Memref sig .scVector .vmem S256 .i32) (harg11 : arg11.IsWhole)
    (arg12 : Memref sig .scVector .vmem S1x512 .f32) (harg12 : arg12.IsWhole) (arg13 : Memref sig .scVector .vmem S1x512 .f32) (harg13 : arg13.IsWhole)
    (arg14 : Memref sig .scVector .shared S544x512 .f32) (arg15 : Memref sig .scVector .shared S256 .i32) (harg15 : arg15.IsWhole)
    (arg16 arg17 : DmaSems sig S2) (r0 r1 r2 r3 : DmaSems sig S_) (z : FVec F S16 .f32) : Prog (TE F i) (Σ' (_ : BitVec 32) (_ : BitVec 32), BitVec 32) :=
  zeroAcc i arg13 z <| (zeroRows i arg13 harg13 arg14 r0).bind fun _ =>
  .op (.enqueueDma (arg4.slice (Rect.unit (s := S100000) (k0_off2 i) S3136.size (k0_off2_inb i)) (fun _ => rfl)) (.here arg8) (.dma r1.sem) (View.wordExact_bits rfl) harg8.wordExact ⟨Or.inl rfl, trivial⟩) fun _ =>
  .op (.waitDma2 r1.sem (arg4.slice (Rect.unit (s := S100000) (k0_off2 i) S3136.size (k0_off2_inb i)) (fun _ => rfl)) arg8 (View.wordExact_bits rfl) harg8.wordExact) fun _ =>
  .op (.enqueueDma (arg4.slice (Rect.unit (s := S100000) (k0_off3 i) S16.size (k0_off3_inb i)) (fun _ => rfl)) (.here arg9) (.dma r2.sem) (View.wordExact_bits rfl) harg9.wordExact ⟨Or.inl rfl, trivial⟩) fun _ =>
  .op (.waitDma2 r2.sem (arg4.slice (Rect.unit (s := S100000) (k0_off3 i) S16.size (k0_off3_inb i)) (fun _ => rfl)) arg9 (View.wordExact_bits rfl) harg9.wordExact) fun _ =>
  .op (.load arg8 (Rect.unit (s := S3136) (k0_off4 i) S16.size (k0_off4_inb i)).toLoadRect (View.loadsAt_vmem h_S16)) fun (a : S16.Idx → Elt F .i32) =>
  .op (.load arg8 (Rect.unit (s := S3136) (k0_off5 i) S16.size (k0_off5_inb i)).toLoadRect (View.loadsAt_vmem h_S16)) fun (b : S16.Idx → Elt F .i32) =>
  .op (.load arg9 (Rect.unit (s := S16) ![0] S16.size inb_S16_S16_0).toLoadRect (View.loadsAt_vmem h_S16)) fun (c : S16.Idx → Elt F .i32) =>
  .op (.load arg10 (Rect.unit (s := S16) ![0] S16.size inb_S16_S16_0).toLoadRect (View.loadsAt_vmem h_S16)) fun _ =>
  .op (.store arg10 (Rect.unit (s := S16) ![0] S16.size inb_S16_S16_0) (Scalar.select (ownFirst i (minOf a) (maxOf c)) (broadcast S16 4294967295#32) (broadcast S16 (minOf a))) Finset.univ (View.stores_vmem_bits_univ h_S16 rfl) (.inl rfl)) fun _ =>
  .op (.enqueueDma arg10 (.here (arg15.slice (Rect.unit (s := S256) (k0_off6 i) S16.size (k0_off6_inb i)) (fun _ => rfl))) (.dma r3.sem) harg10.wordExact (View.wordExact_bits rfl) ⟨Or.inl rfl, trivial⟩) fun _ =>
  .op (.waitDma2 r3.sem arg10 (arg15.slice (Rect.unit (s := S256) (k0_off6 i) S16.size (k0_off6_inb i)) (fun _ => rfl)) harg10.wordExact (View.wordExact_bits rfl)) fun _ =>
  .ret ⟨minOf a, maxOf b, maxOf c⟩

/-- The tile's rows summed by segments, each sum written out to its row. -/
def phaseB (arg2 : Memref sig .scVector .hbm S100000x512 .f32) (arg3 : Memref sig .scVector .hbm S100000x64 .f32)
    (arg4 : Memref sig .scVector .hbm S100000 .i32) (arg5 : Memref sig .scVector .hbm S1024x512 .f32)
    (arg6 : Memref sig .scVector .vmem S2x32x512 .f32) (arg7 : Memref sig .scVector .vmem S2x32x64 .f32)
    (arg8 : Memref sig .scVector .vmem S3136 .i32) (harg8 : arg8.IsWhole) (arg9 : Memref sig .scVector .vmem S16 .i32) (harg9 : arg9.IsWhole)
    (arg10 : Memref sig .scVector .vmem S16 .i32) (harg10 : arg10.IsWhole) (arg11 : Memref sig .scVector .vmem S256 .i32) (harg11 : arg11.IsWhole)
    (arg12 : Memref sig .scVector .vmem S1x512 .f32) (harg12 : arg12.IsWhole) (arg13 : Memref sig .scVector .vmem S1x512 .f32) (harg13 : arg13.IsWhole)
    (arg14 : Memref sig .scVector .shared S544x512 .f32) (arg15 : Memref sig .scVector .shared S256 .i32) (harg15 : arg15.IsWhole)
    (arg16 arg17 : DmaSems sig S2) (s4 s5 s6 s7 s8 : DmaSems sig S_)
    (z : FVec F S16 .f32) (v25 : IVec S16 32) (v104 v122 : BitVec 32) : Prog (TE F i) PUnit :=
  issue i arg2 arg3 arg6 arg7 arg16 arg17 0 (k0_off7 i 0#32) (k0_off7_inb i 0) (k0_off8 i 0#32) (k0_off8_inb i 0) <|
  issue i arg2 arg3 arg6 arg7 arg16 arg17 1 (k0_off7 i 1#32) (k0_off7_inb i 1) (k0_off8 i 1#32) (k0_off8_inb i 1) <|
  (supers i arg2 arg3 arg6 arg7 arg8 arg13 harg13 arg14 arg16 arg17 s4 s5 s6 s7 z v25 v104 v122 (nbOf i)).bind fun c =>
  .op (.assume (k0_chk5 i v104 v122 c) (k0_chk5.dec i v104 v122 c)) fun hw =>
  flushP i arg13 harg13 arg14 s8 z (k0_off167 i v104 v122 c) (k0_off167_inb i v104 v122 c hw.down) (.ret ⟨⟩)

/-- The runs that began in other tiles' shares added to the last segment's row. -/
def phaseC (arg2 : Memref sig .scVector .hbm S100000x512 .f32) (arg3 : Memref sig .scVector .hbm S100000x64 .f32)
    (arg4 : Memref sig .scVector .hbm S100000 .i32) (arg5 : Memref sig .scVector .hbm S1024x512 .f32)
    (arg6 : Memref sig .scVector .vmem S2x32x512 .f32) (arg7 : Memref sig .scVector .vmem S2x32x64 .f32)
    (arg8 : Memref sig .scVector .vmem S3136 .i32) (harg8 : arg8.IsWhole) (arg9 : Memref sig .scVector .vmem S16 .i32) (harg9 : arg9.IsWhole)
    (arg10 : Memref sig .scVector .vmem S16 .i32) (harg10 : arg10.IsWhole) (arg11 : Memref sig .scVector .vmem S256 .i32) (harg11 : arg11.IsWhole)
    (arg12 : Memref sig .scVector .vmem S1x512 .f32) (harg12 : arg12.IsWhole) (arg13 : Memref sig .scVector .vmem S1x512 .f32) (harg13 : arg13.IsWhole)
    (arg14 : Memref sig .scVector .shared S544x512 .f32) (arg15 : Memref sig .scVector .shared S256 .i32) (harg15 : arg15.IsWhole)
    (arg16 arg17 : DmaSems sig S2) (r9 : DmaSems sig S_) (sems : Fin 14 → DmaSems sig S_)
    (r24 r25 r26 : DmaSems sig S_) (z : FVec F S16 .f32) (v104 v115 v122 : BitVec 32) : Prog (TE F i) PUnit :=
  .op (.enqueueDma arg15 (.here arg11) (.dma r9.sem) harg15.wordExact harg11.wordExact ⟨Or.inl rfl, trivial⟩) fun _ =>
  .op (.waitDma2 r9.sem arg15 arg11 harg15.wordExact harg11.wordExact) fun _ =>
  zeroAcc i arg13 z <|
  tLoop i arg11 arg12 harg12 arg13 arg14 sems v115 (Scalar.ori (ownFirst i v104 v122) (Scalar.cmpi .ne v115 v104)) fun tags =>
  getTag i arg11 15 tag_inb15 fun u =>
  .op (.assume (k0_chk6 i v104 v115 v122 (tags 1) (tags 2) (tags 3) (tags 4) (tags 5) (tags 6) (tags 7) (tags 8) (tags 9) (tags 10) (tags 11) (tags 12) (tags 13) (tags 14) u) (k0_chk6.dec i v104 v115 v122 (tags 1) (tags 2) (tags 3) (tags 4) (tags 5) (tags 6) (tags 7) (tags 8) (tags 9) (tags 10) (tags 11) (tags 12) (tags 13) (tags 14) u)) fun hw =>
  (tStep i arg12 harg12 arg13 arg14 r24 (takes i v115 (Scalar.ori (ownFirst i v104 v122) (Scalar.cmpi .ne v115 v104)) 15 u) 15 part_inb15).bind fun _ =>
  if h : k0_cond24 i v104 v115 v122 (tags 1) (tags 2) (tags 3) (tags 4) (tags 5) (tags 6) (tags 7) (tags 8) (tags 9) (tags 10) (tags 11) (tags 12) (tags 13) (tags 14) u = 1#1 then
    pickup i arg12 harg12 arg13 harg13 arg14 r25 r26 (k0_off168 v115) (k0_off168_inb i v104 v115 v122 (tags 1) (tags 2) (tags 3) (tags 4) (tags 5) (tags 6) (tags 7) (tags 8) (tags 9) (tags 10) (tags 11) (tags 12) (tags 13) (tags 14) u hw.down h) (.ret ⟨⟩)
  else .ret ⟨⟩

/-- The core's rows copied out. -/
def phaseD (arg5 : Memref sig .scVector .hbm S1024x512 .f32) (arg14 : Memref sig .scVector .shared S544x512 .f32) (r27 : DmaSems sig S_) : Prog (TE F i) PUnit :=
  .op (.enqueueDma (arg14.slice (Rect.unit (s := S544x512) (k0_off170 i) S32x512.size (k0_off170_inb i)) (fun _ => rfl))
    (.here (arg5.slice (Rect.unit (s := S1024x512) (k0_off169 i) S32x512.size (k0_off169_inb i)) (fun _ => rfl))) (.dma r27.sem) (View.wordExact_bits rfl) (View.wordExact_bits rfl) ⟨Or.inl rfl, trivial⟩) fun _ =>
  .op (.waitDma2 r27.sem (arg14.slice (Rect.unit (s := S544x512) (k0_off170 i) S32x512.size (k0_off170_inb i)) (fun _ => rfl))
    (arg5.slice (Rect.unit (s := S1024x512) (k0_off169 i) S32x512.size (k0_off169_inb i)) (fun _ => rfl)) (View.wordExact_bits rfl) (View.wordExact_bits rfl)) .ret

/-- The core's tiles meet. -/
def meet : Prog (TE F i) PUnit := SparseCore.subcoreBarrier sc_bar0 (grid0.bound 1) hsub0

/-- The whole body, in phases between the tiles' meetings. -/
def bodyG (arg2 : Memref sig .scVector .hbm S100000x512 .f32) (arg3 : Memref sig .scVector .hbm S100000x64 .f32)
    (arg4 : Memref sig .scVector .hbm S100000 .i32) (arg5 : Memref sig .scVector .hbm S1024x512 .f32)
    (arg6 : Memref sig .scVector .vmem S2x32x512 .f32) (arg7 : Memref sig .scVector .vmem S2x32x64 .f32)
    (arg8 : Memref sig .scVector .vmem S3136 .i32) (harg8 : arg8.IsWhole) (arg9 : Memref sig .scVector .vmem S16 .i32) (harg9 : arg9.IsWhole)
    (arg10 : Memref sig .scVector .vmem S16 .i32) (harg10 : arg10.IsWhole) (arg11 : Memref sig .scVector .vmem S256 .i32) (harg11 : arg11.IsWhole)
    (arg12 : Memref sig .scVector .vmem S1x512 .f32) (harg12 : arg12.IsWhole) (arg13 : Memref sig .scVector .vmem S1x512 .f32) (harg13 : arg13.IsWhole)
    (arg14 : Memref sig .scVector .shared S544x512 .f32) (arg15 : Memref sig .scVector .shared S256 .i32) (harg15 : arg15.IsWhole)
    (arg16 arg17 : DmaSems sig S2) (r0 r1 r2 r3 r4 r5 r6 r7 r8 r9 r24 r25 r26 r27 : DmaSems sig S_) (sems : Fin 14 → DmaSems sig S_) (z : FVec F S16 .f32) (v25 : IVec S16 32) : Prog (TE F i) PUnit :=
  (phaseA i arg2 arg3 arg4 arg5 arg6 arg7 arg8 harg8 arg9 harg9 arg10 harg10 arg11 harg11 arg12 harg12 arg13 harg13 arg14 arg15 harg15 arg16 arg17 r0 r1 r2 r3 z).bind fun v =>
  (meet i).bind fun _ =>
  (phaseB i arg2 arg3 arg4 arg5 arg6 arg7 arg8 harg8 arg9 harg9 arg10 harg10 arg11 harg11 arg12 harg12 arg13 harg13 arg14 arg15 harg15 arg16 arg17 r4 r5 r6 r7 r8 z v25 v.1 v.2.2).bind fun _ =>
  (meet i).bind fun _ =>
  (phaseC i arg2 arg3 arg4 arg5 arg6 arg7 arg8 harg8 arg9 harg9 arg10 harg10 arg11 harg11 arg12 harg12 arg13 harg13 arg14 arg15 harg15 arg16 arg17 r9 sems r24 r25 r26 z v.1 v.2.1 v.2.2).bind fun _ =>
  (meet i).bind fun _ =>
  phaseD i arg5 arg14 r27

end Cert.KernelIdeal
-- ==== Proof.Base.lean ====
module

public import proofs.«01_k».proof.Proof.Pieces
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WriteMode
public import Idealize.ShloMosaic.Lib.Tactic

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀ Facts

/-- The call owns three stages, one for each meeting of the tiles. -/
@[reducible] def blocks : Blocks 1 3 where
  first := fun _ => 0
  last := fun _ => 2
  fst := fun k => if k = 0 then 0 else 3
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.zero_le _, Nat.le_of_lt_succ j.isLt, h⟩, fun ⟨j, _, _, h⟩ => ⟨j, h⟩⟩

attribute [local instance] blocks

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

/-- What each library keeps: the launch's handshakes, the meetings, the pipelines, the rows any tile may write, and the
    copies in flight. -/
abbrev UH : Type := URounds (GSem nD τ sig) ℕ
abbrev UB : Type := URounds (GSem nD τ sig) ℕ
abbrev UP : Type := URounds (GSem nD τ sig) Unit
abbrev UW (F : FTy → Type) : Type := WmRA nD τ sig (Elt F)
abbrev UU (F : FTy → Type) : Type := UH × (UB × (UP × (UW F × Counters)))

abbrev MM (F : FTy → Type) := MT nD τ sig (HIx 3) (Elt F) ℕ (UU F) ℕ
abbrev SP (F : FTy → Type) := sProp (MM F)

local notation "𝕄" => MM F

abbrev EH : Emb UH 𝕄 := embL
def EB : Emb UB 𝕄 :=
  ((Emb.inl : Emb UB (UB × (UP × (UW F × Counters)))).trans (Emb.inr : Emb _ (UU F))).trans
    (uEmb (nD := nD) (sig := sig) (Ix := HIx 3) (Val := Elt F) (Name := ℕ) (U := UU F) (Lvl := ℕ)).toEmb
def EP : Emb UP 𝕄 :=
  (((Emb.inl : Emb UP (UP × (UW F × Counters))).trans (Emb.inr : Emb _ (UB × (UP × (UW F × Counters))))).trans (Emb.inr : Emb _ (UU F))).trans
    (uEmb (nD := nD) (sig := sig) (Ix := HIx 3) (Val := Elt F) (Name := ℕ) (U := UU F) (Lvl := ℕ)).toEmb
def EWu : UEmb (UW F) (UU F) :=
  (((UEmb.inl : UEmb (UW F) (UW F × Counters)).trans (UEmb.inr : UEmb _ (UP × (UW F × Counters)))).trans (UEmb.inr : UEmb _ (UB × (UP × (UW F × Counters))))).trans
    (UEmb.inr : UEmb _ (UU F))
abbrev EC : UEmb Counters 𝕄 := (CountersIn.emb (U := UU F)).trans uEmb
instance EB_landsIn : (EB : Emb UB 𝕄).LandsIn (upEmb : UEmb _ 𝕄) := by unfold EB; infer_instance
instance EP_landsIn : (EP : Emb UP 𝕄).LandsIn (upEmb : UEmb _ 𝕄) := by unfold EP; infer_instance

/-! ## The tile's thread and the tallies it owes -/

section Tile
variable (d : Dev nD) (i : grid0.Coords)

abbrev cV (i : grid0.Coords) : Fin τ.nSC := (i 0).castLE hcore0
abbrev jV (i : grid0.Coords) : Fin τ.nSub := (i 1).castLE hsub0
/-- The tile's thread. -/
abbrev th (d : Dev nD) (i : grid0.Coords) : Thread nD τ := V d (cV i) (jV i)

/-- A tile's program run. -/
abbrev WP {β : Type} (p : Prog (TE F i) β) (Q : β → SP F) : SP F :=
  wp frame (wpE (defs₀ (F := F)) 𝒱₀ (th d i) none) Set.univ p Q

/-- What the tile owes, its waits so far being ones the launch allows. -/
def Owe (W₀ : Waits sig (HIx 3)) (O : CellTallies nD τ sig (HIx 3)) : SP F :=
  iprop((∃ W', ⌜∀ p ∈ W', p ∈ W₀ ∨ p.2 = none ∨ ∃ j, p.2 = some j⌝ ∗ owes (th d i) O W') ∗ Transfers.MayWaits (th d i) none O)

end Tile

end Cert.KernelIdeal.Sums
-- ==== Proof.Hold.lean ====
module

public import proofs.«01_k».proof.Proof.Base
public import Idealize.ShloMosaic.Lib.ValueLayout
public import Idealize.ShloMosaic.Lib.Pipeline.Value

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀ Facts
open Idealize.ShloMosaic.ValueIdx

attribute [local instance] blocks

local notation "𝕄" => MM F

section Tile
variable {d : Dev nD} {i : grid0.Coords}
variable {β : Type} {Q : β → SP F}

/-- A window of the tile's memory held, its elements at `g`. -/
def At (d : Dev nD) (i : grid0.Coords) {sp : Space} {s : Shape} {e : EltTy} (m : Memref sig .scVector sp s e) (q : PosShare TreeShare)
    (g : s.Idx → Elt F e) : SP F :=
  iprop(∃ f, ⌜m.view.read (Elt F) f = g⌝ ∗ (m.view.loc (th d i) ↦[m.view.set]{q} f))

/-- A load from a held window. -/
theorem wp_ld {cs : CoreSpace} {s : Shape} {e : EltTy} (m : Memref sig .scVector cs s e) (r : Rect s) (hl : m.view.LoadsAt r.toLoadRect)
    (k : (r.shape.Idx → Elt F e) → Prog (TE F i) β) {q : PosShare TreeShare} {g : s.Idx → Elt F e} :
    iprop(At d i m q g ∗ (At d i m q g -∗ WP d i (k fun x => g (r.emb x)) Q)) ⊢ WP d i (.op (.load m r.toLoadRect hl) k) Q := by
  unfold At
  iintro ⟨⟨%f, %hf, H⟩, Hk⟩
  iapply (wp_load_rect (defs := defs₀ (F := F)) 𝒱₀ (th d i) none Set.univ (m := m) (r := r) (hl := hl) (View.set_slice_subset m.view r)) $$ [H]
  · iexact H
  iintro H
  rw [show ((m.access r).read (Elt F) f) = fun x => g (r.emb x) from by subst hf; rfl]
  iapply Hk
  iexists f
  isplitr; · ipureintro; exact hf
  iexact H

/-- A store into a held window. -/
theorem wp_st {cs : CoreSpace} {s : Shape} {e : EltTy} (m : Memref sig .scVector cs s e) (r : Rect s) (w : r.shape.Idx → Elt F e)
    (hx : (m.access r).Stores Finset.univ) (hm : Finset.univ = (Finset.univ : Finset r.shape.Idx) ∨ ∀ a, r.stride a = 1)
    (k : PUnit → Prog (TE F i) β) {g g' : s.Idx → Elt F e} (h1 : ∀ x, g' (r.emb x) = w x) (h2 : ∀ y, y ∉ r.set → g' y = g y) :
    iprop(At d i m fullShare g ∗ (At d i m fullShare g' -∗ WP d i (k ⟨⟩) Q)) ⊢ WP d i (.op (.store m r w Finset.univ hx hm) k) Q := by
  unfold At
  iintro ⟨⟨%f, %hf, H⟩, Hk⟩
  iapply (wp_store (defs := defs₀ (F := F)) 𝒱₀ (th d i) none Set.univ (m := m) (r := r) (w := w) (hx := hx) (hm := hm) (f := f) (S := m.view.set)
    (by rw [View.setOn_univ]; exact View.set_slice_subset m.view r)) $$ [H]
  · iexact H
  iintro H
  iapply Hk
  iexists _
  isplitr; swap; · iexact H
  ipureintro
  subst hf
  funext y
  by_cases hy : y ∈ r.set
  · rw [← Rect.map_emb_univ, Finset.mem_map] at hy
    obtain ⟨x, -, rfl⟩ := hy
    rw [h1]
    exact View.read_slice_write_emb r f w (Finset.mem_univ x)
  · rw [h2 y hy]
    exact View.read_slice_write_of_not_mem r f w _ (by rwa [Rect.map_emb_univ])

/-! ## Pieces one after the other -/

theorem wp_repK (n : ℕ) (f : Fin n → Prog (TE F i) β → Prog (TE F i) β) (I : ℕ → SP F)
    (h : ∀ (j : Fin n) k, iprop(I j.val ∗ (I (j.val + 1) -∗ WP d i k Q)) ⊢ WP d i (f j k) Q) (k : Prog (TE F i) β) :
    iprop(I 0 ∗ (I n -∗ WP d i k Q)) ⊢ WP d i (repK n f k) Q := by
  induction n generalizing I with
  | zero => iintro ⟨H, Hk⟩; iapply Hk; iexact H
  | succ n ih =>
    have h0 : iprop(I 0 ∗ (I (0 + 1) -∗ WP d i (repK n (fun j => f j.succ) k) Q)) ⊢ _ := h 0 (repK n (fun j => f j.succ) k)
    iintro ⟨H, Hk⟩
    iapply h0
    isplitl [H]; · iexact H
    iintro H
    iapply (ih (fun j => f j.succ) (fun j => I (j + 1)) (fun j k => h j.succ k))
    isplitl [H]; · iexact H
    iexact Hk

theorem wp_foldK {σ : Type} (n : ℕ) (f : Fin n → σ → (σ → Prog (TE F i) β) → Prog (TE F i) β) (I : ℕ → σ → SP F)
    (h : ∀ (j : Fin n) a k, iprop(I j.val a ∗ (∀ b, I (j.val + 1) b -∗ WP d i (k b) Q)) ⊢ WP d i (f j a k) Q) (a : σ) (k : σ → Prog (TE F i) β) :
    iprop(I 0 a ∗ (∀ b, I n b -∗ WP d i (k b) Q)) ⊢ WP d i (foldK n f a k) Q := by
  induction n generalizing I a with
  | zero =>
    show _ ⊢ WP d i (k a) Q
    iintro ⟨H, Hk⟩; iapply Hk; iexact H
  | succ n ih =>
    have h0 : iprop(I 0 a ∗ (∀ b, I (0 + 1) b -∗ WP d i (foldK n (fun j => f j.succ) b k) Q)) ⊢ _ := h 0 a fun b => foldK n (fun j => f j.succ) b k
    iintro ⟨H, Hk⟩
    iapply h0
    isplitl [H]; · iexact H
    iintro %b H
    iapply (ih (fun j => f j.succ) (fun j => I (j + 1)) (fun j a k => h j.succ a k))
    isplitl [H]; · iexact H
    iexact Hk

theorem wp_collK {α : Type} (n : ℕ) (f : Fin n → (α → Prog (TE F i) β) → Prog (TE F i) β) (R : SP F) (g : Fin n → α)
    (h : ∀ (j : Fin n) k, iprop(R ∗ (R -∗ WP d i (k (g j)) Q)) ⊢ WP d i (f j k) Q) (k : (Fin n → α) → Prog (TE F i) β) :
    iprop(R ∗ (R -∗ WP d i (k g) Q)) ⊢ WP d i (collK n f k) Q := by
  induction n with
  | zero =>
    iintro ⟨H, Hk⟩
    rw [show g = Fin.elim0 from funext fun j => j.elim0]
    iapply Hk; iexact H
  | succ n ih =>
    iintro ⟨H, Hk⟩
    iapply (h 0 fun a => collK n (fun j => f j.succ) fun r => k (Fin.cons a r))
    isplitl [H]; · iexact H
    iintro H
    iapply (ih (fun j => f j.succ) (fun j => g j.succ) (fun j k => h j.succ k) fun r => k (Fin.cons (g 0) r))
    isplitl [H]; · iexact H
    iintro H
    rw [show (Fin.cons (g 0) (fun j => g j.succ) : Fin (n + 1) → α) = g from Fin.cons_self_tail g]
    iapply Hk; iexact H

/-! ## The row of 512 -/

/-- The row of sums held at `a`. -/
def Acc (d : Dev nD) (i : grid0.Coords) (m : Memref sig .scVector .vmem S1x512 .f32) (a : Fin 512 → Elt F .f32) : SP F :=
  At d i m fullShare fun x => a (x 1)

/-- Column `16·j + l`. -/
def colOf (j : Fin 32) (l : Fin 16) : Fin 512 := ⟨16 * j.val + l.val, by omega⟩

/-- The lane of a column within its slot. -/
def laneOf (c : Fin 512) : Fin 16 := ⟨c.val % 16, Nat.mod_lt _ (by decide)⟩

theorem lane_emb (j : Fin 32) (x : S1x16.Idx) :
    ((Rect.unit (s := S1x512) ![0, 16 * j.val] S1x16.size (lane_inb j)).emb x) 1 = colOf j (x 1) := by
  apply Fin.ext
  rw [Rect.emb_apply]
  show 16 * j.val + 1 * (x 1).val = 16 * j.val + (x 1).val
  omega

theorem wp_getRow (m : Memref sig .scVector .vmem S1x512 .f32) (j : Fin 32) (k : FVec F S16 .f32 → Prog (TE F i) β) (a : Fin 512 → Elt F .f32) :
    iprop(Acc d i m a ∗ (Acc d i m a -∗ WP d i (k fun l => a (colOf j (l 0))) Q)) ⊢ WP d i (getRow i m j k) Q := by
  unfold Acc getRow
  refine BIBase.Entails.trans ?_ (wp_ld m _ _ _ (q := fullShare) (g := fun x => a (x 1)))
  iintro ⟨H, Hk⟩
  isplitl [H]; · iexact H
  iintro H
  have e : (shapeCast S16 (fun x => a (((Rect.unit (s := S1x512) ![0, 16 * j.val] S1x16.size (lane_inb j)).emb x) 1)) shapeCasts_S1x16_S16 : FVec F S16 .f32)
      = fun l => a (colOf j (l 0)) := by
    funext l
    rw [eq_ix1 l]
    erw [shapeCast_1a_a_apply]
    rw [lane_emb]
  iapply (Entails.of_eq (congrArg (fun v => WP d i (k v) Q) e.symm))
  iapply Hk; iexact H

theorem wp_putAcc (m : Memref sig .scVector .vmem S1x512 .f32) (j : Fin 32) (v : FVec F S16 .f32) (k : Prog (TE F i) β) (a a' : Fin 512 → Elt F .f32)
    (h1 : ∀ l, a' (colOf j l) = v (ix1 l)) (h2 : ∀ c : Fin 512, c.val / 16 ≠ j.val → a' c = a c) :
    iprop(Acc d i m a ∗ (Acc d i m a' -∗ WP d i k Q)) ⊢ WP d i (putAcc i m j v k) Q := by
  unfold Acc putAcc
  refine BIBase.Entails.trans ?_ (wp_ld m _ _ _ (q := fullShare) (g := fun x => a (x 1)))
  iintro ⟨H, Hk⟩
  isplitl [H]; · iexact H
  iintro H
  iapply (wp_st m (Rect.unit (s := S1x512) ![0, 16 * j.val] S1x16.size (lane_inb j)) (shapeCast S1x16 v shapeCasts_S16_S1x16)
    (View.stores_vmem_bits_univ h_S1x16 rfl) (.inl rfl) (fun _ => k) (g' := fun x => a' (x 1)) ?_ ?_)
  · intro x
    show a' (((Rect.unit (s := S1x512) ![0, 16 * j.val] S1x16.size (lane_inb j)).emb x) 1) = _
    refine (congrArg a' (lane_emb j x)).trans ((h1 (x 1)).trans ?_)
    have hx : x = ix2 (0 : Fin 1) (x 1 : Fin 16) := by
      rw [eq_ix2 x]; congr 1; exact Subsingleton.elim (α := Fin 1) _ _
    rw [hx]
    erw [shapeCast_a_1a_apply]
    rfl
  · intro y hy
    refine h2 _ fun hc => hy ?_
    rw [← Rect.map_emb_univ, Finset.mem_map]
    refine ⟨ix2 (0 : Fin 1) (laneOf (y 1)), Finset.mem_univ _, ?_⟩
    funext b
    apply Fin.ext
    rw [Rect.emb_apply]
    have hc' : (y 1).val / 16 = j.val := hc
    fin_cases b
    · show 0 + 1 * 0 = (y 0).val
      have : (y 0).val < 1 := (y 0).isLt
      omega
    · show 16 * j.val + 1 * ((y 1).val % 16) = (y 1).val
      omega
  · isplitl [H]; · iexact H
    iexact Hk

/-- The row zeroed. -/
theorem wp_zeroAcc (m : Memref sig .scVector .vmem S1x512 .f32) (z : Elt F .f32) (k : Prog (TE F i) β) (a : Fin 512 → Elt F .f32) :
    iprop(Acc d i m a ∗ (Acc d i m (fun _ => z) -∗ WP d i k Q)) ⊢ WP d i (zeroAcc i m (broadcast S16 z) k) Q := by
  unfold zeroAcc
  refine BIBase.Entails.trans ?_ (wp_repK 32 _ (fun n => Acc d i m fun c => if c.val / 16 < n then z else a c) (fun j k => ?_) k)
  · iintro ⟨H, Hk⟩
    isplitl [H]
    · iapply (Entails.of_eq (congrArg (Acc d i m) (funext fun c => (if_neg (Nat.not_lt_zero _)).symm))) $$ H
    iintro H
    iapply Hk
    iapply (Entails.of_eq (congrArg (Acc d i m) (funext fun c => if_pos (by have := c.isLt; omega)))) $$ H
  · refine wp_putAcc m j _ k _ _ (fun l => ?_) fun c hc => ?_
    · exact if_pos (show (16 * j.val + l.val) / 16 < j.val + 1 by omega)
    · by_cases h : c.val / 16 < j.val
      · rw [if_pos h, if_pos (by omega)]
      · rw [if_neg h, if_neg (by omega)]

/-- A slot increased. -/
theorem wp_addAcc (m : Memref sig .scVector .vmem S1x512 .f32) (j : Fin 32) (v : FVec F S16 .f32) (k : Prog (TE F i) β) (a a' : Fin 512 → Elt F .f32)
    (h1 : ∀ l, a' (colOf j l) = FloatOps.addf (a (colOf j l)) (v (ix1 l))) (h2 : ∀ c : Fin 512, c.val / 16 ≠ j.val → a' c = a c) :
    iprop(Acc d i m a ∗ (Acc d i m a' -∗ WP d i k Q)) ⊢ WP d i (addAcc i m j v k) Q := by
  unfold addAcc
  refine BIBase.Entails.trans ?_ (wp_getRow m j _ a)
  iintro ⟨H, Hk⟩
  isplitl [H]; · iexact H
  iintro H
  iapply (wp_putAcc m j _ k a a' (fun l => h1 l) h2)
  isplitl [H]; · iexact H
  iexact Hk

/-- One row added to another. -/
theorem wp_addTmp (m m' : Memref sig .scVector .vmem S1x512 .f32) (k : Prog (TE F i) β) (a b : Fin 512 → Elt F .f32) :
    iprop(Acc d i m b ∗ Acc d i m' a ∗ ((Acc d i m b ∗ Acc d i m' (fun c => FloatOps.addf (a c) (b c))) -∗ WP d i k Q)) ⊢ WP d i (addTmp i m m' k) Q := by
  unfold addTmp
  refine BIBase.Entails.trans ?_ (wp_repK 32 _ (fun n => iprop(Acc d i m b ∗ Acc d i m' fun c => if c.val / 16 < n then FloatOps.addf (a c) (b c) else a c)) (fun j k => ?_) k)
  · iintro ⟨Hb, H, Hk⟩
    isplitl [H Hb]
    · isplitl [Hb]; · iexact Hb
      iapply (Entails.of_eq (congrArg (Acc d i m') (funext fun c => (if_neg (Nat.not_lt_zero _)).symm))) $$ H
    iintro ⟨Hb, H⟩
    iapply Hk
    isplitl [Hb]; · iexact Hb
    iapply (Entails.of_eq (congrArg (Acc d i m') (funext fun c => if_pos (by have := c.isLt; omega)))) $$ H
  · iintro ⟨⟨Hb, H⟩, Hk⟩
    iapply (wp_getRow m' j _ _)
    isplitl [H]; · iexact H
    iintro H
    iapply (wp_getRow m j _ _)
    isplitl [Hb]; · iexact Hb
    iintro Hb
    iapply (wp_putAcc m' j _ k (fun c => if c.val / 16 < j.val then FloatOps.addf (a c) (b c) else a c) (fun c => if c.val / 16 < j.val + 1 then FloatOps.addf (a c) (b c) else a c) (fun l => ?_) fun c hc => ?_)
    · have : ¬ (colOf j l).val / 16 < j.val := by show ¬ (16 * j.val + l.val) / 16 < j.val; omega
      refine (if_pos (show (16 * j.val + l.val) / 16 < j.val + 1 by omega)).trans ?_
      exact congrArg (FloatOps.addf · (b (colOf j l))) (if_neg this).symm
    · by_cases h : c.val / 16 < j.val
      · rw [if_pos h, if_pos (by omega)]
      · rw [if_neg h, if_neg (by omega)]
    isplitl [H]; · iexact H
    iintro H
    iapply Hk
    isplitl [Hb] <;> iassumption

end Tile

end Cert.KernelIdeal.Sums
-- ==== Proof.Rows.lean ====
module

public import proofs.«01_k».proof.Proof.Hold

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀ Facts

attribute [local instance] blocks

local notation "𝕄" => MM F

open Idealize.ShloMosaic.ValueIdx Idealize.ShloMosaic.Transfers

section Tile
variable {d : Dev nD} {i : grid0.Coords} {β : Type} {Q : β → SP F}
variable {W₀ : Waits sig (HIx 3)} {O : CellTallies nD τ sig (HIx 3)}

/-- The tile's wait for a copy of its own. -/
theorem wp_wait {sp sp' sp'' : Space} {s s' s'' : Shape} {e e' e'' : EltTy} (src : Memref sig .scVector sp s e) (dst : Memref sig .scVector sp' s' e') (sem : DmaSem sig)
    {h1 : src.view.WordExact} {h2 : dst.view.WordExact} (dst' : Memref sig .scVector sp'' s'' e'') (hN : dst.view.dmaCredit = dst'.view.amount (.dma sem)) (k : Prog (TE F i) β) {R : SP F} :
    iprop(Flight EC (th d i) (.dma sem) none (dst'.view.amount (.dma sem)) R ∗ Owe d i W₀ O ∗ ((R ∗ semVal (th d i, .dma sem) 0 ∗ Owe d i W₀ O) -∗ WP d i k Q))
      ⊢ WP d i (.op (.waitDma2 sem src dst h1 h2) fun _ => k) Q := by
  unfold Owe
  iintro ⟨Hf, ⟨⟨%W', %hW, Ho⟩, #Hm⟩, Hk⟩
  iapply (wp_waitLocalO EC 𝒱₀ (th d i) none none hN) $$ [Hf Ho]
  · isplitl [Hf]; · iexact Hf
    isplitl [Ho]; · iexact Ho
    iapply (MayWaits.elim (.dma sem)) $$ Hm
  iintro ⟨HR, Hv, Ho⟩
  iapply Hk
  isplitl [HR]; · iexact HR
  isplitl [Hv]; · iexact Hv
  isplitl [Ho]
  · iexists _
    isplitr; swap; · iexact Ho
    ipureintro
    intro p hp
    rcases Finset.mem_insert.mp hp with rfl | hp
    · exact .inr (.inl rfl)
    · exact hW p hp
  · iexact Hm

/-- A copy within the tile's reach, and its wait. -/
theorem wp_copy {sp sp' : Space} {s : Shape} {e : EltTy} (src : Memref sig .scVector sp s e) (dst : Memref sig .scVector sp' s e) (sem : DmaSem sig)
    {h1 h1' : src.view.WordExact} {h2 h2' : dst.view.WordExact} {h3 : DmaTarget.Typed (nD := nD) (p := .scVector (cV i) (jV i)) sp (.dma sem) (.here dst)} (hs : 0 < s.numel)
    (k : Prog (TE F i) β) {q : PosShare TreeShare} {fs : Buf (Elt F) (src.view.loc (th d i))} {Sd : Finset (Idx (dst.view.loc (th d i)))}
    {fd : Buf (Elt F) (dst.view.loc (th d i))} (hSd : dst.view.set ⊆ Sd) :
    iprop((src.view.loc (th d i) ↦[src.view.set]{q} fs) ∗ (dst.view.loc (th d i) ↦[Sd]{fullShare} fd) ∗ semVal (th d i, .dma sem) 0 ∗ Owe d i W₀ O
        ∗ (((src.view.loc (th d i) ↦[src.view.set]{q} fs) ∗ (dst.view.loc (th d i) ↦[Sd]{fullShare} (dst.view.write (Elt F) fd (src.view.read (Elt F) fs) Finset.univ))
            ∗ semVal (th d i, .dma sem) 0 ∗ Owe d i W₀ O) -∗ WP d i k Q))
      ⊢ WP d i (.op (.enqueueDma src (.here dst) (.dma sem) h1 h2 h3) fun _ => .op (.waitDma2 sem src dst h1' h2') fun _ => k) Q := by
  iintro ⟨Hs, Hd, Hv, Ho, Hk⟩
  iapply (wp_dmaLocal EC 𝒱₀ (th d i) none none (dst.view.amount (.dma sem)) rfl (View.amount_pos _ (.dma sem) hs) hSd) $$ [Hs Hd Hv]
  · isplitl [Hs]; · iexact Hs
    isplitl [Hd] <;> iassumption
  iintro Hf
  iapply (wp_wait src dst sem dst rfl)
  isplitl [Hf]; · iexact Hf
  isplitl [Ho]; · iexact Ho
  iintro ⟨⟨Hd, Hs⟩, Hv, Ho⟩
  iapply Hk
  isplitl [Hs]; · iexact Hs
  isplitl [Hd]; · iexact Hd
  isplitl [Hv] <;> iassumption

end Tile

theorem cast_none {e₁ e₂ : EltTy} (h : e₁ = e₂) {h' : Option (Elt F e₁) = Option (Elt F e₂)} : _root_.cast h' none = none := by
  cases h; rfl

/-! ## The shared rows -/

section Shared
variable (d : Dev nD) (i : grid0.Coords)

/-- The core's shared rows. -/
abbrev shM : Memref sig .scVector .shared S544x512 .f32 := Memref.whole cc0_scratch8

/-- The row of an element. -/
def rowOf (y : S544x512.Idx) : Fin 544 := y 0

/-- The elements of the rows `R`. -/
def rset (R : Finset (Fin 544)) : Finset S544x512.Idx := Finset.univ.filter fun y => rowOf y ∈ R

/-- The rows `R` held, row `r`'s element `c` being such that `G r c` holds of it. -/
def Own (R : Finset (Fin 544)) (G : Fin 544 → Fin 512 → Elt F .f32 → Prop) : SP F :=
  iprop(∃ f : Buf (Elt F) (shM.view.loc (th d i)), ⌜∀ r ∈ R, ∀ c : Fin 512, G r c (f (ix2 r c))⌝ ∗ (shM.view.loc (th d i) ↦[rset R]{fullShare} f))

/-- A share of the row that any tile may write at any time. -/
def Dum (sh : PosShare TreeShare) : SP F :=
  iprop(∃ (f : Buf (Elt F) (shM.view.loc (th d i))) (W : Finset S544x512.Idx), willBeTo EWu (shM.view.loc (th d i)) (rset {512}) sh f (fun _ => none) W)

/-- Row `r` of the shared rows, as a window. -/
abbrev rowM (off : Fin 2 → ℕ) (h : ∀ a, off a + S1x512.size a ≤ S544x512.size a) : Memref sig .scVector .shared S1x512 .f32 :=
  shM.slice (Rect.unit (s := S544x512) off S1x512.size h) (fun _ => rfl)

theorem rowM_emb (off : Fin 2 → ℕ) (h : ∀ a, off a + S1x512.size a ≤ S544x512.size a) (r : Fin 544) (h0 : off 0 = r.val) (h1 : off 1 = 0) (c : S1x512.Idx) :
    (rowM off h).view.emb c = ix2 r (c 1 : Fin 512) := by
  funext a
  apply Fin.ext
  show ((Rect.unit (s := S544x512) off S1x512.size h).emb c a).val = _
  rw [Rect.emb_apply]
  fin_cases a
  · show off 0 + 1 * (c 0).val = r.val
    have : (c 0).val < 1 := (c 0).isLt
    omega
  · show off 1 + 1 * (c 1).val = (c 1).val
    omega

theorem rowM_set (off : Fin 2 → ℕ) (h : ∀ a, off a + S1x512.size a ≤ S544x512.size a) (r : Fin 544) (h0 : off 0 = r.val) (h1 : off 1 = 0) :
    (rowM off h).view.set = rset {r} := by
  ext y
  unfold rset
  rw [Finset.mem_filter, Finset.mem_singleton]
  constructor
  · intro hy
    obtain ⟨c, -, rfl⟩ := Finset.mem_map.mp hy
    exact ⟨Finset.mem_univ _, congrFun (rowM_emb off h r h0 h1 c) 0⟩
  · rintro ⟨-, hy⟩
    refine Finset.mem_map.mpr ⟨ix2 (0 : Fin 1) (y 1 : Fin 512), Finset.mem_univ _, ?_⟩
    refine (rowM_emb off h r h0 h1 _).trans ?_
    rw [eq_ix2 y, ← hy]; rfl

theorem rset_mono {R R' : Finset (Fin 544)} (h : R ⊆ R') : rset R ⊆ rset R' := by
  intro y hy
  unfold rset at *
  rw [Finset.mem_filter] at *
  exact ⟨hy.1, h hy.2⟩

theorem mem_rset {R : Finset (Fin 544)} {r : Fin 544} {c : Fin 512} : (ix2 r c : S544x512.Idx) ∈ rset R ↔ r ∈ R := by
  unfold rset
  rw [Finset.mem_filter]
  exact ⟨fun h => h.2, fun h => ⟨Finset.mem_univ _, h⟩⟩

variable {d i} {β : Type} {Q : β → SP F}
variable {W₀ : Waits sig (HIx 3)} {O : CellTallies nD τ sig (HIx 3)}

/-- A row copied out to a row held. -/
theorem wp_rowOut_own (m : Memref sig .scVector .vmem S1x512 .f32) (hm : m.IsWhole) (sem : DmaSems sig S_) (off : Fin 2 → ℕ)
    (h : ∀ a, off a + S1x512.size a ≤ S544x512.size a) (r : Fin 544) (h0 : off 0 = r.val) (h1 : off 1 = 0) (k : Prog (TE F i) β)
    {R : Finset (Fin 544)} {G G' : Fin 544 → Fin 512 → Elt F .f32 → Prop} {a : Fin 512 → Elt F .f32} (hr : r ∈ R)
    (hG : ∀ c, G' r c (a c)) (hG' : ∀ r' ∈ R, r' ≠ r → ∀ c v, G r' c v → G' r' c v) :
    iprop(Acc d i m a ∗ Own d i R G ∗ semVal (th d i, .dma sem.sem) 0 ∗ Owe d i W₀ O
        ∗ ((Acc d i m a ∗ Own d i R G' ∗ semVal (th d i, .dma sem.sem) 0 ∗ Owe d i W₀ O) -∗ WP d i k Q))
      ⊢ WP d i (rowOut i m hm shM sem off h k) Q := by
  unfold Acc At Own rowOut
  iintro ⟨⟨%fs, %hfs, Hs⟩, ⟨%fd, %hfd, Hd⟩, Hv, Ho, Hk⟩
  iapply (wp_copy m (rowM off h) sem.sem (by decide) k (q := fullShare) (fs := fs) (fd := fd) (Sd := rset R)
    (by rw [rowM_set off h r h0 h1]; exact rset_mono (Finset.singleton_subset_iff.mpr hr)))
  isplitl [Hs]; · iexact Hs
  isplitl [Hd]; · iexact Hd
  isplitl [Hv]; · iexact Hv
  isplitl [Ho]; · iexact Ho
  iintro ⟨Hs, Hd, Hv, Ho⟩
  iapply Hk
  isplitl [Hs]
  · iexists fs
    isplitr; · ipureintro; exact hfs
    iexact Hs
  isplitl [Hd]
  · iexists _
    isplitr; swap; · iexact Hd
    ipureintro
    intro r' hr' c
    rw [hfs]
    by_cases hrr : r' = r
    · subst hrr
      have e : _ = (ix2 r' c : S544x512.Idx) := rowM_emb off h r' h0 h1 (ix2 (0 : Fin 1) c)
      rw [← e, View.write_emb_of_mem _ _ (Finset.mem_univ _)]
      exact hG c
    · rw [View.write_of_not_mem]
      · exact hG' r' hr' hrr c _ (hfd r' hr' c)
      · rw [View.setOn_univ, rowM_set off h r h0 h1, mem_rset, Finset.mem_singleton]; exact hrr
  isplitl [Hv] <;> iassumption

/-- A held row copied in. -/
theorem wp_rowIn (m : Memref sig .scVector .vmem S1x512 .f32) (hm : m.IsWhole) (sem : DmaSems sig S_) (off : Fin 2 → ℕ)
    (h : ∀ a, off a + S1x512.size a ≤ S544x512.size a) (r : Fin 544) (h0 : off 0 = r.val) (h1 : off 1 = 0) (k : Prog (TE F i) β)
    {R : Finset (Fin 544)} {G : Fin 544 → Fin 512 → Elt F .f32 → Prop} {a : Fin 512 → Elt F .f32} (hr : r ∈ R) :
    iprop(Acc d i m a ∗ Own d i R G ∗ semVal (th d i, .dma sem.sem) 0 ∗ Owe d i W₀ O
        ∗ (∀ b : Fin 512 → Elt F .f32, ⌜∀ c, G r c (b c)⌝ -∗ (Acc d i m b ∗ Own d i R G ∗ semVal (th d i, .dma sem.sem) 0 ∗ Owe d i W₀ O) -∗ WP d i k Q))
      ⊢ WP d i (rowIn i m hm shM sem off h k) Q := by
  unfold Acc At Own rowIn
  iintro ⟨⟨%fd, %hfd, Hd⟩, ⟨%fs, %hfs, Hs⟩, Hv, Ho, Hk⟩
  have hsub : (rowM off h).view.set ⊆ rset R := by rw [rowM_set off h r h0 h1]; exact rset_mono (Finset.singleton_subset_iff.mpr hr)
  ihave Hs2 := (pointsTo_split_subset hsub).1 $$ Hs
  icases Hs2 with ⟨Hs, Hrest⟩
  iapply (wp_copy (rowM off h) m sem.sem (by decide) k (q := fullShare) (fs := fs) (fd := fd) (Sd := m.view.set) subset_rfl)
  isplitl [Hs]; · iexact Hs
  isplitl [Hd]; · iexact Hd
  isplitl [Hv]; · iexact Hv
  isplitl [Ho]; · iexact Ho
  iintro ⟨Hs, Hd, Hv, Ho⟩
  iapply Hk $$ %(fun c => fs (ix2 r c)) %(hfs r hr)
  isplitl [Hd]
  · iexists _
    isplitr; swap; · iexact Hd
    ipureintro
    funext x
    rw [View.read_write_of_mem _ _ (Finset.mem_univ x)]
    show fs ((rowM off h).view.emb x) = _
    rw [rowM_emb off h r h0 h1]; rfl
  isplitl [Hs Hrest]
  · iexists fs
    isplitr; · ipureintro; exact hfs
    iapply (pointsTo_split_subset hsub).2
    isplitl [Hs] <;> iassumption
  isplitl [Hv] <;> iassumption

/-- A row copied out to a window that any tile may write. -/
theorem wp_out_wb (κ : ℕ) (m : Memref sig .scVector .vmem S1x512 .f32) (dst : Memref sig .scVector .shared S1x512 .f32) (sem : DmaSem sig)
    {h1 h1' : m.view.WordExact} {h2 h2' : dst.view.WordExact} {h3 : DmaTarget.Typed (nD := nD) (p := .scVector (cV i) (jV i)) .vmem (.dma sem) (.here dst)} (k : Prog (TE F i) β)
    {sh : PosShare TreeShare} {fs : Buf (Elt F) (m.view.loc (th d i))} {fd : Buf (Elt F) (dst.view.loc (th d i))} {W : Finset (Idx (dst.view.loc (th d i)))} :
    iprop(wmInv EWu κ ∗ (m.view.loc (th d i) ↦[m.view.set]{fullShare} fs) ∗ (willBeTo EWu (dst.view.loc (th d i)) dst.view.set sh fd (fun _ => none) W) ∗ semVal (th d i, .dma sem) 0 ∗ Owe d i W₀ O
        ∗ (((m.view.loc (th d i) ↦[m.view.set]{fullShare} fs) ∗ (willBeTo EWu (dst.view.loc (th d i)) dst.view.set sh fd (fun _ => none) (W ∪ dst.view.set))
          ∗ semVal (th d i, .dma sem) 0 ∗ Owe d i W₀ O) -∗ WP d i k Q))
      ⊢ WP d i (.op (.enqueueDma m (.here dst) (.dma sem) h1 h2 h3) fun _ => .op (.waitDma2 sem m dst h1' h2') fun _ => k) Q := by
  iintro ⟨#Hi, Hs, Hd, Hv, Ho, Hk⟩
  imod (flight_alloc EC (View.amount_pos dst.view (.dma sem) (by decide)) iprop((willBeTo EWu (dst.view.loc (th d i)) dst.view.set sh fd (fun _ => none) (W ∪ dst.view.set))
      ∗ (m.view.loc (th d i) ↦[m.view.set]{fullShare} fs)) (g := (th d i, .dma sem))) $$ Hv with ⟨%γ, %δ, %κ', #Hinv, Hγ, Hδ⟩
  have hadm : dst.view.Admitted (Elt F) (fun _ => none) (m.view.read (Elt F) fs) Finset.univ := by
    intro x _ u hu
    rw [View.read_apply, cast_none dst.view.elt_eq] at hu
    cases hu
  iapply (wp_enqueueDma_willBeTo (emb := EWu) (ιwm := κ) 𝒱₀ (th d i) none Set.univ (src := m) (dst := dst) (sem := .dma sem) (q := fullShare) (fs := fs) (qd := sh) (fd := fd) (g := fun _ => none) (W := W)
    none (dst.view.amount (.dma sem)) rfl hadm) $$ [Hs Hd] [Hγ]
  · isplitl [Hs]; · iexact Hs
    isplitr; · iexact Hi
    iexact Hd
  · iapply (flight_creditUpdate EC (δ := δ))
    isplitr; · iexact Hinv
    iexact Hγ
  iintro Hc
  iapply (wp_wait m dst sem dst rfl)
  isplitl [Hc Hδ]
  · iapply (flight_intro EC (th d i) (κ := κ'))
    isplitr; · iexact Hinv
    isplitl [Hδ] <;> iassumption
  isplitl [Ho]; · iexact Ho
  iintro ⟨⟨Hd, Hs⟩, Hv, Ho⟩
  iapply Hk
  isplitl [Hs]; · iexact Hs
  isplitl [Hd]; · iexact Hd
  isplitl [Hv] <;> iassumption

/-- A row copied out to the row that any tile may write. -/
theorem wp_rowOut_dum (κ : ℕ) (m : Memref sig .scVector .vmem S1x512 .f32) (hm : m.IsWhole) (sem : DmaSems sig S_) (off : Fin 2 → ℕ)
    (h : ∀ a, off a + S1x512.size a ≤ S544x512.size a) (h0 : off 0 = 512) (h1 : off 1 = 0) (k : Prog (TE F i) β)
    {sh : PosShare TreeShare} {a : Fin 512 → Elt F .f32} :
    iprop(wmInv EWu κ ∗ Acc d i m a ∗ Dum d i sh ∗ semVal (th d i, .dma sem.sem) 0 ∗ Owe d i W₀ O
        ∗ ((Acc d i m a ∗ Dum d i sh ∗ semVal (th d i, .dma sem.sem) 0 ∗ Owe d i W₀ O) -∗ WP d i k Q))
      ⊢ WP d i (rowOut i m hm shM sem off h k) Q := by
  have hset := rowM_set off h (512 : Fin 544) h0 h1
  unfold Acc At Dum rowOut
  iintro ⟨#Hi, ⟨%fs, %hfs, Hs⟩, ⟨%fd, %W, Hd⟩, Hv, Ho, Hk⟩
  iapply (wp_out_wb κ m (rowM off h) sem.sem k (sh := sh) (fs := fs) (fd := fd) (W := W))
  isplitr; · iexact Hi
  isplitl [Hs]; · iexact Hs
  isplitl [Hd]
  · iapply (Entails.of_eq (congrArg (fun X => willBeTo EWu (shM.view.loc (th d i)) X sh fd (fun _ => none) W) hset.symm)) $$ Hd
  isplitl [Hv]; · iexact Hv
  isplitl [Ho]; · iexact Ho
  iintro ⟨Hs, Hd, Hv, Ho⟩
  iapply Hk
  isplitl [Hs]
  · iexists fs
    isplitr; · ipureintro; exact hfs
    iexact Hs
  isplitl [Hd]
  · iexists fd, (W ∪ (rowM off h).view.set)
    iapply (Entails.of_eq (congrArg (fun X => willBeTo EWu (shM.view.loc (th d i)) X sh fd (fun _ => none) (W ∪ (rowM off h).view.set)) hset)) $$ Hd
  isplitl [Hv] <;> iassumption

end Shared

end Cert.KernelIdeal.Sums
-- ==== Proof.Runs.lean ====
module

public import proofs.«01_k».proof.Proof.Rows

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀ Facts

attribute [local instance] blocks

local notation "𝕄" => MM F

open Idealize.ShloMosaic.ValueIdx Idealize.ShloMosaic.Transfers

/-! ## Sums -/

/-- `a` is a sum of the terms `t n`, `n` in the set, begun at `z`, in some order. -/
inductive SumOf (z : Elt F .f32) (t : ℕ → Elt F .f32) : Finset ℕ → Elt F .f32 → Prop
  | zero : SumOf z t ∅ z
  | add {S : Finset ℕ} {n : ℕ} {a : Elt F .f32} : n ∉ S → SumOf z t S a → SumOf z t (insert n S) (FloatOps.addf a (t n))
  | join {S S' : Finset ℕ} {a b : Elt F .f32} : Disjoint S S' → SumOf z t S a → SumOf z t S' b → SumOf z t (S ∪ S') (FloatOps.addf a b)

section Terms
variable (X : ℕ → Fin 512 → Elt F .f32) (Wt : ℕ → Fin 64 → Elt F .f32)

/-- The weight's column of a column. -/
def wcol (c : Fin 512) : Fin 64 := ⟨c.val % 64, Nat.mod_lt _ (by decide)⟩

/-- The term of row `n` in column `c`. -/
def term (n : ℕ) (c : Fin 512) : Elt F .f32 := FloatOps.mulf (X n c) (Wt n (wcol c))

section Tile
variable {d : Dev nD} {i : grid0.Coords} {β : Type} {Q : β → SP F}

abbrev xM : Memref sig .scVector .vmem S2x32x512 .f32 := Memref.whole cc0_scratch0
abbrev wM : Memref sig .scVector .vmem S2x32x64 .f32 := Memref.whole cc0_scratch1

abbrev xs (p : Fin 2) : Memref sig .scVector .vmem S32x512 .f32 :=
  (xM.slice (Rect.unit (s := S2x32x512) ![p.val, 0, 0] S1x32x512.size (slotX_inb p)) (fun _ => rfl)).squeeze S32x512 squeezes_S1x32x512_S32x512
abbrev ws (p : Fin 2) : Memref sig .scVector .vmem S32x64 .f32 :=
  (wM.slice (Rect.unit (s := S2x32x64) ![p.val, 0, 0] S1x32x64.size (slotW_inb p)) (fun _ => rfl)).squeeze S32x64 squeezes_S1x32x64_S32x64

theorem xs_emb (p : Fin 2) (r : Fin 32) (c : Fin 512) : (xs p).view.emb (ix2 r c) = ix3 p r c := by
  show (Rect.unit (s := S2x32x512) ![p.val, 0, 0] S1x32x512.size (slotX_inb p)).emb (Shape.reshapeEquiv _ (ix2 r c)) = _
  erw [reshapeEquiv_ix2_1ab]
  funext a
  apply Fin.ext
  rw [Rect.emb_apply]
  fin_cases a
  · show p.val + 1 * 0 = p.val
    omega
  · show 0 + 1 * r.val = r.val
    omega
  · show 0 + 1 * c.val = c.val
    omega

theorem ws_emb (p : Fin 2) (r : Fin 32) (c : Fin 64) : (ws p).view.emb (ix2 r c) = ix3 p r c := by
  show (Rect.unit (s := S2x32x64) ![p.val, 0, 0] S1x32x64.size (slotW_inb p)).emb (Shape.reshapeEquiv _ (ix2 r c)) = _
  erw [reshapeEquiv_ix2_1ab]
  funext a
  apply Fin.ext
  rw [Rect.emb_apply]
  fin_cases a
  · show p.val + 1 * 0 = p.val
    omega
  · show 0 + 1 * r.val = r.val
    omega
  · show 0 + 1 * c.val = c.val
    omega

/-- Slot `p` holds the rows from `b0` on, and their weights. -/
def Slot (d : Dev nD) (i : grid0.Coords) (p : Fin 2) (b0 : ℕ) : SP F :=
  iprop(At d i (xs p) fullShare (fun y => X (b0 + (y 0).val) (y 1)) ∗ At d i (ws p) fullShare (fun y => Wt (b0 + (y 0).val) (y 1)))

variable {X Wt}

theorem wp_getX (p : Fin 2) (j : Fin 32) (r : ℕ) (hr : r < 32) (k : FVec F S16 .f32 → Prog (TE F i) β) (b0 : ℕ) :
    iprop(Slot X Wt d i p b0 ∗ (Slot X Wt d i p b0 -∗ WP d i (k fun l => X (b0 + r) (colOf j (l 0))) Q)) ⊢ WP d i (getX i xM p j r hr k) Q := by
  unfold Slot getX At
  iintro ⟨⟨⟨%f, %hf, H⟩, Hw⟩, Hk⟩
  have hemb : ∀ x : S1x1x16.Idx, (Rect.unit (s := S2x32x512) ![p.val, r, 16 * j.val] S1x1x16.size (x_inb p j hr)).emb x = (xs p).view.emb (ix2 ⟨r, hr⟩ (colOf j (x 2))) := by
    intro x
    rw [xs_emb]
    funext a
    apply Fin.ext
    rw [Rect.emb_apply]
    fin_cases a
    · show p.val + 1 * (x 0).val = p.val
      have : (x 0).val < 1 := (x 0).isLt
      omega
    · show r + 1 * (x 1).val = r
      have : (x 1).val < 1 := (x 1).isLt
      omega
    · show 16 * j.val + 1 * (x 2).val = 16 * j.val + (x 2).val
      omega
  iapply (wp_load_rect (defs := defs₀ (F := F)) 𝒱₀ (th d i) none Set.univ (m := xM) (r := Rect.unit (s := S2x32x512) ![p.val, r, 16 * j.val] S1x1x16.size (x_inb p j hr)) (hl := View.loadsAt_vmem h_S1x1x16) (S := (xs p).view.set) ?_) $$ [H]
  · intro y hy
    obtain ⟨x, -, rfl⟩ := Finset.mem_map.mp hy
    exact Finset.mem_map.mpr ⟨_, Finset.mem_univ _, (hemb x).symm⟩
  · iexact H
  iintro H
  have e : (shapeCast S16 ((xM.access (Rect.unit (s := S2x32x512) ![p.val, r, 16 * j.val] S1x1x16.size (x_inb p j hr))).read (Elt F) f) shapeCasts_S1x1x16_S16 : FVec F S16 .f32)
      = fun l => X (b0 + r) (colOf j (l 0)) := by
    funext l
    rw [eq_ix1 l]
    refine (shapeCast_apply _ _ (ix1 (l 0)) (ix3 (0 : Fin 1) (0 : Fin 1) (l 0 : Fin 16)) ?_).trans ?_
    · rw [Shape.rowMajor_val_three, Shape.rowMajor_val_one]
      show (0 * 1 + 0) * 16 + (l 0).val = (l 0).val
      omega
    · show f ((Rect.unit (s := S2x32x512) ![p.val, r, 16 * j.val] S1x1x16.size (x_inb p j hr)).emb _) = _
      refine (congrArg f (hemb (ix3 (0 : Fin 1) (0 : Fin 1) (l 0 : Fin 16)))).trans ?_
      exact congrFun hf (ix2 ⟨r, hr⟩ (colOf j (l 0)))
  iapply (Entails.of_eq (congrArg (fun v => WP d i (k v) Q) e.symm))
  iapply Hk
  isplitl [H]
  · iexists f
    isplitr; · ipureintro; exact hf
    iexact H
  iexact Hw

theorem wp_getW (p : Fin 2) (q : Fin 4) (r : ℕ) (hr : r < 32) (k : FVec F S16 .f32 → Prog (TE F i) β) (b0 : ℕ) :
    iprop(Slot X Wt d i p b0 ∗ (Slot X Wt d i p b0 -∗ WP d i (k fun l => Wt (b0 + r) ⟨16 * q.val + (l 0).val, by have := q.isLt; have : (l 0).val < 16 := (l 0).isLt; omega⟩) Q))
      ⊢ WP d i (getW i wM p q r hr k) Q := by
  unfold Slot getW At
  iintro ⟨⟨Hx, %f, %hf, H⟩, Hk⟩
  have hlt : ∀ l : Fin 16, 16 * q.val + l.val < 64 := fun l => by have := q.isLt; have := l.isLt; omega
  have hemb : ∀ x : S1x1x16.Idx, (Rect.unit (s := S2x32x64) ![p.val, r, 16 * q.val] S1x1x16.size (w_inb p q hr)).emb x = (ws p).view.emb (ix2 ⟨r, hr⟩ ⟨16 * q.val + (x 2).val, hlt (x 2)⟩) := by
    intro x
    rw [ws_emb]
    funext a
    apply Fin.ext
    rw [Rect.emb_apply]
    fin_cases a
    · show p.val + 1 * (x 0).val = p.val
      have : (x 0).val < 1 := (x 0).isLt
      omega
    · show r + 1 * (x 1).val = r
      have : (x 1).val < 1 := (x 1).isLt
      omega
    · show 16 * q.val + 1 * (x 2).val = 16 * q.val + (x 2).val
      omega
  iapply (wp_load_rect (defs := defs₀ (F := F)) 𝒱₀ (th d i) none Set.univ (m := wM) (r := Rect.unit (s := S2x32x64) ![p.val, r, 16 * q.val] S1x1x16.size (w_inb p q hr)) (hl := View.loadsAt_vmem h_S1x1x16) (S := (ws p).view.set) ?_) $$ [H]
  · intro y hy
    obtain ⟨x, -, rfl⟩ := Finset.mem_map.mp hy
    exact Finset.mem_map.mpr ⟨_, Finset.mem_univ _, (hemb x).symm⟩
  · iexact H
  iintro H
  have e : (shapeCast S16 ((wM.access (Rect.unit (s := S2x32x64) ![p.val, r, 16 * q.val] S1x1x16.size (w_inb p q hr))).read (Elt F) f) shapeCasts_S1x1x16_S16 : FVec F S16 .f32)
      = fun l => Wt (b0 + r) ⟨16 * q.val + (l 0).val, hlt (l 0)⟩ := by
    funext l
    rw [eq_ix1 l]
    refine (shapeCast_apply _ _ (ix1 (l 0)) (ix3 (0 : Fin 1) (0 : Fin 1) (l 0 : Fin 16)) ?_).trans ?_
    · rw [Shape.rowMajor_val_three, Shape.rowMajor_val_one]
      show (0 * 1 + 0) * 16 + (l 0).val = (l 0).val
      omega
    · show f ((Rect.unit (s := S2x32x64) ![p.val, r, 16 * q.val] S1x1x16.size (w_inb p q hr)).emb _) = _
      refine (congrArg f (hemb (ix3 (0 : Fin 1) (0 : Fin 1) (l 0 : Fin 16)))).trans ?_
      exact congrFun hf (ix2 ⟨r, hr⟩ ⟨16 * q.val + (l 0).val, hlt (l 0)⟩)
  iapply (Entails.of_eq (congrArg (fun v => WP d i (k v) Q) e.symm))
  iapply Hk
  isplitl [Hx]; · iexact Hx
  iexists f
  isplitr; · ipureintro; exact hf
  iexact H

/-- The eight sums of sixteen rows in the slots `q`. -/
theorem wp_accRows (p : Fin 2) (t3 : Fin k0_t3_loop.trips) (q : Fin 4) (z : Elt F .f32) (k : (Fin 8 → FVec F S16 .f32) → Prog (TE F i) β) (b0 : ℕ) :
    iprop(Slot X Wt d i p b0 ∗ (∀ acc : Fin 8 → FVec F S16 .f32, ⌜∀ e l, SumOf z (fun n => term X Wt n (colOf (slotOf q e) l)) (Finset.Ico (b0 + 16 * t3.val) (b0 + 16 * t3.val + 16)) (acc e (ix1 l))⌝
        -∗ Slot X Wt d i p b0 -∗ WP d i (k acc) Q))
      ⊢ WP d i (accRows i xM wM p t3 q (broadcast S16 z) k) Q := by
  unfold accRows
  refine BIBase.Entails.trans ?_ (wp_foldK 16 _ (fun n acc => iprop(⌜∀ e l, SumOf z (fun n => term X Wt n (colOf (slotOf q e) l)) (Finset.Ico (b0 + 16 * t3.val) (b0 + 16 * t3.val + n)) (acc e (ix1 l))⌝ ∗ Slot X Wt d i p b0)) (fun r acc K => ?_) (fun _ => broadcast S16 z) k)
  · iintro ⟨H, Hk⟩
    isplitl [H]
    · isplitr; swap; · iexact H
      ipureintro
      intro e l
      rw [Nat.add_zero, Finset.Ico_self]
      exact SumOf.zero
    iintro %acc ⟨%ha, H⟩
    iapply Hk $$ %acc %ha H
  · iintro ⟨⟨%ha, H⟩, Hk⟩
    have hrow : (rowW t3 (BitVec.ofNat 32 r.val)).toNat = 16 * t3.val + r.val := by
      rw [rowW_lt t3 (ofNat16 r)]
      have := r.isLt
      simp
      omega
    iapply (wp_getW p q _ _ _ b0)
    isplitl [H]; · iexact H
    iintro H
    iapply (wp_collK 8 _ (Slot X Wt d i p b0) (fun e => addf (acc e) (mulf (fun l => X (b0 + (rowW t3 (BitVec.ofNat 32 r.val)).toNat) (colOf (slotOf q e) (l 0)))
      (fun l => Wt (b0 + (rowW t3 (BitVec.ofNat 32 r.val)).toNat) ⟨16 * q.val + (l 0).val, by have := q.isLt; have : (l 0).val < 16 := (l 0).isLt; omega⟩))) (fun e k' => ?_))
    · iintro ⟨H, Hk⟩
      iapply (wp_getX p _ _ _ _ b0)
      isplitl [H]; · iexact H
      iexact Hk
    isplitl [H]; · iexact H
    iintro H
    iapply Hk
    isplitr; swap; · iexact H
    ipureintro
    intro e l
    have h1 : Finset.Ico (b0 + 16 * t3.val) (b0 + 16 * t3.val + (r.val + 1)) = insert (b0 + 16 * t3.val + r.val) (Finset.Ico (b0 + 16 * t3.val) (b0 + 16 * t3.val + r.val)) := by
      ext n; simp only [Finset.mem_Ico, Finset.mem_insert]; omega
    rw [h1]
    have h2 := SumOf.add (t := fun n => term X Wt n (colOf (slotOf q e) l)) (n := b0 + 16 * t3.val + r.val) (by simp) (ha e l)
    have h3 : (addf (acc e) (mulf (fun l => X (b0 + (rowW t3 (BitVec.ofNat 32 r.val)).toNat) (colOf (slotOf q e) (l 0)))
      (fun l => Wt (b0 + (rowW t3 (BitVec.ofNat 32 r.val)).toNat) ⟨16 * q.val + (l 0).val, by have := q.isLt; have : (l 0).val < 16 := (l 0).isLt; omega⟩)) : FVec F S16 .f32) (ix1 l)
        = FloatOps.addf (acc e (ix1 l)) (term X Wt (b0 + 16 * t3.val + r.val) (colOf (slotOf q e) l)) := by
      show FloatOps.addf (acc e (ix1 l)) (FloatOps.mulf (X (b0 + (rowW t3 (BitVec.ofNat 32 r.val)).toNat) (colOf (slotOf q e) l)) (Wt (b0 + (rowW t3 (BitVec.ofNat 32 r.val)).toNat) ⟨16 * q.val + l.val, _⟩)) = _
      rw [hrow, ← Nat.add_assoc]
      unfold term
      congr 3
      apply Fin.ext
      show 16 * q.val + l.val = (16 * (4 * e.val + q.val) + l.val) % 64
      have := q.isLt; have := l.isLt
      omega
    rw [h3]
    exact h2

theorem slotOf_div (q : Fin 4) (e : Fin 8) : (slotOf q e).val % 4 = q.val ∧ (slotOf q e).val / 4 = e.val := by
  have := q.isLt
  unfold slotOf
  constructor
  · show (4 * e.val + q.val) % 4 = q.val
    omega
  · show (4 * e.val + q.val) / 4 = e.val
    omega

theorem wp_run16 (m : Memref sig .scVector .vmem S1x512 .f32) (p : Fin 2) (t3 : Fin k0_t3_loop.trips) (z : Elt F .f32) (k : Prog (TE F i) β) (b0 : ℕ) (a : Fin 512 → Elt F .f32) :
    iprop(Slot X Wt d i p b0 ∗ Acc d i m a ∗ (∀ s : Fin 512 → Elt F .f32, ⌜∀ c, SumOf z (fun n => term X Wt n c) (Finset.Ico (b0 + 16 * t3.val) (b0 + 16 * t3.val + 16)) (s c)⌝
        -∗ (Slot X Wt d i p b0 ∗ Acc d i m fun c => FloatOps.addf (a c) (s c)) -∗ WP d i k Q))
      ⊢ WP d i (run16 i xM wM m p t3 (broadcast S16 z) k) Q := by
  unfold run16
  refine BIBase.Entails.trans ?_ (wp_repK 4 _ (fun n => iprop(Slot X Wt d i p b0 ∗ ∃ s : Fin 512 → Elt F .f32, ⌜∀ c : Fin 512, c.val / 16 % 4 < n → SumOf z (fun n => term X Wt n c) (Finset.Ico (b0 + 16 * t3.val) (b0 + 16 * t3.val + 16)) (s c)⌝
      ∗ Acc d i m (fun c => if c.val / 16 % 4 < n then FloatOps.addf (a c) (s c) else a c))) (fun q K => ?_) k)
  · iintro ⟨H, Ha, Hk⟩
    isplitl [H Ha]
    · isplitl [H]; · iexact H
      iexists a
      isplitr; · ipureintro; intro c hc; exact absurd hc (Nat.not_lt_zero _)
      iapply (Entails.of_eq (congrArg (Acc d i m) (funext fun c => (if_neg (Nat.not_lt_zero _)).symm))) $$ Ha
    iintro ⟨H, %s, %hs, Ha⟩
    iapply Hk $$ %s %(fun c => hs c (Nat.mod_lt _ (by decide)))
    isplitl [H]; · iexact H
    iapply (Entails.of_eq (congrArg (Acc d i m) (funext fun c => if_pos (Nat.mod_lt _ (by decide))))) $$ Ha
  · iintro ⟨⟨H, %s, %hs, Ha⟩, Hk⟩
    iapply (wp_accRows p t3 q z _ b0)
    isplitl [H]; · iexact H
    iintro %acc %hacc H
    let s' : Fin 512 → Elt F .f32 := fun c => if c.val / 16 % 4 = q.val then acc ⟨c.val / 64, by have := c.isLt; omega⟩ (ix1 (laneOf c)) else s c
    have hcol : ∀ (e : Fin 8) (l : Fin 16), (colOf (slotOf q e) l).val / 16 = (slotOf q e).val := by
      intro e l
      show (16 * (slotOf q e).val + l.val) / 16 = _
      omega
    have hs'q : ∀ (e : Fin 8) (l : Fin 16), s' (colOf (slotOf q e) l) = acc e (ix1 l) := by
      intro e l
      have h1 := hcol e l
      have h2 := slotOf_div q e
      have h3 : (⟨(colOf (slotOf q e) l).val / 64, by have := (colOf (slotOf q e) l).isLt; omega⟩ : Fin 8) = e := by apply Fin.ext; show (colOf (slotOf q e) l).val / 64 = e.val; omega
      have h4 : laneOf (colOf (slotOf q e) l) = l := by apply Fin.ext; show (16 * (slotOf q e).val + l.val) % 16 = l.val; omega
      show (if _ then _ else _) = _
      rw [if_pos (by rw [h1]; exact h2.1), h3, h4]
    iapply (wp_repK 8 _ (fun n => Acc d i m (fun c => if c.val / 16 % 4 < q.val ∨ (c.val / 16 % 4 = q.val ∧ c.val / 64 < n) then FloatOps.addf (a c) (s' c) else a c)) (fun e K' => ?_) _)
    · refine wp_addAcc m _ _ _ _ _ (fun l => ?_) fun c hc => ?_
      · have h1 := hcol e l
        have h2 := slotOf_div q e
        have h3 : (colOf (slotOf q e) l).val / 64 = e.val := by omega
        rw [hs'q, if_pos (.inr ⟨by rw [h1]; exact h2.1, by omega⟩), if_neg (by rintro (h | h) <;> omega)]
      · have h2 := slotOf_div q e
        have : (c.val / 16 % 4 < q.val ∨ (c.val / 16 % 4 = q.val ∧ c.val / 64 < e.val + 1)) ↔ (c.val / 16 % 4 < q.val ∨ (c.val / 16 % 4 = q.val ∧ c.val / 64 < e.val)) := by
          constructor
          · rintro (h | ⟨h, h'⟩)
            · exact .inl h
            · refine .inr ⟨h, ?_⟩
              rcases Nat.lt_succ_iff_lt_or_eq.mp h' with h' | h'
              · exact h'
              · exact absurd (by omega : c.val / 16 = (slotOf q e).val) hc
          · rintro (h | ⟨h, h'⟩)
            · exact .inl h
            · exact .inr ⟨h, by omega⟩
        simp only [this]
    isplitl [Ha]
    · iapply (Entails.of_eq (congrArg (Acc d i m) (funext fun c => ?_))) $$ Ha
      by_cases h : c.val / 16 % 4 < q.val
      · rw [if_pos h, if_pos (.inl h)]
        show _ = FloatOps.addf (a c) (if _ then _ else _)
        rw [if_neg (by omega)]
      · rw [if_neg h, if_neg (by rintro (h' | h') <;> omega)]
    iintro Ha
    iapply Hk
    isplitl [H]; · iexact H
    iexists s'
    isplitr
    · ipureintro
      intro c hc
      show SumOf _ _ _ (if _ then _ else _)
      by_cases h : c.val / 16 % 4 = q.val
      · rw [if_pos h]
        have h1 : colOf (slotOf q ⟨c.val / 64, by have := c.isLt; omega⟩) (laneOf c) = c := by
          apply Fin.ext
          show 16 * (4 * (c.val / 64) + q.val) + c.val % 16 = c.val
          omega
        have h2 := hacc ⟨c.val / 64, by have := c.isLt; omega⟩ (laneOf c)
        rwa [h1] at h2
      · rw [if_neg h]; exact hs c (by omega)
    iapply (Entails.of_eq (congrArg (Acc d i m) (funext fun c => ?_))) $$ Ha
    have : (c.val / 16 % 4 < q.val ∨ (c.val / 16 % 4 = q.val ∧ c.val / 64 < 8)) ↔ c.val / 16 % 4 < q.val + 1 := by have := c.isLt; omega
    simp only [this]

theorem wp_accumRow (m : Memref sig .scVector .vmem S1x512 .f32) (p : Fin 2) (r : ℕ) (hr : r < 32) (k : Prog (TE F i) β) (b0 : ℕ) (a : Fin 512 → Elt F .f32) :
    iprop(Slot X Wt d i p b0 ∗ Acc d i m a ∗ ((Slot X Wt d i p b0 ∗ Acc d i m fun c => FloatOps.addf (a c) (term X Wt (b0 + r) c)) -∗ WP d i k Q))
      ⊢ WP d i (accumRow i xM wM m p r hr k) Q := by
  unfold accumRow
  iintro ⟨H, Ha, Hk⟩
  iapply (wp_collK 4 _ (Slot X Wt d i p b0) (fun q l => Wt (b0 + r) ⟨16 * q.val + (l 0).val, by have := q.isLt; have : (l 0).val < 16 := (l 0).isLt; omega⟩) (fun q k' => wp_getW p q r hr k' b0) _)
  isplitl [H]; · iexact H
  iintro H
  iapply (wp_repK 8 _ (fun n => iprop(Slot X Wt d i p b0 ∗ Acc d i m (fun c => if c.val / 16 < 4 * n then FloatOps.addf (a c) (term X Wt (b0 + r) c) else a c))) (fun e K => ?_) k)
  · iintro ⟨⟨H, Ha⟩, Hk⟩
    iapply (wp_repK 4 _ (fun n => iprop(Slot X Wt d i p b0 ∗ Acc d i m (fun c => if c.val / 16 < 4 * e.val + n then FloatOps.addf (a c) (term X Wt (b0 + r) c) else a c))) (fun q K => ?_) K)
    · unfold addMul
      iintro ⟨⟨H, Ha⟩, Hk⟩
      iapply (wp_getRow m (slotOf q e) _ _)
      isplitl [Ha]; · iexact Ha
      iintro Ha
      iapply (wp_getX p _ r hr _ b0)
      isplitl [H]; · iexact H
      iintro H
      iapply (wp_putAcc m (slotOf q e) _ K (fun c => if c.val / 16 < 4 * e.val + q.val then FloatOps.addf (a c) (term X Wt (b0 + r) c) else a c)
        (fun c => if c.val / 16 < 4 * e.val + (q.val + 1) then FloatOps.addf (a c) (term X Wt (b0 + r) c) else a c) (fun l => ?_) fun c hc => ?_)
      · have h1 : (colOf (slotOf q e) l).val / 16 = 4 * e.val + q.val := by
          show (16 * (4 * e.val + q.val) + l.val) / 16 = _
          omega
        have h2 : wcol (colOf (slotOf q e) l) = ⟨16 * q.val + l.val, by have := q.isLt; have := l.isLt; omega⟩ := by
          apply Fin.ext
          show (16 * (4 * e.val + q.val) + l.val) % 64 = _
          have := q.isLt; have := l.isLt
          show _ = 16 * q.val + l.val
          omega
        refine (if_pos (by omega)).trans ?_
        unfold term
        rw [h2]
        refine congrArg (FloatOps.addf · _) (if_neg (show ¬ (colOf (slotOf q e) l).val / 16 < 4 * e.val + q.val by omega)).symm
      · have h1 : (slotOf q e).val = 4 * e.val + q.val := rfl
        have : c.val / 16 < 4 * e.val + (q.val + 1) ↔ c.val / 16 < 4 * e.val + q.val := by omega
        simp only [this]
      isplitl [Ha]; · iexact Ha
      iintro Ha
      iapply Hk
      isplitl [H] <;> iassumption
    isplitl [H Ha]
    · isplitl [H] <;> iassumption
    iexact Hk
  isplitl [H Ha]
  · isplitl [H]; · iexact H
    iapply (Entails.of_eq (congrArg (Acc d i m) (funext fun c => (if_neg (Nat.not_lt_zero _)).symm))) $$ Ha
  iintro ⟨H, Ha⟩
  iapply Hk
  isplitl [H]; · iexact H
  iapply (Entails.of_eq (congrArg (Acc d i m) (funext fun c => if_pos (by have := c.isLt; omega)))) $$ Ha

end Tile
end Terms

end Cert.KernelIdeal.Sums
-- ==== Proof.Words.lean ====
module

public import proofs.«01_k».proof.Proof.Runs

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! ## The scans -/

/-- The place of a word in the signed order. -/
def key (x : BitVec 32) : ℕ := (x ^^^ 2147483648#32).toNat

theorem key_of_lt {x : BitVec 32} (h : x.toNat < 2147483648) : key x = x.toNat + 2147483648 := by
  have h1 : x &&& 2147483648#32 = 0#32 := by
    have : (2147483648#32 : BitVec 32) = BitVec.twoPow 32 31 := by decide
    rw [this, BitVec.and_twoPow, if_neg]
    show ¬ x.toNat.testBit 31 = true
    rw [Nat.testBit_lt_two_pow (by omega)]
    simp
  have h2 := BitVec.add_eq_or_of_and_eq_zero x (2147483648#32) h1
  have h3 : x ^^^ 2147483648#32 = x + 2147483648#32 := by
    rw [h2]
    apply BitVec.eq_of_getElem_eq
    intro i hi
    have := congrArg (fun z => z.getLsbD i) h1
    simp [BitVec.getElem_xor, BitVec.getElem_or] at *
    cases hx : x[i] <;> cases hy : (2147483648#32 : BitVec 32)[i] <;> simp_all
  unfold key
  rw [h3, BitVec.toNat_add]
  have : (2147483648#32 : BitVec 32).toNat = 2147483648 := rfl
  omega

theorem foldl_max (l : List (Fin 16)) (f : Fin 16 → BitVec 32) (k x : BitVec 32) (hx : x.toNat ≤ k.toNat) (hall : ∀ j ∈ l, (f j).toNat ≤ k.toNat)
    (h : x = k ∨ ∃ j ∈ l, f j = k) : l.foldl (fun r j => ScanKind.step .max r (f j)) x = k := by
  induction l generalizing x with
  | nil => rcases h with h | ⟨j, hj, _⟩; exact h; simp at hj
  | cons a l ih =>
    rw [List.foldl_cons]
    have ha := hall a (by simp)
    have e : ScanKind.step .max x (f a) = if (f a).toNat < x.toNat then x else f a := by
      simp [ScanKind.step, IntOp.maxui, BitVec.ult]
    rw [e]
    apply ih
    · split <;> assumption
    · exact fun j hj => hall j (by simp [hj])
    · rcases h with rfl | ⟨j, hj, e⟩
      · left
        split
        · rfl
        · exact BitVec.eq_of_toNat_eq (by omega)
      · rcases List.mem_cons.mp hj with h' | hj
        · left
          rw [← h', e, if_neg (by omega)]
        · exact .inr ⟨j, hj, e⟩

theorem foldl_min (l : List (Fin 16)) (f : Fin 16 → BitVec 32) (k x : BitVec 32) (hx : k.toNat ≤ x.toNat) (hall : ∀ j ∈ l, k.toNat ≤ (f j).toNat)
    (h : x = k ∨ ∃ j ∈ l, f j = k) : l.foldl (fun r j => ScanKind.step .min r (f j)) x = k := by
  induction l generalizing x with
  | nil => rcases h with h | ⟨j, hj, _⟩; exact h; simp at hj
  | cons a l ih =>
    rw [List.foldl_cons]
    have ha := hall a (by simp)
    have e : ScanKind.step .min x (f a) = if x.toNat < (f a).toNat then x else f a := by
      simp [ScanKind.step, IntOp.minui, BitVec.ult]
    rw [e]
    apply ih
    · split <;> assumption
    · exact fun j hj => hall j (by simp [hj])
    · rcases h with rfl | ⟨j, hj, e⟩
      · left
        split
        · rfl
        · exact BitVec.eq_of_toNat_eq (by omega)
      · rcases List.mem_cons.mp hj with h' | hj
        · left
          rw [← h', e, if_neg (by omega)]
        · exact .inr ⟨j, hj, e⟩

theorem lanes_cover (j : Fin 16) : j = 0 ∨ j ∈ (List.finRange 16).filter fun k => decide (0 < k.val ∧ k.val ≤ 15) := by
  revert j; decide

theorem xor_xor (x : BitVec 32) : (x ^^^ 2147483648#32) ^^^ 2147483648#32 = x := by
  rw [BitVec.xor_assoc, BitVec.xor_self, BitVec.xor_zero]

theorem scan_last (kind : ScanKind) (u : IVec S16 32) (h : ∀ a, (![15] : Fin 1 → ℕ) a < S16.size a) :
    extractAt ![15] (scan kind u) h = ((List.finRange 16).filter fun k => decide (0 < k.val ∧ k.val ≤ 15)).foldl
      (fun r j => kind.step r (u (ix1 j))) (u (ix1 (0 : Fin 16))) := by
  have hl : (fun j : Fin 16 => (Shape.ofLane j : S16.Idx)) = ix1 := by
    funext j a
    fin_cases a
    rfl
  exact congrArg (fun (h : Fin 16 → S16.Idx) => ((List.finRange 16).filter fun k => decide (0 < k.val ∧ k.val ≤ 15)).foldl
      (fun r j => kind.step r (u (h j))) (u (h 0))) hl

/-- The largest of sixteen words is the one whose place in the order is highest. -/
theorem maxOf_eq (v : IVec S16 32) (k : Fin 16) (h : ∀ j : Fin 16, key (v (ix1 j)) ≤ key (v (ix1 k))) : maxOf v = v (ix1 k) := by
  have e : ((List.finRange 16).filter fun k => decide (0 < k.val ∧ k.val ≤ 15)).foldl
      (fun r j => ScanKind.step .max r ((v (ix1 j)) ^^^ 2147483648#32)) ((v (ix1 0)) ^^^ 2147483648#32) = (v (ix1 k)) ^^^ 2147483648#32 := by
    refine foldl_max _ (fun j => (v (ix1 j)) ^^^ 2147483648#32) _ _ (h 0) (fun j _ => h j) ?_
    rcases lanes_cover k with rfl | hk
    · exact .inl rfl
    · exact .inr ⟨k, hk, rfl⟩
  calc maxOf v = (((List.finRange 16).filter fun k => decide (0 < k.val ∧ k.val ≤ 15)).foldl
      (fun r j => ScanKind.step .max r ((v (ix1 j)) ^^^ 2147483648#32)) ((v (ix1 0)) ^^^ 2147483648#32)) ^^^ 2147483648#32 := by
        exact congrArg (· ^^^ 2147483648#32) (scan_last .max (xori v (broadcast S16 2147483648#32)) inpos_S16_p15)
    _ = v (ix1 k) := by rw [e, xor_xor]

/-- The smallest of sixteen words is the one whose place in the order is lowest. -/
theorem minOf_eq (v : IVec S16 32) (k : Fin 16) (h : ∀ j : Fin 16, key (v (ix1 k)) ≤ key (v (ix1 j))) : minOf v = v (ix1 k) := by
  have e : ((List.finRange 16).filter fun k => decide (0 < k.val ∧ k.val ≤ 15)).foldl
      (fun r j => ScanKind.step .min r ((v (ix1 j)) ^^^ 2147483648#32)) ((v (ix1 0)) ^^^ 2147483648#32) = (v (ix1 k)) ^^^ 2147483648#32 := by
    refine foldl_min _ (fun j => (v (ix1 j)) ^^^ 2147483648#32) _ _ (h 0) (fun j _ => h j) ?_
    rcases lanes_cover k with rfl | hk
    · exact .inl rfl
    · exact .inr ⟨k, hk, rfl⟩
  calc minOf v = (((List.finRange 16).filter fun k => decide (0 < k.val ∧ k.val ≤ 15)).foldl
      (fun r j => ScanKind.step .min r ((v (ix1 j)) ^^^ 2147483648#32)) ((v (ix1 0)) ^^^ 2147483648#32)) ^^^ 2147483648#32 := by
        exact congrArg (· ^^^ 2147483648#32) (scan_last .min (xori v (broadcast S16 2147483648#32)) inpos_S16_p15)
    _ = v (ix1 k) := by rw [e, xor_xor]

theorem key_neg : key 2147483649#32 = 1 := by decide

/-- The segment number of a row of a group. -/
theorem sidOf_eq (g : IVec S16 32) (t4 : Fin k0_t4_loop.trips) (hg : ∀ j : Fin 16, (g (ix1 j)).toNat < 2147483648) :
    sidOf (iota .scVector S16 32 [0] iota_S16_d0_w32_scVector) g t4 = g (ix1 (t4.castLE (by decide : 16 ≤ 16))) := by
  have h16 : t4.val < 16 := t4.isLt
  have hv : ∀ j : Fin 16, (select (cmpi .eq (iota .scVector S16 32 [0] iota_S16_d0_w32_scVector) (broadcast S16 (Scf.iv 0#32 1#32 t4))) g (broadcast S16 2147483649#32)) (ix1 j)
      = if j.val = t4.val then g (ix1 j) else 2147483649#32 := by
    intro j
    have e1 : (iota .scVector S16 32 [0] iota_S16_d0_w32_scVector) (ix1 j) = BitVec.ofNat 32 j.val := by
      show BitVec.ofNat 32 _ = _
      congr 1
      simp [ix1]
    have e2 : (Scf.iv 0#32 1#32 t4) = BitVec.ofNat 32 t4.val := by
      show 0#32 + BitVec.ofNat 32 t4.val * 1#32 = _
      simp
    show Scalar.select (IntOp.cmpi .eq ((iota .scVector S16 32 [0] iota_S16_d0_w32_scVector) (ix1 j)) (Scf.iv 0#32 1#32 t4)) (g (ix1 j)) 2147483649#32 = _
    rw [e1, e2]
    by_cases h : j.val = t4.val
    · rw [if_pos h, h]; simp [Scalar.select, IntOp.cmpi]
    · rw [if_neg h]
      have : ¬ (BitVec.ofNat 32 j.val = BitVec.ofNat 32 t4.val) := by
        intro h'
        have := congrArg BitVec.toNat h'
        simp at this
        have := j.isLt
        omega
      simp [Scalar.select, IntOp.cmpi, beq_eq_false_iff_ne.mpr this]
  unfold sidOf
  have hk := hv (t4.castLE (by decide : 16 ≤ 16))
  replace hk := hk.trans (if_pos rfl)
  rw [maxOf_eq _ (t4.castLE (by decide : 16 ≤ 16)), hk]
  intro j
  rw [hk, hv j]
  have := key_of_lt (hg (t4.castLE (by decide : 16 ≤ 16)))
  by_cases h : j.val = t4.val
  · have : j = (t4.castLE (by decide : 16 ≤ 16)) := Fin.ext h
    rw [if_pos h, this]
  · rw [if_neg h, key_neg]; omega

/-! ## The places the tile computes -/

/-- The tile of a core and a number. -/
def mk (c : Fin 2) (s : Fin 16) : grid0.Coords := fun | 0 => c | 1 => s

theorem mk_eta (i : grid0.Coords) : i = mk (i 0) (i 1) := by
  funext a
  fin_cases a <;> rfl

theorem cmpi_eq_iff (a b : BitVec 32) : Scalar.cmpi .eq a b = 1#1 ↔ a = b := by
  show BitVec.ofBool (a == b) = 1#1 ↔ _
  by_cases h : a = b
  · simp [h]
  · rw [beq_eq_false_iff_ne.mpr h]; simp [h]
theorem cmpi_ne_iff (a b : BitVec 32) : Scalar.cmpi .ne a b = 1#1 ↔ a ≠ b := by
  show BitVec.ofBool (!(a == b)) = 1#1 ↔ _
  by_cases h : a = b
  · simp [h]
  · rw [beq_eq_false_iff_ne.mpr h]; simp [h]

section Places
variable (i : grid0.Coords)

/-- The tile's first row, its number of rows, and of its blocks of rows. -/
def r0 : ℕ := 3136 * (16 * (i 0).val + (i 1).val)
def nR : ℕ := min 3136 (100000 - r0 i)
def nB : ℕ := nR i / 32

theorem r0_le : r0 i ≤ 97216 := by
  have h0 : (i 0).val < 2 := (i 0).isLt
  have h1 : (i 1).val < 16 := (i 1).isLt
  unfold r0; omega

theorem nR_eq : nR i = 32 * nB i ∧ 87 ≤ nB i ∧ nB i ≤ 98 ∧ r0 i + nR i ≤ 100000 := by
  have h0 : (i 0).val < 2 := (i 0).isLt
  have h1 : (i 1).val < 16 := (i 1).isLt
  have := r0_le i
  unfold nB nR r0 at *
  refine ⟨?_, ?_, ?_, ?_⟩ <;> omega

theorem off1_eq (t1 : Fin k0_t1_loop.trips) : k0_off1 i t1 0 = 34 * (i 1).val + t1.val ∧ k0_off1 i t1 1 = 0 := by
  rw [mk_eta i]
  revert t1
  generalize i 0 = c; generalize i 1 = s
  revert c s
  decide +kernel
theorem off2_eq : k0_off2 i 0 = min (r0 i) 96864 := by
  rw [mk_eta i]; generalize i 0 = c; generalize i 1 = s
  revert c s; decide +kernel
theorem off3_eq : k0_off3 i 0 = r0 i - 16 := by
  rw [mk_eta i]; generalize i 0 = c; generalize i 1 = s
  revert c s; decide +kernel
theorem off4_eq : k0_off4 i 0 = r0 i - min (r0 i) 96864 := by
  rw [mk_eta i]; generalize i 0 = c; generalize i 1 = s
  revert c s; decide +kernel
theorem off5_eq : k0_off5 i 0 = r0 i - min (r0 i) 96864 + nR i - 16 := by
  rw [mk_eta i]; generalize i 0 = c; generalize i 1 = s
  revert c s; decide +kernel
theorem off6_eq : k0_off6 i 0 = 16 * (i 1).val := by
  rw [mk_eta i]; generalize i 0 = c; generalize i 1 = s
  revert c s; decide +kernel
theorem off7_eq (p : Fin 2) : (k0_off7 i (BitVec.ofNat 32 p.val) 0 = r0 i + 32 * min p.val (nB i - 1) ∧ k0_off7 i (BitVec.ofNat 32 p.val) 1 = 0)
    ∧ (k0_off8 i (BitVec.ofNat 32 p.val) 0 = r0 i + 32 * min p.val (nB i - 1) ∧ k0_off8 i (BitVec.ofNat 32 p.val) 1 = 0) := by
  rw [mk_eta i]; generalize i 0 = c; generalize i 1 = s
  revert c s p; decide +kernel
theorem off9_eq (t2 : Fin k0_t2_loop.trips) : (k0_off9 i t2 0 = r0 i + 32 * min (2 * t2.val) (nB i - 1) ∧ k0_off9 i t2 1 = 0)
    ∧ (k0_off10 i t2 0 = r0 i + 32 * min (2 * t2.val) (nB i - 1) ∧ k0_off10 i t2 1 = 0)
    ∧ (k0_off88 i t2 0 = r0 i + 32 * min (2 * t2.val + 1) (nB i - 1) ∧ k0_off88 i t2 1 = 0)
    ∧ (k0_off89 i t2 0 = r0 i + 32 * min (2 * t2.val + 1) (nB i - 1) ∧ k0_off89 i t2 1 = 0) := by
  rw [mk_eta i]; generalize i 0 = c; generalize i 1 = s
  revert c s t2; decide +kernel
theorem off86_eq (t2 : Fin k0_t2_loop.trips) : (k0_off86 i t2 0 = r0 i + 32 * min (2 * t2.val + 2) (nB i - 1) ∧ k0_off86 i t2 1 = 0)
    ∧ (k0_off87 i t2 0 = r0 i + 32 * min (2 * t2.val + 2) (nB i - 1) ∧ k0_off87 i t2 1 = 0)
    ∧ (k0_off165 i t2 0 = r0 i + 32 * min (2 * t2.val + 3) (nB i - 1) ∧ k0_off165 i t2 1 = 0)
    ∧ (k0_off166 i t2 0 = r0 i + 32 * min (2 * t2.val + 3) (nB i - 1) ∧ k0_off166 i t2 1 = 0) := by
  rw [mk_eta i]; generalize i 0 = c; generalize i 1 = s
  revert c s t2; decide +kernel
theorem off11_eq (t2 : Fin k0_t2_loop.trips) (t3 : Fin k0_t3_loop.trips) :
    k0_off11 i t2 t3 0 = r0 i - min (r0 i) 96864 + min (32 * (2 * t2.val) + 16 * t3.val) (nR i - 16)
    ∧ k0_off90 i t2 t3 0 = r0 i - min (r0 i) 96864 + min (32 * (2 * t2.val + 1) + 16 * t3.val) (nR i - 16) := by
  rw [mk_eta i]; generalize i 0 = c; generalize i 1 = s
  revert c s t2 t3; decide +kernel
theorem cond4_iff (t2 : Fin k0_t2_loop.trips) : (k0_cond4 t2 = 1#1 ↔ t2.val + 1 < 49) ∧ (k0_cond8 t2 = 1#1 ↔ t2.val + 1 < 49) := by
  revert t2; decide +kernel
theorem blkNo_iff (p : Fin 2) (t2 : Fin k0_t2_loop.trips) : Scalar.cmpi .slt (blkNo p t2) (nbOf i) = 1#1 ↔ 2 * t2.val + p.val < nB i := by
  rw [mk_eta i]; generalize i 0 = c; generalize i 1 = s
  revert c s t2 p; decide +kernel
theorem off169_eq : (k0_off169 i 0 = 512 * (i 0).val + 32 * (i 1).val ∧ k0_off169 i 1 = 0) ∧ (k0_off170 i 0 = 32 * (i 1).val ∧ k0_off170 i 1 = 0) := by
  rw [mk_eta i]; generalize i 0 = c; generalize i 1 = s
  revert c s; decide +kernel

/-- The row that a run of segment `cur` is written out to. -/
def flushRow (first prev cur : BitVec 32) : ℕ :=
  if cur = first ∧ ownFirst i first prev ≠ 1#1 then 513 + (i 1).val else if cur.toNat < 2147483648 then cur.toNat else 512

theorem ownFirst_iff (first prev : BitVec 32) : ownFirst i first prev = 1#1 ↔ (i 1).val = 0 ∨ prev ≠ first := by
  have h1 : (i 1).val < 16 := (i 1).isLt
  have h0 : BitVec.ofNat 32 (i 1).val = 0#32 ↔ (i 1).val = 0 := by
    constructor
    · intro h; have := congrArg BitVec.toNat h; simp at this; omega
    · intro h; rw [h]
  have ho : ∀ a b : BitVec 1, Scalar.ori a b = 1#1 ↔ a = 1#1 ∨ b = 1#1 := by decide
  unfold ownFirst
  rw [ho, cmpi_eq_iff, cmpi_ne_iff, h0]

theorem sel_pos {α : Type} {c : BitVec 1} {a b : α} (h : c = 1#1) : Scalar.select c a b = a := if_pos h
theorem sel_neg {α : Type} {c : BitVec 1} {a b : α} (h : ¬ c = 1#1) : Scalar.select c a b = b := if_neg h

theorem off12_eq (first prev cur : BitVec 32) : k0_off12 i first prev cur 0 = flushRow i first prev cur ∧ k0_off12 i first prev cur 1 = 0 := by
  refine ⟨?_, rfl⟩
  have h1 : (i 1).val < 16 := (i 1).isLt
  show BitVec.toNat (Scalar.select (Scalar.andi (Scalar.cmpi .eq cur first) (Scalar.xori (ownFirst i first prev) 1#1)) (Scalar.addi 513#32 (BitVec.ofNat 32 (i 1).val))
    (Scalar.select (Scalar.cmpi .slt cur 0#32) 512#32 cur)) = _
  unfold flushRow
  have hx : ∀ b : BitVec 1, (b ≠ 1#1) ↔ Scalar.xori b 1#1 = 1#1 := by decide
  have ha : ∀ a b : BitVec 1, Scalar.andi a b = 1#1 ↔ a = 1#1 ∧ b = 1#1 := by decide
  have hc := cmpi_eq_iff cur first
  by_cases h : cur = first ∧ ownFirst i first prev ≠ 1#1
  · rw [if_pos h]
    rw [sel_pos ((ha _ _).mpr ⟨hc.mpr h.1, (hx _).mp h.2⟩)]
    show (513#32 + BitVec.ofNat 32 (i 1).val).toNat = _
    simp [BitVec.toNat_add]; omega
  · rw [if_neg h]
    rw [sel_neg (fun h' => h ⟨hc.mp ((ha _ _).mp h').1, (hx _).mpr ((ha _ _).mp h').2⟩)]
    have hs : Scalar.cmpi .slt cur 0#32 = 1 ↔ ¬ cur.toNat < 2147483648 := by
      show BitVec.ofBool (cur.slt 0#32) = 1#1 ↔ _
      have hd : ∀ (p : Prop) [Decidable p], BitVec.ofBool (decide p) = 1#1 ↔ p := by
        intro p _
        by_cases hp : p <;> simp [hp]
      rw [BitVec.slt_zero_eq_msb, BitVec.msb_eq_decide, hd]
      show 2147483648 ≤ cur.toNat ↔ _
      omega
    by_cases h' : cur.toNat < 2147483648
    · rw [if_pos h', sel_neg (fun e => hs.mp e h')]
    · rw [if_neg h', sel_pos (hs.mpr h')]; rfl

theorem ext_ne (b : BitVec 1) : Scalar.cmpi .ne (Scalar.extui b : BitVec 32) 0#32 = b := by revert b; decide
theorem cond1_iff (a b : BitVec 32) : k0_cond1 a b = 1#1 ↔ a = b := by
  show Scalar.cmpi .ne (Scalar.extui (Scalar.cmpi .eq a b) : BitVec 32) 0#32 = 1#1 ↔ _
  rw [ext_ne, cmpi_eq_iff]
theorem cond2_iff (c a : BitVec 32) : k0_cond2 c a = 1#1 ↔ a ≠ c := by
  show Scalar.cmpi .ne (Scalar.extui (Scalar.cmpi .ne a c) : BitVec 32) 0#32 = 1#1 ↔ _
  rw [ext_ne, cmpi_ne_iff]
theorem cond3_iff (c a : BitVec 32) : k0_cond3 c a = 1#1 ↔ a ≠ c := cond2_iff c a

end Places

end Cert.KernelIdeal.Sums
-- ==== Proof.Ids.lean ====
module

public import proofs.«01_k».proof.Proof.Words

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-- Segment numbers: below 512, and in order. -/
structure Good (id : ℕ → BitVec 32) : Prop where
  lt : ∀ m, m < 100000 → (id m).toNat < 512
  mono : ∀ m m', m ≤ m' → m' < 100000 → (id m).toNat ≤ (id m').toNat

section Ids
variable (id : ℕ → BitVec 32) (i : grid0.Coords)

/-- The tile's first segment, and the segment before its first row. -/
def first : BitVec 32 := id (r0 i)
def prev : BitVec 32 := id (r0 i - 16 + 15)

/-- The row that a run of a segment is written out to. -/
def dst (v : BitVec 32) : ℕ := flushRow i (first id i) (prev id i) v

/-- The rows of the tile before its row `k`. -/
def pre (k : ℕ) : Finset ℕ := Finset.Ico (r0 i) (r0 i + k)

/-- Those of segment `v`. -/
def seg (k : ℕ) (v : BitVec 32) : Finset ℕ := (pre i k).filter fun m => id m = v

/-- Those whose sum is in row `r` while that of `cur` is not written out. -/
def don (k : ℕ) (cur : BitVec 32) (r : ℕ) : Finset ℕ := (pre i k).filter fun m => dst id i (id m) = r ∧ id m ≠ cur

/-- The current segment: none yet, that of the last row, or past the rows. -/
def curOK (k : ℕ) (cur : BitVec 32) : Prop :=
  (k = 0 ∧ cur = 4294967295#32) ∨ (0 < k ∧ k ≤ nR i ∧ cur = id (r0 i + k - 1)) ∨ (k = nR i ∧ cur = 512#32)

variable {id} (hg : Good id)
include hg

theorem first_lt : (first id i).toNat < 512 := hg.lt _ (by have := r0_le i; omega)

theorem dst_cases {v : BitVec 32} (hv : v.toNat < 512) : dst id i v < 544 ∧ dst id i v ≠ 512 := by
  have h1 : (i 1).val < 16 := (i 1).isLt
  unfold dst flushRow
  split
  · constructor <;> omega
  · rw [if_pos (by omega)]; constructor <;> omega

theorem dst_inj {v w : BitVec 32} (hv : v.toNat < 512) (hw : w.toNat < 512) (h : dst id i v = dst id i w) : v = w := by
  have h1 : (i 1).val < 16 := (i 1).isLt
  have e : ∀ u : BitVec 32, u.toNat < 512 → (u = first id i ∧ ownFirst i (first id i) (prev id i) ≠ 1#1 ∧ dst id i u = 513 + (i 1).val) ∨ dst id i u = u.toNat := by
    intro u hu
    unfold dst flushRow
    by_cases hc : u = first id i ∧ ownFirst i (first id i) (prev id i) ≠ 1#1
    · rw [if_pos hc]; exact .inl ⟨hc.1, hc.2, rfl⟩
    · rw [if_neg hc, if_pos (by omega)]; exact .inr rfl
  rcases e v hv with ⟨a, -, a'⟩ | a <;> rcases e w hw with ⟨b, -, b'⟩ | b
  · rw [a, b]
  · omega
  · omega
  · exact BitVec.eq_of_toNat_eq (by omega)

theorem dst_none : dst id i 4294967295#32 = 512 := by
  have := first_lt i hg
  unfold dst flushRow
  rw [if_neg, if_neg (by decide)]
  rintro ⟨h, -⟩
  rw [← h] at this
  exact absurd this (by decide)

theorem dst_past : dst id i 512#32 = 512 := by
  have := first_lt i hg
  unfold dst flushRow
  rw [if_neg, if_pos (by decide)]
  · rfl
  rintro ⟨h, -⟩
  rw [← h] at this
  exact absurd this (by decide)

theorem pre_lt {k m : ℕ} (hk : k ≤ nR i) (hm : m ∈ pre i k) : m < 100000 := by
  have := (nR_eq i).2.2.2
  have := Finset.mem_Ico.mp hm
  omega

theorem unseen {k : ℕ} {cur : BitVec 32} (hc : curOK id i k cur) (hk : k < nR i) (hne : id (r0 i + k) ≠ cur) :
    ∀ m ∈ pre i k, id m ≠ id (r0 i + k) := by
  intro m hm e
  have hm' := Finset.mem_Ico.mp hm
  have h4 := (nR_eq i).2.2.2
  rcases hc with ⟨h, -⟩ | ⟨h, -, h'⟩ | ⟨h, -⟩
  · omega
  · apply hne
    rw [h']
    apply BitVec.eq_of_toNat_eq
    have a1 := hg.mono m (r0 i + k - 1) (by omega) (by omega)
    have a2 := hg.mono (r0 i + k - 1) (r0 i + k) (by omega) (by omega)
    rw [e] at a1
    omega
  · omega

theorem unseen_past {k : ℕ} (hk : k ≤ nR i) : ∀ m ∈ pre i k, id m ≠ 512#32 := by
  intro m hm e
  have := hg.lt m (pre_lt i hg hk hm)
  rw [e] at this
  exact absurd this (by decide)

theorem don_flush {k : ℕ} (hk : k ≤ nR i) {cur v : BitVec 32} (hv : ∀ m ∈ pre i k, id m ≠ v) {r : ℕ} (hr : r ≠ dst id i cur) :
    don id i k v r = don id i k cur r := by
  unfold don
  apply Finset.filter_congr
  intro m hm
  constructor
  · rintro ⟨h, -⟩; exact ⟨h, fun e => hr (by rw [← h, e])⟩
  · rintro ⟨h, -⟩; exact ⟨h, hv m hm⟩

theorem don_flush_self {k : ℕ} (hk : k ≤ nR i) {cur v : BitVec 32} (hcur : cur.toNat < 512) (hv : ∀ m ∈ pre i k, id m ≠ v) :
    don id i k v (dst id i cur) = seg id i k cur := by
  unfold don seg
  apply Finset.filter_congr
  intro m hm
  constructor
  · rintro ⟨h, -⟩; exact dst_inj i hg (hg.lt m (pre_lt i hg hk hm)) hcur h
  · intro h; exact ⟨by rw [h], hv m hm⟩

omit hg in
theorem don_none {k : ℕ} {cur v : BitVec 32} (hc : ∀ m ∈ pre i k, id m ≠ cur) (hv : ∀ m ∈ pre i k, id m ≠ v) (r : ℕ) :
    don id i k v r = don id i k cur r := by
  unfold don
  apply Finset.filter_congr
  intro m hm
  exact ⟨fun h => ⟨h.1, hc m hm⟩, fun h => ⟨h.1, hv m hm⟩⟩

omit hg in
theorem seg_none {k : ℕ} {v : BitVec 32} (hv : ∀ m ∈ pre i k, id m ≠ v) : seg id i k v = ∅ :=
  Finset.filter_eq_empty_iff.mpr fun m hm => hv m hm

omit hg in
theorem pre_add (k w : ℕ) : pre i (k + w) = pre i k ∪ Finset.Ico (r0 i + k) (r0 i + k + w) := by
  unfold pre
  ext m
  simp only [Finset.mem_union, Finset.mem_Ico]
  omega

omit hg in
theorem seg_add {k w : ℕ} {v : BitVec 32} (h : ∀ j < w, id (r0 i + k + j) = v) :
    seg id i (k + w) v = seg id i k v ∪ Finset.Ico (r0 i + k) (r0 i + k + w) := by
  unfold seg
  rw [pre_add, Finset.filter_union]
  congr 1
  apply Finset.filter_true_of_mem
  intro m hm
  have := Finset.mem_Ico.mp hm
  have e := h (m - (r0 i + k)) (by omega)
  rwa [show r0 i + k + (m - (r0 i + k)) = m by omega] at e

omit hg in
theorem don_add {k w : ℕ} {v : BitVec 32} (h : ∀ j < w, id (r0 i + k + j) = v) (r : ℕ) :
    don id i (k + w) v r = don id i k v r := by
  unfold don
  rw [pre_add, Finset.filter_union]
  refine (congrArg (_ ∪ ·) (Finset.filter_eq_empty_iff.mpr ?_)).trans (Finset.union_empty _)
  rintro m hm ⟨-, h'⟩
  have := Finset.mem_Ico.mp hm
  have e := h (m - (r0 i + k)) (by omega)
  rw [show r0 i + k + (m - (r0 i + k)) = m by omega] at e
  exact h' e

omit hg in
theorem seg_disj (k w : ℕ) (v : BitVec 32) : Disjoint (seg id i k v) (Finset.Ico (r0 i + k) (r0 i + k + w)) := by
  rw [Finset.disjoint_left]
  intro m hm hm'
  have h1 := Finset.mem_Ico.mp (Finset.mem_filter.mp hm).1
  have h2 := Finset.mem_Ico.mp hm'
  omega

end Ids

/-! ## The state of the tile while it sums its rows -/

section State
variable (id : ℕ → BitVec 32) (X : ℕ → Fin 512 → Elt F .f32) (Wt : ℕ → Fin 64 → Elt F .f32) (z : Elt F .f32)
variable (d : Dev nD) (i : grid0.Coords) (sh : PosShare TreeShare) (R : Finset (Fin 544)) (W₀ : Waits sig (HIx 3)) (O : CellTallies nD τ sig (HIx 3))

abbrev aM : Memref sig .scVector .vmem S1x512 .f32 := Memref.whole cc0_scratch7

/-- The first `k` rows summed: those of `cur` in the accumulator row, the others in their rows. -/
def Mid (k : ℕ) (cur : BitVec 32) : SP F :=
  iprop(∃ a : Fin 512 → Elt F .f32, ⌜cur ≠ 512#32 → ∀ c, SumOf z (fun m => term X Wt m c) (seg id i k cur) (a c)⌝ ∗ Acc d i aM a
    ∗ Own d i R (fun r c x => SumOf z (fun m => term X Wt m c) (don id i k cur r.val) x) ∗ Dum d i sh ∗ Owe d i W₀ O)

variable {id X Wt z d i sh R W₀ O} {β : Type} {Q : β → SP F}

theorem wp_flush (κ : ℕ) (hg : Good id) (hR : ∀ m ∈ pre i (nR i), ∃ r ∈ R, r.val = dst id i (id m)) {k : ℕ} {cur v : BitVec 32} (hk : k ≤ nR i)
    (hc : curOK id i k cur) (hv : ∀ m ∈ pre i k, id m ≠ v) (sem : DmaSems sig S_) (off : Fin 2 → ℕ) (h : ∀ a, off a + S1x512.size a ≤ S544x512.size a)
    (h0 : off 0 = dst id i cur) (h1 : off 1 = 0) (P : Prog (TE F i) β) :
    iprop(wmInv EWu κ ∗ Mid id X Wt z d i sh R W₀ O k cur ∗ semVal (th d i, .dma sem.sem) 0 ∗ ((Mid id X Wt z d i sh R W₀ O k v ∗ semVal (th d i, .dma sem.sem) 0) -∗ WP d i P Q))
      ⊢ WP d i (flushP i aM (Memref.isWhole_whole _) shM sem (broadcast S16 z) off h P) Q := by
  unfold flushP Mid
  have hdum : (∀ m ∈ pre i k, id m ≠ cur) → off 0 = 512 → iprop(wmInv EWu κ ∗ Mid id X Wt z d i sh R W₀ O k cur ∗ semVal (th d i, .dma sem.sem) 0 ∗ ((Mid id X Wt z d i sh R W₀ O k v ∗ semVal (th d i, .dma sem.sem) 0) -∗ WP d i P Q))
      ⊢ WP d i (rowOut i aM (Memref.isWhole_whole _) shM sem off h (zeroAcc i aM (broadcast S16 z) P)) Q := by
    intro hn h0
    unfold Mid
    iintro ⟨#Hi, ⟨%a, %ha, Ha, Hr, Hd, Ho⟩, Hs, Hk⟩
    iapply (wp_rowOut_dum κ aM (Memref.isWhole_whole _) sem off h h0 h1 _)
    isplitr; · iexact Hi
    isplitl [Ha]; · iexact Ha
    isplitl [Hd]; · iexact Hd
    isplitl [Hs]; · iexact Hs
    isplitl [Ho]; · iexact Ho
    iintro ⟨Ha, Hd, Hs, Ho⟩
    iapply (wp_zeroAcc aM z P a)
    isplitl [Ha]; · iexact Ha
    iintro Ha
    iapply Hk
    isplitr [Hs]
    · iexists (fun _ => z)
      isplitr
      · ipureintro; intro _ c; rw [seg_none i hv]; exact .zero
      isplitl [Ha]; · iexact Ha
      isplitl [Hr]
      · iapply (Entails.of_eq (congrArg (Own d i R) (funext fun r => funext fun c => funext fun x => congrArg (fun S => SumOf z (fun m => term X Wt m c) S x) (don_none i hn hv r.val).symm))) $$ Hr
      isplitl [Hd]; · iexact Hd
      iexact Ho
    iexact Hs
  rcases hc with ⟨hk0, rfl⟩ | ⟨hk0, -, hcur⟩ | ⟨hkn, rfl⟩
  · refine hdum (fun m hm => ?_) (h0.trans (dst_none i hg))
    have := Finset.mem_Ico.mp hm
    omega
  · have hmem : r0 i + k - 1 ∈ pre i (nR i) := Finset.mem_Ico.mpr ⟨by omega, by omega⟩
    obtain ⟨r, hr, hrv⟩ := hR _ hmem
    have hlt : cur.toNat < 512 := by rw [hcur]; exact hg.lt _ (pre_lt i hg le_rfl hmem)
    have hne : cur ≠ 512#32 := by rintro rfl; exact absurd hlt (by decide)
    rw [← hcur] at hrv
    iintro ⟨#Hi, ⟨%a, %ha, Ha, Hr, Hd, Ho⟩, Hs, Hk⟩
    iapply (wp_rowOut_own aM (Memref.isWhole_whole _) sem off h r (h0.trans hrv.symm) h1 _ (R := R) (G' := fun r c x => SumOf z (fun m => term X Wt m c) (don id i k v r.val) x) (a := a) hr ?_ ?_)
    · intro c
      show SumOf z _ (don id i k v r.val) _
      rw [hrv, don_flush_self i hg hk hlt hv]
      exact ha hne c
    · intro r' hr' hne' c x hx
      show SumOf z _ (don id i k v r'.val) _
      rw [don_flush i hg hk hv (cur := cur)]
      · exact hx
      · intro e; exact hne' (Fin.ext (e.trans hrv.symm))
    isplitl [Ha]; · iexact Ha
    isplitl [Hr]; · iexact Hr
    isplitl [Hs]; · iexact Hs
    isplitl [Ho]; · iexact Ho
    iintro ⟨Ha, Hr, Hs, Ho⟩
    iapply (wp_zeroAcc aM z P a)
    isplitl [Ha]; · iexact Ha
    iintro Ha
    iapply Hk
    isplitr [Hs]
    · iexists (fun _ => z)
      isplitr
      · ipureintro; intro _ c; rw [seg_none i hv]; exact .zero
      isplitl [Ha]; · iexact Ha
      isplitl [Hr]; · iexact Hr
      isplitl [Hd]; · iexact Hd
      iexact Ho
    iexact Hs
  · exact hdum (unseen_past i hg hk) (h0.trans (dst_past i hg))

end State

end Cert.KernelIdeal.Sums
-- ==== Proof.Group.lean ====
module

public import proofs.«01_k».proof.Proof.Ids

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

section Group
variable {id : ℕ → BitVec 32} {X : ℕ → Fin 512 → Elt F .f32} {Wt : ℕ → Fin 64 → Elt F .f32} {z : Elt F .f32}
variable {d : Dev nD} {i : grid0.Coords} {sh : PosShare TreeShare} {R : Finset (Fin 544)} {W₀ : Waits sig (HIx 3)} {O : CellTallies nD τ sig (HIx 3)}
variable {β : Type} {Q : β → SP F}

theorem wp_bd {α : Type} (p : Prog (TE F i) α) (k : α → Prog (TE F i) β) : WP d i p (fun v => WP d i (k v) Q) ⊢ WP d i (p.bind k) Q := by
  show _ ⊢ wp _ _ _ (p >>= k) _
  rw [wp_bind]

theorem wp_rt (v : β) : Q v ⊢ WP d i (.ret v) Q := by
  show _ ⊢ wp _ _ _ _ _
  rw [wp_ret]
  iintro H
  imodintro
  iexact H

/-- The segment numbers of the tile's rows, fetched. -/
abbrev idM : Memref sig .scVector .vmem S3136 .i32 := Memref.whole cc0_scratch2
def Fetched (id : ℕ → BitVec 32) (d : Dev nD) (i : grid0.Coords) : SP F := At (F := F) d i idM fullShare fun y => id (min (r0 i) 96864 + (y 0).val)

theorem row_inb (hg : Good id) {k : ℕ} {cur : BitVec 32} (hc : curOK id i k cur) :
    ∀ a, k0_off12 i (first id i) (prev id i) cur a + S1x512.size a ≤ S544x512.size a := by
  have h4 := (nR_eq i).2.2.2
  have hd : dst id i cur < 544 := by
    rcases hc with ⟨-, rfl⟩ | ⟨h0, h1, rfl⟩ | ⟨-, rfl⟩
    · rw [dst_none i hg]; omega
    · exact (dst_cases i hg (hg.lt _ (by omega))).1
    · rw [dst_past i hg]; omega
  have e := off12_eq i (first id i) (prev id i) cur
  intro a
  fin_cases a
  · show k0_off12 i (first id i) (prev id i) cur 0 + 1 ≤ 544
    rw [e.1]; exact hd
  · show k0_off12 i (first id i) (prev id i) cur 1 + 512 ≤ 512
    rw [e.2]

theorem mid_open {k : ℕ} {cur : BitVec 32} : Mid id X Wt z d i sh R W₀ O k cur
    ⊢ iprop(∃ a : Fin 512 → Elt F .f32, ⌜cur ≠ 512#32 → ∀ c, SumOf z (fun m => term X Wt m c) (seg id i k cur) (a c)⌝ ∗ Acc d i aM a
      ∗ Own d i R (fun r c x => SumOf z (fun m => term X Wt m c) (don id i k cur r.val) x) ∗ Dum d i sh ∗ Owe d i W₀ O) := by
  unfold Mid
  exact .rfl

theorem mid_add {k w : ℕ} {v : BitVec 32} {a s : Fin 512 → Elt F .f32} (hj : ∀ j < w, id (r0 i + k + j) = v)
    (hs : ∀ c, SumOf z (fun m => term X Wt m c) (seg id i k v) (a c) → SumOf z (fun m => term X Wt m c) (seg id i (k + w) v) (s c))
    (ha : v ≠ 512#32 → ∀ c, SumOf z (fun m => term X Wt m c) (seg id i k v) (a c)) :
    iprop(Acc d i aM s ∗ Own d i R (fun r c x => SumOf z (fun m => term X Wt m c) (don id i k v r.val) x) ∗ Dum d i sh ∗ Owe d i W₀ O)
      ⊢ Mid id X Wt z d i sh R W₀ O (k + w) v := by
  unfold Mid
  iintro ⟨Ha, Hr, Hd, Ho⟩
  iexists s
  isplitr
  · ipureintro; exact fun h c => hs c (ha h c)
  isplitl [Ha]; · iexact Ha
  isplitl [Hr]
  · iapply (Entails.of_eq (congrArg (Own d i R) (funext fun r => funext fun c => funext fun x => congrArg (fun S => SumOf z (fun m => term X Wt m c) S x) (don_add i hj r.val).symm))) $$ Hr
  isplitl [Hd]; · iexact Hd
  iexact Ho

theorem wp_rowStep (κ : ℕ) (hg : Good id) (hR : ∀ m ∈ pre i (nR i), ∃ r ∈ R, r.val = dst id i (id m)) {k : ℕ} {cur : BitVec 32} (hk : k < nR i)
    (hc : curOK id i k cur) (sem : DmaSems sig S_) (p : Fin 2) (t3 : Fin k0_t3_loop.trips) (C : BitVec 32 → BitVec 32 → Prop) (dC : ∀ c sid, Decidable (C c sid))
    (hC : ∀ c sid, C c sid → k0_cond3 c sid = 1#1 → ∀ a, (k0_off49 i (first id i) (prev id i) c) a + S1x512.size a ≤ S544x512.size a)
    (hCt : (∀ a, k0_off12 i (first id i) (prev id i) cur a + S1x512.size a ≤ S544x512.size a) → C cur (id (r0 i + k)))
    (r : BitVec 32) (hr : r.toNat < 16) (b0 : ℕ) (hb : b0 + (16 * t3.val + r.toNat) = r0 i + k) {sid : BitVec 32} (hsid : sid = id (r0 i + k)) {Q : BitVec 32 → SP F} :
    iprop(wmInv EWu κ ∗ Slot X Wt d i p b0 ∗ Mid id X Wt z d i sh R W₀ O k cur ∗ semVal (th d i, .dma sem.sem) 0
        ∗ ((Slot X Wt d i p b0 ∗ Mid id X Wt z d i sh R W₀ O (k + 1) (id (r0 i + k)) ∗ semVal (th d i, .dma sem.sem) 0) -∗ Q (id (r0 i + k))))
      ⊢ WP d i (rowStep i xM wM aM (Memref.isWhole_whole _) shM sem (broadcast S16 z) (first id i) (prev id i) p t3 C dC hC sid cur r hr) Q := by
  subst hsid
  unfold rowStep
  iintro ⟨#Hi, Hs, Hm, Hv, Hk⟩
  iapply (wp_assume (defs := defs₀ (F := F)) 𝒱₀ (th d i) none Set.univ (hCt (row_inb hg hc)))
  iapply (wp_bd (F := F))
  have hrest : iprop(Slot X Wt d i p b0 ∗ Mid id X Wt z d i sh R W₀ O k (id (r0 i + k)) ∗ semVal (th d i, .dma sem.sem) 0
        ∗ ((Slot X Wt d i p b0 ∗ Mid id X Wt z d i sh R W₀ O (k + 1) (id (r0 i + k)) ∗ semVal (th d i, .dma sem.sem) 0) -∗ Q (id (r0 i + k))))
      ⊢ WP d i (accumRow i xM wM aM p (rowW t3 r).toNat (rowW_lt' t3 hr) (.ret (id (r0 i + k)))) Q := by
    have hrow : b0 + (rowW t3 r).toNat = r0 i + k := by rw [rowW_lt t3 hr, hb]
    iintro ⟨Hs, Hm, Hv, Hk⟩
    ihave Hm := (mid_open (F := F)) $$ Hm
    icases Hm with ⟨%a, %ha, Ha, Hr, Hd, Ho⟩
    iapply (wp_accumRow aM p (rowW t3 r).toNat (rowW_lt' t3 hr) (.ret (id (r0 i + k))) b0 a)
    isplitl [Hs]; · iexact Hs
    isplitl [Ha]; · iexact Ha
    iintro ⟨Hs, Ha⟩
    iapply (wp_rt (F := F))
    iapply Hk
    isplitl [Hs]; · iexact Hs
    isplitr [Hv]
    · iapply (mid_add (X := X) (Wt := Wt) (z := z) (k := k) (w := 1) (v := id (r0 i + k)) (a := a) (s := fun c => FloatOps.addf (a c) (term X Wt (b0 + (rowW t3 r).toNat) c)) (fun j hj => by rw [show j = 0 by omega]; rfl) (fun c hsc => by
        rw [seg_add i (fun j hj => by rw [show j = 0 by omega]; rfl), hrow]
        have e : seg id i k (id (r0 i + k)) ∪ Finset.Ico (r0 i + k) (r0 i + k + 1) = insert (r0 i + k) (seg id i k (id (r0 i + k))) := by
          ext m
          simp only [Finset.mem_union, Finset.mem_Ico, Finset.mem_insert]
          have : (r0 i + k ≤ m ∧ m < r0 i + k + 1) ↔ m = r0 i + k := by omega
          rw [this, or_comm]
        rw [e]
        refine .add ?_ hsc
        intro hm
        have := Finset.mem_Ico.mp (Finset.mem_filter.mp hm).1
        omega) ha)
      isplitl [Ha]; · iexact Ha
      isplitl [Hr]; · iexact Hr
      isplitl [Hd]; · iexact Hd
      iexact Ho
    iexact Hv
  by_cases h3 : k0_cond3 cur (id (r0 i + k)) = 1#1
  · have hne := (cond3_iff _ _).mp h3
    rw [dif_pos h3]
    iapply (wp_flush κ hg hR hk.le hc (unseen i hg hc hk hne) sem _ _ (off12_eq i _ _ cur).1 (off12_eq i _ _ cur).2 _)
    isplitr; · iexact Hi
    isplitl [Hm]; · iexact Hm
    isplitl [Hv]; · iexact Hv
    iintro ⟨Hm, Hv⟩
    iapply (wp_rt (F := F))
    iapply hrest
    isplitl [Hs]; · iexact Hs
    isplitl [Hm]; · iexact Hm
    isplitl [Hv]; · iexact Hv
    iexact Hk
  · have he : id (r0 i + k) = cur := by by_contra h; exact h3 ((cond3_iff _ _).mpr h)
    rw [dif_neg h3]
    iapply (wp_rt (F := F))
    iapply hrest
    isplitl [Hs]; · iexact Hs
    isplitl [Hm]
    · iapply (Entails.of_eq (congrArg (Mid id X Wt z d i sh R W₀ O k) he.symm)) $$ Hm
    isplitl [Hv]; · iexact Hv
    iexact Hk

/-- Rows `k` of the tile summed, `cur` being the current segment. -/
def StB (id : ℕ → BitVec 32) (X : ℕ → Fin 512 → Elt F .f32) (Wt : ℕ → Fin 64 → Elt F .f32) (z : Elt F .f32) (d : Dev nD) (i : grid0.Coords) (sh : PosShare TreeShare)
    (R : Finset (Fin 544)) (W₀ : Waits sig (HIx 3)) (O : CellTallies nD τ sig (HIx 3)) (k : ℕ) (cur : BitVec 32) : SP F :=
  iprop(⌜curOK id i k cur⌝ ∗ Mid id X Wt z d i sh R W₀ O k cur)

theorem key_le (hg : Good id) {m m' : ℕ} (h : m ≤ m') (h' : m' < 100000) : key (id m) ≤ key (id m') := by
  have a := hg.lt m (by omega)
  have b := hg.lt m' h'
  rw [key_of_lt (by omega), key_of_lt (by omega)]
  have := hg.mono m m' h h'
  omega

theorem wp_grp (κ : ℕ) (hg : Good id) (hR : ∀ m ∈ pre i (nR i), ∃ r ∈ R, r.val = dst id i (id m))
    (su ss : DmaSems sig S_) (p : Fin 2) (t3 : Fin k0_t3_loop.trips)
    (C : BitVec 32 → BitVec 32 → BitVec 32 → Prop) (dC : ∀ c mn mx, Decidable (C c mn mx))
    (hC : ∀ c mn mx, C c mn mx → k0_cond1 mn mx = 1#1 → k0_cond2 c mn = 1#1 → ∀ a, (k0_off12 i (first id i) (prev id i) c) a + S1x512.size a ≤ S544x512.size a)
    (C2 : BitVec 32 → BitVec 32 → BitVec 32 → BitVec 32 → Prop) (dC2 : ∀ mn mx c sid, Decidable (C2 mn mx c sid))
    (hC2 : ∀ mn mx c sid, C2 mn mx c sid → ¬ k0_cond1 mn mx = 1#1 → k0_cond3 c sid = 1#1 → ∀ a, (k0_off49 i (first id i) (prev id i) c) a + S1x512.size a ≤ S544x512.size a)
    (hCt : ∀ c mn mx, (∀ a, k0_off12 i (first id i) (prev id i) c a + S1x512.size a ≤ S544x512.size a) → C c mn mx)
    (hC2t : ∀ mn mx c sid, (∀ a, k0_off12 i (first id i) (prev id i) c a + S1x512.size a ≤ S544x512.size a) → C2 mn mx c sid)
    (og : Fin 1 → ℕ) (hog : ∀ a, og a + S16.size a ≤ S3136.size a) (inR : BitVec 1) (blk : ℕ)
    (ho : og 0 = r0 i - min (r0 i) 96864 + min (32 * blk + 16 * t3.val) (nR i - 16)) (hin : inR = 1#1 ↔ blk < nB i)
    {k k' b0 : ℕ} (hk0 : k = min (32 * blk + 16 * t3.val) (nR i)) (hk0' : k' = min (32 * blk + 16 * t3.val + 16) (nR i)) (hb0 : b0 = r0 i + 32 * min blk (nB i - 1))
    {cur : BitVec 32} {Q : BitVec 32 → SP F} :
    iprop(wmInv EWu κ ∗ Fetched id d i ∗ Slot X Wt d i p b0 ∗ StB id X Wt z d i sh R W₀ O k cur
        ∗ semVal (th d i, .dma su.sem) 0 ∗ semVal (th d i, .dma ss.sem) 0
        ∗ (∀ cur', (Fetched id d i ∗ Slot X Wt d i p b0 ∗ StB id X Wt z d i sh R W₀ O k' cur'
          ∗ semVal (th d i, .dma su.sem) 0 ∗ semVal (th d i, .dma ss.sem) 0) -∗ Q cur'))
      ⊢ WP d i (grp i xM wM idM aM (Memref.isWhole_whole _) shM su ss (broadcast S16 z) (iota .scVector S16 32 [0] iota_S16_d0_w32_scVector) (first id i) (prev id i) p t3
          C dC hC C2 dC2 hC2 og hog inR cur) Q := by
  have h3 : t3.val < 2 := t3.isLt
  obtain ⟨hn32, hn1, hn2, hn3⟩ := nR_eq i
  unfold grp StB Fetched
  iintro ⟨#Hi, Hf, Hs, ⟨%hc, Hm⟩, Hv, Hv', Hk⟩
  iapply (wp_ld idM (Rect.unit (s := S3136) og S16.size hog) (View.loadsAt_vmem h_S16) _)
  isplitl [Hf]; · iexact Hf
  iintro Hf
  generalize hids : (fun x : (Rect.unit (s := S3136) og S16.size hog).shape.Idx => (id (min (r0 i) 96864 + ((Rect.unit (s := S3136) og S16.size hog).emb x 0).val) : Elt F .i32)) = ids
  have hids' : ∀ j : Fin 16, ids (ix1 j) = id (min (r0 i) 96864 + (og 0 + j.val)) := by
    intro j
    rw [← hids]
    show id (min (r0 i) 96864 + (og 0 + 1 * j.val)) = _
    rw [Nat.one_mul]
  iapply (wp_assume (defs := defs₀ (F := F)) 𝒱₀ (th d i) none Set.univ (hCt _ _ _ (row_inb hg hc)))
  by_cases hb : blk < nB i
  · -- rows in range
    have hmin : min blk (nB i - 1) = blk := by omega
    have hkk : k = 32 * blk + 16 * t3.val := by omega
    have hbb : b0 = r0 i + 32 * blk := by omega
    obtain rfl : k' = k + 16 := by omega
    have hlt : k + 16 ≤ nR i := by omega
    have hgid : ∀ j : Fin 16, gidsOf inR ids (ix1 j) = id (r0 i + k + j.val) := by
      intro j
      unfold gidsOf
      rw [sel_pos (hin.mpr hb), hids', ho]
      congr 1
      omega
    have hmn : minOf (gidsOf inR ids) = id (r0 i + k) := by
      rw [minOf_eq _ 0 (fun j => by rw [hgid, hgid]; exact key_le hg (by simp) (by omega)), hgid]; rfl
    have hmx : maxOf (gidsOf inR ids) = id (r0 i + k + 15) := by
      rw [maxOf_eq _ 15 (fun j => by rw [hgid, hgid]; exact key_le hg (by have : (15 : Fin 16).val = 15 := rfl; omega) (by have : (15 : Fin 16).val = 15 := rfl; omega)), hgid]; rfl
    by_cases h1 : k0_cond1 (minOf (gidsOf inR ids)) (maxOf (gidsOf inR ids)) = 1#1
    · have heq : id (r0 i + k) = id (r0 i + k + 15) := by rw [← hmn, ← hmx]; exact (cond1_iff _ _).mp h1
      have hall : ∀ j < 16, id (r0 i + k + j) = id (r0 i + k) := by
        intro j hj
        apply BitVec.eq_of_toNat_eq
        have a1 := hg.mono (r0 i + k) (r0 i + k + j) (by omega) (by omega)
        have a2 := hg.mono (r0 i + k + j) (r0 i + k + 15) (by omega) (by omega)
        rw [← heq] at a2
        omega
      rw [dif_pos h1]
      iapply (wp_bd (F := F))
      have hrest : iprop(At (F := F) d i idM fullShare (fun y => id (min (r0 i) 96864 + (y 0).val)) ∗ Slot X Wt d i p b0 ∗ Mid id X Wt z d i sh R W₀ O k (id (r0 i + k)) ∗ semVal (th d i, .dma su.sem) 0 ∗ semVal (th d i, .dma ss.sem) 0
          ∗ (∀ cur', (At (F := F) d i idM fullShare (fun y => id (min (r0 i) 96864 + (y 0).val)) ∗ Slot X Wt d i p b0 ∗ (⌜curOK id i (k + 16) cur'⌝ ∗ Mid id X Wt z d i sh R W₀ O (k + 16) cur')
            ∗ semVal (th d i, .dma su.sem) 0 ∗ semVal (th d i, .dma ss.sem) 0) -∗ Q cur'))
          ⊢ WP d i (run16 i xM wM aM p t3 (broadcast S16 z) (.ret (minOf (gidsOf inR ids)))) Q := by
        iintro ⟨Hf, Hs, Hm, Hv, Hv', Hk⟩
        ihave Hm := (mid_open (F := F)) $$ Hm
        icases Hm with ⟨%a, %ha, Ha, Hr, Hd, Ho⟩
        iapply (wp_run16 aM p t3 z (.ret (minOf (gidsOf inR ids))) b0 a)
        isplitl [Hs]; · iexact Hs
        isplitl [Ha]; · iexact Ha
        iintro %s %hs ⟨Hs, Ha⟩
        iapply (wp_rt (F := F))
        rw [hmn]
        iapply Hk $$ %(id (r0 i + k))
        isplitl [Hf]; · iexact Hf
        isplitl [Hs]; · iexact Hs
        isplitr [Hv Hv']
        · isplitr
          · ipureintro
            refine .inr (.inl ⟨by omega, hlt, ?_⟩)
            rw [show r0 i + (k + 16) - 1 = r0 i + k + 15 by omega]; exact heq
          iapply (mid_add (X := X) (Wt := Wt) (z := z) (k := k) (w := 16) (v := id (r0 i + k)) (a := a) (s := fun c => FloatOps.addf (a c) (s c)) hall (fun c hsc => by
            rw [seg_add i hall]
            refine .join (seg_disj i k 16 _) hsc ?_
            have := hs c
            rwa [show b0 + 16 * t3.val = r0 i + k by omega] at this) ha)
          isplitl [Ha]; · iexact Ha
          isplitl [Hr]; · iexact Hr
          isplitl [Hd]; · iexact Hd
          iexact Ho
        isplitl [Hv]; · iexact Hv
        iexact Hv'
      by_cases h2 : k0_cond2 cur (minOf (gidsOf inR ids)) = 1#1
      · have hne := (cond2_iff _ _).mp h2
        rw [hmn] at hne
        rw [dif_pos h2]
        iapply (wp_flush κ hg hR (by omega) hc (unseen i hg hc (by omega) hne) su _ _ (off12_eq i _ _ cur).1 (off12_eq i _ _ cur).2 _)
        isplitr; · iexact Hi
        isplitl [Hm]; · iexact Hm
        isplitl [Hv]; · iexact Hv
        iintro ⟨Hm, Hv⟩
        iapply (wp_rt (F := F))
        iapply hrest
        isplitl [Hf]; · iexact Hf
        isplitl [Hs]; · iexact Hs
        isplitl [Hm]; · iexact Hm
        isplitl [Hv]; · iexact Hv
        isplitl [Hv']; · iexact Hv'
        iexact Hk
      · have he : id (r0 i + k) = cur := by
          rw [← hmn]; by_contra h; exact h2 ((cond2_iff _ _).mpr h)
        rw [dif_neg h2]
        iapply (wp_rt (F := F))
        iapply hrest
        isplitl [Hf]; · iexact Hf
        isplitl [Hs]; · iexact Hs
        isplitl [Hm]
        · iapply (Entails.of_eq (congrArg (Mid id X Wt z d i sh R W₀ O k) he.symm)) $$ Hm
        isplitl [Hv]; · iexact Hv
        isplitl [Hv']; · iexact Hv'
        iexact Hk
    · rw [dif_neg h1]
      iapply (Scf.wp_for (M := MM F) frame (wpE (defs₀ (F := F)) 𝒱₀ (th d i) none) Set.univ k0_t4_loop.lb k0_t4_loop.ub k0_t4_loop.st k0_t4_ok cur _
        (fun t c => iprop(wmInv EWu κ ∗ Slot X Wt d i p b0 ∗ (⌜curOK id i (k + t) c⌝ ∗ Mid id X Wt z d i sh R W₀ O (k + t) c) ∗ semVal (th d i, .dma ss.sem) 0)) ?_)
      · intro t4 c
        have h16 : t4.val < 16 := t4.isLt
        iintro ⟨#Hi, Hs, ⟨%hc, Hm⟩, Hv⟩
        have hit : (Scf.iv 0#32 1#32 t4.val).toNat = t4.val := by
          show (0#32 + BitVec.ofNat 32 t4.val * 1#32).toNat = _
          simp
          omega
        iapply (wp_rowStep κ hg hR (k := k + t4.val) (by omega) hc ss p t3 _ _ _ (fun h => hC2t _ _ _ _ h) (Scf.iv 0#32 1#32 t4.val) (iv16 t4) b0
          (by rw [hit]; omega) ((sidOf_eq _ t4 (fun j => by rw [hgid]; have := hg.lt (r0 i + k + j.val) (by omega); omega)).trans ((hgid _).trans (congrArg id (Nat.add_assoc _ _ _)))))
        isplitr; · iexact Hi
        isplitl [Hs]; · iexact Hs
        isplitl [Hm]; · iexact Hm
        isplitl [Hv]; · iexact Hv
        iintro ⟨Hs, Hm, Hv⟩
        isplitr; · iexact Hi
        isplitl [Hs]; · iexact Hs
        isplitl [Hm]
        · isplitr
          · ipureintro
            exact .inr (.inl ⟨by omega, by omega, congrArg id (by omega)⟩)
          iexact Hm
        iexact Hv
      isplitl [Hs Hm Hv']
      · isplitr; · iexact Hi
        isplitl [Hs]; · iexact Hs
        isplitl [Hm]
        · isplitr; · ipureintro; exact hc
          iexact Hm
        iexact Hv'
      iintro %c ⟨_, Hs, Hm, Hv'⟩
      iapply Hk $$ %c
      isplitl [Hf]; · iexact Hf
      isplitl [Hs]; · iexact Hs
      isplitl [Hm]; · iexact Hm
      isplitl [Hv]; · iexact Hv
      iexact Hv'
  · -- past the rows
    obtain rfl : k = nR i := by omega
    obtain rfl : k' = nR i := by omega
    have hgid : ∀ j : Fin 16, gidsOf inR ids (ix1 j) = 512#32 := by
      intro j
      unfold gidsOf
      rw [sel_neg (fun h => hb (hin.mp h))]
      rfl
    have hmn : minOf (gidsOf inR ids) = 512#32 := by
      rw [minOf_eq _ 0 (fun j => by rw [hgid, hgid]), hgid]
    have hmx : maxOf (gidsOf inR ids) = 512#32 := by
      rw [maxOf_eq _ 0 (fun j => by rw [hgid, hgid]), hgid]
    have h1 : k0_cond1 (minOf (gidsOf inR ids)) (maxOf (gidsOf inR ids)) = 1#1 := by rw [hmn, hmx]; exact (cond1_iff _ _).mpr rfl
    rw [dif_pos h1]
    iapply (wp_bd (F := F))
    have hrest : iprop(At (F := F) d i idM fullShare (fun y => id (min (r0 i) 96864 + (y 0).val)) ∗ Slot X Wt d i p b0 ∗ Mid id X Wt z d i sh R W₀ O (nR i) 512#32 ∗ semVal (th d i, .dma su.sem) 0 ∗ semVal (th d i, .dma ss.sem) 0
        ∗ (∀ cur', (At (F := F) d i idM fullShare (fun y => id (min (r0 i) 96864 + (y 0).val)) ∗ Slot X Wt d i p b0 ∗ (⌜curOK id i (nR i) cur'⌝ ∗ Mid id X Wt z d i sh R W₀ O (nR i) cur')
          ∗ semVal (th d i, .dma su.sem) 0 ∗ semVal (th d i, .dma ss.sem) 0) -∗ Q cur'))
        ⊢ WP d i (run16 i xM wM aM p t3 (broadcast S16 z) (.ret (minOf (gidsOf inR ids)))) Q := by
      iintro ⟨Hf, Hs, Hm, Hv, Hv', Hk⟩
      ihave Hm := (mid_open (F := F)) $$ Hm
      icases Hm with ⟨%a, %ha, Ha, Hr, Hd, Ho⟩
      iapply (wp_run16 aM p t3 z (.ret (minOf (gidsOf inR ids))) b0 a)
      isplitl [Hs]; · iexact Hs
      isplitl [Ha]; · iexact Ha
      iintro %s %hs ⟨Hs, Ha⟩
      iapply (wp_rt (F := F))
      rw [hmn]
      iapply Hk $$ %(512#32)
      isplitl [Hf]; · iexact Hf
      isplitl [Hs]; · iexact Hs
      isplitr [Hv Hv']
      · isplitr
        · ipureintro
          exact .inr (.inr ⟨rfl, rfl⟩)
        unfold Mid
        iexists (fun c => FloatOps.addf (a c) (s c))
        isplitr
        · ipureintro; exact fun h => absurd rfl h
        isplitl [Ha]; · iexact Ha
        isplitl [Hr]; · iexact Hr
        isplitl [Hd]; · iexact Hd
        iexact Ho
      isplitl [Hv]; · iexact Hv
      iexact Hv'
    by_cases h2 : k0_cond2 cur (minOf (gidsOf inR ids)) = 1#1
    · rw [dif_pos h2]
      iapply (wp_flush κ hg hR le_rfl hc (unseen_past i hg le_rfl) su _ _ (off12_eq i _ _ cur).1 (off12_eq i _ _ cur).2 _)
      isplitr; · iexact Hi
      isplitl [Hm]; · iexact Hm
      isplitl [Hv]; · iexact Hv
      iintro ⟨Hm, Hv⟩
      iapply (wp_rt (F := F))
      iapply hrest
      isplitl [Hf]; · iexact Hf
      isplitl [Hs]; · iexact Hs
      isplitl [Hm]; · iexact Hm
      isplitl [Hv]; · iexact Hv
      isplitl [Hv']; · iexact Hv'
      iexact Hk
    · have he : 512#32 = cur := by
        rw [← hmn]; by_contra h; exact h2 ((cond2_iff _ _).mpr h)
      rw [dif_neg h2]
      iapply (wp_rt (F := F))
      iapply hrest
      isplitl [Hf]; · iexact Hf
      isplitl [Hs]; · iexact Hs
      isplitl [Hm]
      · iapply (Entails.of_eq (congrArg (Mid id X Wt z d i sh R W₀ O (nR i)) he.symm)) $$ Hm
      isplitl [Hv]; · iexact Hv
      isplitl [Hv']; · iexact Hv'
      iexact Hk

end Group

end Cert.KernelIdeal.Sums
-- ==== Proof.Slots.lean ====
module

public import proofs.«01_k».proof.Proof.Words

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

open Idealize.ShloMosaic.Transfers

section Slots
variable {X : ℕ → Fin 512 → Elt F .f32} {Wt : ℕ → Fin 64 → Elt F .f32}
variable {d : Dev nD} {i : grid0.Coords} {W₀ : Waits sig (HIx 3)} {O : CellTallies nD τ sig (HIx 3)}
variable {β : Type} {Q : β → SP F}

/-- A copy asked for, from a part of what is held at a share. -/
theorem wp_start {sp sp' : Space} {s : Shape} {e : EltTy} (src : Memref sig .scVector sp s e) (dst : Memref sig .scVector sp' s e) (sem : DmaSem sig)
    {h1 : src.view.WordExact} {h2 : dst.view.WordExact} {h3 : DmaTarget.Typed (nD := nD) (p := .scVector (cV i) (jV i)) sp (.dma sem) (.here dst)} (hs : 0 < s.numel)
    (k : Prog (TE F i) β) {q : PosShare TreeShare} {fs : Buf (Elt F) (src.view.loc (th d i))} {g : s.Idx → Elt F e} (hg : src.view.read (Elt F) fs = g) :
    iprop((src.view.loc (th d i) ↦[Finset.univ]{q} fs) ∗ (∃ g0, At d i dst fullShare g0) ∗ semVal (th d i, .dma sem) 0
        ∗ (((src.view.loc (th d i) ↦[Finset.univ \ src.view.set]{q} fs)
            ∗ Flight EC (th d i) (.dma sem) none (dst.view.amount (.dma sem)) iprop(At d i dst fullShare g ∗ (src.view.loc (th d i) ↦[src.view.set]{q} fs))) -∗ WP d i k Q))
      ⊢ WP d i (.op (.enqueueDma src (.here dst) (.dma sem) h1 h2 h3) fun _ => k) Q := by
  unfold At
  iintro ⟨Hs, ⟨%g0, %fd, %hfd, Hd⟩, Hv, Hk⟩
  ihave Hs := (pointsTo_split_subset (Finset.subset_univ src.view.set)).1 $$ Hs
  icases Hs with ⟨Hs, Hr⟩
  iapply (wp_dmaLocal EC 𝒱₀ (th d i) none none (dst.view.amount (.dma sem)) rfl (View.amount_pos _ (.dma sem) hs) subset_rfl) $$ [Hs Hd Hv]
  · isplitl [Hs]; · iexact Hs
    isplitl [Hd] <;> iassumption
  iintro Hf
  iapply Hk
  isplitl [Hr]; · iexact Hr
  have hm : iprop((dst.view.loc (th d i) ↦[dst.view.set]{fullShare} (dst.view.write (Elt F) fd (src.view.read (Elt F) fs) Finset.univ)) ∗ (src.view.loc (th d i) ↦[src.view.set]{q} fs))
      ⊢ (iprop((∃ f, ⌜dst.view.read (Elt F) f = g⌝ ∗ (dst.view.loc (th d i) ↦[dst.view.set]{fullShare} f)) ∗ (src.view.loc (th d i) ↦[src.view.set]{q} fs)) : SP F) := by
    iintro ⟨Hd, Hs⟩
    isplitl [Hd]
    · iexists (dst.view.write (Elt F) fd (src.view.read (Elt F) fs) Finset.univ)
      isplitr
      · ipureintro
        funext y
        exact (View.read_write_of_mem (v := dst.view) fd (src.view.read (Elt F) fs) (Finset.mem_univ y)).trans (congrFun hg y)
      iexact Hd
    iexact Hs
  iapply (Flight_mono EC (th d i) hm) $$ Hf

abbrev vM : Memref sig .scVector .hbm S100000x512 .f32 := Memref.whole main_v0_scv
abbrev uM : Memref sig .scVector .hbm S100000x64 .f32 := Memref.whole main_arg1_scv
abbrev vR (off : Fin 2 → ℕ) (h : ∀ a, off a + S32x512.size a ≤ S100000x512.size a) : Memref sig .scVector .hbm S32x512 .f32 :=
  vM.slice (Rect.unit (s := S100000x512) off S32x512.size h) (fun _ => rfl)
abbrev uR (off : Fin 2 → ℕ) (h : ∀ a, off a + S32x64.size a ≤ S100000x64.size a) : Memref sig .scVector .hbm S32x64 .f32 :=
  uM.slice (Rect.unit (s := S100000x64) off S32x64.size h) (fun _ => rfl)
abbrev sX (p : Fin 2) : DmaSem sig := ((cc0_scratch10.slice (Rect.unit (s := S2) ![p.val] S1.size (sem_inb p))).squeeze S_ squeezes_S1_S_).sem
abbrev sW (p : Fin 2) : DmaSem sig := ((cc0_scratch11.slice (Rect.unit (s := S2) ![p.val] S1.size (sem_inb p))).squeeze S_ squeezes_S1_S_).sem

variable (fX : Buf (Elt F) (vM.view.loc (th d i))) (fW : Buf (Elt F) (uM.view.loc (th d i))) (q : PosShare TreeShare)

theorem read_vR (hX : ∀ (n : Fin 100000) c, fX (ix2 n c) = X n.val c) {off : Fin 2 → ℕ} (h : ∀ a, off a + S32x512.size a ≤ S100000x512.size a) {b0 : ℕ} (h0 : off 0 = b0) (h1 : off 1 = 0) :
    (vR off h).view.read (Elt F) fX = fun y => X (b0 + (y 0).val) (y 1) := by
  funext y
  have hy : (y 0).val < 32 := (y 0).isLt
  have hb : off 0 + 32 ≤ 100000 := h 0
  have e : (vR off h).view.emb y = ix2 (⟨b0 + (y 0).val, by omega⟩ : Fin 100000) (y 1 : Fin 512) := by
    funext a
    apply Fin.ext
    show ((Rect.unit (s := S100000x512) off S32x512.size h).emb y a).val = _
    rw [Rect.emb_apply]
    fin_cases a
    · show off 0 + 1 * (y 0).val = b0 + (y 0).val
      omega
    · show off 1 + 1 * (y 1).val = (y 1).val
      omega
  exact (congrArg fX e).trans (hX _ _)

theorem read_uR (hW : ∀ (n : Fin 100000) c, fW (ix2 n c) = Wt n.val c) {off : Fin 2 → ℕ} (h : ∀ a, off a + S32x64.size a ≤ S100000x64.size a) {b0 : ℕ} (h0 : off 0 = b0) (h1 : off 1 = 0) :
    (uR off h).view.read (Elt F) fW = fun y => Wt (b0 + (y 0).val) (y 1) := by
  funext y
  have hy : (y 0).val < 32 := (y 0).isLt
  have hb : off 0 + 32 ≤ 100000 := h 0
  have e : (uR off h).view.emb y = ix2 (⟨b0 + (y 0).val, by omega⟩ : Fin 100000) (y 1 : Fin 64) := by
    funext a
    apply Fin.ext
    show ((Rect.unit (s := S100000x64) off S32x64.size h).emb y a).val = _
    rw [Rect.emb_apply]
    fin_cases a
    · show off 0 + 1 * (y 0).val = b0 + (y 0).val
      omega
    · show off 1 + 1 * (y 1).val = (y 1).val
      omega
  exact (congrArg fW e).trans (hW _ _)

/-- Slot `p` idle: its windows, its counters, and the shares that its copies read at. -/
def Idle (p : Fin 2) : SP F :=
  iprop((vM.view.loc (th d i) ↦[Finset.univ]{q} fX) ∗ (uM.view.loc (th d i) ↦[Finset.univ]{q} fW) ∗ (∃ g, At d i (xs p) fullShare g) ∗ (∃ g, At d i (ws p) fullShare g)
    ∗ semVal (th d i, .dma (sX p)) 0 ∗ semVal (th d i, .dma (sW p)) 0)

/-- Slot `p` asked for the rows from `b0` on. -/
def Pend (X : ℕ → Fin 512 → Elt F .f32) (Wt : ℕ → Fin 64 → Elt F .f32) (p : Fin 2) (b0 : ℕ) : SP F :=
  iprop((∃ S, (vM.view.loc (th d i) ↦[Finset.univ \ S]{q} fX)
      ∗ Flight EC (th d i) (.dma (sX p)) none ((xs p).view.amount (.dma (sX p))) iprop(At d i (xs p) fullShare (fun y => X (b0 + (y 0).val) (y 1)) ∗ (vM.view.loc (th d i) ↦[S]{q} fX)))
    ∗ (∃ S, (uM.view.loc (th d i) ↦[Finset.univ \ S]{q} fW)
      ∗ Flight EC (th d i) (.dma (sW p)) none ((ws p).view.amount (.dma (sW p))) iprop(At d i (ws p) fullShare (fun y => Wt (b0 + (y 0).val) (y 1)) ∗ (uM.view.loc (th d i) ↦[S]{q} fW))))

variable {fX fW q}

theorem wp_issue (hX : ∀ (n : Fin 100000) c, fX (ix2 n c) = X n.val c) (hW : ∀ (n : Fin 100000) c, fW (ix2 n c) = Wt n.val c) (p : Fin 2) {b0 : ℕ}
    (ox : Fin 2 → ℕ) (hx : ∀ a, ox a + S32x512.size a ≤ S100000x512.size a) (hx0 : ox 0 = b0) (hx1 : ox 1 = 0)
    (ow : Fin 2 → ℕ) (hw : ∀ a, ow a + S32x64.size a ≤ S100000x64.size a) (hw0 : ow 0 = b0) (hw1 : ow 1 = 0) (k : Prog (TE F i) β) :
    iprop(Idle fX fW q p ∗ (Pend fX fW q X Wt p b0 -∗ WP d i k Q)) ⊢ WP d i (issue i vM uM xM wM cc0_scratch10 cc0_scratch11 p ox hx ow hw k) Q := by
  unfold Idle Pend issue
  iintro ⟨⟨Hx, Hw, Hbx, Hbw, Hsx, Hsw⟩, Hk⟩
  iapply (wp_start (vR ox hx) (xs p) (sX p) (by decide) _ (q := q) (fs := fX) (read_vR fX hX hx hx0 hx1))
  isplitl [Hx]; · iexact Hx
  isplitl [Hbx]; · iexact Hbx
  isplitl [Hsx]; · iexact Hsx
  iintro Hcx
  iapply (wp_start (uR ow hw) (ws p) (sW p) (by decide) _ (q := q) (fs := fW) (read_uR fW hW hw hw0 hw1))
  isplitl [Hw]; · iexact Hw
  isplitl [Hbw]; · iexact Hbw
  isplitl [Hsw]; · iexact Hsw
  iintro Hcw
  iapply Hk
  isplitl [Hcx]
  · iexists _; iexact Hcx
  iexists _; iexact Hcw

theorem wp_await (p : Fin 2) {b0 : ℕ}
    (ox : Fin 2 → ℕ) (hx : ∀ a, ox a + S32x512.size a ≤ S100000x512.size a)
    (ow : Fin 2 → ℕ) (hw : ∀ a, ow a + S32x64.size a ≤ S100000x64.size a) (k : Prog (TE F i) β) :
    iprop(Pend fX fW q X Wt p b0 ∗ Owe d i W₀ O ∗ ((Slot X Wt d i p b0 ∗ (vM.view.loc (th d i) ↦[Finset.univ]{q} fX) ∗ (uM.view.loc (th d i) ↦[Finset.univ]{q} fW)
        ∗ semVal (th d i, .dma (sX p)) 0 ∗ semVal (th d i, .dma (sW p)) 0 ∗ Owe d i W₀ O) -∗ WP d i k Q))
      ⊢ WP d i (await i vM uM xM wM cc0_scratch10 cc0_scratch11 p ox hx ow hw k) Q := by
  unfold Pend await Slot
  iintro ⟨⟨⟨%S, Hrx, Hfx⟩, ⟨%S', Hrw, Hfw⟩⟩, Ho, Hk⟩
  iapply (wp_wait (vR ox hx) (xs p) (sX p) (xs p) rfl)
  isplitl [Hfx]; · iexact Hfx
  isplitl [Ho]; · iexact Ho
  iintro ⟨⟨Hx, Hvx⟩, Hsx, Ho⟩
  iapply (wp_wait (uR ow hw) (ws p) (sW p) (ws p) rfl)
  isplitl [Hfw]; · iexact Hfw
  isplitl [Ho]; · iexact Ho
  iintro ⟨⟨Hw, Hvw⟩, Hsw, Ho⟩
  iapply Hk
  isplitl [Hx Hw]
  · isplitl [Hx] <;> iassumption
  isplitl [Hrx Hvx]
  · iapply (pointsTo_split_subset (Finset.subset_univ S)).2
    isplitl [Hvx] <;> iassumption
  isplitl [Hrw Hvw]
  · iapply (pointsTo_split_subset (Finset.subset_univ S')).2
    isplitl [Hvw] <;> iassumption
  isplitl [Hsx]; · iexact Hsx
  isplitl [Hsw]; · iexact Hsw
  iexact Ho

theorem slot_idle (p : Fin 2) {b0 : ℕ} :
    iprop(Slot X Wt d i p b0 ∗ (vM.view.loc (th d i) ↦[Finset.univ]{q} fX) ∗ (uM.view.loc (th d i) ↦[Finset.univ]{q} fW)
        ∗ semVal (th d i, .dma (sX p)) 0 ∗ semVal (th d i, .dma (sW p)) 0) ⊢ Idle fX fW q p := by
  unfold Slot Idle
  iintro ⟨⟨Hx, Hw⟩, Hvx, Hvw, Hsx, Hsw⟩
  isplitl [Hvx]; · iexact Hvx
  isplitl [Hvw]; · iexact Hvw
  isplitl [Hx]; · iexists _; iexact Hx
  isplitl [Hw]; · iexists _; iexact Hw
  isplitl [Hsx] <;> iassumption

end Slots

end Cert.KernelIdeal.Sums
-- ==== Proof.Supers.lean ====
module

public import proofs.«01_k».proof.Proof.Group
public import proofs.«01_k».proof.Proof.Slots

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

open Idealize.ShloMosaic.Transfers

section Supers
variable {id : ℕ → BitVec 32} {X : ℕ → Fin 512 → Elt F .f32} {Wt : ℕ → Fin 64 → Elt F .f32} {z : Elt F .f32}
variable {d : Dev nD} {i : grid0.Coords} {sh : PosShare TreeShare} {R : Finset (Fin 544)} {W₀ : Waits sig (HIx 3)} {O : CellTallies nD τ sig (HIx 3)}
variable {fX : Buf (Elt F) (vM.view.loc (th d i))} {fW : Buf (Elt F) (uM.view.loc (th d i))} {q : PosShare TreeShare}

theorem stB_open {k : ℕ} {cur : BitVec 32} : StB id X Wt z d i sh R W₀ O k cur ⊢ iprop(⌜curOK id i k cur⌝ ∗ Mid id X Wt z d i sh R W₀ O k cur) := .rfl

theorem mid_owe {k : ℕ} {cur : BitVec 32} : Mid id X Wt z d i sh R W₀ O k cur ⊢ iprop(Owe d i W₀ O ∗ (Owe d i W₀ O -∗ Mid id X Wt z d i sh R W₀ O k cur)) := by
  unfold Mid
  iintro ⟨%a, %ha, Ha, Hr, Hd, Ho⟩
  isplitl [Ho]; · iexact Ho
  iintro Ho
  iexists a
  isplitr; · ipureintro; exact ha
  isplitl [Ha]; · iexact Ha
  isplitl [Hr]; · iexact Hr
  isplitl [Hd]; · iexact Hd
  iexact Ho

/-- The first row of the block asked for as number `blk`. -/
def bAt (i : grid0.Coords) (blk : ℕ) : ℕ := r0 i + 32 * min blk (nB i - 1)

theorem wp_slotStep (κ : ℕ) (hg : Good id) (hR : ∀ m ∈ pre i (nR i), ∃ r ∈ R, r.val = dst id i (id m))
    (hX : ∀ (n : Fin 100000) c, fX (ix2 n c) = X n.val c) (hW : ∀ (n : Fin 100000) c, fW (ix2 n c) = Wt n.val c)
    (su ss : DmaSems sig S_) (p : Fin 2)
    (C : BitVec 32 → BitVec 32 → BitVec 32 → Prop) (dC : ∀ c mn mx, Decidable (C c mn mx))
    (hC : ∀ c mn mx, C c mn mx → k0_cond1 mn mx = 1#1 → k0_cond2 c mn = 1#1 → ∀ a, (k0_off12 i (first id i) (prev id i) c) a + S1x512.size a ≤ S544x512.size a)
    (C2 : BitVec 32 → BitVec 32 → BitVec 32 → BitVec 32 → Prop) (dC2 : ∀ mn mx c sid, Decidable (C2 mn mx c sid))
    (hC2 : ∀ mn mx c sid, C2 mn mx c sid → ¬ k0_cond1 mn mx = 1#1 → k0_cond3 c sid = 1#1 → ∀ a, (k0_off49 i (first id i) (prev id i) c) a + S1x512.size a ≤ S544x512.size a)
    (hCt : ∀ c mn mx, (∀ a, k0_off12 i (first id i) (prev id i) c a + S1x512.size a ≤ S544x512.size a) → C c mn mx)
    (hC2t : ∀ mn mx c sid, (∀ a, k0_off12 i (first id i) (prev id i) c a + S1x512.size a ≤ S544x512.size a) → C2 mn mx c sid)
    (t2 : Fin k0_t2_loop.trips)
    (ox : Fin 2 → ℕ) (hx : ∀ a, ox a + S32x512.size a ≤ S100000x512.size a)
    (ow : Fin 2 → ℕ) (hw : ∀ a, ow a + S32x64.size a ≤ S100000x64.size a)
    (og : Fin k0_t3_loop.trips → Fin 1 → ℕ) (hog : ∀ t3, ∀ a, og t3 a + S16.size a ≤ S3136.size a)
    (ho : ∀ t3, og t3 0 = r0 i - min (r0 i) 96864 + min (32 * (2 * t2.val + p.val) + 16 * t3.val) (nR i - 16))
    (cn : BitVec 1)
    (ox' : Fin 2 → ℕ) (hx' : cn = 1#1 → ∀ a, ox' a + S32x512.size a ≤ S100000x512.size a) (hx0 : ox' 0 = bAt i (2 * t2.val + p.val + 2)) (hx1 : ox' 1 = 0)
    (ow' : Fin 2 → ℕ) (hw' : cn = 1#1 → ∀ a, ow' a + S32x64.size a ≤ S100000x64.size a) (hw0 : ow' 0 = bAt i (2 * t2.val + p.val + 2)) (hw1 : ow' 1 = 0)
    {cur : BitVec 32} {Q : BitVec 32 → SP F} :
    iprop(wmInv EWu κ ∗ Fetched id d i ∗ Pend fX fW q X Wt p (bAt i (2 * t2.val + p.val)) ∗ StB id X Wt z d i sh R W₀ O (min (32 * (2 * t2.val + p.val)) (nR i)) cur
        ∗ semVal (th d i, .dma su.sem) 0 ∗ semVal (th d i, .dma ss.sem) 0
        ∗ (∀ cur', (Fetched id d i ∗ (if cn = 1#1 then Pend fX fW q X Wt p (bAt i (2 * t2.val + p.val + 2)) else Idle fX fW q p)
          ∗ StB id X Wt z d i sh R W₀ O (min (32 * (2 * t2.val + p.val + 1)) (nR i)) cur'
          ∗ semVal (th d i, .dma su.sem) 0 ∗ semVal (th d i, .dma ss.sem) 0) -∗ Q cur'))
      ⊢ WP d i (slotStep i vM uM xM wM idM aM (Memref.isWhole_whole _) shM cc0_scratch10 cc0_scratch11 su ss (broadcast S16 z) (iota .scVector S16 32 [0] iota_S16_d0_w32_scVector)
          (first id i) (prev id i) (nbOf i) p C dC hC C2 dC2 hC2 t2 ox hx ow hw og hog cn ox' hx' ow' hw' cur) Q := by
  unfold slotStep
  iintro ⟨#Hi, Hf, Hp, Hst, Hu, Hs, Hk⟩
  ihave Hst := (stB_open (F := F)) $$ Hst
  icases Hst with ⟨%hc, Hm⟩
  ihave Hm := (mid_owe (F := F)) $$ Hm
  icases Hm with ⟨Ho, Hm⟩
  iapply (wp_await p ox hx ow hw _)
  isplitl [Hp]; · iexact Hp
  isplitl [Ho]; · iexact Ho
  iintro ⟨Hsl, Hvx, Hvw, Hsx, Hsw, Ho⟩
  ihave Hm := Hm $$ Ho
  iapply (wp_bd (F := F))
  iapply (Scf.wp_for (M := MM F) frame (wpE (defs₀ (F := F)) 𝒱₀ (th d i) none) Set.univ k0_t3_loop.lb k0_t3_loop.ub k0_t3_loop.st k0_t3_ok cur _
    (fun t c => iprop(wmInv EWu κ ∗ Fetched id d i ∗ Slot X Wt d i p (bAt i (2 * t2.val + p.val)) ∗ StB id X Wt z d i sh R W₀ O (min (32 * (2 * t2.val + p.val) + 16 * t) (nR i)) c
      ∗ semVal (th d i, .dma su.sem) 0 ∗ semVal (th d i, .dma ss.sem) 0)) ?_)
  · intro t3 c
    iintro ⟨#Hi, Hf, Hsl, Hst, Hu, Hs⟩
    iapply (wp_grp κ hg hR su ss p t3 C dC hC C2 dC2 hC2 hCt hC2t (og t3) (hog t3) (Scalar.cmpi .slt (blkNo p t2) (nbOf i)) (2 * t2.val + p.val) (ho t3) (blkNo_iff i p t2)
      rfl rfl rfl)
    isplitr; · iexact Hi
    isplitl [Hf]; · iexact Hf
    isplitl [Hsl]; · iexact Hsl
    isplitl [Hst]; · iexact Hst
    isplitl [Hu]; · iexact Hu
    isplitl [Hs]; · iexact Hs
    iintro %c' ⟨Hf, Hsl, Hst, Hu, Hs⟩
    isplitr; · iexact Hi
    isplitl [Hf]; · iexact Hf
    isplitl [Hsl]; · iexact Hsl
    isplitl [Hst]; · iexact Hst
    isplitl [Hu]; · iexact Hu
    iexact Hs
  isplitl [Hf Hsl Hm Hu Hs]
  · isplitr; · iexact Hi
    isplitl [Hf]; · iexact Hf
    isplitl [Hsl]; · iexact Hsl
    isplitl [Hm]
    · unfold StB
      isplitr; · ipureintro; exact hc
      iexact Hm
    isplitl [Hu]; · iexact Hu
    iexact Hs
  iintro %c ⟨_, Hf, Hsl, Hst, Hu, Hs⟩
  have ht : Scf.trips k0_t3_loop.lb k0_t3_loop.ub k0_t3_loop.st = 2 := by decide
  rw [ht, show 32 * (2 * t2.val + p.val) + 16 * 2 = 32 * (2 * t2.val + p.val + 1) by omega]
  ihave Hid := (slot_idle (F := F) (X := X) (Wt := Wt) (d := d) (i := i) (fX := fX) (fW := fW) (q := q) p (b0 := bAt i (2 * t2.val + p.val))) $$ [Hsl Hvx Hvw Hsx Hsw]
  · isplitl [Hsl]; · iexact Hsl
    isplitl [Hvx]; · iexact Hvx
    isplitl [Hvw]; · iexact Hvw
    isplitl [Hsx] <;> iassumption
  iapply (wp_bd (F := F))
  by_cases hn : cn = 1#1
  · rw [dif_pos hn, if_pos hn]
    iapply (wp_issue hX hW p ox' (hx' hn) hx0 hx1 ow' (hw' hn) hw0 hw1 _)
    isplitl [Hid]; · iexact Hid
    iintro Hp
    iapply (wp_rt (F := F))
    iapply (wp_rt (F := F))
    iapply Hk $$ %c
    isplitl [Hf]; · iexact Hf
    isplitl [Hp]; · iexact Hp
    isplitl [Hst]; · iexact Hst
    isplitl [Hu]; · iexact Hu
    iexact Hs
  · rw [dif_neg hn, if_neg hn]
    iapply (wp_rt (F := F))
    iapply (wp_rt (F := F))
    iapply Hk $$ %c
    isplitl [Hf]; · iexact Hf
    isplitl [Hid]; · iexact Hid
    isplitl [Hst]; · iexact Hst
    isplitl [Hu]; · iexact Hu
    iexact Hs

/-- Slot `p` before super-step `t`. -/
def SlotAt (X : ℕ → Fin 512 → Elt F .f32) (Wt : ℕ → Fin 64 → Elt F .f32) (fX : Buf (Elt F) (vM.view.loc (th d i))) (fW : Buf (Elt F) (uM.view.loc (th d i))) (q : PosShare TreeShare) (t : ℕ) (p : Fin 2) : SP F :=
  if t < 49 then Pend fX fW q X Wt p (bAt i (2 * t + p.val)) else Idle fX fW q p

theorem slotAt_lt {t : ℕ} (h : t < 49) (p : Fin 2) : SlotAt (F := F) X Wt fX fW q t p = Pend fX fW q X Wt p (bAt i (2 * t + p.val)) := if_pos h

theorem slotAt_49 (p : Fin 2) : SlotAt (F := F) X Wt fX fW q 49 p = Idle fX fW q p := if_neg (by decide)

theorem slotAt_succ {t : ℕ} {cn : BitVec 1} (h : cn = 1#1 ↔ t + 1 < 49) (p : Fin 2) :
    (if cn = 1#1 then Pend fX fW q X Wt p (bAt i (2 * t + p.val + 2)) else Idle fX fW q p) = SlotAt (F := F) X Wt fX fW q (t + 1) p := by
  unfold SlotAt
  by_cases hc : cn = 1#1
  · rw [if_pos hc, if_pos (h.mp hc), show 2 * (t + 1) + p.val = 2 * t + p.val + 2 by omega]
  · rw [if_neg hc, if_neg (fun h' => hc (h.mpr h'))]

theorem wp_supers (κ : ℕ) (hg : Good id) (hR : ∀ m ∈ pre i (nR i), ∃ r ∈ R, r.val = dst id i (id m))
    (hX : ∀ (n : Fin 100000) c, fX (ix2 n c) = X n.val c) (hW : ∀ (n : Fin 100000) c, fW (ix2 n c) = Wt n.val c)
    {q' : PosShare TreeShare} (s4 s5 s6 s7 : DmaSems sig S_) {Q : BitVec 32 → SP F} :
    iprop(wmInv EWu κ ∗ Fetched id d i ∗ SlotAt X Wt fX fW q 0 0 ∗ SlotAt X Wt fX fW q' 0 1 ∗ StB id X Wt z d i sh R W₀ O 0 4294967295#32
        ∗ semVal (th d i, .dma s4.sem) 0 ∗ semVal (th d i, .dma s5.sem) 0 ∗ semVal (th d i, .dma s6.sem) 0 ∗ semVal (th d i, .dma s7.sem) 0
        ∗ (∀ cur', (Fetched id d i ∗ Idle fX fW q 0 ∗ Idle fX fW q' 1 ∗ StB id X Wt z d i sh R W₀ O (nR i) cur'
          ∗ semVal (th d i, .dma s4.sem) 0 ∗ semVal (th d i, .dma s5.sem) 0 ∗ semVal (th d i, .dma s6.sem) 0 ∗ semVal (th d i, .dma s7.sem) 0) -∗ Q cur'))
      ⊢ WP d i (supers i vM uM xM wM idM aM (Memref.isWhole_whole _) shM cc0_scratch10 cc0_scratch11 s4 s5 s6 s7 (broadcast S16 z) (iota .scVector S16 32 [0] iota_S16_d0_w32_scVector)
          (first id i) (prev id i) (nbOf i)) Q := by
  obtain ⟨hn32, hn1, hn2, hn3⟩ := nR_eq i
  unfold supers
  iintro ⟨#Hi, Hf, Hp0, Hp1, Hst, H4, H5, H6, H7, Hk⟩
  iapply (Scf.wp_for (M := MM F) frame (wpE (defs₀ (F := F)) 𝒱₀ (th d i) none) Set.univ k0_t2_loop.lb k0_t2_loop.ub k0_t2_loop.st k0_t2_ok 4294967295#32 _
    (fun t c => iprop(wmInv EWu κ ∗ Fetched id d i ∗ SlotAt X Wt fX fW q t 0 ∗ SlotAt X Wt fX fW q' t 1 ∗ StB id X Wt z d i sh R W₀ O (min (32 * (2 * t)) (nR i)) c
      ∗ semVal (th d i, .dma s4.sem) 0 ∗ semVal (th d i, .dma s5.sem) 0 ∗ semVal (th d i, .dma s6.sem) 0 ∗ semVal (th d i, .dma s7.sem) 0)) ?_)
  · intro t2 c
    have h49 : t2.val < 49 := t2.isLt
    obtain ⟨⟨a1, a1'⟩, ⟨a2, a2'⟩, ⟨a3, a3'⟩, ⟨a4, a4'⟩⟩ := off86_eq i t2
    rw [slotAt_lt h49, slotAt_lt h49]
    iintro ⟨#Hi, Hf, Hp0, Hp1, Hst, H4, H5, H6, H7⟩
    iapply (wp_bd (F := F))
    iapply (wp_slotStep κ hg hR hX hW s4 s5 0 (k0_chk1 i (first id i) (prev id i)) (k0_chk1.dec i (first id i) (prev id i)) (k0_off12_inb i (first id i) (prev id i))
      (k0_chk2 i (first id i) (prev id i)) (k0_chk2.dec i (first id i) (prev id i)) (fun mn mx c sid => k0_off49_inb i (first id i) (prev id i) mn mx c sid)
      (fun c mn mx h _ _ => h) (fun mn mx c sid h _ _ => h) t2 (k0_off9 i t2) (k0_off9_inb i t2) (k0_off10 i t2) (k0_off10_inb i t2) (k0_off11 i t2) (k0_off11_inb i t2)
      (fun t3 => (off11_eq i t2 t3).1) (k0_cond4 t2) (k0_off86 i t2) (k0_off86_inb i t2) a1 a1' (k0_off87 i t2) (k0_off87_inb i t2) a2 a2')
    isplitr; · iexact Hi
    isplitl [Hf]; · iexact Hf
    isplitl [Hp0]; · iexact Hp0
    isplitl [Hst]; · iexact Hst
    isplitl [H4]; · iexact H4
    isplitl [H5]; · iexact H5
    rw [slotAt_succ (cond4_iff t2).1]
    iintro %c' ⟨Hf, Hp0, Hst, H4, H5⟩
    iapply (wp_slotStep κ hg hR hX hW s6 s7 1 (k0_chk3 i (first id i) (prev id i)) (k0_chk3.dec i (first id i) (prev id i)) (fun c mn mx h h1 h2 => k0_off91_inb i (first id i) (prev id i) c mn mx h h1 h2)
      (k0_chk4 i (first id i) (prev id i)) (k0_chk4.dec i (first id i) (prev id i)) (fun mn mx c sid h h1 h3 => k0_off128_inb i (first id i) (prev id i) mn mx c sid h h1 h3)
      (fun c mn mx h _ _ => h) (fun mn mx c sid h _ _ => h) t2 (k0_off88 i t2) (k0_off88_inb i t2) (k0_off89 i t2) (k0_off89_inb i t2) (k0_off90 i t2) (k0_off90_inb i t2)
      (fun t3 => (off11_eq i t2 t3).2) (k0_cond8 t2) (k0_off165 i t2) (k0_off165_inb i t2) a3 a3' (k0_off166 i t2) (k0_off166_inb i t2) a4 a4')
    isplitr; · iexact Hi
    isplitl [Hf]; · iexact Hf
    isplitl [Hp1]; · iexact Hp1
    isplitl [Hst]; · iexact Hst
    isplitl [H6]; · iexact H6
    isplitl [H7]; · iexact H7
    rw [slotAt_succ (cond4_iff t2).2]
    iintro %c'' ⟨Hf, Hp1, Hst, H6, H7⟩
    isplitr; · iexact Hi
    isplitl [Hf]; · iexact Hf
    isplitl [Hp0]; · iexact Hp0
    isplitl [Hp1]; · iexact Hp1
    isplitl [Hst]; · iexact Hst
    isplitl [H4]; · iexact H4
    isplitl [H5]; · iexact H5
    isplitl [H6]; · iexact H6
    iexact H7
  isplitl [Hf Hp0 Hp1 Hst H4 H5 H6 H7]
  · isplitr; · iexact Hi
    isplitl [Hf]; · iexact Hf
    isplitl [Hp0]; · iexact Hp0
    isplitl [Hp1]; · iexact Hp1
    isplitl [Hst]
    · iapply (Entails.of_eq (congrArg (fun k => StB id X Wt z d i sh R W₀ O k 4294967295#32) (show 0 = min (32 * (2 * 0)) (nR i) by omega))) $$ Hst
    isplitl [H4]; · iexact H4
    isplitl [H5]; · iexact H5
    isplitl [H6]; · iexact H6
    iexact H7
  have ht : Scf.trips k0_t2_loop.lb k0_t2_loop.ub k0_t2_loop.st = 49 := by decide
  rw [ht, slotAt_49, slotAt_49, show min (32 * (2 * 49)) (nR i) = nR i by omega]
  iintro %c ⟨_, Hf, Hp0, Hp1, Hst, H4, H5, H6, H7⟩
  iapply Hk $$ %c
  isplitl [Hf]; · iexact Hf
  isplitl [Hp0]; · iexact Hp0
  isplitl [Hp1]; · iexact Hp1
  isplitl [Hst]; · iexact Hst
  isplitl [H4]; · iexact H4
  isplitl [H5]; · iexact H5
  isplitl [H6]; · iexact H6
  iexact H7

/-- The rows summed: each segment's sum in its row. -/
def Summed (id : ℕ → BitVec 32) (X : ℕ → Fin 512 → Elt F .f32) (Wt : ℕ → Fin 64 → Elt F .f32) (z : Elt F .f32) (i : grid0.Coords) : Fin 544 → Fin 512 → Elt F .f32 → Prop :=
  fun r c x => SumOf z (fun m => term X Wt m c) ((pre i (nR i)).filter fun m => dst id i (id m) = r.val) x

theorem wp_phaseB (κ : ℕ) (hg : Good id) (hR : ∀ m ∈ pre i (nR i), ∃ r ∈ R, r.val = dst id i (id m))
    (hX : ∀ (n : Fin 100000) c, fX (ix2 n c) = X n.val c) (hW : ∀ (n : Fin 100000) c, fW (ix2 n c) = Wt n.val c)
    {q' : PosShare TreeShare} {Q : PUnit → SP F} :
    iprop(wmInv EWu κ ∗ Fetched id d i ∗ Idle fX fW q 0 ∗ Idle fX fW q' 1 ∗ Acc d i aM (fun _ => z) ∗ Own d i R (fun r c x => x = z) ∗ Dum d i sh ∗ Owe d i W₀ O
        ∗ semVal (th d i, .dma cc0_scoped4.sem) 0 ∗ semVal (th d i, .dma cc0_scoped5.sem) 0 ∗ semVal (th d i, .dma cc0_scoped6.sem) 0 ∗ semVal (th d i, .dma cc0_scoped7.sem) 0 ∗ semVal (th d i, .dma cc0_scoped8.sem) 0
        ∗ ((Fetched id d i ∗ Idle fX fW q 0 ∗ Idle fX fW q' 1 ∗ (∃ a, Acc d i aM a) ∗ Own d i R (Summed id X Wt z i) ∗ Dum d i sh ∗ Owe d i W₀ O
          ∗ semVal (th d i, .dma cc0_scoped4.sem) 0 ∗ semVal (th d i, .dma cc0_scoped5.sem) 0 ∗ semVal (th d i, .dma cc0_scoped6.sem) 0 ∗ semVal (th d i, .dma cc0_scoped7.sem) 0 ∗ semVal (th d i, .dma cc0_scoped8.sem) 0) -∗ Q ⟨⟩))
      ⊢ WP d i (phaseB i vM uM (Memref.whole main_arg2_scv) (Memref.whole main_v1_scv) xM wM idM (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) aM (Memref.isWhole_whole _) shM
          (Memref.whole cc0_scratch9) (Memref.isWhole_whole _) cc0_scratch10 cc0_scratch11 cc0_scoped4 cc0_scoped5 cc0_scoped6 cc0_scoped7 cc0_scoped8 (broadcast S16 z)
          (iota .scVector S16 32 [0] iota_S16_d0_w32_scVector) (first id i) (prev id i)) Q := by
  obtain ⟨⟨a0, a0'⟩, ⟨b0, b0'⟩⟩ := off7_eq i 0
  obtain ⟨⟨a1, a1'⟩, ⟨b1, b1'⟩⟩ := off7_eq i 1
  unfold phaseB
  iintro ⟨#Hi, Hf, Hp0, Hp1, Ha, Hr, Hd, Ho, H4, H5, H6, H7, H8, Hk⟩
  iapply (wp_issue hX hW 0 (b0 := bAt i (2 * 0 + (0 : Fin 2).val)) (k0_off7 i 0#32) (k0_off7_inb i 0) a0 a0' (k0_off8 i 0#32) (k0_off8_inb i 0) b0 b0' _)
  isplitl [Hp0]; · iexact Hp0
  iintro Hp0
  iapply (wp_issue hX hW 1 (b0 := bAt i (2 * 0 + (1 : Fin 2).val)) (k0_off7 i 1#32) (k0_off7_inb i 1) a1 a1' (k0_off8 i 1#32) (k0_off8_inb i 1) b1 b1' _)
  isplitl [Hp1]; · iexact Hp1
  iintro Hp1
  iapply (wp_bd (F := F))
  iapply (wp_supers κ hg hR hX hW (q := q) (q' := q') cc0_scoped4 cc0_scoped5 cc0_scoped6 cc0_scoped7)
  isplitr; · iexact Hi
  isplitl [Hf]; · iexact Hf
  rw [slotAt_lt (by decide), slotAt_lt (by decide)]
  isplitl [Hp0]; · iexact Hp0
  isplitl [Hp1]; · iexact Hp1
  isplitl [Ha Hr Hd Ho]
  · unfold StB Mid
    isplitr; · ipureintro; exact .inl ⟨rfl, rfl⟩
    iexists (fun _ => z)
    have hpre : pre i 0 = ∅ := by unfold pre; simp
    isplitr
    · ipureintro
      intro _ c
      unfold seg
      rw [hpre]
      exact .zero
    isplitl [Ha]; · iexact Ha
    isplitl [Hr]
    · unfold Own
      icases Hr with ⟨%f, %hf, Hr⟩
      iexists f
      isplitr
      · ipureintro
        intro r hr c
        rw [hf r hr c]
        unfold don
        rw [hpre]
        exact .zero
      iexact Hr
    isplitl [Hd]; · iexact Hd
    iexact Ho
  isplitl [H4]; · iexact H4
  isplitl [H5]; · iexact H5
  isplitl [H6]; · iexact H6
  isplitl [H7]; · iexact H7
  iintro %c ⟨Hf, Hp0, Hp1, Hst, H4, H5, H6, H7⟩
  unfold StB
  icases Hst with ⟨%hc, Hm⟩
  iapply (wp_assume (defs := defs₀ (F := F)) 𝒱₀ (th d i) none Set.univ (show k0_chk5 i (first id i) (prev id i) c from row_inb hg hc))
  have hfin : ∀ v, (∀ m ∈ pre i (nR i), id m ≠ v) → iprop(Mid id X Wt z d i sh R W₀ O (nR i) v) ⊢ (iprop((∃ a, Acc d i aM a) ∗ Own d i R (Summed id X Wt z i) ∗ Dum d i sh ∗ Owe d i W₀ O) : SP F) := by
    intro v hv
    unfold Mid
    iintro ⟨%a, _, Ha, Hr, Hd, Ho⟩
    isplitl [Ha]; · iexists a; iexact Ha
    isplitl [Hr]
    · iapply (Entails.of_eq (congrArg (Own d i R) (funext fun r => funext fun c => funext fun x => congrArg (fun S => SumOf z (fun m => term X Wt m c) S x)
        (show don id i (nR i) v r.val = (pre i (nR i)).filter fun m => dst id i (id m) = r.val from Finset.filter_congr fun m hm => ⟨fun h => h.1, fun h => ⟨h, hv m hm⟩⟩)))) $$ Hr
    isplitl [Hd] <;> iassumption
  iapply (wp_flush κ hg hR le_rfl hc (unseen_past i hg le_rfl) cc0_scoped8 _ _ (off12_eq i _ _ c).1 (off12_eq i _ _ c).2 _)
  isplitr; · iexact Hi
  isplitl [Hm]; · iexact Hm
  isplitl [H8]; · iexact H8
  iintro ⟨Hm, H8⟩
  iapply (wp_rt (F := F))
  iapply Hk
  ihave Hm := (hfin _ (unseen_past i hg le_rfl)) $$ Hm
  icases Hm with ⟨Ha, Hr, Hd, Ho⟩
  isplitl [Hf]; · iexact Hf
  isplitl [Hp0]; · iexact Hp0
  isplitl [Hp1]; · iexact Hp1
  isplitl [Ha]; · iexact Ha
  isplitl [Hr]; · iexact Hr
  isplitl [Hd]; · iexact Hd
  isplitl [Ho]; · iexact Ho
  isplitl [H4]; · iexact H4
  isplitl [H5]; · iexact H5
  isplitl [H6]; · iexact H6
  isplitl [H7]; · iexact H7
  iexact H8

end Supers

end Cert.KernelIdeal.Sums
-- ==== Proof.Core.lean ====
module

public import proofs.«01_k».proof.Proof.Ids

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

section Core
variable (id : ℕ → BitVec 32) (c : Fin 2) (s : Fin 16)

/-! ## A core's tiles, each with its rows -/

abbrev rowsT : Finset ℕ := pre (mk c s) (nR (mk c s))
/-- The rows of the core. -/
def rowsC : Finset ℕ := Finset.Ico (50176 * c.val) (min (50176 * c.val + 50176) 100000)

theorem rowsT_mem (m : ℕ) : m ∈ rowsT c s ↔ 3136 * (16 * c.val + s.val) ≤ m ∧ m < 3136 * (16 * c.val + s.val) + 3136 ∧ m < 100000 := by
  have hr : r0 (mk c s) = 3136 * (16 * c.val + s.val) := rfl
  have hn : nR (mk c s) = min 3136 (100000 - r0 (mk c s)) := rfl
  have := c.isLt
  have := s.isLt
  show m ∈ Finset.Ico _ _ ↔ _
  rw [Finset.mem_Ico, hn, hr]
  omega

theorem rowsC_mem (m : ℕ) : m ∈ rowsC c ↔ ∃ s, m ∈ rowsT c s := by
  have := c.isLt
  unfold rowsC
  rw [Finset.mem_Ico]
  constructor
  · rintro ⟨h1, h2⟩
    refine ⟨⟨(m - 50176 * c.val) / 3136, by omega⟩, (rowsT_mem c _ m).mpr ?_⟩
    show 3136 * (16 * c.val + (m - 50176 * c.val) / 3136) ≤ m ∧ m < 3136 * (16 * c.val + (m - 50176 * c.val) / 3136) + 3136 ∧ _
    omega
  · rintro ⟨s, h⟩
    have := s.isLt
    have := (rowsT_mem c s m).mp h
    omega

abbrev fst : BitVec 32 := first id (mk c s)
/-- The last segment number of the tile. -/
def lst : BitVec 32 := id (r0 (mk c s) + nR (mk c s) - 1)
/-- The tile's first segment begins in it. -/
def Owned : Prop := ownFirst (mk c s) (first id (mk c s)) (prev id (mk c s)) = 1#1
/-- The tile's last segment begins in it. -/
def OwnLast : Prop := Owned id c s ∨ lst id c s ≠ fst id c s
/-- Tile `t`'s first run is of the last segment of tile `s`, which begins there. -/
def TK (t : Fin 16) : Prop := s < t ∧ OwnLast id c s ∧ ¬ Owned id c t ∧ fst id c t = lst id c s

theorem owned_iff : Owned id c s ↔ s.val = 0 ∨ id (r0 (mk c s) - 1) ≠ fst id c s := by
  unfold Owned
  rw [ownFirst_iff]
  show s.val = 0 ∨ id (r0 (mk c s) - 16 + 15) ≠ _ ↔ _
  by_cases h : s.val = 0
  · simp [h]
  · have hr : r0 (mk c s) = 3136 * (16 * c.val + s.val) := rfl
    rw [show r0 (mk c s) - 16 + 15 = r0 (mk c s) - 1 by omega]

/-- The tile has rows of segment `v`. -/
def Has (v : BitVec 32) : Prop := ∃ m ∈ rowsT c s, id m = v

open scoped Classical in
/-- The tile where segment `v` begins. -/
def owner (v : BitVec 32) : Fin 16 := if h : ∃ s, Has id c s v ∧ ∀ s' < s, ¬ Has id c s' v then h.choose else 0

variable {id c s}

theorem owner_eq {v : BitVec 32} (h : Has id c s v) (hm : ∀ s' < s, ¬ Has id c s' v) : owner id c v = s := by
  have he : ∃ s, Has id c s v ∧ ∀ s' < s, ¬ Has id c s' v := ⟨s, h, hm⟩
  unfold owner
  rw [dif_pos he]
  obtain ⟨h1, h2⟩ := he.choose_spec
  rcases lt_trichotomy he.choose s with hl | hl | hl
  · exact absurd h1 (hm _ hl)
  · exact hl
  · exact absurd h (h2 _ hl)

theorem owner_first {v : BitVec 32} (h : Has id c s v) : Has id c (owner id c v) v ∧ ∀ s' < owner id c v, ¬ Has id c s' v := by
  have he : ∃ s, Has id c s v ∧ ∀ s' < s, ¬ Has id c s' v := by
    by_contra hn
    push Not at hn
    have : ∀ n (s : Fin 16), s.val ≤ n → ¬ Has id c s v := by
      intro n
      induction n with
      | zero =>
        intro s hs hh
        obtain ⟨s', h', -⟩ := hn s hh
        have : s'.val < s.val := h'
        omega
      | succ n ih =>
        intro s hs hh
        obtain ⟨s', h', hh'⟩ := hn s hh
        have : s'.val < s.val := h'
        exact ih s' (by omega) hh'
    exact this s.val s le_rfl h
  unfold owner
  rw [dif_pos he]
  exact he.choose_spec

variable (hg : Good id)
include hg

theorem id_le {m m' : ℕ} (h : m ≤ m') (h' : m' < 100000) : (id m).toNat ≤ (id m').toNat := hg.mono m m' h h'

theorem owner_of_mem {m : ℕ} (hm : m ∈ rowsT c s) (h : id m ≠ fst id c s ∨ Owned id c s) : owner id c (id m) = s := by
  refine owner_eq ⟨m, hm, rfl⟩ ?_
  rintro s' hs ⟨m', hm', e⟩
  have hs' : s'.val < s.val := hs
  have hr : r0 (mk c s) = 3136 * (16 * c.val + s.val) := rfl
  have h1 := (rowsT_mem c s m).mp hm
  have h2 := (rowsT_mem c s' m').mp hm'
  have a1 := id_le hg (show m' ≤ r0 (mk c s) - 1 by omega) (by omega)
  have a2 := id_le hg (show r0 (mk c s) - 1 ≤ r0 (mk c s) by omega) (by omega)
  have a3 := id_le hg (show r0 (mk c s) ≤ m by omega) (by omega)
  rw [e] at a1
  have e1 : id (r0 (mk c s)) = id m := BitVec.eq_of_toNat_eq (by omega)
  have e2 : id (r0 (mk c s) - 1) = id m := BitVec.eq_of_toNat_eq (by omega)
  rcases h with h | h
  · exact h e1.symm
  · rcases (owned_iff id c s).mp h with h | h
    · omega
    · exact h (e2.trans e1.symm)

theorem not_owner {m : ℕ} (hm : m ∈ rowsT c s) (h : id m = fst id c s) (ho : ¬ Owned id c s) : owner id c (id m) ≠ s := by
  intro e
  have hr : r0 (mk c s) = 3136 * (16 * c.val + s.val) := rfl
  have h1 := (rowsT_mem c s m).mp hm
  rw [owned_iff] at ho
  push Not at ho
  have h2 := (owner_first (id := id) (s := s) (v := id m) ⟨m, hm, rfl⟩).2
  rw [e] at h2
  have hs := s.isLt
  exact h2 ⟨s.val - 1, by omega⟩ (by show s.val - 1 < s.val; omega)
    ⟨r0 (mk c s) - 1, (rowsT_mem c _ _).mpr (by show 3136 * (16 * c.val + (s.val - 1)) ≤ _ ∧ _ < 3136 * (16 * c.val + (s.val - 1)) + 3136 ∧ _; omega), ho.2.trans h.symm⟩

theorem dst_mk {v : BitVec 32} (hv : v.toNat < 512) :
    (v = fst id c s ∧ ¬ Owned id c s ∧ dst id (mk c s) v = 513 + s.val) ∨ ((v ≠ fst id c s ∨ Owned id c s) ∧ dst id (mk c s) v = v.toNat) := by
  unfold dst flushRow Owned
  by_cases h : v = fst id c s ∧ ¬ ownFirst (mk c s) (first id (mk c s)) (prev id (mk c s)) = 1#1
  · exact .inl ⟨h.1, h.2, if_pos h⟩
  · refine .inr ⟨?_, (if_neg h).trans (if_pos (by omega))⟩
    by_cases h' : v = fst id c s
    · exact .inr (by by_contra hn; exact h ⟨h', hn⟩)
    · exact .inl h'

theorem lst_mem : (r0 (mk c s) + nR (mk c s) - 1) ∈ rowsT c s := by
  have := nR_eq (mk c s)
  exact Finset.mem_Ico.mpr ⟨by omega, by omega⟩

theorem lst_lt : (lst id c s).toNat < 512 := hg.lt _ (pre_lt _ hg le_rfl (lst_mem hg))

theorem owner_lst (h : OwnLast id c s) : owner id c (lst id c s) = s := owner_of_mem hg (lst_mem hg) h.symm

/-- The rows a tile holds of a segment that begins in it. -/
theorem dst_own {v : BitVec 32} (hv : v.toNat < 512) (ho : owner id c v = s) :
    (rowsT c s).filter (fun m => dst id (mk c s) (id m) = v.toNat) = (rowsT c s).filter fun m => id m = v := by
  apply Finset.filter_congr
  intro m hm
  have hl := hg.lt m (pre_lt _ hg le_rfl hm)
  rcases dst_mk hg (c := c) (s := s) hl with ⟨h1, h2, h3⟩ | ⟨h1, h3⟩
  · rw [h3]
    constructor
    · intro h; omega
    · intro h; exact absurd (h ▸ ho) (not_owner hg hm h1 h2)
  · rw [h3]
    exact ⟨fun h => BitVec.eq_of_toNat_eq h, fun h => by rw [h]⟩

/-- The rows a tile holds of a segment that begins before it. -/
theorem dst_part (ho : ¬ Owned id c s) :
    (rowsT c s).filter (fun m => dst id (mk c s) (id m) = 513 + s.val) = (rowsT c s).filter fun m => id m = fst id c s := by
  apply Finset.filter_congr
  intro m hm
  have hl := hg.lt m (pre_lt _ hg le_rfl hm)
  rcases dst_mk hg (c := c) (s := s) hl with ⟨h1, h2, h3⟩ | ⟨h1, h3⟩
  · exact ⟨fun _ => h1, fun _ => h3⟩
  · rw [h3]
    refine ⟨fun h => by omega, fun h => ?_⟩
    rcases h1 with h1 | h1
    · exact absurd h h1
    · exact absurd h1 ho

omit hg in
open scoped Classical in
/-- The rows of the tile's last segment in the tiles up to `k` that its owner takes over. -/
def taken (id : ℕ → BitVec 32) (c : Fin 2) (s : Fin 16) (k : ℕ) : Finset ℕ :=
  (rowsC c).filter fun m => id m = lst id c s ∧ ∃ t : Fin 16, t.val ≤ k ∧ TK id c s t ∧ m ∈ rowsT c t

open scoped Classical in
omit hg in
theorem taken_zero : taken id c s 0 = ∅ := by
  apply Finset.filter_eq_empty_iff.mpr
  rintro m - ⟨-, t, ht, h, -⟩
  have : s.val < t.val := h.1
  omega

open scoped Classical in
omit hg in
theorem taken_not {k : ℕ} {t : Fin 16} (ht : t.val = k + 1) (h : ¬ TK id c s t) : taken id c s (k + 1) = taken id c s k := by
  unfold taken
  apply Finset.filter_congr
  intro m _
  constructor
  · rintro ⟨h1, t', h2, h3, h4⟩
    refine ⟨h1, t', ?_, h3, h4⟩
    by_contra hn
    exact h ((Fin.ext (by omega) : t' = t) ▸ h3)
  · rintro ⟨h1, t', h2, h3, h4⟩
    exact ⟨h1, t', by omega, h3, h4⟩

open scoped Classical in
theorem taken_take {k : ℕ} {t : Fin 16} (ht : t.val = k + 1) (h : TK id c s t) :
    taken id c s (k + 1) = taken id c s k ∪ (rowsT c t).filter (fun m => dst id (mk c t) (id m) = 513 + t.val)
    ∧ Disjoint (taken id c s k) ((rowsT c t).filter (fun m => dst id (mk c t) (id m) = 513 + t.val)) := by
  rw [dst_part hg h.2.2.1]
  constructor
  · unfold taken
    ext m
    simp only [Finset.mem_union, Finset.mem_filter]
    constructor
    · rintro ⟨h0, h1, t', h2, h3, h4⟩
      by_cases hk : t'.val ≤ k
      · exact .inl ⟨h0, h1, t', hk, h3, h4⟩
      · obtain rfl : t' = t := Fin.ext (by omega)
        exact .inr ⟨h4, h1.trans h.2.2.2.symm⟩
    · rintro (⟨h0, h1, t', h2, h3, h4⟩ | ⟨h1, h2⟩)
      · exact ⟨h0, h1, t', by omega, h3, h4⟩
      · exact ⟨(rowsC_mem c m).mpr ⟨t, h1⟩, h2.trans h.2.2.2, t, by omega, h, h1⟩
  · rw [Finset.disjoint_left]
    intro m hm hm'
    obtain ⟨-, -, t', h2, -, h4⟩ := Finset.mem_filter.mp hm
    have e1 := (rowsT_mem c t' m).mp h4
    have e2 := (rowsT_mem c t m).mp (Finset.mem_filter.mp hm').1
    omega

open scoped Classical in
omit hg in
theorem taken_none (h : ∀ t, ¬ TK id c s t) (k : ℕ) : taken id c s k = ∅ := by
  apply Finset.filter_eq_empty_iff.mpr
  rintro m - ⟨-, t, -, h', -⟩
  exact h t h'

open scoped Classical in
/-- A segment's rows in the core: those of the tile where it begins, and those taken over from the tiles after it. -/
theorem core_row {v : BitVec 32} (hv : v.toNat < 512) (ho : owner id c v = s) :
    (rowsC c).filter (fun m => id m = v) = (rowsT c s).filter (fun m => dst id (mk c s) (id m) = v.toNat) ∪ (if v = lst id c s ∧ OwnLast id c s then taken id c s 15 else ∅)
    ∧ Disjoint ((rowsT c s).filter (fun m => dst id (mk c s) (id m) = v.toNat)) (taken id c s 15) := by
  rw [dst_own hg hv ho]
  refine ⟨?_, ?_⟩
  swap
  · rw [Finset.disjoint_left]
    intro m hm hm'
    obtain ⟨-, -, t, -, h3, h4⟩ := Finset.mem_filter.mp hm'
    have hs : s.val < t.val := h3.1
    have e1 := (rowsT_mem c t m).mp h4
    have e2 := (rowsT_mem c s m).mp (Finset.mem_filter.mp hm).1
    omega
  ext m
  rw [Finset.mem_union, Finset.mem_filter, Finset.mem_filter]
  constructor
  · rintro ⟨h0, rfl⟩
    obtain ⟨t, ht⟩ := (rowsC_mem c m).mp h0
    by_cases hts : t = s
    · subst hts; exact .inl ⟨ht, rfl⟩
    · right
      obtain ⟨⟨m', hm', e⟩, h2⟩ := owner_first (id := id) (s := t) (v := id m) ⟨m, ht, rfl⟩
      rw [ho] at hm' h2
      have hst : s.val < t.val := by
        by_contra hn
        exact h2 t (by show t.val < s.val; have : t.val ≠ s.val := fun h => hts (Fin.ext h); omega) ⟨m, ht, rfl⟩
      have hrt : r0 (mk c t) = 3136 * (16 * c.val + t.val) := rfl
      have hrs : r0 (mk c s) = 3136 * (16 * c.val + s.val) := rfl
      have e1 := (rowsT_mem c t m).mp ht
      have e2 := (rowsT_mem c s m').mp hm'
      have e3 := (rowsT_mem c s _).mp (lst_mem hg (c := c) (s := s))
      have e4 := nR_eq (mk c s)
      have e5 : m' ≤ r0 (mk c s) + nR (mk c s) - 1 := by have := Finset.mem_Ico.mp hm'; omega
      have b1 := id_le hg e5 (by omega)
      have b2 := id_le hg (show r0 (mk c s) + nR (mk c s) - 1 ≤ r0 (mk c t) - 1 by omega) (by omega)
      have b3 := id_le hg (show r0 (mk c t) - 1 ≤ r0 (mk c t) by omega) (by omega)
      have b4 := id_le hg (show r0 (mk c t) ≤ m by omega) (by omega)
      rw [e] at b1
      have f1 : lst id c s = id m := BitVec.eq_of_toNat_eq (by unfold lst; omega)
      have f2 : id (r0 (mk c t) - 1) = id m := BitVec.eq_of_toNat_eq (by omega)
      have f3 : fst id c t = id m := BitVec.eq_of_toNat_eq (by show (id (r0 (mk c t))).toNat = _; omega)
      have hol : OwnLast id c s := by
        by_contra hn
        unfold OwnLast at hn
        push Not at hn
        refine not_owner hg hm' ?_ hn.1 (e ▸ ho)
        rw [e, ← f1, hn.2]
      rw [if_pos ⟨f1.symm, hol⟩]
      refine Finset.mem_filter.mpr ⟨h0, f1.symm, t, by have := t.isLt; omega, ⟨hst, hol, ?_, f3.trans f1.symm⟩, ht⟩
      rw [owned_iff]
      push Not
      exact ⟨by omega, f2.trans f3.symm⟩
  · rintro (⟨h1, h2⟩ | h)
    · exact ⟨(rowsC_mem c m).mpr ⟨s, h1⟩, h2⟩
    · split_ifs at h with hc
      · obtain ⟨h0, h1, -⟩ := Finset.mem_filter.mp h
        exact ⟨h0, h1.trans hc.1.symm⟩
      · exact absurd h (Finset.notMem_empty _)

omit hg in
/-- The tile that row `r` is with while the tiles sum their rows, while they take runs over, and while they copy the rows out. -/
def at1 (id : ℕ → BitVec 32) (c : Fin 2) (r : Fin 544) : Fin 16 :=
  if r.val < 512 then owner id c (BitVec.ofNat 32 r.val) else if h : r.val - 513 < 16 then ⟨r.val - 513, h⟩ else 0
omit hg in
def at2 (id : ℕ → BitVec 32) (c : Fin 2) (r : Fin 544) : Fin 16 :=
  if r.val < 512 then owner id c (BitVec.ofNat 32 r.val) else if h : r.val - 513 < 16 then owner id c (fst id c ⟨r.val - 513, h⟩) else 0
omit hg in
def at0 (r : Fin 544) : Fin 16 := ⟨r.val / 34, by have := r.isLt; omega⟩
omit hg in
def at3 (r : Fin 544) : Fin 16 := if h : r.val < 512 then ⟨r.val / 32, by omega⟩ else 0
omit hg in
/-- The rows with tile `s`. -/
def rowsAt (f : Fin 544 → Fin 16) (s : Fin 16) : Finset (Fin 544) := Finset.univ.filter fun r => r ≠ 512 ∧ f r = s
omit hg in
theorem mem_rowsAt {f : Fin 544 → Fin 16} {s : Fin 16} {r : Fin 544} : r ∈ rowsAt f s ↔ r ≠ 512 ∧ f r = s := by
  unfold rowsAt; rw [Finset.mem_filter]; exact ⟨fun h => h.2, fun h => ⟨Finset.mem_univ _, h⟩⟩

/-- Every run has its row with the tile that sums it. -/
theorem run_row : ∀ m ∈ pre (mk c s) (nR (mk c s)), ∃ r ∈ rowsAt (at1 id c) s, r.val = dst id (mk c s) (id m) := by
  intro m hm
  have hl := hg.lt m (pre_lt _ hg le_rfl hm)
  have hs := s.isLt
  rcases dst_mk hg (c := c) (s := s) hl with ⟨h1, h2, h3⟩ | ⟨h1, h3⟩
  · refine ⟨⟨513 + s.val, by omega⟩, mem_rowsAt.mpr ⟨?_, ?_⟩, h3.symm⟩
    · intro h; have : 513 + s.val = 512 := congrArg Fin.val h; omega
    · unfold at1
      rw [if_neg (by show ¬ 513 + s.val < 512; omega), dif_pos (by show 513 + s.val - 513 < 16; omega)]
      exact Fin.ext (by show 513 + s.val - 513 = s.val; omega)
  · refine ⟨⟨(id m).toNat, by omega⟩, mem_rowsAt.mpr ⟨?_, ?_⟩, h3.symm⟩
    · intro h; have : (id m).toNat = 512 := congrArg Fin.val h; omega
    · unfold at1
      rw [if_pos hl]
      show owner id c (BitVec.ofNat 32 (id m).toNat) = s
      rw [BitVec.ofNat_toNat, BitVec.setWidth_eq]
      exact owner_of_mem hg hm h1

/-- The row of the tile's last segment is with it, where the segment begins in it. -/
theorem lst_row (h : OwnLast id c s) : (⟨(lst id c s).toNat, by have := lst_lt hg (c := c) (s := s); omega⟩ : Fin 544) ∈ rowsAt (at2 id c) s := by
  have hl := lst_lt hg (c := c) (s := s)
  refine mem_rowsAt.mpr ⟨?_, ?_⟩
  · intro h; have : (lst id c s).toNat = 512 := congrArg Fin.val h; omega
  · unfold at2
    rw [if_pos hl]
    show owner id c (BitVec.ofNat 32 (lst id c s).toNat) = s
    rw [BitVec.ofNat_toNat, BitVec.setWidth_eq]
    exact owner_lst hg h

theorem part_row {t : Fin 16} (h : TK id c s t) : (⟨513 + t.val, by have := t.isLt; omega⟩ : Fin 544) ∈ rowsAt (at2 id c) s := by
  have ht := t.isLt
  refine mem_rowsAt.mpr ⟨?_, ?_⟩
  · intro h; have : 513 + t.val = 512 := congrArg Fin.val h; omega
  · unfold at2
    rw [if_neg (by show ¬ 513 + t.val < 512; omega), dif_pos (by show 513 + t.val - 513 < 16; omega)]
    have e : (⟨513 + t.val - 513, by omega⟩ : Fin 16) = t := Fin.ext (by show 513 + t.val - 513 = t.val; omega)
    show owner id c (fst id c ⟨513 + t.val - 513, _⟩) = s
    rw [e, h.2.2.2]
    exact owner_lst hg h.2.1

end Core

end Cert.KernelIdeal.Sums
-- ==== Proof.PhaseA.lean ====
module

public import proofs.«01_k».proof.Proof.Supers
public import proofs.«01_k».proof.Proof.Core

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

section PhaseA
abbrev tI (i : grid0.Coords) : Fin 16 := i 1
variable {id : ℕ → BitVec 32} {z : Elt F .f32}
variable {d : Dev nD} {i : grid0.Coords} {sh q : PosShare TreeShare} {W₀ : Waits sig (HIx 3)} {O : CellTallies nD τ sig (HIx 3)}
variable {β : Type} {Q : β → SP F}

/-- A window copied in from a part of what is held at a share. -/
theorem wp_fetch {sp sp' : Space} {s : Shape} {e : EltTy} (src : Memref sig .scVector sp s e) (dst : Memref sig .scVector sp' s e) (sem : DmaSem sig)
    {h1 h1' : src.view.WordExact} {h2 h2' : dst.view.WordExact} {h3 : DmaTarget.Typed (nD := nD) (p := .scVector (cV i) (jV i)) sp (.dma sem) (.here dst)} (hs : 0 < s.numel)
    (k : Prog (TE F i) β) {fs : Buf (Elt F) (src.view.loc (th d i))} {S : Finset (Idx (src.view.loc (th d i)))} (hS : src.view.set ⊆ S) {g : s.Idx → Elt F e} (hg : src.view.read (Elt F) fs = g) :
    iprop((src.view.loc (th d i) ↦[S]{q} fs) ∗ (∃ g0, At d i dst fullShare g0) ∗ semVal (th d i, .dma sem) 0 ∗ Owe d i W₀ O
        ∗ (((src.view.loc (th d i) ↦[S]{q} fs) ∗ At d i dst fullShare g ∗ semVal (th d i, .dma sem) 0 ∗ Owe d i W₀ O) -∗ WP d i k Q))
      ⊢ WP d i (.op (.enqueueDma src (.here dst) (.dma sem) h1 h2 h3) fun _ => .op (.waitDma2 sem src dst h1' h2') fun _ => k) Q := by
  unfold At
  iintro ⟨Hs, ⟨%g0, %fd, %hfd, Hd⟩, Hv, Ho, Hk⟩
  ihave Hs := (pointsTo_split_subset hS).1 $$ Hs
  icases Hs with ⟨Hs, Hr⟩
  iapply (wp_copy src dst sem hs k (fd := fd) (Sd := dst.view.set) subset_rfl)
  isplitl [Hs]; · iexact Hs
  isplitl [Hd]; · iexact Hd
  isplitl [Hv]; · iexact Hv
  isplitl [Ho]; · iexact Ho
  iintro ⟨Hs, Hd, Hv, Ho⟩
  iapply Hk
  isplitl [Hs Hr]
  · iapply (pointsTo_split_subset hS).2
    isplitl [Hs] <;> iassumption
  isplitl [Hd]
  · iexists (dst.view.write (Elt F) fd (src.view.read (Elt F) fs) Finset.univ)
    isplitr
    · ipureintro
      funext y
      exact (View.read_write_of_mem (v := dst.view) fd (src.view.read (Elt F) fs) (Finset.mem_univ y)).trans (congrFun hg y)
    iexact Hd
  isplitl [Hv] <;> iassumption

/-! ## The tags -/

abbrev gM : Memref sig .scVector .shared S256 .i32 := Memref.whole cc0_scratch9
abbrev iM : Memref sig .scVector .hbm S100000 .i32 := Memref.whole main_arg2_scv
abbrev pM : Memref sig .scVector .vmem S16 .i32 := Memref.whole cc0_scratch3
abbrev oM : Memref sig .scVector .vmem S16 .i32 := Memref.whole cc0_scratch4
abbrev tM : Memref sig .scVector .vmem S256 .i32 := Memref.whole cc0_scratch5
abbrev bM : Memref sig .scVector .vmem S1x512 .f32 := Memref.whole cc0_scratch6

/-- The tile whose tag an element is part of. -/
def tileOf (y : S256.Idx) : Fin 16 := ⟨(y 0).val / 16, by have : (y 0).val < 256 := (y 0).isLt; omega⟩
def tset (T : Finset (Fin 16)) : Finset S256.Idx := Finset.univ.filter fun y => tileOf y ∈ T

theorem mem_tset {T : Finset (Fin 16)} {y : S256.Idx} : y ∈ tset T ↔ tileOf y ∈ T := by
  unfold tset; rw [Finset.mem_filter]; exact ⟨fun h => h.2, fun h => ⟨Finset.mem_univ _, h⟩⟩

/-- The tags of the tiles `T`. -/
def Tags (d : Dev nD) (i : grid0.Coords) (T : Finset (Fin 16)) (q : PosShare TreeShare) (g : Fin 16 → BitVec 32) : SP F :=
  iprop(∃ f : Buf (Elt F) (gM.view.loc (th d i)), ⌜∀ y, tileOf y ∈ T → f y = g (tileOf y)⌝ ∗ (gM.view.loc (th d i) ↦[tset T]{q} f))

/-- The tag a tile publishes. -/
def tag (id : ℕ → BitVec 32) (i : grid0.Coords) : BitVec 32 := if ownFirst i (first id i) (prev id i) = 1#1 then 4294967295#32 else first id i
def last (id : ℕ → BitVec 32) (i : grid0.Coords) : BitVec 32 := id (r0 i + nR i - 1)

/-- The row any tile may write, when it is the last tile that starts: only it writes there. -/
def Dum0 (d : Dev nD) (i : grid0.Coords) (sh : PosShare TreeShare) : SP F := iprop((⌜(i 1).val = 15⌝ ∗ Dum d i sh) ∨ ⌜(i 1).val ≠ 15⌝)

theorem wp_zeroRows (κ : ℕ) {Q : BitVec 32 → SP F} :
    iprop(wmInv EWu κ ∗ Acc d i aM (fun _ => z) ∗ Own d i (rowsAt at0 (tI i)) (fun _ _ _ => True) ∗ Dum0 d i sh ∗ semVal (th d i, .dma cc0_scoped0.sem) 0 ∗ Owe d i W₀ O
        ∗ (∀ v, (Acc d i aM (fun _ => z) ∗ Own d i (rowsAt at0 (tI i)) (fun _ _ x => x = z) ∗ Dum0 d i sh ∗ semVal (th d i, .dma cc0_scoped0.sem) 0 ∗ Owe d i W₀ O) -∗ Q v))
      ⊢ WP d i (zeroRows i aM (Memref.isWhole_whole _) shM cc0_scoped0) Q := by
  unfold zeroRows
  iintro ⟨#Hi, Ha, Hr, Hd, Hv, Ho, Hk⟩
  iapply (Scf.wp_for (M := MM F) frame (wpE (defs₀ (F := F)) 𝒱₀ (th d i) none) Set.univ k0_t1_loop.lb k0_t1_loop.ub k0_t1_loop.st k0_t1_ok 0#32 _
    (fun t _ => iprop(wmInv EWu κ ∗ Acc d i aM (fun _ => z) ∗ Own d i (rowsAt at0 (tI i)) (fun r _ x => r.val < 34 * (i 1).val + t → x = z) ∗ Dum0 d i sh ∗ semVal (th d i, .dma cc0_scoped0.sem) 0 ∗ Owe d i W₀ O)) ?_)
  · intro t1 v
    obtain ⟨e0, e1⟩ := off1_eq i t1
    have hs : (i 1).val < 16 := (i 1).isLt
    have ht : t1.val < 34 := t1.isLt
    iintro ⟨#Hi, Ha, Hr, Hd, Hv, Ho⟩
    by_cases h512 : 34 * (i 1).val + t1.val = 512
    · unfold Dum0
      icases Hd with (⟨%h15, Hd⟩ | %h15)
      rotate_left
      · exfalso; exact h15 (by omega)
      iapply (wp_rowOut_dum κ aM (Memref.isWhole_whole _) cc0_scoped0 _ _ (e0.trans h512) e1 _)
      isplitr; · iexact Hi
      isplitl [Ha]; · iexact Ha
      isplitl [Hd]; · iexact Hd
      isplitl [Hv]; · iexact Hv
      isplitl [Ho]; · iexact Ho
      iintro ⟨Ha, Hd, Hv, Ho⟩
      iapply (wp_rt (F := F))
      isplitr; · iexact Hi
      isplitl [Ha]; · iexact Ha
      isplitl [Hr]
      · unfold Own
        icases Hr with ⟨%f, %hf, Hr⟩
        iexists f
        isplitr
        · ipureintro
          intro r hr c h
          refine hf r hr c ?_
          have : r.val ≠ 512 := fun h' => (mem_rowsAt.mp hr).1 (Fin.ext h')
          omega
        iexact Hr
      isplitl [Hd]
      · ileft
        isplitr; · ipureintro; exact h15
        iexact Hd
      isplitl [Hv] <;> iassumption
    · iapply (wp_rowOut_own aM (Memref.isWhole_whole _) cc0_scoped0 _ _ (⟨34 * (i 1).val + t1.val, by omega⟩ : Fin 544) e0 e1 _
        (R := rowsAt at0 (tI i)) (G := fun r _ x => r.val < 34 * (i 1).val + t1.val → x = z) (G' := fun r _ x => r.val < 34 * (i 1).val + (t1.val + 1) → x = z) (a := fun _ => z)
        (mem_rowsAt (f := at0).mpr ⟨fun h => h512 (congrArg Fin.val h), Fin.ext (by show (34 * (i 1).val + t1.val) / 34 = (i 1).val; omega)⟩) (fun _ _ => rfl)
        (fun r' _ hne c v hv h => hv (by have : r'.val ≠ 34 * (i 1).val + t1.val := fun h' => hne (Fin.ext h'); omega)))
      isplitl [Ha]; · iexact Ha
      isplitl [Hr]; · iexact Hr
      isplitl [Hv]; · iexact Hv
      isplitl [Ho]; · iexact Ho
      iintro ⟨Ha, Hr, Hv, Ho⟩
      iapply (wp_rt (F := F))
      isplitr; · iexact Hi
      isplitl [Ha]; · iexact Ha
      isplitl [Hr]; · iexact Hr
      isplitl [Hd]; · iexact Hd
      isplitl [Hv] <;> iassumption
  isplitl [Ha Hr Hd Hv Ho]
  · isplitr; · iexact Hi
    isplitl [Ha]; · iexact Ha
    isplitl [Hr]
    · unfold Own
      icases Hr with ⟨%f, %hf, Hr⟩
      iexists f
      isplitr
      · ipureintro
        intro r hr c h
        have := congrArg Fin.val (mem_rowsAt.mp hr).2
        have h' : r.val / 34 = (i 1).val := this
        omega
      iexact Hr
    isplitl [Hd]; · iexact Hd
    isplitl [Hv] <;> iassumption
  have ht : Scf.trips k0_t1_loop.lb k0_t1_loop.ub k0_t1_loop.st = 34 := by decide
  rw [ht]
  iintro %v ⟨_, Ha, Hr, Hd, Hv, Ho⟩
  iapply Hk $$ %v
  isplitl [Ha]; · iexact Ha
  isplitl [Hr]
  · unfold Own
    icases Hr with ⟨%f, %hf, Hr⟩
    iexists f
    isplitr
    · ipureintro
      intro r hr c
      refine hf r hr c ?_
      have h' : r.val / 34 = (i 1).val := congrArg Fin.val (mem_rowsAt.mp hr).2
      omega
    iexact Hr
  isplitl [Hd]; · iexact Hd
  isplitl [Hv] <;> iassumption

/-- A window of the segment numbers. -/
theorem read_ids {fI : Buf (Elt F) (iM.view.loc (th d i))} (hI : ∀ n : Fin 100000, fI (ix1 n) = id n.val) {w : ℕ} {off : Fin 1 → ℕ}
    (h : ∀ a, off a + (⟨1, ![w]⟩ : Shape).size a ≤ S100000.size a) :
    (iM.slice (Rect.unit (s := S100000) off (⟨1, ![w]⟩ : Shape).size h) (fun _ => rfl)).view.read (Elt F) fI = fun y => id (off 0 + (y 0).val) := by
  funext y
  have hy : (y 0).val < w := (y 0).isLt
  have hb : off 0 + w ≤ 100000 := h 0
  have e : (iM.slice (Rect.unit (s := S100000) off (⟨1, ![w]⟩ : Shape).size h) (fun _ => rfl)).view.emb y = ix1 (⟨off 0 + (y 0).val, by omega⟩ : Fin 100000) := by
    funext a
    apply Fin.ext
    show ((Rect.unit (s := S100000) off _ h).emb y a).val = _
    rw [Rect.emb_apply]
    fin_cases a
    show off 0 + 1 * (y 0).val = off 0 + (y 0).val
    omega
  exact (congrArg fI e).trans (hI _)

theorem key_le' {a b : BitVec 32} (ha : a.toNat < 512) (hb : b.toNat < 512) (h : a.toNat ≤ b.toNat) : key a ≤ key b := by
  rw [key_of_lt (by omega), key_of_lt (by omega)]; omega

theorem wp_phaseA (κ : ℕ) (hg : Good id) {fI : Buf (Elt F) (iM.view.loc (th d i))} (hI : ∀ n : Fin 100000, fI (ix1 n) = id n.val) {a0 : Fin 512 → Elt F .f32}
    {Q : (Σ' (_ : BitVec 32) (_ : BitVec 32), BitVec 32) → SP F} :
    iprop(wmInv EWu κ ∗ Acc d i aM a0 ∗ Own d i (rowsAt at0 (tI i)) (fun _ _ _ => True) ∗ Dum0 d i sh ∗ Owe d i W₀ O ∗ (iM.view.loc (th d i) ↦[Finset.univ]{q} fI)
        ∗ (∃ g, At d i idM fullShare g) ∗ (∃ g, At d i pM fullShare g) ∗ (∃ g, At d i oM fullShare g) ∗ (∃ f : Buf (Elt F) (gM.view.loc (th d i)), gM.view.loc (th d i) ↦[tset {tI i}]{fullShare} f)
        ∗ semVal (th d i, .dma cc0_scoped0.sem) 0 ∗ semVal (th d i, .dma cc0_scoped1.sem) 0 ∗ semVal (th d i, .dma cc0_scoped2.sem) 0 ∗ semVal (th d i, .dma cc0_scoped3.sem) 0
        ∗ ((Acc d i aM (fun _ => z) ∗ Own d i (rowsAt at0 (tI i)) (fun _ _ x => x = z) ∗ Dum0 d i sh ∗ Owe d i W₀ O ∗ (iM.view.loc (th d i) ↦[Finset.univ]{q} fI)
          ∗ Fetched id d i ∗ (∃ g, At d i pM fullShare g) ∗ (∃ g, At d i oM fullShare g) ∗ Tags d i {tI i} fullShare (fun _ => tag id i)
          ∗ semVal (th d i, .dma cc0_scoped0.sem) 0 ∗ semVal (th d i, .dma cc0_scoped1.sem) 0 ∗ semVal (th d i, .dma cc0_scoped2.sem) 0 ∗ semVal (th d i, .dma cc0_scoped3.sem) 0)
          -∗ Q ⟨first id i, last id i, prev id i⟩))
      ⊢ WP d i (phaseA i vM uM iM (Memref.whole main_v1_scv) xM wM idM (Memref.isWhole_whole _) pM (Memref.isWhole_whole _)
          oM (Memref.isWhole_whole _) tM (Memref.isWhole_whole _) bM (Memref.isWhole_whole _) aM (Memref.isWhole_whole _) shM
          gM (Memref.isWhole_whole _) cc0_scratch10 cc0_scratch11 cc0_scoped0 cc0_scoped1 cc0_scoped2 cc0_scoped3 (broadcast S16 z)) Q := by
  have hr0 := r0_le i
  obtain ⟨hn1, hn2, hn3, hn4⟩ := nR_eq i
  have hlt : ∀ m, m < 100000 → (id m).toNat < 512 := hg.lt
  have hs : (i 1).val < 16 := (i 1).isLt
  unfold phaseA
  iintro ⟨#Hi, Ha, Hr, Hd, Ho, HI, Hid, Hp, Hb, Ht, H0, H1, H2, H3, Hk⟩
  iapply (wp_zeroAcc aM z _ a0)
  isplitl [Ha]; · iexact Ha
  iintro Ha
  iapply (wp_bd (F := F))
  iapply (wp_zeroRows κ (z := z))
  isplitr; · iexact Hi
  isplitl [Ha]; · iexact Ha
  isplitl [Hr]; · iexact Hr
  isplitl [Hd]; · iexact Hd
  isplitl [H0]; · iexact H0
  isplitl [Ho]; · iexact Ho
  iintro %v ⟨Ha, Hr, Hd, H0, Ho⟩
  iapply (wp_fetch _ idM cc0_scoped1.sem (by decide) _ (q := q) (S := Finset.univ) (Finset.subset_univ _) (read_ids (F := F) hI (w := 3136) (k0_off2_inb i)))
  isplitl [HI]; · iexact HI
  isplitl [Hid]; · iexact Hid
  isplitl [H1]; · iexact H1
  isplitl [Ho]; · iexact Ho
  iintro ⟨HI, Hid, H1, Ho⟩
  iapply (wp_fetch _ pM cc0_scoped2.sem (by decide) _ (q := q) (S := Finset.univ) (Finset.subset_univ _) (read_ids (F := F) hI (w := 16) (k0_off3_inb i)))
  isplitl [HI]; · iexact HI
  isplitl [Hp]; · iexact Hp
  isplitl [H2]; · iexact H2
  isplitl [Ho]; · iexact Ho
  iintro ⟨HI, Hp, H2, Ho⟩
  iapply (wp_ld idM _ _ _ (q := fullShare))
  isplitl [Hid]; · iexact Hid
  iintro Hid
  iapply (wp_ld idM _ _ _ (q := fullShare))
  isplitl [Hid]; · iexact Hid
  iintro Hid
  iapply (wp_ld pM _ _ _ (q := fullShare))
  isplitl [Hp]; · iexact Hp
  iintro Hp
  have ea : (fun x : (Rect.unit (s := S3136) (k0_off4 i) S16.size (k0_off4_inb i)).shape.Idx => id (k0_off2 i 0 + ((Rect.unit (s := S3136) (k0_off4 i) S16.size (k0_off4_inb i)).emb x 0).val)) = fun x => id (r0 i + (x 0).val) := by
    funext x
    congr 1
    have e : ((Rect.unit (s := S3136) (k0_off4 i) S16.size (k0_off4_inb i)).emb x 0).val = k0_off4 i 0 + 1 * (x 0).val := Rect.emb_apply _ _ _
    rw [e, off2_eq, off4_eq]; omega
  have eb : (fun x : (Rect.unit (s := S3136) (k0_off5 i) S16.size (k0_off5_inb i)).shape.Idx => id (k0_off2 i 0 + ((Rect.unit (s := S3136) (k0_off5 i) S16.size (k0_off5_inb i)).emb x 0).val)) = fun x => id (r0 i + nR i - 16 + (x 0).val) := by
    funext x
    congr 1
    have e : ((Rect.unit (s := S3136) (k0_off5 i) S16.size (k0_off5_inb i)).emb x 0).val = k0_off5 i 0 + 1 * (x 0).val := Rect.emb_apply _ _ _
    rw [e, off2_eq, off5_eq]; omega
  have ec : (fun x : (Rect.unit (s := S16) ![0] S16.size inb_S16_S16_0).shape.Idx => id (k0_off3 i 0 + ((Rect.unit (s := S16) ![0] S16.size inb_S16_S16_0).emb x 0).val)) = fun x => id (r0 i - 16 + (x 0).val) := by
    funext x
    congr 1
    have e : ((Rect.unit (s := S16) ![0] S16.size inb_S16_S16_0).emb x 0).val = 0 + 1 * (x 0).val := Rect.emb_apply _ _ _
    rw [e, off3_eq]; omega
  have ma : minOf (fun x : S16.Idx => id (r0 i + (x 0).val)) = first id i :=
    minOf_eq (fun x : S16.Idx => id (r0 i + (x 0).val)) 0 fun j => key_le' (hlt _ (by show r0 i + 0 < _; omega)) (hlt _ (by show r0 i + j.val < _; have := j.isLt; omega))
      (hg.mono _ _ (by show r0 i + 0 ≤ r0 i + j.val; omega) (by show r0 i + j.val < _; have := j.isLt; omega))
  have mb : maxOf (fun x : S16.Idx => id (r0 i + nR i - 16 + (x 0).val)) = last id i :=
    (maxOf_eq (fun x : S16.Idx => id (r0 i + nR i - 16 + (x 0).val)) 15 fun j => key_le' (hlt _ (by show r0 i + nR i - 16 + j.val < _; have := j.isLt; omega)) (hlt _ (by show r0 i + nR i - 16 + 15 < _; omega))
      (hg.mono _ _ (by show r0 i + nR i - 16 + j.val ≤ r0 i + nR i - 16 + 15; have := j.isLt; omega) (by show r0 i + nR i - 16 + 15 < _; omega))).trans
      (by show id (r0 i + nR i - 16 + 15) = id (r0 i + nR i - 1); congr 1; omega)
  have mc : maxOf (fun x : S16.Idx => id (r0 i - 16 + (x 0).val)) = prev id i :=
    maxOf_eq (fun x : S16.Idx => id (r0 i - 16 + (x 0).val)) 15 fun j => key_le' (hlt _ (by show r0 i - 16 + j.val < _; have := j.isLt; omega)) (hlt _ (by show r0 i - 16 + 15 < _; omega))
      (hg.mono _ _ (by show r0 i - 16 + j.val ≤ r0 i - 16 + 15; have := j.isLt; omega) (by show r0 i - 16 + 15 < _; omega))
  rw [(congrArg minOf ea).trans ma, (congrArg maxOf eb).trans mb, (congrArg maxOf ec).trans mc]
  icases Hb with ⟨%gb, Hb⟩
  iapply (wp_ld oM _ _ _ (q := fullShare))
  isplitl [Hb]; · iexact Hb
  iintro Hb
  have et : (Scalar.select (ownFirst i (first id i) (prev id i)) (broadcast S16 4294967295#32) (broadcast S16 (first id i)) : S16.Idx → BitVec 32) = fun _ => tag id i := by
    funext x
    unfold tag
    by_cases h : ownFirst i (first id i) (prev id i) = 1#1
    · rw [sel_pos h, if_pos h]; rfl
    · rw [sel_neg h, if_neg h]; rfl
  rw [et]
  iapply (wp_st oM (Rect.unit (s := S16) ![0] S16.size inb_S16_S16_0) (fun _ => tag id i) _ _ _ (g := gb) (g' := fun _ => tag id i) (fun _ => rfl)
    (fun y hy => absurd (by
      rw [← Rect.map_emb_univ, Finset.mem_map]
      refine ⟨y, Finset.mem_univ _, ?_⟩
      funext a
      apply Fin.ext
      fin_cases a
      refine (Rect.emb_apply _ _ _).trans ?_
      show 0 + 1 * (y 0).val = (y 0).val
      omega) hy))
  isplitl [Hb]; · iexact Hb
  iintro Hb
  unfold At Tags
  icases Hb with ⟨%fb, %hfb, Hb⟩
  icases Ht with ⟨%ft, Ht⟩
  have emb : ∀ y : S16.Idx, (gM.slice (Rect.unit (s := S256) (k0_off6 i) S16.size (k0_off6_inb i)) (fun _ => rfl)).view.emb y = ix1 (⟨16 * (i 1).val + (y 0).val, by have : (y 0).val < 16 := (y 0).isLt; omega⟩ : Fin 256) := by
    intro y
    funext a
    apply Fin.ext
    show ((Rect.unit (s := S256) (k0_off6 i) S16.size (k0_off6_inb i)).emb y a).val = _
    rw [Rect.emb_apply]
    fin_cases a
    show k0_off6 i 0 + 1 * (y 0).val = 16 * (i 1).val + (y 0).val
    rw [off6_eq]; omega
  have tof : ∀ y : S16.Idx, tileOf ((gM.slice (Rect.unit (s := S256) (k0_off6 i) S16.size (k0_off6_inb i)) (fun _ => rfl)).view.emb y) = i 1 := by
    intro y
    rw [emb]
    have : (y 0).val < 16 := (y 0).isLt
    exact Fin.ext (by show (16 * (i 1).val + (y 0).val) / 16 = (i 1).val; omega)
  iapply (wp_copy oM (gM.slice (Rect.unit (s := S256) (k0_off6 i) S16.size (k0_off6_inb i)) (fun _ => rfl)) cc0_scoped3.sem (by decide) _ (q := fullShare) (fs := fb) (fd := ft) (Sd := tset {tI i})
    (by
      intro y hy
      obtain ⟨x, -, rfl⟩ := Finset.mem_map.mp hy
      exact mem_tset.mpr (Finset.mem_singleton.mpr (tof x))))
  isplitl [Hb]; · iexact Hb
  isplitl [Ht]; · iexact Ht
  isplitl [H3]; · iexact H3
  isplitl [Ho]; · iexact Ho
  iintro ⟨Hb, Ht, H3, Ho⟩
  iapply (wp_rt (F := F))
  iapply Hk
  isplitl [Ha]; · iexact Ha
  isplitl [Hr]; · iexact Hr
  isplitl [Hd]; · iexact Hd
  isplitl [Ho]; · iexact Ho
  isplitl [HI]; · iexact HI
  isplitl [Hid]
  · unfold Fetched At
    rw [off2_eq]
    iexact Hid
  isplitl [Hp]; · iexists _; iexact Hp
  isplitl [Hb]
  · iexists (fun _ => tag id i)
    iexists fb
    isplitr; · ipureintro; exact hfb
    iexact Hb
  isplitl [Ht]
  · iexists _
    isplitr; swap; · iexact Ht
    ipureintro
    intro y hy
    rw [Finset.mem_singleton] at hy
    have h' : (y 0).val / 16 = (i 1).val := congrArg Fin.val hy
    have ey : y = (gM.slice (Rect.unit (s := S256) (k0_off6 i) S16.size (k0_off6_inb i)) (fun _ => rfl)).view.emb (ix1 (⟨(y 0).val % 16, Nat.mod_lt _ (by decide)⟩ : Fin 16)) := by
      rw [emb]
      funext a
      apply Fin.ext
      fin_cases a
      show (y 0).val = 16 * (i 1).val + (y 0).val % 16
      omega
    rw [ey]
    exact (View.read_write_of_mem (v := (gM.slice (Rect.unit (s := S256) (k0_off6 i) S16.size (k0_off6_inb i)) (fun _ => rfl)).view) ft (oM.view.read (Elt F) fb)
      (Finset.mem_univ (ix1 (⟨(y 0).val % 16, Nat.mod_lt _ (by decide)⟩ : Fin 16)))).trans (congrFun hfb _)
  isplitl [H0]; · iexact H0
  isplitl [H1]; · iexact H1
  isplitl [H2] <;> iassumption

end PhaseA

end Cert.KernelIdeal.Sums
-- ==== Proof.PhaseC.lean ====
module

public import proofs.«01_k».proof.Proof.PhaseA

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-- How many of the bits `1 … n` are set. -/
def cnt (b : ℕ → BitVec 1) : ℕ → BitVec 32
  | 0 => 0#32
  | n + 1 => Scalar.addi (cnt b n) (Scalar.select (b (n + 1)) 1#32 0#32)

theorem cnt_toNat (b : ℕ → BitVec 1) (n : ℕ) (hn : n ≤ 15) : (cnt b n).toNat ≤ n ∧ (0 < (cnt b n).toNat ↔ ∃ t, 1 ≤ t ∧ t ≤ n ∧ b t = 1#1) := by
  induction n with
  | zero => exact ⟨le_rfl, ⟨fun h => absurd h (lt_irrefl _), fun ⟨t, h1, h2, _⟩ => by omega⟩⟩
  | succ n ih =>
    obtain ⟨h1, h2⟩ := ih (by omega)
    have e : (cnt b (n + 1)).toNat = (cnt b n).toNat + (if b (n + 1) = 1#1 then 1 else 0) := by
      show (cnt b n + Scalar.select (b (n + 1)) 1#32 0#32).toNat = _
      by_cases h : b (n + 1) = 1#1
      · rw [sel_pos h, if_pos h, BitVec.toNat_add]
        show ((cnt b n).toNat + 1) % 2 ^ 32 = _
        omega
      · rw [sel_neg h, if_neg h, BitVec.toNat_add]
        show ((cnt b n).toNat + 0) % 2 ^ 32 = _
        omega
    rw [e]
    by_cases h : b (n + 1) = 1#1
    · rw [if_pos h]
      exact ⟨by omega, ⟨fun _ => ⟨n + 1, by omega, le_rfl, h⟩, fun _ => by omega⟩⟩
    · rw [if_neg h, Nat.add_zero, h2]
      refine ⟨by omega, ⟨fun ⟨t, a, b', c⟩ => ⟨t, a, by omega, c⟩, fun ⟨t, a, b', c⟩ => ⟨t, a, ?_, c⟩⟩⟩
      by_contra hn'
      exact h ((show t = n + 1 by omega) ▸ c)

section PhaseC
variable {id : ℕ → BitVec 32} {X : ℕ → Fin 512 → Elt F .f32} {Wt : ℕ → Fin 64 → Elt F .f32} {z : Elt F .f32}
variable {d : Dev nD} {c : Fin 2} {s : Fin 16} {q : PosShare TreeShare} {W₀ : Waits sig (HIx 3)} {O : CellTallies nD τ sig (HIx 3)}

/-- Whether the tile's last segment begins in it. -/
def olast (id : ℕ → BitVec 32) (i : grid0.Coords) : BitVec 1 := Scalar.ori (ownFirst i (first id i) (prev id i)) (Scalar.cmpi .ne (last id i) (first id i))

theorem cond24_iff (i : grid0.Coords) (g : ℕ → BitVec 32) :
    k0_cond24 i (first id i) (last id i) (prev id i) (g 1) (g 2) (g 3) (g 4) (g 5) (g 6) (g 7) (g 8) (g 9) (g 10) (g 11) (g 12) (g 13) (g 14) (g 15) = 1#1
      ↔ ∃ t, 1 ≤ t ∧ t ≤ 15 ∧ takes i (last id i) (olast id i) t (g t) = 1#1 := by
  have h := cnt_toNat (fun t => takes i (last id i) (olast id i) t (g t)) 15 le_rfl
  show Scalar.cmpi .ne (Scalar.extui (Scalar.cmpi .sgt (cnt (fun t => takes i (last id i) (olast id i) t (g t)) 15) 0#32) : BitVec 32) 0#32 = 1#1 ↔ _
  rw [ext_ne, ← h.2]
  generalize hx : cnt (fun t => takes i (last id i) (olast id i) t (g t)) 15 = x at h ⊢
  have h1 := h.1
  show BitVec.ofBool ((0#32).slt x) = 1#1 ↔ _
  have e : (0#32).slt x = decide (0 < x.toNat) := by
    rw [BitVec.slt, BitVec.toInt_eq_toNat_of_lt (x := 0#32) (by decide), BitVec.toInt_eq_toNat_of_lt (x := x) (by omega)]
    simp
  rw [e]
  by_cases h0 : 0 < x.toNat
  · simp [h0]
  · simp [h0]

theorem takes_iff (hg : Good id) (t : Fin 16) : takes (mk c s) (last id (mk c s)) (olast id (mk c s)) t.val (tag id (mk c t)) = 1#1 ↔ TK id c s t := by
  have ha : ∀ a b : BitVec 1, Scalar.andi a b = 1#1 ↔ a = 1#1 ∧ b = 1#1 := by decide
  have ho : ∀ a b : BitVec 1, Scalar.ori a b = 1#1 ↔ a = 1#1 ∨ b = 1#1 := by decide
  have hlt : ∀ a b : Fin 16, Scalar.cmpi .slt (BitVec.ofNat 32 a.val) (BitVec.ofNat 32 b.val) = 1#1 ↔ a < b := by decide
  unfold takes olast
  rw [ha, ha, ho, cmpi_eq_iff, cmpi_ne_iff]
  show (Scalar.cmpi .slt (BitVec.ofNat 32 s.val) (BitVec.ofNat 32 t.val) = 1#1 ∧ _) ∧ _ ↔ _
  rw [hlt]
  unfold TK OwnLast tag
  have hl := lst_lt hg (c := c) (s := s)
  by_cases h : ownFirst (mk c t) (first id (mk c t)) (prev id (mk c t)) = 1#1
  · rw [if_pos h]
    constructor
    · rintro ⟨-, h'⟩
      exfalso
      have : (lst id c s).toNat = 4294967295 := congrArg BitVec.toNat h'.symm
      omega
    · rintro ⟨-, -, h', -⟩
      exact absurd h h'
  · rw [if_neg h]
    exact ⟨fun ⟨⟨h1, h2⟩, h3⟩ => ⟨h1, h2, h, h3⟩, fun ⟨h1, h2, _, h3⟩ => ⟨⟨h1, h2⟩, h3⟩⟩

/-- What the rows hold when the tiles have summed theirs: each its part. -/
def Parts (id : ℕ → BitVec 32) (X : ℕ → Fin 512 → Elt F .f32) (Wt : ℕ → Fin 64 → Elt F .f32) (z : Elt F .f32) (c : Fin 2) : Fin 544 → Fin 512 → Elt F .f32 → Prop :=
  fun r col x => Summed id X Wt z (mk c (at1 id c r)) r col x
/-- And when the runs are taken over: each segment's row the sum of its rows in the core. -/
def Totals (id : ℕ → BitVec 32) (X : ℕ → Fin 512 → Elt F .f32) (Wt : ℕ → Fin 64 → Elt F .f32) (z : Elt F .f32) (c : Fin 2) : Fin 544 → Fin 512 → Elt F .f32 → Prop :=
  fun r col x => r.val < 512 → SumOf z (fun m => term X Wt m col) ((rowsC c).filter fun m => id m = BitVec.ofNat 32 r.val) x

theorem read_tag (t : ℕ) (ht : ∀ a, (![16 * t] : Fin 1 → ℕ) a + S16.size a ≤ S256.size a) (T : Fin 16) (hT : T.val = t) (g : Fin 16 → BitVec 32) :
    maxOf (fun x : (Rect.unit (s := S256) ![16 * t] S16.size ht).shape.Idx => g (tileOf ((Rect.unit (s := S256) ![16 * t] S16.size ht).emb x))) = g T := by
  have e : (fun x : (Rect.unit (s := S256) ![16 * t] S16.size ht).shape.Idx => g (tileOf ((Rect.unit (s := S256) ![16 * t] S16.size ht).emb x))) = fun _ => g T := by
    funext x
    congr 1
    apply Fin.ext
    have e : ((Rect.unit (s := S256) ![16 * t] S16.size ht).emb x 0).val = 16 * t + 1 * (x 0).val := Rect.emb_apply _ _ _
    have hx : (x 0).val < 16 := (x 0).isLt
    show ((Rect.unit (s := S256) ![16 * t] S16.size ht).emb x 0).val / 16 = T.val
    omega
  exact (congrArg maxOf e).trans (maxOf_eq (fun _ : S16.Idx => g T) 0 fun _ => le_rfl)

/-- What the tile holds while it takes runs over: the sum so far and the last row fetched. -/
def Tak (id : ℕ → BitVec 32) (X : ℕ → Fin 512 → Elt F .f32) (Wt : ℕ → Fin 64 → Elt F .f32) (z : Elt F .f32) (d : Dev nD) (c : Fin 2) (s : Fin 16) (W₀ : Waits sig (HIx 3)) (O : CellTallies nD τ sig (HIx 3)) (k : ℕ) : SP F :=
  iprop(∃ a b : Fin 512 → Elt F .f32, ⌜∀ col, SumOf z (fun m => term X Wt m col) (taken id c s k) (a col)⌝ ∗ Acc d (mk c s) aM a ∗ Acc d (mk c s) bM b
    ∗ Own d (mk c s) (rowsAt (at2 id c) s) (Parts id X Wt z c) ∗ Owe d (mk c s) W₀ O)

theorem parts_at (t : Fin 16) (col : Fin 512) (x : Elt F .f32) (h : Parts id X Wt z c (⟨513 + t.val, by have := t.isLt; omega⟩ : Fin 544) col x) :
    SumOf z (fun m => term X Wt m col) ((rowsT c t).filter fun m => dst id (mk c t) (id m) = 513 + t.val) x := by
  have ht := t.isLt
  have e : at1 id c (⟨513 + t.val, by omega⟩ : Fin 544) = t := by
    unfold at1
    rw [if_neg (by show ¬ 513 + t.val < 512; omega), dif_pos (by show 513 + t.val - 513 < 16; omega)]
    exact Fin.ext (by show 513 + t.val - 513 = t.val; omega)
  have h' : Summed id X Wt z (mk c (at1 id c (⟨513 + t.val, by omega⟩ : Fin 544))) (⟨513 + t.val, by omega⟩ : Fin 544) col x := h
  rw [e] at h'
  exact h'

theorem wp_tStep (hg : Good id) (sem : DmaSems sig S_) {k : ℕ} {t : Fin 16} (ht : t.val = k + 1) (n : ℕ) (hn : n = t.val)
    (h : ∀ a, (![513 + n, 0] : Fin 2 → ℕ) a + S1x512.size a ≤ S544x512.size a) {u : BitVec 32} (hu : u = tag id (mk c t)) {Q : PUnit → SP F} :
    iprop(Tak id X Wt z d c s W₀ O k ∗ semVal (th d (mk c s), .dma sem.sem) 0 ∗ ((Tak id X Wt z d c s W₀ O (k + 1) ∗ semVal (th d (mk c s), .dma sem.sem) 0) -∗ Q ⟨⟩))
      ⊢ WP d (mk c s) (tStep (mk c s) bM (Memref.isWhole_whole _) aM shM sem (takes (mk c s) (last id (mk c s)) (olast id (mk c s)) n u) n h) Q := by
  subst hn hu
  unfold tStep
  rw [ext_ne]
  unfold Tak
  iintro ⟨⟨%a, %b, %ha, Ha, Hb, Hr, Ho⟩, Hv, Hk⟩
  by_cases htk : TK id c s t
  · rw [if_pos ((takes_iff hg t).mpr htk)]
    obtain ⟨e1, e2⟩ := taken_take hg ht htk
    iapply (wp_rowIn bM (Memref.isWhole_whole _) sem _ h (⟨513 + t.val, by have := t.isLt; omega⟩ : Fin 544) rfl rfl _ (part_row hg htk))
    isplitl [Hb]; · iexact Hb
    isplitl [Hr]; · iexact Hr
    isplitl [Hv]; · iexact Hv
    isplitl [Ho]; · iexact Ho
    iintro %b' %hb' ⟨Hb, Hr, Hv, Ho⟩
    iapply (wp_addTmp bM aM _ a b')
    isplitl [Hb]; · iexact Hb
    isplitl [Ha]; · iexact Ha
    iintro ⟨Hb, Ha⟩
    iapply (wp_rt (F := F))
    iapply Hk
    isplitl [Ha Hb Hr Ho]
    · iexists (fun col => FloatOps.addf (a col) (b' col)), b'
      isplitr
      · ipureintro
        intro col
        rw [e1]
        exact .join e2 (ha col) (parts_at t col _ (hb' col))
      isplitl [Ha]; · iexact Ha
      isplitl [Hb]; · iexact Hb
      isplitl [Hr] <;> iassumption
    iexact Hv
  · rw [if_neg (fun h' => htk ((takes_iff hg t).mp h'))]
    iapply (wp_rt (F := F))
    iapply Hk
    isplitl [Ha Hb Hr Ho]
    · iexists a, b
      isplitr
      · ipureintro
        rw [taken_not ht htk]
        exact ha
      isplitl [Ha]; · iexact Ha
      isplitl [Hb]; · iexact Hb
      isplitl [Hr] <;> iassumption
    iexact Hv

open scoped Classical in
/-- A row of a segment that nothing is taken over for is whole already. -/
theorem parts_total (hg : Good id) {r : Fin 544} (hr : r ∈ rowsAt (at2 id c) s) (hn : ¬ (r.val = (lst id c s).toNat ∧ OwnLast id c s) ∨ taken id c s 15 = ∅) (col : Fin 512) (x : Elt F .f32)
    (h : Parts id X Wt z c r col x) : Totals id X Wt z c r col x := by
  intro hv
  have hv' : (BitVec.ofNat 32 r.val).toNat = r.val := by rw [BitVec.toNat_ofNat]; omega
  have ho : owner id c (BitVec.ofNat 32 r.val) = s := by
    have := (mem_rowsAt.mp hr).2
    unfold at2 at this
    rwa [if_pos hv] at this
  rw [(core_row hg (by omega) ho).1]
  have e1 : at1 id c r = s := by unfold at1; rw [if_pos hv, ho]
  have h' : Summed id X Wt z (mk c (at1 id c r)) r col x := h
  rw [e1] at h'
  have e : (if BitVec.ofNat 32 r.val = lst id c s ∧ OwnLast id c s then taken id c s 15 else ∅) = ∅ := by
    split_ifs with hc
    · rcases hn with hn | hn
      · exact absurd ⟨by rw [← hc.1, hv'], hc.2⟩ hn
      · exact hn
    · rfl
  rw [e, Finset.union_empty, hv']
  exact h'

open scoped Classical in
theorem parts_join (hg : Good id) (hl : OwnLast id c s) (col : Fin 512) {a b : Elt F .f32} (ha : SumOf z (fun m => term X Wt m col) (taken id c s 15) a)
    (hb : Parts id X Wt z c (⟨(lst id c s).toNat, by have := lst_lt hg (c := c) (s := s); omega⟩ : Fin 544) col b) :
    Totals id X Wt z c (⟨(lst id c s).toNat, by have := lst_lt hg (c := c) (s := s); omega⟩ : Fin 544) col (FloatOps.addf a b) := by
  intro hv
  have ho := owner_lst hg hl
  have hb' : Summed id X Wt z (mk c (at1 id c (⟨(lst id c s).toNat, by have := lst_lt hg (c := c) (s := s); omega⟩ : Fin 544))) (⟨(lst id c s).toNat, by have := lst_lt hg (c := c) (s := s); omega⟩ : Fin 544) col b := hb
  have e0 : BitVec.ofNat 32 (lst id c s).toNat = lst id c s := by rw [BitVec.ofNat_toNat, BitVec.setWidth_eq]
  have e1 : at1 id c (⟨(lst id c s).toNat, by have := lst_lt hg (c := c) (s := s); omega⟩ : Fin 544) = s := by
    unfold at1
    rw [if_pos hv]
    show owner id c (BitVec.ofNat 32 (lst id c s).toNat) = s
    rw [e0, ho]
  rw [e1] at hb'
  obtain ⟨h1, h2⟩ := core_row hg (lst_lt hg) ho
  show SumOf z _ ((rowsC c).filter fun m => id m = BitVec.ofNat 32 (lst id c s).toNat) _
  rw [e0, h1, if_pos ⟨rfl, hl⟩, Finset.union_comm]
  exact .join h2.symm ha hb'

/-- The semaphores of the fourteen copies in of other tiles' runs. -/
abbrev tSems : Fin 14 → DmaSems sig S_ := ![cc0_scoped10, cc0_scoped11, cc0_scoped12, cc0_scoped13, cc0_scoped14, cc0_scoped15, cc0_scoped16, cc0_scoped17, cc0_scoped18, cc0_scoped19, cc0_scoped20, cc0_scoped21, cc0_scoped22, cc0_scoped23]

theorem wp_phaseC (hg : Good id) {a0 b0 : Fin 512 → Elt F .f32} {Q : PUnit → SP F} :
    iprop(Acc d (mk c s) aM a0 ∗ Acc d (mk c s) bM b0 ∗ Own d (mk c s) (rowsAt (at2 id c) s) (Parts id X Wt z c) ∗ Owe d (mk c s) W₀ O
        ∗ (∃ g, At d (mk c s) tM fullShare g) ∗ Tags d (mk c s) Finset.univ q (fun t => tag id (mk c t))
        ∗ semVal (th d (mk c s), .dma cc0_scoped9.sem) 0 ∗ (bigSep (Finset.univ : Finset (Fin 14)) fun t => semVal (th d (mk c s), .dma (tSems t).sem) 0)
        ∗ semVal (th d (mk c s), .dma cc0_scoped24.sem) 0 ∗ semVal (th d (mk c s), .dma cc0_scoped25.sem) 0 ∗ semVal (th d (mk c s), .dma cc0_scoped26.sem) 0
        ∗ (((∃ a, Acc d (mk c s) aM a) ∗ (∃ b, Acc d (mk c s) bM b) ∗ Own d (mk c s) (rowsAt (at2 id c) s) (Totals id X Wt z c) ∗ Owe d (mk c s) W₀ O
        ∗ (∃ g, At d (mk c s) tM fullShare g) ∗ Tags d (mk c s) Finset.univ q (fun t => tag id (mk c t))
        ∗ semVal (th d (mk c s), .dma cc0_scoped9.sem) 0 ∗ (bigSep (Finset.univ : Finset (Fin 14)) fun t => semVal (th d (mk c s), .dma (tSems t).sem) 0)
        ∗ semVal (th d (mk c s), .dma cc0_scoped24.sem) 0 ∗ semVal (th d (mk c s), .dma cc0_scoped25.sem) 0 ∗ semVal (th d (mk c s), .dma cc0_scoped26.sem) 0) -∗ Q ⟨⟩))
      ⊢ WP d (mk c s) (phaseC (mk c s) vM uM iM (Memref.whole main_v1_scv) xM wM idM (Memref.isWhole_whole _) pM (Memref.isWhole_whole _)
          oM (Memref.isWhole_whole _) tM (Memref.isWhole_whole _) bM (Memref.isWhole_whole _) aM (Memref.isWhole_whole _) shM
          gM (Memref.isWhole_whole _) cc0_scratch10 cc0_scratch11 cc0_scoped9 tSems cc0_scoped24 cc0_scoped25 cc0_scoped26 (broadcast S16 z)
          (first id (mk c s)) (last id (mk c s)) (prev id (mk c s))) Q := by
  unfold phaseC Tags
  iintro ⟨Ha, Hb, Hr, Ho, Ht, ⟨%ft, %hft, Hg⟩, H9, Hs, H24, H25, H26, Hk⟩
  iapply (wp_fetch gM tM cc0_scoped9.sem (by decide) _ (q := q) (fs := ft) (S := tset Finset.univ) (fun y _ => mem_tset.mpr (Finset.mem_univ _)) (g := fun y => tag id (mk c (tileOf y)))
    (funext fun y => hft y (Finset.mem_univ _)))
  isplitl [Hg]; · iexact Hg
  isplitl [Ht]; · iexact Ht
  isplitl [H9]; · iexact H9
  isplitl [Ho]; · iexact Ho
  iintro ⟨Hg, Ht, H9, Ho⟩
  iapply (wp_zeroAcc aM z _ a0)
  isplitl [Ha]; · iexact Ha
  iintro Ha
  unfold tLoop
  iapply (wp_foldK 14 _ (fun k tags => iprop(⌜∀ t : Fin 16, 1 ≤ t.val → t.val ≤ k → tags t.val = tag id (mk c t)⌝ ∗ Tak id X Wt z d c s W₀ O k ∗ At d (mk c s) tM fullShare (fun y => tag id (mk c (tileOf y)))
    ∗ (bigSep (Finset.univ : Finset (Fin 14)) fun t => semVal (th d (mk c s), .dma (tSems t).sem) 0))) ?_ (fun _ => 0#32) _)
  · intro t tags K
    iintro ⟨⟨%htg, Hk1, Ht, Hs⟩, Hk⟩
    unfold getTag
    iapply (wp_ld tM _ _ _ (q := fullShare))
    isplitl [Ht]; · iexact Ht
    iintro Ht
    rw [read_tag (t.val + 1) (tag_inb t) (⟨t.val + 1, by have := t.isLt; omega⟩ : Fin 16) rfl (fun t => tag id (mk c t))]
    iapply (wp_bd (F := F))
    ihave Hs := (Entails.of_eq (SparseCore.bigSep_erase' (i := t) (Finset.mem_univ t))) $$ Hs
    icases Hs with ⟨Hv, Hs⟩
    iapply (wp_tStep hg (tSems t) (k := t.val) (t := (⟨t.val + 1, by have := t.isLt; omega⟩ : Fin 16)) rfl (t.val + 1) rfl (part_inb t) rfl)
    isplitl [Hk1]; · iexact Hk1
    isplitl [Hv]; · iexact Hv
    iintro ⟨Hk1, Hv⟩
    iapply Hk $$ %_
    isplitr
    · ipureintro
      intro t' h1 h2
      by_cases h3 : t'.val = t.val + 1
      · rw [if_pos h3]
        exact congrArg (fun t => tag id (mk c t)) (Fin.ext h3.symm)
      · rw [if_neg h3]
        exact htg t' h1 (by omega)
    isplitl [Hk1]; · iexact Hk1
    isplitl [Ht]; · iexact Ht
    iapply (Entails.of_eq (SparseCore.bigSep_erase' (i := t) (Finset.mem_univ t)).symm)
    isplitl [Hv] <;> iassumption
  isplitl [Ha Hb Hr Ho Ht Hs]
  · isplitr; · ipureintro; intro t h1 h2; omega
    isplitl [Ha Hb Hr Ho]
    · unfold Tak
      iexists (fun _ => z), b0
      isplitr; · ipureintro; intro col; rw [taken_zero]; exact .zero
      isplitl [Ha]; · iexact Ha
      isplitl [Hb]; · iexact Hb
      isplitl [Hr] <;> iassumption
    isplitl [Ht] <;> iassumption
  iintro %tags ⟨%htg, Hk1, Ht, Hs⟩
  unfold getTag
  iapply (wp_ld tM _ _ _ (q := fullShare))
  isplitl [Ht]; · iexact Ht
  iintro Ht
  rw [read_tag 15 tag_inb15 (15 : Fin 16) rfl (fun t => tag id (mk c t))]
  have hlst := lst_lt hg (c := c) (s := s)
  have htag : ∀ t : Fin 16, 1 ≤ t.val → (if t.val = 15 then tag id (mk c 15) else tags t.val) = tag id (mk c t) := by
    intro t h1
    by_cases h : t.val = 15
    · rw [if_pos h]; exact congrArg (fun t => tag id (mk c t)) (Fin.ext h.symm)
    · rw [if_neg h]; exact htg t h1 (by have := t.isLt; omega)
  have h24 : k0_cond24 (mk c s) (first id (mk c s)) (last id (mk c s)) (prev id (mk c s)) (tags 1) (tags 2) (tags 3) (tags 4) (tags 5) (tags 6) (tags 7) (tags 8) (tags 9) (tags 10) (tags 11) (tags 12) (tags 13) (tags 14) (tag id (mk c 15)) = 1#1
      ↔ ∃ t, TK id c s t := by
    refine (cond24_iff (id := id) (mk c s) (fun n => if n = 15 then tag id (mk c 15) else tags n)).trans ?_
    constructor
    · rintro ⟨n, h1, h2, h3⟩
      have e : (if n = 15 then tag id (mk c 15) else tags n) = tag id (mk c ⟨n, by omega⟩) := htag ⟨n, by omega⟩ h1
      rw [e] at h3
      exact ⟨⟨n, by omega⟩, (takes_iff hg (⟨n, by omega⟩ : Fin 16)).mp h3⟩
    · rintro ⟨t, ht⟩
      have h1 : 1 ≤ t.val := by have : s.val < t.val := ht.1; omega
      refine ⟨t.val, h1, by have := t.isLt; omega, ?_⟩
      rw [htag t h1]
      exact (takes_iff hg t).mpr ht
  iapply (wp_assume (defs := defs₀ (F := F)) 𝒱₀ (th d (mk c s)) none Set.univ (show k0_chk6 (mk c s) _ _ _ _ _ _ _ _ _ _ _ _ _ _ _ _ _ _ from fun _ a => by
    fin_cases a
    · show (lst id c s).toNat + 1 ≤ 544
      omega
    · show 0 + 512 ≤ 512
      omega))
  iapply (wp_bd (F := F))
  iapply (wp_tStep hg cc0_scoped24 (k := 14) (t := 15) rfl 15 rfl part_inb15 rfl)
  isplitl [Hk1]; · iexact Hk1
  isplitl [H24]; · iexact H24
  iintro ⟨Hk1, H24⟩
  unfold Tak
  icases Hk1 with ⟨%a, %b, %ha, Ha, Hb, Hr, Ho⟩
  by_cases hc : ∃ t, TK id c s t
  · rw [dif_pos (h24.mpr hc)]
    obtain ⟨t, htk⟩ := hc
    have hol := htk.2.1
    unfold pickup
    iapply (wp_rowIn bM (Memref.isWhole_whole _) cc0_scoped25 _ _ (⟨(lst id c s).toNat, by omega⟩ : Fin 544) rfl rfl _ (lst_row hg hol))
    isplitl [Hb]; · iexact Hb
    isplitl [Hr]; · iexact Hr
    isplitl [H25]; · iexact H25
    isplitl [Ho]; · iexact Ho
    iintro %b' %hb' ⟨Hb, Hr, H25, Ho⟩
    iapply (wp_addTmp bM aM _ a b')
    isplitl [Hb]; · iexact Hb
    isplitl [Ha]; · iexact Ha
    iintro ⟨Hb, Ha⟩
    iapply (wp_rowOut_own aM (Memref.isWhole_whole _) cc0_scoped26 _ _ (⟨(lst id c s).toNat, by omega⟩ : Fin 544) rfl rfl _
      (R := rowsAt (at2 id c) s) (G := Parts id X Wt z c)
      (G' := fun r col x => r ∈ rowsAt (at2 id c) s → Totals id X Wt z c r col x) (lst_row hg hol) (fun col _ => parts_join hg hol col (ha col) (hb' col))
      (fun r' _ hne col v hv hr => parts_total hg hr (.inl fun h => hne (Fin.ext h.1)) col v hv))
    isplitl [Ha]; · iexact Ha
    isplitl [Hr]; · iexact Hr
    isplitl [H26]; · iexact H26
    isplitl [Ho]; · iexact Ho
    iintro ⟨Ha, Hr, H26, Ho⟩
    iapply (wp_rt (F := F))
    iapply Hk
    isplitl [Ha]; · iexists _; iexact Ha
    isplitl [Hb]; · iexists _; iexact Hb
    isplitl [Hr]
    · unfold Own
      icases Hr with ⟨%f, %hf, Hr⟩
      iexists f
      isplitr; · ipureintro; exact fun r hr col => hf r hr col hr
      iexact Hr
    isplitl [Ho]; · iexact Ho
    isplitl [Ht]; · iexists _; iexact Ht
    isplitl [Hg]
    · iexists ft
      isplitr; · ipureintro; exact hft
      iexact Hg
    isplitl [H9]; · iexact H9
    isplitl [Hs]; · iexact Hs
    isplitl [H24]; · iexact H24
    isplitl [H25] <;> iassumption
  · rw [dif_neg (fun h => hc (h24.mp h))]
    iapply (wp_rt (F := F))
    iapply Hk
    isplitl [Ha]; · iexists _; iexact Ha
    isplitl [Hb]; · iexists _; iexact Hb
    isplitl [Hr]
    · unfold Own
      icases Hr with ⟨%f, %hf, Hr⟩
      iexists f
      isplitr; · ipureintro; exact fun r hr col => parts_total hg hr (.inr (taken_none (fun t h => hc ⟨t, h⟩) 15)) col _ (hf r hr col)
      iexact Hr
    isplitl [Ho]; · iexact Ho
    isplitl [Ht]; · iexists _; iexact Ht
    isplitl [Hg]
    · iexists ft
      isplitr; · ipureintro; exact hft
      iexact Hg
    isplitl [H9]; · iexact H9
    isplitl [Hs]; · iexact Hs
    isplitl [H24]; · iexact H24
    isplitl [H25] <;> iassumption

end PhaseC

end Cert.KernelIdeal.Sums
-- ==== Proof.PhaseD.lean ====
module

public import proofs.«01_k».proof.Proof.PhaseC

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

open Idealize.ShloMosaic.Transfers

section PhaseD
variable {id : ℕ → BitVec 32} {X : ℕ → Fin 512 → Elt F .f32} {Wt : ℕ → Fin 64 → Elt F .f32} {z : Elt F .f32}
variable {d : Dev nD} {c : Fin 2} {s : Fin 16} {W₀ : Waits sig (HIx 3)} {O : CellTallies nD τ sig (HIx 3)}

/-- The rows of the two cores' sums. -/
abbrev vO : Memref sig .scVector .hbm S1024x512 .f32 := Memref.whole main_v1_scv

/-- The tile that writes an element, of the thirty-two. -/
def outOf (y : S1024x512.Idx) : Fin 32 := ⟨(y 0).val / 32, by have : (y 0).val < 1024 := (y 0).isLt; omega⟩
/-- The elements that a tile writes. -/
def oset (c : Fin 2) (s : Fin 16) : Finset S1024x512.Idx := Finset.univ.filter fun y => (outOf y).val = 16 * c.val + s.val

theorem mem_oset {c : Fin 2} {s : Fin 16} {y : S1024x512.Idx} : y ∈ oset c s ↔ (outOf y).val = 16 * c.val + s.val := by
  unfold oset; rw [Finset.mem_filter]; exact ⟨fun h => h.2, fun h => ⟨Finset.mem_univ _, h⟩⟩

/-- What an element of the cores' sums is. -/
def Outs (id : ℕ → BitVec 32) (X : ℕ → Fin 512 → Elt F .f32) (Wt : ℕ → Fin 64 → Elt F .f32) (z : Elt F .f32) (y : S1024x512.Idx) (x : Elt F .f32) : Prop :=
  ∀ (c : Fin 2) (r : Fin 544), r.val < 512 → (y 0).val = 512 * c.val + r.val → Totals id X Wt z c r (y 1) x

/-- A tile's elements of the cores' sums held. -/
def Out (d : Dev nD) (c : Fin 2) (s : Fin 16) (G : S1024x512.Idx → Elt F .f32 → Prop) : SP F :=
  iprop(∃ f : Buf (Elt F) (vO.view.loc (th d (mk c s))), ⌜∀ y ∈ oset c s, G y (f y)⌝ ∗ (vO.view.loc (th d (mk c s)) ↦[oset c s]{fullShare} f))

section Rows32
variable {o o' : Fin 2 → ℕ} {h : ∀ a, o a + S32x512.size a ≤ S544x512.size a} {h' : ∀ a, o' a + S32x512.size a ≤ S1024x512.size a}

abbrev srcD (o : Fin 2 → ℕ) (h : ∀ a, o a + S32x512.size a ≤ S544x512.size a) : Memref sig .scVector .shared S32x512 .f32 :=
  shM.slice (Rect.unit (s := S544x512) o S32x512.size h) (fun _ => rfl)
abbrev dstD (o' : Fin 2 → ℕ) (h' : ∀ a, o' a + S32x512.size a ≤ S1024x512.size a) : Memref sig .scVector .hbm S32x512 .f32 :=
  vO.slice (Rect.unit (s := S1024x512) o' S32x512.size h') (fun _ => rfl)

theorem srcD_emb (e0 : o 0 = 32 * s.val) (e1 : o 1 = 0) (j : S32x512.Idx) : ((srcD o h).view.emb j : S544x512.Idx)
    = ix2 (⟨32 * s.val + (j 0).val, by have := s.isLt; have : (j 0).val < 32 := (j 0).isLt; omega⟩ : Fin 544) (j 1) := by
  show (Rect.unit (s := S544x512) o S32x512.size h).emb j = _
  funext a
  apply Fin.ext
  rw [Rect.emb_apply]
  fin_cases a
  · show o 0 + 1 * (j 0).val = 32 * s.val + (j 0).val
    omega
  · show o 1 + 1 * (j 1).val = (j 1).val
    omega

theorem dstD_emb (e0' : o' 0 = 512 * c.val + 32 * s.val) (e1' : o' 1 = 0) (j : S32x512.Idx) : ((dstD o' h').view.emb j : S1024x512.Idx)
    = ix2 (⟨512 * c.val + 32 * s.val + (j 0).val, by have := s.isLt; have := c.isLt; have : (j 0).val < 32 := (j 0).isLt; omega⟩ : Fin 1024) (j 1) := by
  show (Rect.unit (s := S1024x512) o' S32x512.size h').emb j = _
  funext a
  apply Fin.ext
  rw [Rect.emb_apply]
  fin_cases a
  · show o' 0 + 1 * (j 0).val = 512 * c.val + 32 * s.val + (j 0).val
    omega
  · show o' 1 + 1 * (j 1).val = (j 1).val
    omega

theorem srcD_set (e0 : o 0 = 32 * s.val) (e1 : o 1 = 0) : (srcD o h).view.set ⊆ rset (rowsAt at3 s) := by
  intro y hy
  obtain ⟨j, -, rfl⟩ := Finset.mem_map.mp (show y ∈ Finset.univ.map (srcD o h).view.emb from hy)
  have hs := s.isLt
  have hj : (j 0).val < 32 := (j 0).isLt
  rw [srcD_emb e0 e1]
  refine mem_rset.mpr (mem_rowsAt.mpr ?_)
  refine ⟨fun h => ?_, ?_⟩
  · have : 32 * s.val + (j 0).val = 512 := congrArg Fin.val h
    omega
  · unfold at3
    rw [dif_pos (by show 32 * s.val + (j 0).val < 512; omega)]
    exact Fin.ext (by show (32 * s.val + (j 0).val) / 32 = s.val; omega)

theorem dstD_set (e0' : o' 0 = 512 * c.val + 32 * s.val) (e1' : o' 1 = 0) : (dstD o' h').view.set ⊆ oset c s := by
  intro y hy
  obtain ⟨j, -, rfl⟩ := Finset.mem_map.mp (show y ∈ Finset.univ.map (dstD o' h').view.emb from hy)
  have hs := s.isLt
  have hj : (j 0).val < 32 := (j 0).isLt
  rw [dstD_emb e0' e1']
  refine mem_oset.mpr ?_
  show (512 * c.val + 32 * s.val + (j 0).val) / 32 = 16 * c.val + s.val
  omega

theorem dstD_of (e0' : o' 0 = 512 * c.val + 32 * s.val) (e1' : o' 1 = 0) {y : S1024x512.Idx} (hy : y ∈ oset c s) : ∃ j : S32x512.Idx, y = (dstD o' h').view.emb j := by
  have h1 : (y 0).val / 32 = 16 * c.val + s.val := mem_oset.mp hy
  refine ⟨ix2 (⟨(y 0).val - (512 * c.val + 32 * s.val), by omega⟩ : Fin 32) (y 1), ?_⟩
  rw [dstD_emb e0' e1']
  refine (eq_ix2 y).trans ?_
  congr 1
  apply Fin.ext
  show (y 0).val = 512 * c.val + 32 * s.val + ((y 0).val - (512 * c.val + 32 * s.val))
  omega

theorem wp_rowsOut (e0 : o 0 = 32 * s.val) (e1 : o 1 = 0) (e0' : o' 0 = 512 * c.val + 32 * s.val) (e1' : o' 1 = 0) {Q : PUnit → SP F} (sem : DmaSems sig S_) {w1 w1' : (srcD o h).view.WordExact} {w2 w2' : (dstD o' h').view.WordExact}
    {w3 : DmaTarget.Typed (nD := nD) (p := .scVector (cV (mk c s)) (jV (mk c s))) .shared (.dma sem.sem) (.here (dstD o' h'))} :
    iprop(Own d (mk c s) (rowsAt at3 s) (Totals id X Wt z c) ∗ Out d c s (fun _ _ => True) ∗ Owe d (mk c s) W₀ O ∗ semVal (th d (mk c s), .dma sem.sem) 0
        ∗ ((Own d (mk c s) (rowsAt at3 s) (Totals id X Wt z c) ∗ Out d c s (Outs id X Wt z) ∗ Owe d (mk c s) W₀ O ∗ semVal (th d (mk c s), .dma sem.sem) 0) -∗ Q ⟨⟩))
      ⊢ WP d (mk c s) (.op (.enqueueDma (srcD o h) (.here (dstD o' h')) (.dma sem.sem) w1 w2 w3) fun _ => .op (.waitDma2 sem.sem (srcD o h) (dstD o' h') w1' w2') fun _ => .ret ⟨⟩) Q := by
  unfold Own Out
  iintro ⟨⟨%fs, %hfs, Hs⟩, ⟨%fd, -, Hd⟩, Ho, Hv, Hk⟩
  have hsub : (srcD o h).view.set ⊆ rset (rowsAt at3 s) := srcD_set e0 e1
  ihave Hs2 := (pointsTo_split_subset (ℓ := shM.view.loc (th d (mk c s))) hsub).1 $$ Hs
  icases Hs2 with ⟨Hs, Hrest⟩
  iapply (wp_copy (srcD o h) (dstD o' h') sem.sem (by decide) (.ret ⟨⟩) (q := fullShare) (fs := fs) (fd := fd) (Sd := oset c s) (dstD_set e0' e1'))
  isplitl [Hs]; · iexact Hs
  isplitl [Hd]; · iexact Hd
  isplitl [Hv]; · iexact Hv
  isplitl [Ho]; · iexact Ho
  iintro ⟨Hs, Hd, Hv, Ho⟩
  iapply (wp_rt (F := F))
  iapply Hk
  isplitl [Hs Hrest]
  · iexists fs
    isplitr; · ipureintro; exact hfs
    iapply (pointsTo_split_subset (ℓ := shM.view.loc (th d (mk c s))) hsub).2
    isplitl [Hs] <;> iassumption
  isplitl [Hd]
  · iexists ((dstD o' h').view.write (Elt F) fd ((srcD o h).view.read (Elt F) fs) Finset.univ)
    isplitr; swap; · iexact Hd
    ipureintro
    intro y hy
    obtain ⟨j, rfl⟩ := dstD_of (h' := h') e0' e1' hy
    rw [View.write_emb_of_mem _ _ (Finset.mem_univ _)]
    show Outs id X Wt z _ (fs ((srcD o h).view.emb j))
    intro c' r hr hy0
    have hj : (j 0).val < 32 := (j 0).isLt
    have hs := s.isLt
    have hm := srcD_set (h := h) e0 e1 (Finset.mem_map.mpr ⟨j, Finset.mem_univ _, rfl⟩ : (srcD o h).view.emb j ∈ (srcD o h).view.set)
    rw [srcD_emb e0 e1] at hm
    replace hm := mem_rset.mp hm
    have h1 := hfs _ hm (j 1)
    have hy1 : 512 * c.val + 32 * s.val + (j 0).val = 512 * c'.val + r.val := by rw [dstD_emb e0' e1'] at hy0; exact hy0
    have hcc : c = c' := Fin.ext (by omega)
    subst hcc
    have hrr : (⟨32 * s.val + (j 0).val, by omega⟩ : Fin 544) = r := Fin.ext (by show 32 * s.val + (j 0).val = r.val; omega)
    rw [hrr] at h1
    rw [dstD_emb e0' e1', srcD_emb e0 e1, hrr]
    exact h1
  isplitl [Ho] <;> iassumption

end Rows32

theorem wp_phaseD {Q : PUnit → SP F} :
    iprop(Own d (mk c s) (rowsAt at3 s) (Totals id X Wt z c) ∗ Out d c s (fun _ _ => True) ∗ Owe d (mk c s) W₀ O ∗ semVal (th d (mk c s), .dma cc0_scoped27.sem) 0
        ∗ ((Own d (mk c s) (rowsAt at3 s) (Totals id X Wt z c) ∗ Out d c s (Outs id X Wt z) ∗ Owe d (mk c s) W₀ O ∗ semVal (th d (mk c s), .dma cc0_scoped27.sem) 0) -∗ Q ⟨⟩))
      ⊢ WP d (mk c s) (phaseD (mk c s) vO shM cc0_scoped27) Q := by
  have h := off169_eq (i := mk c s)
  have e : (Prog.ret : PUnit → Prog (TE F (mk c s)) PUnit) = fun _ => .ret ⟨⟩ := funext fun _ => rfl
  unfold phaseD
  rw [e]
  exact wp_rowsOut h.2.1 h.2.2 h.1.1 h.1.2 cc0_scoped27

end PhaseD

/-! ## Rows and tags dealt and gathered -/

section Deal
variable {d : Dev nD} {i : grid0.Coords}

theorem rset_biUnion {ι : Type} [DecidableEq ι] (d : Dev nD) (i : grid0.Coords) (S : Finset ι) (R : ι → Finset (Fin 544)) :
    (rset (S.biUnion R) : Finset (Idx (shM.view.loc (th d i)))) = S.biUnion fun t => (rset (R t) : Finset (Idx (shM.view.loc (th d i)))) := by
  apply Finset.ext
  intro y
  refine (Finset.mem_filter.trans ?_).trans Finset.mem_biUnion.symm
  constructor
  · rintro ⟨-, h⟩
    obtain ⟨t, ht, h⟩ := Finset.mem_biUnion.mp h
    exact ⟨t, ht, Finset.mem_filter.mpr ⟨Finset.mem_univ _, h⟩⟩
  · rintro ⟨t, ht, h⟩
    exact ⟨Finset.mem_univ _, Finset.mem_biUnion.mpr ⟨t, ht, (Finset.mem_filter.mp h).2⟩⟩

theorem rset_disjoint {R R' : Finset (Fin 544)} (h : Disjoint R R') : Disjoint (rset R) (rset R') := by
  rw [Finset.disjoint_left] at *
  intro y h1 h2
  exact h (Finset.mem_filter.mp h1).2 (Finset.mem_filter.mp h2).2

theorem Own_mono {R : Finset (Fin 544)} {G G' : Fin 544 → Fin 512 → Elt F .f32 → Prop} (h : ∀ r ∈ R, ∀ c x, G r c x → G' r c x) : Own d i R G ⊢ Own d i R G' := by
  unfold Own
  iintro ⟨%f, %hf, H⟩
  iexists f
  isplitr; · ipureintro; exact fun r hr c => h r hr c _ (hf r hr c)
  iexact H

theorem Own_deal {R : Finset (Fin 544)} (P : Fin 16 → Finset (Fin 544)) {G : Fin 544 → Fin 512 → Elt F .f32 → Prop} (hR : R = Finset.univ.biUnion P)
    (hd : ∀ t ∈ Finset.univ, ∀ t' ∈ Finset.univ, t ≠ t' → Disjoint (P t) (P t')) :
    Own d i R G ⊢ bigSep Finset.univ fun j => Own d i (P j) G := by
  subst hR
  unfold Own
  iintro ⟨%f, %hf, H⟩
  have e : (shM.view.loc (th d i) ↦[rset (Finset.univ.biUnion P)]{fullShare} f : SP F) = bigSep Finset.univ fun j => (shM.view.loc (th d i) ↦[rset (P j)]{fullShare} f : SP F) := by
    rw [rset_biUnion d i]
    exact pointsTo_biUnion (ℓ := shM.view.loc (th d i)) Finset.univ (fun t => rset (P t)) fun t ht t' ht' hne => rset_disjoint (hd t ht t' ht' hne)
  have h : ∀ j ∈ (Finset.univ : Finset (Fin 16)), (shM.view.loc (th d i) ↦[rset (P j)]{fullShare} f : SP F)
      ⊢ iprop(∃ f : Buf (Elt F) (shM.view.loc (th d i)), ⌜∀ r ∈ P j, ∀ c : Fin 512, G r c (f (ix2 r c))⌝ ∗ (shM.view.loc (th d i) ↦[rset (P j)]{fullShare} f)) := by
    intro j _
    iintro H
    iexists f
    isplitr; · ipureintro; exact fun r hr c => hf r (Finset.mem_biUnion.mpr ⟨j, Finset.mem_univ _, hr⟩) c
    iexact H
  ihave H := (Entails.of_eq e) $$ H
  iapply (SparseCore.ent (bigSep_mono h)) $$ H

theorem Own_gather {R : Finset (Fin 544)} (P : Fin 16 → Finset (Fin 544)) {G : Fin 544 → Fin 512 → Elt F .f32 → Prop} (hR : R = Finset.univ.biUnion P)
    (hd : ∀ t ∈ Finset.univ, ∀ t' ∈ Finset.univ, t ≠ t' → Disjoint (P t) (P t')) :
    (bigSep Finset.univ fun j => Own d i (P j) G) ⊢ Own d i R G := by
  subst hR
  unfold Own
  haveI : Nonempty (Buf (Elt F) (shM.view.loc (th d i))) := ⟨fun _ => (Scalar.ofBits .f32 0x00000000#32 : Elt F .f32)⟩
  refine (bigSep_exists_pi Finset.univ fun j (f : Buf (Elt F) (shM.view.loc (th d i))) =>
    iprop(⌜∀ r ∈ P j, ∀ c : Fin 512, G r c (f (ix2 r c))⌝ ∗ (shM.view.loc (th d i) ↦[rset (P j)]{fullShare} f))).trans ?_
  iintro ⟨%fs, H⟩
  ihave H := (bigSep_pure_sep Finset.univ (fun j => ∀ r ∈ P j, ∀ c : Fin 512, G r c (fs j (ix2 r c))) _) $$ H
  icases H with ⟨%hp, H⟩
  ihave H := (pointsTo_biUnion_join (ℓ := shM.view.loc (th d i)) (q := fullShare) Finset.univ (fun t => rset (P t)) fs (fs 0) fun t ht t' ht' hne => rset_disjoint (hd t ht t' ht' hne)) $$ H
  icases H with ⟨%f, %hf, H⟩
  iexists f
  isplitr
  · ipureintro
    intro r hr c
    obtain ⟨j, hj, hr⟩ := Finset.mem_biUnion.mp hr
    rw [hf j hj (ix2 r c) (mem_rset.mpr hr)]
    exact hp j hj r hr c
  rw [rset_biUnion d i]
  iexact H

end Deal

end Cert.KernelIdeal.Sums
-- ==== Proof.Deal.lean ====
module

public import proofs.«01_k».proof.Proof.PhaseD

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # What the meetings move -/

section Shares
open Idealize.ShloMosaic.Transfers

/-- What splits along shares is what remains after `k` tokens and the tokens. -/
theorem share_toks {Φ : PosShare TreeShare → SP F} (h : ∀ q q₁ q₂, q ∈ PCS.op q₁ q₂ → (Φ q ⊣⊢ iprop(Φ q₁ ∗ Φ q₂))) (q : PosShare TreeShare) (k : ℕ) :
    Φ q ⊣⊢ iprop(Φ (shareDrop q k) ∗ bigSep (Finset.range k) fun i => Φ (shareTokN q i)) := by
  induction k with
  | zero => rw [Finset.range_zero, bigSep_empty]; exact ⟨Laws.sep_emp.2, Laws.sep_emp.1⟩
  | succ k ih =>
    have hs := h (shareDrop q k) (shareDrop q (k + 1)) (shareTokN q k) (PosShare.mem_left_op_right _)
    rw [Finset.range_add_one, SparseCore.bigSep_insert' Finset.notMem_range_self]
    constructor
    · refine BIBase.Entails.trans ih.1 ?_
      iintro ⟨Hd, Ht⟩
      ihave H := hs.1 $$ Hd
      icases H with ⟨H1, H2⟩
      isplitl [H1]; · iexact H1
      isplitl [H2]; · iexact H2
      iexact Ht
    · refine BIBase.Entails.trans ?_ ih.2
      iintro ⟨H1, H2, Ht⟩
      isplitl [H1 H2]
      · iapply hs.2
        isplitl [H1]; · iexact H1
        iexact H2
      iexact Ht

/-- Tile `k`'s share of the sixteen. -/
def sh16 (k : Fin 16) : PosShare TreeShare := dealShare fullShare 16 k.val

theorem share_deal {Φ : PosShare TreeShare → SP F} (h : ∀ q q₁ q₂, q ∈ PCS.op q₁ q₂ → (Φ q ⊣⊢ iprop(Φ q₁ ∗ Φ q₂))) :
    Φ fullShare ⊣⊢ bigSep Finset.univ fun j : Fin 16 => Φ (sh16 j) := by
  rw [show (bigSep Finset.univ fun j : Fin 16 => Φ (sh16 j)) = bigSep (Finset.range 16) fun k => Φ (dealShare fullShare 16 k) by
    rw [← Nat.Iio_eq_range, ← Fin.map_valEmbedding_univ, bigSep_map]; rfl]
  rw [Finset.range_add_one, SparseCore.bigSep_insert' Finset.notMem_range_self,
    show dealShare fullShare 16 15 = shareDrop fullShare 15 from if_neg (by decide),
    bigSep_congr (s := Finset.range 15) (Φ := fun i => Φ (dealShare fullShare 16 i)) (Ψ := fun i => Φ (shareTokN fullShare i))
      fun i hi => by rw [show dealShare fullShare 16 i = shareTokN fullShare i from if_pos (by have := Finset.mem_range.mp hi; omega)]]
  exact share_toks h fullShare 15

theorem Dum_share (d : Dev nD) (i : grid0.Coords) (q q₁ q₂ : PosShare TreeShare) (h : q ∈ PCS.op q₁ q₂) : (Dum (F := F) d i q ⊣⊢ iprop(Dum d i q₁ ∗ Dum d i q₂)) := by
  haveI : IsOp q q₁ q₂ := ⟨h⟩
  unfold Dum
  constructor
  · iintro ⟨%f, %W, H⟩
    icases H with ⟨H1, H2⟩
    isplitl [H1]
    · iexists f, W; iexact H1
    iexists f, W; iexact H2
  · iintro ⟨⟨%f, %W, H1⟩, ⟨%f', %W', H2⟩⟩
    ihave %hag := (Region.willBe_agree (ι := (wmEmb (HIx 3) (EWu (F := F))).toEmb)) $$ [H1 H2]
    · isplitl [H1] <;> iassumption
    iexists f, W ∪ W'
    ihave H2' := (Entails.of_eq (Region.willBe_congr (ι := (wmEmb (HIx 3) (EWu (F := F))).toEmb) (k := shM.view.loc (th d i)) (q := q₂) (W := W') (fun i hi => Eq.symm (And.left (And.left (hag i (Finset.mem_inter.mpr (And.intro hi hi)))))) (fun _ _ => rfl) (fun _ _ => Iff.rfl))) $$ H2
    isplitl [H1]
    · iexact H1
    iexact H2'

theorem Tags_univ (d : Dev nD) (i : grid0.Coords) (q : PosShare TreeShare) (g : Fin 16 → BitVec 32) :
    Tags (F := F) d i Finset.univ q g = (gM.view.loc (th d i) ↦[tset Finset.univ]{q} (fun y => g (tileOf y) : Buf (Elt F) (gM.view.loc (th d i)))) := by
  unfold Tags
  have h1 : (iprop(∃ f : Buf (Elt F) (gM.view.loc (th d i)), ⌜∀ y, tileOf y ∈ (Finset.univ : Finset (Fin 16)) → f y = g (tileOf y)⌝ ∗ (gM.view.loc (th d i) ↦[tset Finset.univ]{q} f)) : SP F)
      ⊢ (gM.view.loc (th d i) ↦[tset Finset.univ]{q} (fun y => g (tileOf y) : Buf (Elt F) (gM.view.loc (th d i)))) := by
    iintro ⟨%f, %hf, H⟩
    obtain rfl : f = fun y => g (tileOf y) := funext fun y => hf y (Finset.mem_univ _)
    iexact H
  have h2 : (gM.view.loc (th d i) ↦[tset Finset.univ]{q} (fun y => g (tileOf y) : Buf (Elt F) (gM.view.loc (th d i))) : SP F)
      ⊢ iprop(∃ f : Buf (Elt F) (gM.view.loc (th d i)), ⌜∀ y, tileOf y ∈ (Finset.univ : Finset (Fin 16)) → f y = g (tileOf y)⌝ ∗ (gM.view.loc (th d i) ↦[tset Finset.univ]{q} f)) := by
    iintro H
    iexists _; isplitr
    · ipureintro; exact fun y _ => rfl
    iexact H
  exact BI.Entails.antisymm h1 h2

theorem Tags_share (d : Dev nD) (i : grid0.Coords) (g : Fin 16 → BitVec 32) (q q₁ q₂ : PosShare TreeShare) (h : q ∈ PCS.op q₁ q₂) :
    (Tags (F := F) d i Finset.univ q g ⊣⊢ iprop(Tags d i Finset.univ q₁ g ∗ Tags d i Finset.univ q₂ g)) := by
  rw [Tags_univ, Tags_univ, Tags_univ]; exact pointsTo_share h

end Shares

/-- All rows but the one any tile may write. -/
def rows0 : Finset (Fin 544) := Finset.univ.filter (· ≠ 512)
theorem rows0_eq (f : Fin 544 → Fin 16) : rows0 = Finset.univ.biUnion (rowsAt f) := by
  ext r
  rw [Finset.mem_biUnion]
  constructor
  · intro h; exact ⟨f r, Finset.mem_univ _, mem_rowsAt.mpr ⟨(Finset.mem_filter.mp h).2, rfl⟩⟩
  · rintro ⟨s, -, h⟩; exact Finset.mem_filter.mpr ⟨Finset.mem_univ _, (mem_rowsAt.mp h).1⟩
theorem rowsAt_disjoint (f : Fin 544 → Fin 16) (s t : Fin 16) (h : s ≠ t) : Disjoint (rowsAt f s) (rowsAt f t) := by
  rw [Finset.disjoint_left]
  intro r h1 h2
  exact h ((mem_rowsAt.mp h1).2.symm.trans (mem_rowsAt.mp h2).2)

section Families
variable (id : ℕ → BitVec 32) (X : ℕ → Fin 512 → Elt F .f32) (Wt : ℕ → Fin 64 → Elt F .f32) (z : Elt F .f32) (d : Dev nD) (c : Fin 2)

/-- What tile `k` brings to each meeting. -/
def In3 (r : Fin 3) (k : Fin 16) : SP F :=
  if r = 0 then iprop(Own d (mk c 0) (rowsAt at0 k) (fun _ _ x => x = z) ∗ if k = 15 then Dum d (mk c 0) fullShare else iprop(emp))
  else if r = 1 then iprop(Own d (mk c 0) (rowsAt (at1 id c) k) (Parts id X Wt z c) ∗ Tags d (mk c 0) {k} fullShare (fun t => tag id (mk c t)))
  else iprop(Own d (mk c 0) (rowsAt (at2 id c) k) (Totals id X Wt z c) ∗ Dum d (mk c 0) (sh16 k) ∗ Tags d (mk c 0) Finset.univ (sh16 k) (fun t => tag id (mk c t)))

/-- What it leaves each with. -/
def Out3 (r : Fin 3) (k : Fin 16) : SP F :=
  if r = 0 then iprop(Own d (mk c 0) (rowsAt (at1 id c) k) (fun _ _ x => x = z) ∗ Dum d (mk c 0) (sh16 k))
  else if r = 1 then iprop(Own d (mk c 0) (rowsAt (at2 id c) k) (Parts id X Wt z c) ∗ Tags d (mk c 0) Finset.univ (sh16 k) (fun t => tag id (mk c t)))
  else iprop(Own d (mk c 0) (rowsAt at3 k) (Totals id X Wt z c) ∗ if k = 0 then iprop(Dum d (mk c 0) fullShare ∗ Tags d (mk c 0) Finset.univ fullShare (fun t => tag id (mk c t))) else iprop(emp))

instance Own_storable (i : grid0.Coords) (R : Finset (Fin 544)) (G : Fin 544 → Fin 512 → Elt F .f32 → Prop) : BI.Storable (upEmb : UEmb _ 𝕄) (Own d i R G) := by
  unfold Own; infer_instance
instance Dum_storable (i : grid0.Coords) (q : PosShare TreeShare) : BI.Storable (upEmb : UEmb _ 𝕄) (Dum (F := F) d i q) := by
  unfold Dum; infer_instance
instance Tags_storable (i : grid0.Coords) (T : Finset (Fin 16)) (q : PosShare TreeShare) (g : Fin 16 → BitVec 32) : BI.Storable (upEmb : UEmb _ 𝕄) (Tags (F := F) d i T q g) := by
  unfold Tags; infer_instance
instance Out_storable (s : Fin 16) (G : S1024x512.Idx → Elt F .f32 → Prop) : BI.Storable (upEmb : UEmb _ 𝕄) (Out d c s G) := by
  unfold Out; infer_instance
instance In3_storable (r : Fin 3) (k : Fin 16) : BI.Storable (upEmb : UEmb _ 𝕄) (In3 id X Wt z d c r k) := by
  unfold In3; split
  · split <;> infer_instance
  · split <;> infer_instance
instance Out3_storable (r : Fin 3) (k : Fin 16) : BI.Storable (upEmb : UEmb _ 𝕄) (Out3 id X Wt z d c r k) := by
  unfold Out3; split
  · infer_instance
  · split
    · infer_instance
    · split <;> infer_instance

theorem Own_turn (i : grid0.Coords) (f f' : Fin 544 → Fin 16) (G : Fin 544 → Fin 512 → Elt F .f32 → Prop) :
    (bigSep Finset.univ fun j => Own d i (rowsAt f j) G) ⊢ bigSep Finset.univ fun j => Own d i (rowsAt f' j) G :=
  BIBase.Entails.trans (Own_gather (d := d) (i := i) (rowsAt f) (rows0_eq f) fun t _ t' _ h => rowsAt_disjoint f t t' h)
    (Own_deal (d := d) (i := i) (rowsAt f') (rows0_eq f') fun t _ t' _ h => rowsAt_disjoint f' t t' h)

theorem tset_cover (i : grid0.Coords) : (tset Finset.univ : Finset (Idx (gM.view.loc (th d i)))) = Finset.univ.biUnion fun t : Fin 16 => (tset {t} : Finset (Idx (gM.view.loc (th d i)))) := by
  apply Finset.ext
  intro y
  refine Iff.trans ?_ Finset.mem_biUnion.symm
  exact ⟨fun _ => ⟨tileOf y, Finset.mem_univ _, mem_tset.mpr (Finset.mem_singleton_self _)⟩, fun _ => mem_tset.mpr (Finset.mem_univ _)⟩
theorem tset_disjoint (i : grid0.Coords) (t t' : Fin 16) (h : t ≠ t') : Disjoint (tset {t} : Finset (Idx (gM.view.loc (th d i)))) (tset {t'}) := by
  rw [Finset.disjoint_left]
  intro y h1 h2
  exact h ((Finset.mem_singleton.mp (mem_tset.mp h1)).symm.trans (Finset.mem_singleton.mp (mem_tset.mp h2)))

theorem Tags_gather (i : grid0.Coords) (g : Fin 16 → BitVec 32) : (bigSep Finset.univ fun k => Tags (F := F) d i {k} fullShare g) ⊢ Tags d i Finset.univ fullShare g := by
  have e : ∀ k : Fin 16, Tags (F := F) d i {k} fullShare g ⊢ (gM.view.loc (th d i) ↦[tset {k}]{fullShare} (fun y => g (tileOf y) : Buf (Elt F) (gM.view.loc (th d i)))) := by
    intro k
    unfold Tags
    iintro ⟨%f, %hf, H⟩
    iapply (Entails.of_eq (pointsTo_congr fun y hy => hf y (mem_tset.mp hy))) $$ H
  refine BIBase.Entails.trans (SparseCore.ent (bigSep_mono fun k _ => e k)) ?_
  rw [Tags_univ, ← pointsTo_biUnion Finset.univ (ℓ := gM.view.loc (th d i)) (fun t : Fin 16 => (tset {t} : Finset (Idx (gM.view.loc (th d i))))) (fun t _ t' _ h => tset_disjoint i t t' h), ← tset_cover i]

theorem one_only (k : Fin 16) (R : SP F) : (bigSep Finset.univ fun j : Fin 16 => if j = k then R else iprop(emp)) ⊣⊢ R := by
  rw [SparseCore.bigSep_erase' (Finset.mem_univ k), if_pos rfl,
    bigSep_congr (s := Finset.univ.erase k) (Φ := fun j => if j = k then R else iprop(emp)) (Ψ := fun _ => iprop(emp)) fun j hj => if_neg (Finset.mem_erase.mp hj).1,
    show (bigSep (Finset.univ.erase k) fun _ : Fin 16 => (iprop(emp) : SP F)) = iprop(emp) from bigSep_emp_const _]
  exact ⟨Laws.sep_emp.1, Laws.sep_emp.2⟩

theorem hconv3 (r : Fin 3) : bigSep Finset.univ (In3 id X Wt z d c r) ⊢ bigSep Finset.univ (Out3 id X Wt z d c r) := by
  by_cases h0 : r = 0
  · subst h0
    show (bigSep Finset.univ fun k => iprop(Own d (mk c 0) (rowsAt at0 k) (fun _ _ x => x = z) ∗ if k = 15 then Dum d (mk c 0) fullShare else iprop(emp)))
      ⊢ bigSep Finset.univ fun k => iprop(Own d (mk c 0) (rowsAt (at1 id c) k) (fun _ _ x => x = z) ∗ Dum d (mk c 0) (sh16 k))
    rw [bigSep_sep', bigSep_sep']
    iintro ⟨H1, H2⟩
    isplitl [H1]; · iapply (Own_turn d (mk c 0) at0 (at1 id c) _) $$ H1
    ihave H2 := (one_only 15 _).1 $$ H2
    iapply (share_deal (Dum_share d (mk c 0))).1 $$ H2
  by_cases h1 : r = 1
  · subst h1
    show (bigSep Finset.univ fun k => iprop(Own d (mk c 0) (rowsAt (at1 id c) k) (Parts id X Wt z c) ∗ Tags d (mk c 0) {k} fullShare (fun t => tag id (mk c t))))
      ⊢ bigSep Finset.univ fun k => iprop(Own d (mk c 0) (rowsAt (at2 id c) k) (Parts id X Wt z c) ∗ Tags d (mk c 0) Finset.univ (sh16 k) (fun t => tag id (mk c t)))
    rw [bigSep_sep', bigSep_sep']
    iintro ⟨H1, H2⟩
    isplitl [H1]; · iapply (Own_turn d (mk c 0) (at1 id c) (at2 id c) _) $$ H1
    ihave H2 := (Tags_gather d (mk c 0) _) $$ H2
    iapply (share_deal (Tags_share d (mk c 0) _)).1 $$ H2
  obtain rfl : r = 2 := by omega
  show (bigSep Finset.univ fun k => iprop(Own d (mk c 0) (rowsAt (at2 id c) k) (Totals id X Wt z c) ∗ Dum d (mk c 0) (sh16 k) ∗ Tags d (mk c 0) Finset.univ (sh16 k) (fun t => tag id (mk c t))))
    ⊢ bigSep Finset.univ fun k => iprop(Own d (mk c 0) (rowsAt at3 k) (Totals id X Wt z c) ∗ if k = 0 then iprop(Dum d (mk c 0) fullShare ∗ Tags d (mk c 0) Finset.univ fullShare (fun t => tag id (mk c t))) else iprop(emp))
  rw [bigSep_sep', bigSep_sep', bigSep_sep']
  iintro ⟨H1, H2, H3⟩
  isplitl [H1]; · iapply (Own_turn d (mk c 0) (at2 id c) at3 _) $$ H1
  iapply (one_only 0 _).2
  isplitl [H2]
  · iapply (share_deal (Dum_share d (mk c 0))).2 $$ H2
  iapply (share_deal (Tags_share d (mk c 0) _)).2 $$ H3

end Families

end Cert.KernelIdeal.Sums
-- ==== Proof.Steps.lean ====
module

public import proofs.«01_k».proof.Proof.PhaseD

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! ## The tiles' steps

A meeting is seventeen steps of a tile: a signal to each of the sixteen tiles in order, then the wait. A tile's place in
the three meetings is the number of its steps. A signal lands some time after it is made. -/

section Steps

/-- A signal: its tile, the tile it is for, and the meeting. -/
abbrev Sig3 : Type := Fin 16 × Fin 16 × Fin 3

/-- The signals a tile has made to tile `j` within its first `n` steps. -/
def sg (n j : ℕ) : ℕ := (n + 16 - j) / 17

/-- The signals that have landed at tile `j`: those marked 2; those made and still on their way are marked 1. -/
def land (σ : Sig3 → ℕ) (j : Fin 16) : ℕ := ∑ k : Fin 16, ∑ r : Fin 3, if σ (k, j, r) = 2 then 1 else 0

/-- What the tiles' numbers of steps and the signals' marks always satisfy. -/
structure Steps (n : Fin 16 → ℕ) (σ : Sig3 → ℕ) : Prop where
  le : ∀ k, n k ≤ 51
  made : ∀ (k j : Fin 16) (r : Fin 3), σ (k, j, r) ≠ 0 → 17 * r.val + j.val < n k
  sum : ∀ j : Fin 16, 16 * (n j / 17) ≤ land σ j
  order : ∀ (r : ℕ) (j : Fin 16), 17 * (r + 1) ≤ n j → ∀ k, 17 * r < n k

/-- The tiles that have begun meeting `r`. -/
def arr (n : Fin 16 → ℕ) (r : ℕ) : Finset (Fin 16) := Finset.univ.filter fun k => 17 * r < n k
/-- The tiles that have ended meeting `r`. -/
def dep (n : Fin 16 → ℕ) (r : ℕ) : Finset (Fin 16) := Finset.univ.filter fun k => 17 * (r + 1) ≤ n k
/-- What tile `j`'s semaphore holds. -/
def bal (n : Fin 16 → ℕ) (σ : Sig3 → ℕ) (j : Fin 16) : ℕ := land σ j - 16 * (n j / 17)
/-- One more step of tile `s`. -/
def step (n : Fin 16 → ℕ) (s : Fin 16) : Fin 16 → ℕ := Function.update n s (n s + 1)

variable {n : Fin 16 → ℕ} {σ : Sig3 → ℕ} {s : Fin 16}

theorem step_self : step n s s = n s + 1 := Function.update_self _ _ _
theorem step_of_ne {k : Fin 16} (h : k ≠ s) : step n s k = n k := Function.update_of_ne h _ _

theorem mem_arr {r : ℕ} {k : Fin 16} : k ∈ arr n r ↔ 17 * r < n k := by
  unfold arr; rw [Finset.mem_filter]; exact ⟨fun h => h.2, fun h => ⟨Finset.mem_univ _, h⟩⟩
theorem mem_dep {r : ℕ} {k : Fin 16} : k ∈ dep n r ↔ 17 * (r + 1) ≤ n k := by
  unfold dep; rw [Finset.mem_filter]; exact ⟨fun h => h.2, fun h => ⟨Finset.mem_univ _, h⟩⟩

/-- No more of a tile's signals have landed than it has made. -/
theorem land_le (hn : Steps n σ) (k j : Fin 16) : (∑ r : Fin 3, if σ (k, j, r) = 2 then 1 else 0) ≤ sg (n k) j.val := by
  have h : ∀ r : Fin 3, (if σ (k, j, r) = 2 then 1 else 0) ≤ if 17 * r.val + j.val < n k then 1 else 0 := fun r => by
    split
    next h2 => rw [if_pos (hn.made k j r (by rw [h2]; decide))]
    next => exact Nat.zero_le _
  refine (Finset.sum_le_sum fun r _ => h r).trans ?_
  rw [Fin.sum_univ_three]
  have := j.isLt
  unfold sg
  show (if 17 * 0 + j.val < n k then 1 else 0) + (if 17 * 1 + j.val < n k then 1 else 0) + (if 17 * 2 + j.val < n k then 1 else 0) ≤ _
  split <;> split <;> split <;> omega

/-- A mark's change, counted. -/
theorem land_update (p : Sig3) (m : ℕ) (j : Fin 16) (h : σ p ≠ 2) :
    land (Function.update σ p m) j = land σ j + if j = p.2.1 ∧ m = 2 then 1 else 0 := by
  obtain ⟨k, t, r⟩ := p
  unfold land
  by_cases hj : j = t
  · subst hj
    rw [← Finset.add_sum_erase _ _ (Finset.mem_univ k), ← Finset.add_sum_erase _ (fun k => ∑ r : Fin 3, if σ (k, j, r) = 2 then 1 else 0) (Finset.mem_univ k),
      ← Finset.add_sum_erase _ _ (Finset.mem_univ r), ← Finset.add_sum_erase _ (fun r => if σ (k, j, r) = 2 then 1 else 0) (Finset.mem_univ r),
      Function.update_self, if_neg h,
      Finset.sum_congr rfl fun r' hr' => by rw [Function.update_of_ne (fun e => Finset.ne_of_mem_erase hr' (congrArg (·.2.2) e))],
      Finset.sum_congr (s₁ := Finset.univ.erase k) rfl fun k' hk' => Finset.sum_congr rfl fun r' _ => by
        rw [Function.update_of_ne (fun e => Finset.ne_of_mem_erase hk' (congrArg (·.1) e))]]
    simp only [true_and]
    omega
  · rw [if_neg (fun h => hj h.1), Nat.add_zero]
    exact Finset.sum_congr rfl fun k' _ => Finset.sum_congr rfl fun r' _ => by
      rw [Function.update_of_ne (fun e => hj (congrArg (·.2.1) e))]

section Made
variable {r : Fin 3} {t : Fin 16} (hn : Steps n σ) (hs : n s = 17 * r.val + t.val) (h0 : σ (s, t, r) = 0)
include hn hs h0

theorem div_made (j : Fin 16) : step n s j / 17 = n j / 17 := by
  by_cases h : j = s
  · subst h; rw [step_self, hs]; have := t.isLt; omega
  · rw [step_of_ne h]

theorem last_made (j : Fin 16) : step n s j = 51 ↔ n j = 51 := by
  by_cases h : j = s
  · subst h; rw [step_self, hs]; have := t.isLt; have := r.isLt; omega
  · rw [step_of_ne h]

theorem land_made (j : Fin 16) : land (Function.update σ (s, t, r) 1) j = land σ j := by
  rw [land_update _ _ _ (by rw [h0]; decide), if_neg (fun h => absurd h.2 (by decide)), Nat.add_zero]

theorem steps_made : Steps (step n s) (Function.update σ (s, t, r) 1) where
  le k := by
    by_cases h : k = s
    · subst h; rw [step_self, hs]; have := t.isLt; have := r.isLt; omega
    · rw [step_of_ne h]; exact hn.le k
  made k j r' h := by
    by_cases e : (k, j, r') = (s, t, r)
    · cases e; rw [step_self, hs]; omega
    · rw [Function.update_of_ne e] at h
      have := hn.made k j r' h
      by_cases hk : k = s
      · subst hk; rw [step_self]; omega
      · rwa [step_of_ne hk]
  sum j := by rw [div_made hn hs h0, land_made hn hs h0]; exact hn.sum j
  order r' j hj k := by
    have h1 : 17 * (r' + 1) ≤ n j := by
      by_cases h : j = s
      · subst h; rw [step_self, hs] at hj; rw [hs]; have := t.isLt; omega
      · rwa [step_of_ne h] at hj
    have h2 := hn.order r' j h1 k
    by_cases h : k = s
    · subst h; rw [step_self]; omega
    · rwa [step_of_ne h]

theorem bal_made (j : Fin 16) : bal (step n s) (Function.update σ (s, t, r) 1) j = bal n σ j := by
  unfold bal; rw [div_made hn hs h0, land_made hn hs h0]

theorem dep_made (r' : ℕ) : dep (step n s) r' = dep n r' := by
  ext k
  rw [mem_dep, mem_dep]
  by_cases h : k = s
  · subst h; rw [step_self, hs]; have := t.isLt; omega
  · rw [step_of_ne h]

theorem arr_made (r' : ℕ) (h' : r' ≠ r.val ∨ t.val ≠ 0) : arr (step n s) r' = arr n r' := by
  ext k
  rw [mem_arr, mem_arr]
  by_cases h : k = s
  · subst h; rw [step_self, hs]; have := t.isLt; omega
  · rw [step_of_ne h]

theorem arr_first (ht : t.val = 0) : arr (step n s) r.val = insert s (arr n r.val) ∧ s ∉ arr n r.val ∧ dep n r.val = ∅ := by
  refine ⟨?_, ?_, ?_⟩
  · ext k
    rw [Finset.mem_insert, mem_arr, mem_arr]
    by_cases h : k = s
    · subst h; rw [step_self, hs]; exact ⟨fun _ => Or.inl rfl, fun _ => by omega⟩
    · rw [step_of_ne h]; exact ⟨Or.inr, fun h' => h'.resolve_left h⟩
  · rw [mem_arr, hs]; omega
  · refine Finset.eq_empty_of_forall_notMem fun k hk => ?_
    have := hn.order r.val k (mem_dep.mp hk) s
    omega

end Made

section Land
variable {p : Sig3} (hn : Steps n σ) (h1 : σ p = 1)
include hn h1

theorem steps_land : Steps n (Function.update σ p 2) where
  le := hn.le
  made k j r h := by
    by_cases e : (k, j, r) = p
    · subst e; exact hn.made k j r (by rw [h1]; decide)
    · rw [Function.update_of_ne e] at h; exact hn.made k j r h
  sum j := by rw [land_update _ _ _ (by rw [h1]; decide)]; exact (hn.sum j).trans (Nat.le_add_right _ _)
  order := hn.order

theorem bal_land (j : Fin 16) : bal n (Function.update σ p 2) j = bal n σ j + if j = p.2.1 then 1 else 0 := by
  unfold bal
  rw [land_update _ _ _ (by rw [h1]; decide)]
  simp only [and_true]
  have := hn.sum j
  omega

theorem open_land : n p.2.1 ≠ 51 := by
  intro h
  have h2 := hn.sum p.2.1
  rw [h] at h2
  have h3 := (steps_land hn h1)
  have h4 : land (Function.update σ p 2) p.2.1 ≤ ∑ _k : Fin 16, 3 := Finset.sum_le_sum fun k _ =>
    (land_le h3 k p.2.1).trans (by unfold sg; have := hn.le k; omega)
  rw [land_update _ _ _ (by rw [h1]; decide), if_pos ⟨rfl, rfl⟩, Finset.sum_const, Finset.card_univ, Fintype.card_fin, smul_eq_mul] at h4
  omega

end Land

section Leave
variable {r : ℕ} (hn : Steps n σ) (hs : n s = 17 * r + 16) (hr : r < 3) (hb : 16 ≤ bal n σ s)
include hn hs hr

theorem open_leave : n s ≠ 51 := by omega

include hb

theorem all_leave : ∀ k, 17 * r < n k := by
  by_cases hp : ∃ k, 17 * (r + 1) ≤ n k
  · obtain ⟨k, hk⟩ := hp; exact hn.order r k hk
  · intro k
    have hle : ∀ m, sg (n m) s.val ≤ r + 1 := fun m => by
      unfold sg
      have : ¬ 17 * (r + 1) ≤ n m := fun h => hp ⟨m, h⟩
      omega
    have hd : n s / 17 = r := by rw [hs]; omega
    unfold bal land at hb
    rw [hd, ← Finset.add_sum_erase _ _ (Finset.mem_univ k)] at hb
    have h4 := Finset.sum_le_sum (s := Finset.univ.erase k) fun m _ => (land_le hn m s).trans (hle m)
    rw [Finset.sum_const, Finset.card_erase_of_mem (Finset.mem_univ k), Finset.card_univ, Fintype.card_fin, smul_eq_mul] at h4
    have h5 : r + 1 ≤ sg (n k) s.val := by have := land_le hn k s; omega
    unfold sg at h5
    have := s.isLt
    omega

theorem steps_leave : Steps (step n s) σ where
  le k := by
    by_cases h : k = s
    · subst h; rw [step_self, hs]; omega
    · rw [step_of_ne h]; exact hn.le k
  made k j r' h := by
    have := hn.made k j r' h
    by_cases hk : k = s
    · subst hk; rw [step_self]; omega
    · rwa [step_of_ne hk]
  sum j := by
    by_cases h : j = s
    · subst h
      rw [step_self, hs]
      have hd : n j / 17 = r := by rw [hs]; omega
      unfold bal at hb
      rw [hd] at hb
      omega
    · rw [step_of_ne h]; exact hn.sum j
  order r' j hj k := by
    have hk : 17 * r' < n k := by
      by_cases h : j = s
      · subst h
        rw [step_self, hs] at hj
        have := all_leave hn hs hr hb k
        omega
      · rw [step_of_ne h] at hj; exact hn.order r' j hj k
    by_cases h : k = s
    · subst h; rw [step_self]; omega
    · rwa [step_of_ne h]

theorem arr_leave (r' : ℕ) (h' : r' < 3) : arr (step n s) r' = arr n r' := by
  ext k
  rw [mem_arr, mem_arr]
  by_cases h : k = s
  · subst h; rw [step_self, hs]; omega
  · rw [step_of_ne h]

theorem arr_all : arr n r = Finset.univ := Finset.eq_univ_of_forall fun k => mem_arr.mpr (all_leave hn hs hr hb k)

theorem dep_leave (r' : ℕ) (h' : r' ≠ r) : dep (step n s) r' = dep n r' := by
  ext k
  rw [mem_dep, mem_dep]
  by_cases h : k = s
  · subst h; rw [step_self, hs]; omega
  · rw [step_of_ne h]

theorem dep_self : dep (step n s) r = insert s (dep n r) ∧ s ∉ dep n r := by
  constructor
  · ext k
    rw [Finset.mem_insert, mem_dep, mem_dep]
    by_cases h : k = s
    · subst h; rw [step_self, hs]; exact ⟨fun _ => Or.inl rfl, fun _ => by omega⟩
    · rw [step_of_ne h]; exact ⟨Or.inr, fun h' => h'.resolve_left h⟩
  · rw [mem_dep, hs]; omega

theorem bal_self : bal (step n s) σ s = bal n σ s - 16 := by
  have e : step n s s / 17 = r + 1 := by rw [step_self, hs]; omega
  have hd : n s / 17 = r := by rw [hs]; omega
  unfold bal
  rw [e, hd]
  omega

theorem bal_leave (j : Fin 16) (h : j ≠ s) : bal (step n s) σ j = bal n σ j := by
  unfold bal; rw [step_of_ne h]

theorem bal_last (h2 : r = 2) : bal n σ s - 16 = 0 := by
  have hd : n s / 17 = r := by rw [hs]; omega
  unfold bal
  rw [hd]
  have h4 : land σ s ≤ ∑ _m : Fin 16, 3 := Finset.sum_le_sum fun m _ => (land_le hn m s).trans (by unfold sg; have := hn.le m; omega)
  rw [Finset.sum_const, Finset.card_univ, Fintype.card_fin, smul_eq_mul] at h4
  omega

end Leave

end Steps

end Cert.KernelIdeal.Sums
-- ==== Proof.Meet.lean ====
module

public import proofs.«01_k».proof.Proof.Steps

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! ## The three meetings

Every meeting raises the same semaphores, so a tile may raise one for the next meeting before its owner has left the last.
One invariant for a core's tiles keeps all three: each tile's number of steps, each signal's mark, each semaphore at what
these say, and for each meeting either what the arrived tiles have left or what the tiles still in it will take. -/

section Meet
variable (B : Fin 16 → GSem nD τ sig) (γ : Fin 16 → ℕ) (γ' : Sig3 → ℕ) (In Out : Fin 3 → Fin 16 → SP F)

/-- What a meeting holds: once all have arrived, what those that have not left will take; before, what has been left. -/
def Pot (r : Fin 3) (A L : Finset (Fin 16)) : SP F :=
  if A = Finset.univ then bigSep (Finset.univ \ L) (Out r) else bigSep A (In r)

/-- A tile's semaphore at its balance, until its last meeting is over. -/
def Bar (n : Fin 16 → ℕ) (σ : Sig3 → ℕ) (j : Fin 16) : SP F := if n j = 51 then iprop(emp) else semVal (B j) (bal n σ j)

/-- The core's meetings. -/
def Meets : SP F :=
  iprop(∃ (n : Fin 16 → ℕ) (σ : Sig3 → ℕ), ⌜Steps n σ⌝ ∗ bigSep Finset.univ (fun k => countAuth EC (γ k) (n k))
    ∗ bigSep Finset.univ (fun p => countAuth EC (γ' p) (σ p)) ∗ bigSep Finset.univ (Bar (F := F) B n σ)
    ∗ bigSep Finset.univ fun r : Fin 3 => Pot In Out r (arr n r.val) (dep n r.val))

variable {B γ γ' In Out}

theorem Pot_full {r : Fin 3} {A L : Finset (Fin 16)} (h : A = Finset.univ) : Pot In Out r A L = bigSep (Finset.univ \ L) (Out r) := if_pos h

/-- A tile arrives. -/
theorem Pot_arrive (hconv : ∀ r, bigSep Finset.univ (In r) ⊢ bigSep Finset.univ (Out r)) {r : Fin 3} {A : Finset (Fin 16)} {s : Fin 16} (hs : s ∉ A) :
    iprop(Pot In Out r A ∅ ∗ In r s) ⊢ Pot In Out r (insert s A) ∅ := by
  have hA : A ≠ Finset.univ := fun h => hs (h ▸ Finset.mem_univ s)
  have h1 : iprop(Pot In Out r A ∅ ∗ In r s) ⊢ bigSep (insert s A) (In r) := by
    unfold Pot
    rw [if_neg hA, SparseCore.bigSep_insert' hs]
    iintro ⟨HA, HI⟩
    isplitl [HI]
    · iexact HI
    · iexact HA
  refine BI.Entails.trans h1 ?_
  unfold Pot
  split
  next h => rw [h, Finset.sdiff_empty]; exact hconv r
  next => exact BI.Entails.refl _

/-- A tile leaves. -/
theorem Pot_leave {r : Fin 3} {L : Finset (Fin 16)} {s : Fin 16} (hs : s ∉ L) :
    Pot In Out r Finset.univ L ⊢ iprop(Out r s ∗ Pot In Out r Finset.univ (insert s L)) := by
  rw [Pot_full rfl, Pot_full rfl, SparseCore.bigSep_erase' (Finset.mem_sdiff.mpr ⟨Finset.mem_univ s, hs⟩),
    show (Finset.univ \ L).erase s = Finset.univ \ insert s L from by ext; simp [and_comm]]

section Counts
variable {I : Type} [DecidableEq I] [Fintype I] {g n : I → ℕ} {s : I} {m : ℕ}

/-- One counter of a family moves. -/
theorem move (m' : ℕ) (hs : n s = m) :
    iprop(bigSep Finset.univ (fun k => countAuth EC (g k) (n k)) ∗ count EC (g s) m)
      ⊢ iprop(|==> (bigSep Finset.univ (fun k => countAuth EC (g k) (Function.update n s m' k)) ∗ count EC (g s) m') : SP F) := by
  rw [SparseCore.bigSep_erase' (Finset.mem_univ s), SparseCore.bigSep_erase' (Φ := fun k => (countAuth EC (g k) (Function.update n s m' k) : SP F)) (Finset.mem_univ s),
    bigSep_congr (s := Finset.univ.erase s) (Φ := fun k => (countAuth EC (g k) (Function.update n s m' k) : SP F)) (Ψ := fun k => countAuth EC (g k) (n k))
      (fun k hk => by rw [Function.update_of_ne (Finset.ne_of_mem_erase hk)]), Function.update_self, hs]
  iintro ⟨⟨Ha, Hr⟩, Hc⟩
  imod (countAuth_count_update EC m') $$ [Ha Hc] with ⟨Ha, Hc⟩
  · isplitl [Ha]
    · iexact Ha
    · iexact Hc
  imodintro
  isplitr [Hc]
  · isplitl [Ha]
    · iexact Ha
    · iexact Hr
  · iexact Hc

/-- A counter is what its holder says. -/
theorem here : iprop(bigSep Finset.univ (fun k => countAuth EC (g k) (n k)) ∗ count EC (g s) m) ⊢ (iprop(⌜n s = m⌝
      ∗ bigSep Finset.univ (fun k => countAuth EC (g k) (n k)) ∗ count EC (g s) m) : SP F) := by
  rw [SparseCore.bigSep_erase' (Finset.mem_univ s)]
  iintro ⟨⟨Ha, Hr⟩, Hc⟩
  ihave %h := (countAuth_count_agree EC) $$ [Ha Hc]
  · isplitl [Ha]
    · iexact Ha
    · iexact Hc
  isplitr
  · ipureintro; exact h.symm
  isplitr [Hc]
  · isplitl [Ha]
    · iexact Ha
    · iexact Hr
  · iexact Hc

end Counts

/-- A signal made: the first of a meeting leaves what the tile brings. -/
theorem meets_made (hconv : ∀ r, bigSep Finset.univ (In r) ⊢ bigSep Finset.univ (Out r)) (r : Fin 3) (s t : Fin 16) :
    iprop(Meets B γ γ' In Out ∗ count EC (γ s) (17 * r.val + t.val) ∗ count EC (γ' (s, t, r)) 0 ∗ (if t.val = 0 then In r s else iprop(emp)))
      ⊢ iprop(|==> (Meets B γ γ' In Out ∗ count EC (γ s) (17 * r.val + t.val + 1) ∗ count EC (γ' (s, t, r)) 1)) := by
  unfold Meets
  iintro ⟨⟨%n, %σ, %hn, Ha, Hg, Hb, Hp⟩, Hc, Hs, Hi⟩
  ihave Hac := (here (g := γ) (n := n)) $$ [Ha Hc]
  · isplitl [Ha]
    · iexact Ha
    · iexact Hc
  icases Hac with ⟨%hs, Ha, Hc⟩
  ihave Hac := (here (g := γ') (n := σ)) $$ [Hg Hs]
  · isplitl [Hg]
    · iexact Hg
    · iexact Hs
  icases Hac with ⟨%h0, Hg, Hs⟩
  have e : Function.update n s (17 * r.val + t.val + 1) = step n s := by unfold step; rw [hs]
  imod (move (17 * r.val + t.val + 1) hs) $$ [Ha Hc] with ⟨Ha, Hc⟩
  · isplitl [Ha]
    · iexact Ha
    · iexact Hc
  imod (move 1 h0) $$ [Hg Hs] with ⟨Hg, Hs⟩
  · isplitl [Hg]
    · iexact Hg
    · iexact Hs
  imodintro
  isplitr [Hc Hs]
  · iexists (step n s); iexists (Function.update σ (s, t, r) 1)
    isplitr
    · ipureintro; exact steps_made hn hs h0
    isplitl [Ha]
    · iapply (Entails.of_eq (by rw [e])) $$ Ha
    isplitl [Hg]
    · iexact Hg
    isplitl [Hb]
    · iapply (Entails.of_eq (bigSep_congr (s := Finset.univ) (Φ := Bar (F := F) B n σ) (Ψ := Bar (F := F) B (step n s) (Function.update σ (s, t, r) 1)) fun j _ => by
        unfold Bar
        rw [bal_made hn hs h0]
        simp only [last_made hn hs h0])) $$ Hb
    · by_cases ht : t.val = 0
      · obtain ⟨e1, e2, e3⟩ := arr_first hn hs h0 ht
        ihave Hi := (Entails.of_eq (if_pos ht)) $$ Hi
        ihave Hp := (Entails.of_eq (SparseCore.bigSep_erase' (Finset.mem_univ r))) $$ Hp
        icases Hp with ⟨Hpr, Hp⟩
        ihave Hp := (Entails.of_eq (bigSep_congr (s := Finset.univ.erase r) (Φ := fun r : Fin 3 => Pot In Out r (arr n r.val) (dep n r.val))
          (Ψ := fun r : Fin 3 => Pot In Out r (arr (step n s) r.val) (dep (step n s) r.val)) fun r' hr' => by
            rw [dep_made hn hs h0, arr_made hn hs h0 _ (Or.inl fun h => Finset.ne_of_mem_erase hr' (Fin.ext h))])) $$ Hp
        ihave Hpr := (Entails.of_eq (show Pot In Out r (arr n r.val) (dep n r.val) = Pot In Out r (arr n r.val) ∅ from by rw [e3])) $$ Hpr
        ihave Hpr := (Pot_arrive hconv e2) $$ [Hpr Hi]
        · isplitl [Hpr]
          · iexact Hpr
          · iexact Hi
        ihave Hpr := (Entails.of_eq (show Pot In Out r (insert s (arr n r.val)) ∅ = Pot In Out r (arr (step n s) r.val) (dep (step n s) r.val) from by
          rw [dep_made hn hs h0, e3, e1])) $$ Hpr
        iapply (Entails.of_eq (SparseCore.bigSep_erase' (Finset.mem_univ r)).symm) $$ [Hpr Hp]
        isplitl [Hpr]
        · iexact Hpr
        · iexact Hp
      · iapply (Entails.of_eq (bigSep_congr (s := Finset.univ) (Φ := fun r : Fin 3 => Pot In Out r (arr n r.val) (dep n r.val))
          (Ψ := fun r : Fin 3 => Pot In Out r (arr (step n s) r.val) (dep (step n s) r.val)) fun r' _ => by
            rw [dep_made hn hs h0, arr_made hn hs h0 _ (Or.inr ht)])) $$ Hp
  isplitl [Hc]
  · iexact Hc
  · iexact Hs

/-- A signal lands. -/
theorem meets_land (p : Sig3) :
    iprop(Meets B γ γ' In Out ∗ count EC (γ' p) 1)
      ⊢ iprop(∃ v, semVal (B p.2.1) v ∗ (semVal (B p.2.1) (v + 1) -∗ |==> Meets B γ γ' In Out)) := by
  unfold Meets
  iintro ⟨⟨%n, %σ, %hn, Ha, Hg, Hb, Hp⟩, Hs⟩
  ihave Hac := (here (g := γ') (n := σ)) $$ [Hg Hs]
  · isplitl [Hg]
    · iexact Hg
    · iexact Hs
  icases Hac with ⟨%h1, Hg, Hs⟩
  have ht := open_land hn h1
  ihave Hb := (Entails.of_eq (SparseCore.bigSep_erase' (Finset.mem_univ p.2.1))) $$ Hb
  icases Hb with ⟨Hbt, Hb⟩
  ihave Hbt := (Entails.of_eq (show Bar (F := F) B n σ p.2.1 = semVal (B p.2.1) (bal n σ p.2.1) from if_neg ht)) $$ Hbt
  iexists (bal n σ p.2.1)
  isplitl [Hbt]
  · iexact Hbt
  iintro Hbt
  imod (move 2 h1) $$ [Hg Hs] with ⟨Hg, Hs⟩
  · isplitl [Hg]
    · iexact Hg
    · iexact Hs
  imodintro
  iexists n; iexists (Function.update σ p 2)
  isplitr
  · ipureintro; exact steps_land hn h1
  isplitl [Ha]
  · iexact Ha
  isplitl [Hg]
  · iexact Hg
  isplitl [Hbt Hb]
  · ihave Hb := (Entails.of_eq (bigSep_congr (s := Finset.univ.erase p.2.1) (Φ := Bar (F := F) B n σ) (Ψ := Bar (F := F) B n (Function.update σ p 2)) fun j hj => by
      unfold Bar
      rw [bal_land hn h1, if_neg (Finset.ne_of_mem_erase hj), Nat.add_zero])) $$ Hb
    ihave Hbt := (Entails.of_eq (show semVal (B p.2.1) (bal n σ p.2.1 + 1) = Bar (F := F) B n (Function.update σ p 2) p.2.1 from by
      unfold Bar
      rw [if_neg ht, bal_land hn h1, if_pos rfl])) $$ Hbt
    iapply (Entails.of_eq (SparseCore.bigSep_erase' (Finset.mem_univ p.2.1)).symm) $$ [Hbt Hb]
    isplitl [Hbt]
    · iexact Hbt
    · iexact Hb
  · iexact Hp

/-- The wait: the tile takes what it leaves the meeting with, and after the last its semaphore too. -/
theorem meets_leave (r : Fin 3) (s : Fin 16) :
    iprop(Meets B γ γ' In Out ∗ count EC (γ s) (17 * r.val + 16))
      ⊢ iprop(∃ v, semVal (B s) v ∗ (⌜16 ≤ v⌝ -∗ semVal (B s) (v - 16) -∗ |==> (Meets B γ γ' In Out
        ∗ count EC (γ s) (17 * r.val + 16 + 1) ∗ Out r s ∗ (if r.val = 2 then semVal (B s) 0 else iprop(emp))))) := by
  unfold Meets
  iintro ⟨⟨%n, %σ, %hn, Ha, Hg, Hb, Hp⟩, Hc⟩
  ihave Hac := (here (g := γ) (n := n)) $$ [Ha Hc]
  · isplitl [Ha]
    · iexact Ha
    · iexact Hc
  icases Hac with ⟨%hs, Ha, Hc⟩
  have hr := r.isLt
  have ht := open_leave hn hs hr
  ihave Hb := (Entails.of_eq (SparseCore.bigSep_erase' (Finset.mem_univ s))) $$ Hb
  icases Hb with ⟨Hbt, Hb⟩
  ihave Hbt := (Entails.of_eq (show Bar (F := F) B n σ s = semVal (B s) (bal n σ s) from if_neg ht)) $$ Hbt
  iexists (bal n σ s)
  isplitl [Hbt]
  · iexact Hbt
  iintro %hb Hbt
  have e : Function.update n s (17 * r.val + 16 + 1) = step n s := by unfold step; rw [hs]
  imod (move (17 * r.val + 16 + 1) hs) $$ [Ha Hc] with ⟨Ha, Hc⟩
  · isplitl [Ha]
    · iexact Ha
    · iexact Hc
  imodintro
  obtain ⟨e1, e2⟩ := dep_self hn hs hr hb
  have e3 := arr_all hn hs hr hb
  ihave Hp := (Entails.of_eq (SparseCore.bigSep_erase' (Finset.mem_univ r))) $$ Hp
  icases Hp with ⟨Hpr, Hp⟩
  ihave Hp := (Entails.of_eq (bigSep_congr (s := Finset.univ.erase r) (Φ := fun r : Fin 3 => Pot In Out r (arr n r.val) (dep n r.val))
    (Ψ := fun r : Fin 3 => Pot In Out r (arr (step n s) r.val) (dep (step n s) r.val)) fun r' hr' => by
      rw [arr_leave hn hs hr hb _ r'.isLt, dep_leave hn hs hr hb _ (fun h => Finset.ne_of_mem_erase hr' (Fin.ext h))])) $$ Hp
  ihave Hpr := (Entails.of_eq (show Pot In Out r (arr n r.val) (dep n r.val) = Pot In Out r Finset.univ (dep n r.val) from by rw [e3])) $$ Hpr
  ihave Hpr := (Pot_leave e2) $$ Hpr
  icases Hpr with ⟨Ho, Hpr⟩
  ihave Hpr := (Entails.of_eq (show Pot In Out r Finset.univ (insert s (dep n r.val)) = Pot In Out r (arr (step n s) r.val) (dep (step n s) r.val) from by
    rw [e1, arr_leave hn hs hr hb _ hr, e3])) $$ Hpr
  ihave Hb := (Entails.of_eq (bigSep_congr (s := Finset.univ.erase s) (Φ := Bar (F := F) B n σ) (Ψ := Bar (F := F) B (step n s) σ) fun j hj => by
    unfold Bar
    rw [bal_leave hn hs hr hb j (Finset.ne_of_mem_erase hj), step_of_ne (Finset.ne_of_mem_erase hj)])) $$ Hb
  ihave Hbt := (show semVal (B s) (bal n σ s - 16) ⊢ iprop(Bar (F := F) B (step n s) σ s ∗ (if r.val = 2 then semVal (B s) 0 else iprop(emp))) from by
    by_cases h2 : r.val = 2
    · unfold Bar
      rw [if_pos (by rw [step_self, hs]; omega), if_pos h2, bal_last hn hs hr hb h2]
      iintro H
      isplitr
      · iempintro
      · iexact H
    · unfold Bar
      rw [if_neg (by rw [step_self, hs]; omega), if_neg h2, bal_self hn hs hr hb]
      iintro H
      isplitl
      · iexact H
      · iempintro) $$ Hbt
  icases Hbt with ⟨Hbt, He⟩
  isplitr [Hc Ho He]
  · iexists (step n s); iexists σ
    isplitr
    · ipureintro; exact steps_leave hn hs hr hb
    isplitl [Ha]
    · iapply (Entails.of_eq (by rw [e])) $$ Ha
    isplitl [Hg]
    · iexact Hg
    isplitl [Hbt Hb]
    · iapply (Entails.of_eq (SparseCore.bigSep_erase' (Finset.mem_univ s)).symm) $$ [Hbt Hb]
      isplitl [Hbt]
      · iexact Hbt
      · iexact Hb
    · iapply (Entails.of_eq (SparseCore.bigSep_erase' (Finset.mem_univ r)).symm) $$ [Hpr Hp]
      isplitl [Hpr]
      · iexact Hpr
      · iexact Hp
  isplitl [Hc]
  · iexact Hc
  isplitl [Ho]
  · iexact Ho
  · iexact He

/-- The meetings before any tile has begun. -/
theorem meets_init :
    iprop(bigSep Finset.univ (fun k => countAuth EC (γ k) 0) ∗ bigSep Finset.univ (fun p => countAuth EC (γ' p) 0)
      ∗ bigSep Finset.univ (fun j => semVal (B j) 0)) ⊢ Meets B γ γ' In Out := by
  unfold Meets
  iintro ⟨Ha, Hg, Hb⟩
  iexists (fun _ => 0); iexists (fun _ => 0)
  have hz : ∀ j : Fin 16, land (fun _ => 0) j = 0 := fun j => Finset.sum_eq_zero fun k _ => Finset.sum_eq_zero fun r _ => if_neg (show ¬ (0 = 2) by decide)
  isplitr
  · ipureintro
    exact ⟨fun _ => Nat.zero_le _, fun _ _ _ h => absurd rfl h, fun j => by rw [hz], fun r j (h : 17 * (r + 1) ≤ 0) => by omega⟩
  isplitl [Ha]
  · iexact Ha
  isplitl [Hg]
  · iexact Hg
  isplitl [Hb]
  · iapply (Entails.of_eq (bigSep_congr (s := Finset.univ) (Φ := fun j => semVal (B j) 0) (Ψ := Bar (F := F) B (fun _ => 0) (fun _ => 0)) fun j _ => by
      unfold Bar bal
      rw [hz j, if_neg (show ¬ (0 = 51) by decide), show 0 - 16 * (0 / 17) = 0 from rfl])) $$ Hb
  · ihave He := (show (iprop(emp) : SP F) ⊢ (bigSep Finset.univ fun r : Fin 3 => (iprop(emp) : SP F)) from Entails.of_eq (bigSep_emp_const (M := MM F) (Finset.univ : Finset (Fin 3))).symm) $$ []
    · iempintro
    iapply (Entails.of_eq (bigSep_congr (s := Finset.univ) (Φ := fun r : Fin 3 => (iprop(emp) : SP F))
      (Ψ := fun r : Fin 3 => Pot In Out r (arr (fun _ => 0) r.val) (dep (fun _ => 0) r.val)) fun r _ => by
        have e : arr (fun _ => 0) r.val = ∅ := Finset.eq_empty_of_forall_notMem fun k hk => by have : 17 * r.val < 0 := mem_arr.mp hk; omega
        unfold Pot
        rw [e, if_neg (by decide)]
        exact bigSep_empty.symm)) $$ He

instance Meets_storable [∀ r s, BI.Storable (upEmb : UEmb _ 𝕄) (In r s)] [∀ r s, BI.Storable (upEmb : UEmb _ 𝕄) (Out r s)] :
    BI.Storable (upEmb : UEmb _ 𝕄) (Meets B γ γ' In Out) := by
  have h1 : ∀ n σ j, BI.Storable (upEmb : UEmb _ 𝕄) (Bar (F := F) B n σ j) := fun n σ j => by unfold Bar; split <;> infer_instance
  have h2 : ∀ r A L, BI.Storable (upEmb : UEmb _ 𝕄) (Pot In Out r A L) := fun r A L => by unfold Pot; split <;> infer_instance
  have h3 : ∀ γ m, BI.Storable (upEmb : UEmb _ 𝕄) (countAuth (EC : UEmb Counters 𝕄) γ m) := fun γ m => by unfold countAuth; infer_instance
  unfold Meets
  infer_instance

end Meet

end Cert.KernelIdeal.Sums
-- ==== Proof.Barrier.lean ====
module

public import proofs.«01_k».proof.Proof.Meet

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

section Barrier
variable {d : Dev nD} {c : Fin 2} {s : Fin 16} {W₀ : Waits sig (HIx 3)} {O : CellTallies nD τ sig (HIx 3)}

/-- The semaphore that a tile's meetings raise. -/
abbrev bc (d : Dev nD) (c : Fin 2) (j : Fin 16) : GSem nD τ sig := (th d (mk c j), .reg sc_bar0)

/-- What a tile owes for meeting `r`: a signal to each of the core's tiles. -/
def oxR (d : Dev nD) (c : Fin 2) (r : Fin 3) : CellTallies nD τ sig (HIx 3) := ∑ j : Fin 16, tallyAt (bc d c j) (some r) 1

variable {γ : Fin 16 → ℕ} {γ' : Sig3 → ℕ} {κ : ℕ} {In Out : Fin 3 → Fin 16 → SP F}

/-- A signal's landing. -/
theorem land_one (r : Fin 3) (s t : Fin 16) :
    iprop(inv κ (Meets (bc d c) γ γ' In Out) ∗ count EC (γ' (s, t, r)) 1) ⊢ (landingUpdate (bc d c t) 1 iprop(emp) : SP F) := by
  rw [landingUpdate_def]
  iintro ⟨#Hg, HX⟩ -
  imod (inv_acc (Set.mem_univ κ)) $$ Hg with ⟨Hb, Hclose⟩
  ihave Hb := (meets_land (s, t, r)) $$ [Hb HX]
  · isplitl [Hb]
    · iexact Hb
    · iexact HX
  icases Hb with ⟨%v, Hv, Hb⟩
  imodintro
  rw [raiseSpec_apply]
  iexists v
  isplitl [Hv]
  · iexact Hv
  iintro Hv
  imod Hb $$ Hv with Hb
  imod Hclose $$ Hb
  imodintro
  iempintro

/-- A signal made. -/
theorem made_one (hconv : ∀ r, bigSep Finset.univ (In r) ⊢ bigSep Finset.univ (Out r)) (r : Fin 3) (s t : Fin 16) :
    iprop(inv κ (Meets (bc d c) γ γ' In Out) ∗ count EC (γ s) (17 * r.val + t.val) ∗ count EC (γ' (s, t, r)) 0 ∗ (if t.val = 0 then In r s else iprop(emp)))
      ⊢ (iprop(|={Set.univ}=> (count EC (γ s) (17 * r.val + t.val + 1) ∗ count EC (γ' (s, t, r)) 1)) : SP F) := by
  iintro ⟨#Hg, HX⟩
  imod (inv_acc (Set.mem_univ κ)) $$ Hg with ⟨Hb, Hclose⟩
  imod (meets_made hconv r s t) $$ [Hb HX] with ⟨Hb, Hc⟩
  · isplitl [Hb]
    · iexact Hb
    · iexact HX
  imod Hclose $$ Hb
  imodintro
  iexact Hc

/-- The signals still to make, from the `t`-th on. -/
def rest (t : ℕ) : List (Fin 16) := (List.finRange 16).drop t

theorem rest_cons (t : Fin 16) : rest t.val = t :: rest (t.val + 1) := by
  revert t; decide +kernel

theorem rest_end : rest 16 = [] := by decide +kernel

/-- What is owed for the signals from the `t`-th on. -/
def owed (d : Dev nD) (c : Fin 2) (r : Fin 3) (t : ℕ) : CellTallies nD τ sig (HIx 3) :=
  ∑ j ∈ Finset.univ.filter (fun j : Fin 16 => t ≤ j.val), tallyAt (bc d c j) (some r) 1

theorem owed_cons (r : Fin 3) (t : Fin 16) : owed d c r t.val = tallyAt (bc d c t) (some r) 1 + owed d c r (t.val + 1) := by
  unfold owed
  rw [show (Finset.univ.filter fun j : Fin 16 => t.val ≤ j.val) = insert t (Finset.univ.filter fun j : Fin 16 => t.val + 1 ≤ j.val) from by
    ext j; simp only [Finset.mem_filter, Finset.mem_univ, true_and, Finset.mem_insert, Fin.ext_iff]; omega,
    Finset.sum_insert (by simp)]

theorem owed_end (r : Fin 3) : owed d c r 16 = 0 := by
  unfold owed
  rw [Finset.filter_false_of_mem (fun j _ => by have := j.isLt; omega), Finset.sum_empty]

theorem owed_all (r : Fin 3) : owed d c r 0 = oxR d c r := by
  unfold owed oxR
  rw [Finset.filter_true_of_mem (fun j _ => Nat.zero_le _)]

/-- The signals of a meeting, from the `t`-th on. -/
theorem wp_signals (hconv : ∀ r, bigSep Finset.univ (In r) ⊢ bigSep Finset.univ (Out r)) (r : Fin 3) {W : Waits sig (HIx 3)}
    {k : Prog (TE F (mk c s)) PUnit} {Q : PUnit → SP F} (m : ℕ) : ∀ t : ℕ, t + m = 16 →
    (iprop(inv κ (Meets (bc d c) γ γ' In Out) ∗ count EC (γ s) (17 * r.val + t)
        ∗ (bigSep (Finset.univ.filter fun j : Fin 16 => t ≤ j.val) fun j : Fin 16 => count EC (γ' (s, j, r)) 0)
        ∗ (if t = 0 then In r s else iprop(emp)) ∗ owes (th d (mk c s)) (O + owed d c r t) W
        ∗ ((count EC (γ s) (17 * r.val + 16) ∗ owes (th d (mk c s)) O W) -∗ WP d (mk c s) k Q))
      ⊢ WP d (mk c s) ((rest t).foldr (fun j p => .op (TpuEff.semSignal (d, .scVector (cV (mk c s)) (j.castLE hsub0)) sc_bar0 1) fun _ => p) k) Q) := by
  induction m with
  | zero =>
    intro t ht
    obtain rfl : t = 16 := by omega
    rw [rest_end, List.foldr_nil, owed_end, add_zero]
    iintro ⟨-, Hc, -, -, Ho, Hk⟩
    iapply Hk
    isplitl [Hc]
    · iexact Hc
    · iexact Ho
  | succ m ih =>
    intro t ht
    obtain ⟨t, rfl⟩ : ∃ t' : Fin 16, t = t'.val := ⟨⟨t, by omega⟩, rfl⟩
    rw [rest_cons, List.foldr_cons, owed_cons,
      show (Finset.univ.filter fun j : Fin 16 => t.val ≤ j.val) = insert t (Finset.univ.filter fun j : Fin 16 => t.val + 1 ≤ j.val) from by
        ext j; simp only [Finset.mem_filter, Finset.mem_univ, true_and, Finset.mem_insert, Fin.ext_iff]; omega,
      SparseCore.bigSep_insert' (by simp)]
    iintro ⟨#Hinv, Hc, ⟨Hs, Hss⟩, Hi, Ho, Hk⟩
    imod (made_one hconv r s t) $$ [Hc Hs Hi] with ⟨Hc, Hs⟩
    · isplitr
      · iexact Hinv
      isplitl [Hc]
      · iexact Hc
      isplitl [Hs]
      · iexact Hs
      · iexact Hi
    iapply (wp_semSignal 𝒱₀ (th d (mk c s)) none Set.univ (dst := th d (mk c t)) (sem := sc_bar0) (k' := 1) (some r)
      (O₀ := O + (tallyAt (bc d c t) (some r) 1 + owed d c r (t.val + 1))) (O + owed d c r (t.val + 1))
      (by rw [add_comm (tallyAt _ _ _) _, ← add_assoc]) (W := W)) $$ Ho [Hs]
    · iapply (land_one r s t)
      isplitr
      · iexact Hinv
      · iexact Hs
    iintro Ho
    iapply (ih (t.val + 1) (by omega))
    isplitr
    · iexact Hinv
    isplitl [Hc]
    · iexact Hc
    isplitl [Hss]
    · iexact Hss
    isplitr
    · rw [if_neg (by omega)]
      iempintro
    isplitl [Ho]
    · iexact Ho
    · iexact Hk

/-- A tile's meeting. -/
theorem wp_meet (hconv : ∀ r, bigSep Finset.univ (In r) ⊢ bigSep Finset.univ (Out r)) (r : Fin 3)
    (hO0 : ∀ g, O g none = 0) (hO : ∀ g ι, 0 < O g ι → 8 * r.val + 3 < (K (F := F)).lev g ι) (k : PUnit → Prog (TE F (mk c s)) PUnit) {Q : PUnit → SP F} :
    iprop(inv κ (Meets (bc d c) γ γ' In Out) ∗ levAts (K (F := F)).L (K (F := F)).lev ∗ count EC (γ s) (17 * r.val)
        ∗ (bigSep Finset.univ fun t : Fin 16 => count EC (γ' (s, t, r)) 0)
        ∗ In r s ∗ Owe d (mk c s) W₀ (O + oxR d c r) ∗ cred (tallyAt (bc d c s) (some r) 16)
        ∗ ((count EC (γ s) (17 * r.val + 17) ∗ Out r s ∗ Owe d (mk c s) W₀ O ∗ (if r.val = 2 then semVal (bc d c s) 0 else iprop(emp))) -∗ WP d (mk c s) (k ⟨⟩) Q))
      ⊢ WP d (mk c s) ((meet (mk c s)).bind k) Q := by
  have hb := SparseCore.subcoreBarrier_bind (sc := cV (mk c s)) (i := jV (mk c s)) sc_bar0 (grid0.bound 1) hsub0 k
  refine BIBase.Entails.trans ?_ (Entails.of_eq (congrArg (fun p => WP d (mk c s) p Q) hb.symm))
  rw [show (WP d (mk c s) (.op .deviceId _) Q : SP F) = _ from wp_deviceId 𝒱₀ (th d (mk c s)) none Set.univ]
  iintro ⟨#Hinv, #Hlev, Hc, Hs, Hi, Howe, Hcr, Hk⟩
  unfold Owe
  icases Howe with ⟨⟨%W, %hW, Ho⟩, -⟩
  iapply (wp_signals (O := O) hconv r (W := W) 16 0 (by omega))
  isplitr
  · iexact Hinv
  isplitl [Hc]
  · iexact Hc
  isplitl [Hs]
  · iapply (Entails.of_eq (by rw [Finset.filter_true_of_mem (fun j _ => Nat.zero_le _)])) $$ Hs
  isplitl [Hi]
  · iapply (Entails.of_eq (if_pos rfl).symm) $$ Hi
  isplitl [Ho]
  · iapply (Entails.of_eq (by rw [owed_all])) $$ Ho
  iintro ⟨Hc, Ho⟩
  iapply (wp_semWait_token 𝒱₀ (th d (mk c s)) none Set.univ (sem := sc_bar0) (k' := 16) (some r) (O := O) (W := W)) $$ [Hcr Ho]
  · isplitl [Hcr]
    · iexact Hcr
    isplitl [Ho]
    · iexact Ho
    iapply ((K (F := F)).mayOwe_of_bound (8 * r.val + 3) (fun p hp => by
      rw [Finset.mem_singleton] at hp; subst hp
      exact le_of_eq ((K (F := F)).lev_V_reg d (cV (mk c s)) (jV (mk c s)) (by show sc_bar0 ≠ sc_go; decide) r)) hO) $$ Hlev
  imod (inv_acc (Set.mem_univ κ)) $$ Hinv with ⟨Hb, Hclose⟩
  ihave Hb := (meets_leave r s) $$ [Hb Hc]
  · isplitl [Hb]
    · iexact Hb
    · iexact Hc
  icases Hb with ⟨%v, Hv, Hb⟩
  imodintro
  iapply lowerSpec_intro $$ Hv
  iintro %hle Hv
  imod Hb $$ %hle Hv with ⟨Hb, Hc, Hout, Hend⟩
  imod Hclose $$ Hb
  imodintro
  iintro Ho
  iapply Hk
  isplitl [Hc]
  · iexact Hc
  isplitl [Hout]
  · iexact Hout
  isplitl [Ho]
  · isplitl [Ho]
    · iexists (insert (SemLoc.reg sc_bar0, some r) W)
      isplitr
      · ipureintro
        intro p hp
        rcases Finset.mem_insert.mp hp with h | h
        · subst h; exact Or.inr (Or.inr ⟨r, rfl⟩)
        · exact hW p h
      · iexact Ho
    · iapply ((K (F := F)).mayWaits_none hO0) $$ Hlev
  · iexact Hend

end Barrier

end Cert.KernelIdeal.Sums
-- ==== Proof.Kit.lean ====
module

public import proofs.«01_k».proof.Proof.Deal
public import proofs.«01_k».proof.Proof.Barrier

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # What a tile's thread owns, piece by piece -/

section Kit
variable {d : Dev nD} {i : grid0.Coords}

theorem bigSep_fin_succ {n : ℕ} (Φ : Fin (n + 1) → SP F) : bigSep Finset.univ Φ = iprop(Φ 0 ∗ bigSep Finset.univ fun k : Fin n => Φ k.succ) := by
  rw [Fin.univ_succ, Finset.cons_eq_insert, SparseCore.bigSep_insert' (by simp [Fin.succ_ne_zero]), bigSep_map]
  rfl

theorem fin_two (Φ : Fin 2 → SP F) : bigSep Finset.univ Φ = iprop(Φ 0 ∗ Φ 1) := BI.bigSep_fin_two Φ

theorem At_whole (b : Ref sig .scVector) :
    (iprop(∃ f, (th d i).loc b ↦{fullShare} f) : SP F) ⊢ iprop(∃ g, At d i (Memref.whole b) fullShare g) := by
  iintro ⟨%f, H⟩
  unfold At
  iexists _, f
  isplitr
  · ipureintro; rfl
  iapply (Entails.of_eq (congrArg (fun S => ((th d i).loc b ↦[S]{fullShare} f : SP F)) (View.set_whole b).symm)) $$ H
theorem whole_At (b : Ref sig .scVector) :
    (iprop(∃ g, At d i (Memref.whole b) fullShare g) : SP F) ⊢ iprop(∃ f, (th d i).loc b ↦{fullShare} f) := by
  unfold At
  iintro ⟨%g, %f, %hf, H⟩
  iexists f
  iapply (Entails.of_eq (congrArg (fun S => ((th d i).loc b ↦[S]{fullShare} f : SP F)) (View.set_whole b))) $$ H

theorem Acc_of_At (m : Memref sig .scVector .vmem S1x512 .f32) : (iprop(∃ g, At d i m fullShare g) : SP F) ⊢ iprop(∃ a, Acc d i m a) := by
  iintro ⟨%g, H⟩
  iexists fun k => g (ix2 (0 : Fin 1) k)
  unfold Acc
  have e : g = fun x => g (ix2 (0 : Fin 1) (x 1)) := by
    funext x
    have h : x 0 = (0 : Fin 1) := Subsingleton.elim (α := Fin 1) _ _
    have h2 : x = ix2 (0 : Fin 1) (x 1 : Fin 512) := by
      funext a
      fin_cases a
      · exact h
      · rfl
    exact congrArg g h2
  iapply (Entails.of_eq (congrArg (fun g => At d i m fullShare g) e)) $$ H
theorem At_of_Acc (m : Memref sig .scVector .vmem S1x512 .f32) : (iprop(∃ a, Acc d i m a) : SP F) ⊢ iprop(∃ g, At d i m fullShare g) := by
  unfold Acc
  iintro ⟨%a, H⟩
  iexists _; iexact H

theorem mem_xs {p : Fin 2} {y : S2x32x512.Idx} : y ∈ (xs p).view.set ↔ y 0 = p := by
  constructor
  · intro h
    obtain ⟨x, -, rfl⟩ := Finset.mem_map.mp (show y ∈ Finset.univ.map (xs p).view.emb from h)
    exact congrFun ((congrArg (xs p).view.emb (eq_ix2 x)).trans (xs_emb p _ _)) 0
  · rintro rfl
    exact Finset.mem_map.mpr ⟨ix2 (y 1) (y 2), Finset.mem_univ _, (xs_emb _ _ _).trans (eq_ix3 y).symm⟩
theorem mem_ws {p : Fin 2} {y : S2x32x64.Idx} : y ∈ (ws p).view.set ↔ y 0 = p := by
  constructor
  · intro h
    obtain ⟨x, -, rfl⟩ := Finset.mem_map.mp (show y ∈ Finset.univ.map (ws p).view.emb from h)
    exact congrFun ((congrArg (ws p).view.emb (eq_ix2 x)).trans (ws_emb p _ _)) 0
  · rintro rfl
    exact Finset.mem_map.mpr ⟨ix2 (y 1) (y 2), Finset.mem_univ _, (ws_emb _ _ _).trans (eq_ix3 y).symm⟩

/-- A buffer of two halves. -/
theorem halves {ℓ : Loc nD τ sig} (K : Fin 2 → Finset (Idx ℓ)) (hc : Finset.univ = Finset.univ.biUnion K) (hd : Disjoint (K 0) (K 1)) :
    (iprop(∃ f, ℓ ↦{fullShare} f) : SP F) ⊣⊢ iprop((∃ f, ℓ ↦[K 0]{fullShare} f) ∗ (∃ f, ℓ ↦[K 1]{fullShare} f)) := by
  have hd' : ∀ t ∈ (Finset.univ : Finset (Fin 2)), ∀ t' ∈ (Finset.univ : Finset (Fin 2)), t ≠ t' → Disjoint (K t) (K t') := by
    intro t _ t' _ h
    fin_cases t <;> fin_cases t'
    · exact absurd rfl h
    · exact hd
    · exact hd.symm
    · exact absurd rfl h
  constructor
  · iintro ⟨%f, H⟩
    ihave H := (Entails.of_eq ((congrArg (fun S => (ℓ ↦[S]{fullShare} f : SP F)) hc).trans ((pointsTo_biUnion Finset.univ K hd').trans (fin_two _)))) $$ H
    icases H with ⟨H0, H1⟩
    isplitl [H0]
    · iexists f; iexact H0
    iexists f; iexact H1
  · iintro ⟨⟨%f, H0⟩, ⟨%g, H1⟩⟩
    ihave H := (pointsTo_biUnion_join Finset.univ K ![f, g] f hd') $$ [H0 H1]
    · iapply (Entails.of_eq (fin_two (fun t => (ℓ ↦[K t]{fullShare} (![f, g] : Fin 2 → Buf (Elt F) ℓ) t : SP F))).symm)
      isplitl [H0]; · iexact H0
      iexact H1
    icases H with ⟨%h, -, H⟩
    iexists h
    iapply (Entails.of_eq (congrArg (fun S => (ℓ ↦[S]{fullShare} h : SP F)) hc.symm)) $$ H

theorem At_any {sp : Space} {s : Shape} {e : EltTy} (m : Memref sig .scVector sp s e) :
    (iprop(∃ f, m.view.loc (th d i) ↦[m.view.set]{fullShare} f) : SP F) ⊣⊢ iprop(∃ g, At d i m fullShare g) := by
  unfold At
  constructor
  · iintro ⟨%f, H⟩
    iexists _, f
    isplitr
    · ipureintro; rfl
    iexact H
  · iintro ⟨%g, %f, %hf, H⟩
    iexists f; iexact H

theorem xs_halves : (iprop(∃ f, (th d i).loc cc0_scratch0 ↦{fullShare} f) : SP F) ⊣⊢ iprop((∃ g, At d i (xs 0) fullShare g) ∗ (∃ g, At d i (xs 1) fullShare g)) := by
  have h := halves (F := F) (ℓ := (th d i).loc cc0_scratch0) (fun p => (xs p).view.set) (by
    apply Finset.ext; intro (y : S2x32x512.Idx)
    exact ⟨fun _ => Finset.mem_biUnion.mpr ⟨(y 0 : Fin 2), Finset.mem_univ _, mem_xs.mpr rfl⟩, fun _ => Finset.mem_univ _⟩) (by
    rw [Finset.disjoint_left]; intro y h0 h1
    exact absurd ((mem_xs.mp h0).symm.trans (mem_xs.mp h1)) (show (0 : Fin 2) ≠ 1 by decide))
  refine h.trans ⟨?_, ?_⟩
  · iintro ⟨H0, H1⟩
    isplitl [H0]
    · iapply (At_any (xs 0)).1 $$ H0
    iapply (At_any (xs 1)).1 $$ H1
  · iintro ⟨H0, H1⟩
    isplitl [H0]
    · iapply (At_any (xs 0)).2 $$ H0
    iapply (At_any (xs 1)).2 $$ H1

theorem ws_halves : (iprop(∃ f, (th d i).loc cc0_scratch1 ↦{fullShare} f) : SP F) ⊣⊢ iprop((∃ g, At d i (ws 0) fullShare g) ∗ (∃ g, At d i (ws 1) fullShare g)) := by
  have h := halves (F := F) (ℓ := (th d i).loc cc0_scratch1) (fun p => (ws p).view.set) (by
    apply Finset.ext; intro (y : S2x32x64.Idx)
    exact ⟨fun _ => Finset.mem_biUnion.mpr ⟨(y 0 : Fin 2), Finset.mem_univ _, mem_ws.mpr rfl⟩, fun _ => Finset.mem_univ _⟩) (by
    rw [Finset.disjoint_left]; intro y h0 h1
    exact absurd ((mem_ws.mp h0).symm.trans (mem_ws.mp h1)) (show (0 : Fin 2) ≠ 1 by decide))
  refine h.trans ⟨?_, ?_⟩
  · iintro ⟨H0, H1⟩
    isplitl [H0]
    · iapply (At_any (ws 0)).1 $$ H0
    iapply (At_any (ws 1)).1 $$ H1
  · iintro ⟨H0, H1⟩
    isplitl [H0]
    · iapply (At_any (ws 0)).2 $$ H0
    iapply (At_any (ws 1)).2 $$ H1

/-- The tile's own counters, the ones of the row additions last. -/
def tileSem : Fin 32 → DmaSem sig :=
  ![sX 0, sW 0, sX 1, sW 1, cc0_scoped0.sem, cc0_scoped1.sem, cc0_scoped2.sem, cc0_scoped3.sem, cc0_scoped4.sem, cc0_scoped5.sem, cc0_scoped6.sem, cc0_scoped7.sem, cc0_scoped8.sem,
    cc0_scoped9.sem, cc0_scoped24.sem, cc0_scoped25.sem, cc0_scoped26.sem, cc0_scoped27.sem, cc0_scoped10.sem, cc0_scoped11.sem, cc0_scoped12.sem, cc0_scoped13.sem, cc0_scoped14.sem,
    cc0_scoped15.sem, cc0_scoped16.sem, cc0_scoped17.sem, cc0_scoped18.sem, cc0_scoped19.sem, cc0_scoped20.sem, cc0_scoped21.sem, cc0_scoped22.sem, cc0_scoped23.sem]

theorem sX_eq (p : Fin 2) : sX p = (⟨0 + p.val, by have := p.isLt; omega⟩ : Fin 32) := by
  apply Fin.ext
  let j : (Rect.unit (s := S2) ![p.val] S1.size (sem_inb p)).shape.Idx := Shape.reshapeEquiv squeezes_S1_S_.numel_eq fun a : Fin 0 => a.elim0
  show 0 + (Shape.rowMajor S2 ((Rect.unit (s := S2) ![p.val] S1.size (sem_inb p)).emb j)).val = 0 + p.val
  have h0 : (j 0).val < 1 := (j 0).isLt
  have h1 : (Shape.rowMajor S2 ((Rect.unit (s := S2) ![p.val] S1.size (sem_inb p)).emb j)).val = ((Rect.unit (s := S2) ![p.val] S1.size (sem_inb p)).emb j 0).val := Shape.rowMajor_val_one _
  rw [h1, Rect.emb_apply]
  show 0 + (p.val + 1 * (j 0).val) = _
  omega
theorem sW_eq (p : Fin 2) : sW p = (⟨2 + p.val, by have := p.isLt; omega⟩ : Fin 32) := by
  apply Fin.ext
  let j : (Rect.unit (s := S2) ![p.val] S1.size (sem_inb p)).shape.Idx := Shape.reshapeEquiv squeezes_S1_S_.numel_eq fun a : Fin 0 => a.elim0
  show 2 + (Shape.rowMajor S2 ((Rect.unit (s := S2) ![p.val] S1.size (sem_inb p)).emb j)).val = 2 + p.val
  have h0 : (j 0).val < 1 := (j 0).isLt
  have h1 : (Shape.rowMajor S2 ((Rect.unit (s := S2) ![p.val] S1.size (sem_inb p)).emb j)).val = ((Rect.unit (s := S2) ![p.val] S1.size (sem_inb p)).emb j 0).val := Shape.rowMajor_val_one _
  rw [h1, Rect.emb_apply]
  show 2 + (p.val + 1 * (j 0).val) = _
  omega
theorem tileSem_eq : tileSem = (![0, 2, 1, 3, 4, 5, 6, 7, 8, 9, 10, 11, 12, 13, 28, 29, 30, 31, 14, 15, 16, 17, 18, 19, 20, 21, 22, 23, 24, 25, 26, 27] : Fin 32 → Fin 32) := by
  unfold tileSem
  rw [sX_eq, sX_eq, sW_eq, sW_eq]
  rfl
theorem tileSem_injective : Function.Injective tileSem := by rw [tileSem_eq]; decide +kernel
theorem tileSem_scoped : ∀ k, (SemLoc.dma (tileSem k) : SemLoc sig).isScoped .scVector = true := by rw [tileSem_eq]; decide +kernel

theorem bigSep_part {I : Type} [DecidableEq I] (S : Finset I) {n : ℕ} (f : Fin n → I) (hf : Function.Injective f) (hS : ∀ k, f k ∈ S) (Φ : I → SP F) :
    bigSep S Φ = iprop((bigSep Finset.univ fun k => Φ (f k)) ∗ bigSep (S \ Finset.univ.image f) Φ) := by
  have h : Finset.univ.image f ⊆ S := by
    intro y hy
    obtain ⟨k, -, rfl⟩ := Finset.mem_image.mp hy
    exact hS k
  conv_lhs => rw [← Finset.union_sdiff_of_subset h]
  rw [SparseCore.bigSep_union' Finset.disjoint_sdiff, SparseCore.bigSep_image_of_injOn (fun a _ b _ e => hf e)]

/-- The counters that a tile does not use. -/
def restSems (d : Dev nD) (i : grid0.Coords) : SP F :=
  bigSep (ownCells (th d i) \ Finset.univ.image fun k : Fin 32 => ((th d i, .dma (tileSem k)) : GSem nD τ sig)) fun g => semVal g 0

theorem ownSems_tile : (ownSems0 (th d i) : SP F) = iprop((bigSep Finset.univ fun k : Fin 32 => semVal (th d i, .dma (tileSem k)) 0) ∗ restSems d i) := by
  unfold SparseCore.Cfg.ownSems0 restSems
  refine bigSep_part _ (fun k : Fin 32 => ((th d i, .dma (tileSem k)) : GSem nD τ sig)) (fun a b e => tileSem_injective (SemLoc.dma.inj (Prod.mk.inj e).2)) (fun k => mem_ownCells.mpr ⟨rfl, show (SemLoc.dma (tileSem k) : SemLoc sig).isScoped .scVector = true from tileSem_scoped k⟩) _

/-- The tile's own buffers. -/
def tileBuf : Fin 8 → Ref sig .scVector := ![cc0_scratch0, cc0_scratch1, cc0_scratch2, cc0_scratch3, cc0_scratch4, cc0_scratch5, cc0_scratch6, cc0_scratch7]

theorem tileBuf_inj : Function.Injective tileBuf := by unfold tileBuf; clear * -; decide

def restBufs (d : Dev nD) (i : grid0.Coords) : SP F :=
  bigSep (ownRefs (τ := τ) (.scVector (cV i) (jV i)) \ Finset.univ.image fun k : Fin 8 => (Proc.scVector (cV i) (jV i)).devRef (tileBuf k)) fun b => iprop(∃ f, ((d, b) : Loc nD τ sig) ↦{fullShare} f)

theorem tileBuf_injective : Function.Injective fun k : Fin 8 => (Proc.scVector (cV i) (jV i) : Proc τ).devRef (tileBuf k) :=
  (Proc.devRef_injective _).comp tileBuf_inj

theorem ownBufs_tile : (ownBufs (th d i) : SP F) = iprop((bigSep Finset.univ fun k : Fin 8 => iprop(∃ f, (th d i).loc (tileBuf k) ↦{fullShare} f)) ∗ restBufs d i) := by
  unfold SparseCore.Cfg.ownBufs restBufs
  refine bigSep_part _ _ tileBuf_injective (fun k => SparseCore.Cfg.mem_ownRefs_of_owner (p := Proc.scVector (cV i) (jV i)) (b := (Proc.scVector (cV i) (jV i)).devRef (tileBuf k)) ?_) _
  fin_cases k <;> rfl
end Kit

end Cert.KernelIdeal.Sums
-- ==== Proof.Tile.lean ====
module

public import proofs.«01_k».proof.Proof.Kit

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # A tile's run -/

section Tile
variable (id : ℕ → BitVec 32) (X : ℕ → Fin 512 → Elt F .f32) (Wt : ℕ → Fin 64 → Elt F .f32) (z : Elt F .f32)
variable (d : Dev nD) (c : Fin 2) (s : Fin 16)

theorem WP_bind {i : grid0.Coords} {α β : Type} {p : Prog (TE F i) α} {k : α → Prog (TE F i) β} {Q : β → SP F} :
    WP d i p (fun v => WP d i (k v) Q) ⊢ WP d i (p.bind k) Q := Entails.of_eq (wp_bind _ _ _ p k Q).symm

theorem WP_upd {i : grid0.Coords} {α : Type} {p : Prog (TE F i) α} {Q : α → SP F} : WP d i p (fun v => iprop(|={Set.univ}=> Q v)) ⊢ WP d i p Q := by
  have h := WP_bind d (p := p) (k := Prog.ret) (Q := Q)
  rw [show p.bind Prog.ret = p from Prog.bind_pure p] at h
  refine BIBase.Entails.trans ?_ h
  simp only [wp_ret]
  exact BI.Entails.refl _

theorem emp0 : (iprop(emp) : SP F) ⊢ bigSep (Finset.univ : Finset (Fin 0)) fun _ => iprop(emp) := Entails.of_eq (show (bigSep (Finset.univ : Finset (Fin 0)) fun _ => (iprop(emp) : SP F)) = iprop(emp) from bigSep_emp_const _).symm

theorem sems_eq (i : grid0.Coords) : (bigSep Finset.univ fun k : Fin 32 => (semVal (th d i, .dma (tileSem k)) 0 : SP F))
    = iprop(semVal (th d i, .dma (sX 0)) 0 ∗ semVal (th d i, .dma (sW 0)) 0 ∗ semVal (th d i, .dma (sX 1)) 0 ∗ semVal (th d i, .dma (sW 1)) 0
      ∗ semVal (th d i, .dma cc0_scoped0.sem) 0 ∗ semVal (th d i, .dma cc0_scoped1.sem) 0 ∗ semVal (th d i, .dma cc0_scoped2.sem) 0 ∗ semVal (th d i, .dma cc0_scoped3.sem) 0
      ∗ semVal (th d i, .dma cc0_scoped4.sem) 0 ∗ semVal (th d i, .dma cc0_scoped5.sem) 0 ∗ semVal (th d i, .dma cc0_scoped6.sem) 0 ∗ semVal (th d i, .dma cc0_scoped7.sem) 0
      ∗ semVal (th d i, .dma cc0_scoped8.sem) 0 ∗ semVal (th d i, .dma cc0_scoped9.sem) 0 ∗ semVal (th d i, .dma cc0_scoped24.sem) 0 ∗ semVal (th d i, .dma cc0_scoped25.sem) 0
      ∗ semVal (th d i, .dma cc0_scoped26.sem) 0 ∗ semVal (th d i, .dma cc0_scoped27.sem) 0 ∗ bigSep Finset.univ fun t : Fin 14 => semVal (th d i, .dma (tSems t).sem) 0) := by
  rw [bigSep_fin_succ, bigSep_fin_succ, bigSep_fin_succ, bigSep_fin_succ, bigSep_fin_succ, bigSep_fin_succ, bigSep_fin_succ, bigSep_fin_succ, bigSep_fin_succ,
    bigSep_fin_succ, bigSep_fin_succ, bigSep_fin_succ, bigSep_fin_succ, bigSep_fin_succ, bigSep_fin_succ, bigSep_fin_succ, bigSep_fin_succ, bigSep_fin_succ,
    bigSep_congr (s := (Finset.univ : Finset (Fin 14))) (Ψ := fun t : Fin 14 => (semVal (th d i, .dma (tSems t).sem) 0 : SP F)) fun t _ => by fin_cases t <;> rfl]
  rfl

theorem bufs_eq (i : grid0.Coords) : (bigSep Finset.univ fun k : Fin 8 => (iprop(∃ f, (th d i).loc (tileBuf k) ↦{fullShare} f) : SP F))
    = iprop((∃ f, (th d i).loc cc0_scratch0 ↦{fullShare} f) ∗ (∃ f, (th d i).loc cc0_scratch1 ↦{fullShare} f) ∗ (∃ f, (th d i).loc cc0_scratch2 ↦{fullShare} f)
      ∗ (∃ f, (th d i).loc cc0_scratch3 ↦{fullShare} f) ∗ (∃ f, (th d i).loc cc0_scratch4 ↦{fullShare} f) ∗ (∃ f, (th d i).loc cc0_scratch5 ↦{fullShare} f)
      ∗ (∃ f, (th d i).loc cc0_scratch6 ↦{fullShare} f) ∗ (∃ f, (th d i).loc cc0_scratch7 ↦{fullShare} f) ∗ bigSep Finset.univ fun k : Fin 0 => iprop(emp)) := by
  rw [bigSep_fin_succ, bigSep_fin_succ, bigSep_fin_succ, bigSep_fin_succ, bigSep_fin_succ, bigSep_fin_succ, bigSep_fin_succ, bigSep_fin_succ,
    bigSep_congr (s := (Finset.univ : Finset (Fin 0))) (Ψ := fun _ => (iprop(emp) : SP F)) fun t _ => t.elim0]
  rfl

/-- What a tile owes for the three meetings. -/
def oxV (d : Dev nD) (c : Fin 2) : CellTallies nD τ sig (HIx 3) := oxR d c 2 + oxR d c 1 + oxR d c 0

theorem oxR_pos {r : Fin 3} {g : GSem nD τ sig} {ι : HIx 3} (h : 0 < oxR d c r g ι) : ∃ j : Fin 16, g = bc d c j ∧ ι = some r := by
  unfold oxR at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

theorem oxR_none (r : Fin 3) (g : GSem nD τ sig) : oxR d c r g none = 0 := by
  by_contra h
  obtain ⟨j, -, e⟩ := oxR_pos d c (Nat.pos_of_ne_zero h)
  cases e

theorem bc_lev (j : Fin 16) (r : Fin 3) : (K (F := F)).lev (bc d c j) (some r) = 8 * r.val + 3 :=
  ((K (F := F)).lev_V_reg d (cV (mk c j)) (jV (mk c j)) (by show sc_bar0 ≠ sc_go; decide) r)

theorem oxR_lev {r : Fin 3} {g : GSem nD τ sig} {ι : HIx 3} (h : 0 < oxR d c r g ι) : (K (F := F)).lev g ι = 8 * r.val + 3 := by
  obtain ⟨j, rfl, rfl⟩ := oxR_pos d c h
  exact bc_lev d c j r

/-- What the launch hands a tile. -/
def kit : SP F :=
  iprop(∃ (κ κw : ℕ) (γ : Fin 16 → ℕ) (γ' : Sig3 → ℕ), inv κ (Meets (bc d c) γ γ' (In3 id X Wt z d c) (Out3 id X Wt z d c)) ∗ wmInv EWu κw ∗ count EC (γ s) 0
    ∗ ((bigSep Finset.univ fun t : Fin 16 => count EC (γ' (s, t, 0)) 0) ∗ (bigSep Finset.univ fun t : Fin 16 => count EC (γ' (s, t, 1)) 0)
      ∗ (bigSep Finset.univ fun t : Fin 16 => count EC (γ' (s, t, 2)) 0))
    ∗ (cred (tallyAt (bc d c s) (some 0) 16) ∗ cred (tallyAt (bc d c s) (some 1) 16) ∗ cred (tallyAt (bc d c s) (some 2) 16)))

/-- What its core hands it of the shared buffers. -/
def goS : SP F :=
  iprop(Own d (mk c 0) (rowsAt at0 s) (fun _ _ _ => True) ∗ (∃ f : Buf (Elt F) (gM.view.loc (th d (mk c 0))), gM.view.loc (th d (mk c 0)) ↦[tset {s}]{fullShare} f)
    ∗ if s = 15 then Own d (mk c 0) {512} (fun _ _ _ => True) else iprop(emp))

/-- What it hands back of them. -/
def tdS : SP F :=
  iprop(Own d (mk c 0) (rowsAt at3 s) (fun _ _ _ => True)
    ∗ if s = 0 then iprop(Own d (mk c 0) {512} (fun _ _ _ => True) ∗ ∃ g, Tags d (mk c 0) Finset.univ fullShare g) else iprop(emp))

theorem bring0 : iprop(Own d (mk c s) (rowsAt at0 s) (fun _ _ x => x = z) ∗ Dum0 (F := F) d (mk c s) fullShare) ⊢ In3 id X Wt z d c 0 s := by
  rw [show In3 id X Wt z d c 0 s = iprop(Own d (mk c 0) (rowsAt at0 s) (fun _ _ x => x = z) ∗ if s = 15 then Dum d (mk c 0) fullShare else iprop(emp)) from if_pos rfl]
  unfold Dum0
  iintro ⟨H, Hd⟩
  isplitl [H]; · iexact H
  by_cases h : s = 15
  · subst h
    rw [if_pos rfl]
    icases Hd with (⟨-, Hd⟩ | %h)
    · iexact Hd
    exact absurd rfl h
  · rw [if_neg h]
    iempintro
theorem left0 : Out3 id X Wt z d c 0 s ⊢ iprop(Own d (mk c s) (rowsAt (at1 id c) s) (fun _ _ x => x = z) ∗ Dum (F := F) d (mk c s) (sh16 s)) := Entails.of_eq (if_pos rfl)
theorem bring1 : iprop(Own d (mk c s) (rowsAt (at1 id c) s) (Summed id X Wt z (mk c s)) ∗ Tags (F := F) d (mk c s) {s} fullShare (fun _ => tag id (mk c s))) ⊢ In3 id X Wt z d c 1 s := by
  rw [show In3 id X Wt z d c 1 s = iprop(Own d (mk c 0) (rowsAt (at1 id c) s) (Parts id X Wt z c) ∗ Tags d (mk c 0) {s} fullShare (fun t => tag id (mk c t))) from (if_neg (by decide)).trans (if_pos rfl)]
  iintro ⟨H, Ht⟩
  isplitl [H]
  · iapply (Own_mono (d := d) (i := mk c s) (R := rowsAt (at1 id c) s) (G := Summed id X Wt z (mk c s)) (G' := Parts id X Wt z c) fun r hr col x h => by
      unfold Parts; rw [(mem_rowsAt.mp hr).2]; exact h) $$ H
  unfold Tags
  icases Ht with ⟨%f, %hf, Ht⟩
  iexists f
  isplitr
  · ipureintro
    intro y hy
    rw [hf y hy, Finset.mem_singleton.mp hy]
  iexact Ht
theorem left1 : Out3 id X Wt z d c 1 s ⊢ iprop(Own d (mk c s) (rowsAt (at2 id c) s) (Parts id X Wt z c) ∗ Tags (F := F) d (mk c s) Finset.univ (sh16 s) (fun t => tag id (mk c t))) :=
  Entails.of_eq ((if_neg (by decide)).trans (if_pos rfl))
theorem bring2 : iprop(Own d (mk c s) (rowsAt (at2 id c) s) (Totals id X Wt z c) ∗ Dum (F := F) d (mk c s) (sh16 s) ∗ Tags (F := F) d (mk c s) Finset.univ (sh16 s) (fun t => tag id (mk c t))) ⊢ In3 id X Wt z d c 2 s :=
  Entails.of_eq ((if_neg (by decide)).trans (if_neg (by decide))).symm
theorem left2 : Out3 id X Wt z d c 2 s ⊢ iprop(Own d (mk c s) (rowsAt at3 s) (Totals id X Wt z c)
    ∗ if s = 0 then iprop(Dum d (mk c 0) fullShare ∗ Tags d (mk c 0) Finset.univ fullShare (fun t => tag id (mk c t))) else iprop(emp)) :=
  Entails.of_eq ((if_neg (by decide)).trans (if_neg (by decide)))

theorem row_in (κw : ℕ) : iprop(wmInv (EWu (F := F)) κw ∗ (if s = 15 then Own (F := F) d (mk c 0) {512} (fun _ _ _ => True) else iprop(emp))) ⊢ iprop(|={Set.univ}=> Dum0 (F := F) d (mk c s) fullShare) := by
  by_cases h : s = 15
  · subst h
    rw [if_pos rfl]
    unfold Own Dum0 Dum
    iintro ⟨#Hwm, ⟨%f, -, H⟩⟩
    imod (pointsTo_castIn (emb := EWu (F := F)) (fun _ => none) (Set.mem_univ _)) $$ [H] with H
    · isplitr; · iexact Hwm
      iexact H
    imodintro
    ileft
    isplitr; · ipureintro; rfl
    iexists f, ∅
    iexact H
  · unfold Dum0
    iintro -
    imodintro
    iright
    ipureintro
    intro h2
    exact h (Fin.ext h2)

theorem row_out (κw : ℕ) : iprop(wmInv (EWu (F := F)) κw ∗ Dum (F := F) d (mk c 0) fullShare) ⊢ iprop(|={Set.univ}=> Own (F := F) d (mk c 0) {512} (fun _ _ _ => True)) := by
  unfold Own Dum
  iintro ⟨#Hwm, ⟨%f, %W, H⟩⟩
  imod (willBeTo_castOut (emb := EWu (F := F)) (Set.mem_univ _)) $$ [H] with H
  · isplitr; · iexact Hwm
    iexact H
  icases H with ⟨%f', -, H⟩
  imodintro
  iexists f'
  isplitr; · ipureintro; exact fun _ _ _ => trivial
  iexact H

theorem rows_back (κw : ℕ) : iprop(wmInv (EWu (F := F)) κw ∗ Own (F := F) d (mk c s) (rowsAt at3 s) (Totals id X Wt z c)
      ∗ if s = 0 then iprop(Dum d (mk c 0) fullShare ∗ Tags d (mk c 0) Finset.univ fullShare (fun t => tag id (mk c t))) else iprop(emp)) ⊢ iprop(|={Set.univ}=> tdS (F := F) d c s) := by
  unfold tdS
  by_cases h : s = 0
  · rw [if_pos h, if_pos h]
    iintro ⟨#Hwm, H, Hd, Ht⟩
    imod (row_out (F := F) d c κw) $$ [Hd] with Hd
    · isplitr; · iexact Hwm
      iexact Hd
    imodintro
    isplitl [H]
    · iapply (Own_mono (d := d) (i := mk c s) (R := rowsAt at3 s) (G := Totals id X Wt z c) (G' := fun _ _ _ => True) fun _ _ _ _ _ => trivial) $$ H
    isplitl [Hd]; · iexact Hd
    iexists _; iexact Ht
  · rw [if_neg h, if_neg h]
    iintro ⟨#Hwm, H, -⟩
    imodintro
    isplitl [H]
    · iapply (Own_mono (d := d) (i := mk c s) (R := rowsAt at3 s) (G := Totals id X Wt z c) (G' := fun _ _ _ => True) fun _ _ _ _ _ => trivial) $$ H
    iempintro

theorem oweO {i : grid0.Coords} {O : CellTallies nD τ sig (HIx 3)} {W : Waits sig (HIx 3)} (hO : ∀ g, O g none = 0) :
    iprop(levAts (K (F := F)).L (K (F := F)).lev ∗ owes (th d i) O W) ⊢ Owe (F := F) d i W O := by
  unfold Owe
  iintro ⟨#Hlev, Ho⟩
  isplitl [Ho]
  · iexists W
    isplitr
    · ipureintro; exact fun p hp => .inl hp
    iexact Ho
  iapply (show levAts (K (F := F)).L (K (F := F)).lev ⊢ Transfers.MayWaits (th d i) (default : HIx 3) O from (K (F := F)).mayWaits_none (thr := th d i) hO) $$ Hlev

set_option maxHeartbeats 4000000 in
theorem tile_run (hg : Good id) {fX : Buf (Elt F) (vM.view.loc (th d (mk c s)))} {fW : Buf (Elt F) (uM.view.loc (th d (mk c s)))} {fI : Buf (Elt F) (iM.view.loc (th d (mk c s)))}
    (hX : ∀ (n : Fin 100000) c, fX (ix2 n c) = X n.val c) (hW : ∀ (n : Fin 100000) c, fW (ix2 n c) = Wt n.val c) (hI : ∀ n : Fin 100000, fI (ix1 n) = id n.val)
    {q0 q1 qI : PosShare TreeShare} {O : CellTallies nD τ sig (HIx 3)} {W : Waits sig (HIx 3)} (hO0 : ∀ g, O g none = 0) (hO : ∀ g ι, 0 < O g ι → 22 ≤ (K (F := F)).lev g ι) :
    iprop(levAts (K (F := F)).L (K (F := F)).lev ∗ kit id X Wt z d c s ∗ goS (F := F) d c s
        ∗ (vM.view.loc (th d (mk c s)) ↦[Finset.univ]{q0} fX) ∗ (uM.view.loc (th d (mk c s)) ↦[Finset.univ]{q0} fW)
        ∗ (vM.view.loc (th d (mk c s)) ↦[Finset.univ]{q1} fX) ∗ (uM.view.loc (th d (mk c s)) ↦[Finset.univ]{q1} fW)
        ∗ (iM.view.loc (th d (mk c s)) ↦[Finset.univ]{qI} fI) ∗ Out d c s (fun _ _ => True)
        ∗ (bigSep Finset.univ fun k : Fin 8 => iprop(∃ f, (th d (mk c s)).loc (tileBuf k) ↦{fullShare} f))
        ∗ (bigSep Finset.univ fun k : Fin 32 => semVal (th d (mk c s), .dma (tileSem k)) 0)
        ∗ owes (th d (mk c s)) (O + oxV d c) W)
      ⊢ WP d (mk c s) (bodyG (mk c s) vM uM iM (Memref.whole main_v1_scv) xM wM idM (Memref.isWhole_whole _) pM (Memref.isWhole_whole _)
          oM (Memref.isWhole_whole _) tM (Memref.isWhole_whole _) bM (Memref.isWhole_whole _) aM (Memref.isWhole_whole _) shM
          gM (Memref.isWhole_whole _) cc0_scratch10 cc0_scratch11 cc0_scoped0 cc0_scoped1 cc0_scoped2 cc0_scoped3 cc0_scoped4 cc0_scoped5 cc0_scoped6 cc0_scoped7 cc0_scoped8 cc0_scoped9
          cc0_scoped24 cc0_scoped25 cc0_scoped26 cc0_scoped27 tSems (broadcast S16 z) (iota .scVector S16 32 [0] iota_S16_d0_w32_scVector)) fun _ =>
        iprop(tdS (F := F) d c s ∗ Out d c s (Outs id X Wt z) ∗ semVal (bc d c s) 0
          ∗ (bigSep Finset.univ fun k : Fin 8 => iprop(∃ f, (th d (mk c s)).loc (tileBuf k) ↦{fullShare} f))
          ∗ (bigSep Finset.univ fun k : Fin 32 => semVal (th d (mk c s), .dma (tileSem k)) 0)
          ∗ ∃ W', ⌜∀ p ∈ W', p ∈ W ∨ p.2 = none ∨ ∃ j, p.2 = some j⌝ ∗ owes (th d (mk c s)) O W') := by
  have hO1 : ∀ g, (O + oxR d c 2) g none = 0 := fun g => by rw [Pi.add_apply, Finsupp.add_apply, hO0, oxR_none]
  have hO2 : ∀ g, (O + oxR d c 2 + oxR d c 1) g none = 0 := fun g => by rw [Pi.add_apply, Finsupp.add_apply, hO1, oxR_none]
  have hO3 : ∀ g, (O + oxR d c 2 + oxR d c 1 + oxR d c 0) g none = 0 := fun g => by rw [Pi.add_apply, Finsupp.add_apply, hO2, oxR_none]
  have hL1 : ∀ g ι, 0 < (O + oxR d c 2) g ι → 19 ≤ (K (F := F)).lev g ι := fun g ι h => by
    rw [Pi.add_apply, Finsupp.add_apply] at h
    rcases Nat.add_pos_iff_pos_or_pos.mp h with h | h
    · exact le_trans (by decide) (hO g ι h)
    · rw [oxR_lev (F := F) d c h]; decide
  have hL2 : ∀ g ι, 0 < (O + oxR d c 2 + oxR d c 1) g ι → 11 ≤ (K (F := F)).lev g ι := fun g ι h => by
    rw [Pi.add_apply, Finsupp.add_apply] at h
    rcases Nat.add_pos_iff_pos_or_pos.mp h with h | h
    · exact le_trans (by decide) (hL1 g ι h)
    · rw [oxR_lev (F := F) d c h]; decide
  rw [show O + oxV d c = O + oxR d c 2 + oxR d c 1 + oxR d c 0 by unfold oxV; rw [← add_assoc, ← add_assoc]]
  rw [sems_eq, bufs_eq]
  unfold kit goS
  iintro ⟨#Hlev, ⟨%κ, %κw, %γ, %γ', #Hinv, #Hwm, Hc, ⟨Hs0, Hs1, Hs2⟩, ⟨Hk0, Hk1, Hk2⟩⟩, ⟨Hown, Htag, H512⟩, Hx0, Hw0, Hx1, Hw1, HI, Hout, ⟨B0, B1, B2, B3, B4, B5, B6, B7, -⟩,
    ⟨E0, E1, E2, E3, S0, S1, S2, S3, S4, S5, S6, S7, S8, S9, S24, S25, S26, S27, ST⟩, Ho⟩
  ihave B7 := (BIBase.Entails.trans (At_whole cc0_scratch7) (Acc_of_At aM)) $$ B7
  icases B7 with ⟨%a0, B7⟩
  ihave B6 := (BIBase.Entails.trans (At_whole cc0_scratch6) (Acc_of_At bM)) $$ B6
  icases B6 with ⟨%b0, B6⟩
  ihave B5 := (At_whole cc0_scratch5) $$ B5
  ihave B4 := (At_whole cc0_scratch4) $$ B4
  ihave B3 := (At_whole cc0_scratch3) $$ B3
  ihave B2 := (At_whole cc0_scratch2) $$ B2
  ihave B1 := ws_halves.1 $$ B1
  ihave B0 := xs_halves.1 $$ B0
  icases B1 with ⟨B10, B11⟩
  icases B0 with ⟨B00, B01⟩
  ihave Ho := (oweO (F := F) d hO3) $$ [Ho]
  · isplitr; · iexact Hlev
    iexact Ho
  imod (row_in d c s κw) $$ [H512] with Hd
  · isplitr; · iexact Hwm
    iexact H512
  unfold bodyG
  iapply WP_bind
  iapply (wp_phaseA κw hg hI (z := z) (a0 := a0))
  isplitr; · iexact Hwm
  isplitl [B7]; · iexact B7
  isplitl [Hown]; · iexact Hown
  isplitl [Hd]; · iexact Hd
  isplitl [Ho]; · iexact Ho
  isplitl [HI]; · iexact HI
  isplitl [B2]; · iexact B2
  isplitl [B3]; · iexact B3
  isplitl [B4]; · iexact B4
  isplitl [Htag]; · iexact Htag
  isplitl [S0]; · iexact S0
  isplitl [S1]; · iexact S1
  isplitl [S2]; · iexact S2
  isplitl [S3]; · iexact S3
  iintro ⟨B7, Hown, Hd, Ho, HI, B2, B3, B4, Htag, S0, S1, S2, S3⟩
  iapply (wp_meet (In := In3 id X Wt z d c) (Out := Out3 id X Wt z d c) (hconv3 id X Wt z d c) 0 hO2 (fun g ι h => lt_of_lt_of_le (by decide) (hL2 g ι h)) _)
  isplitr; · iexact Hinv
  isplitr; · iexact Hlev
  isplitl [Hc]; · iexact Hc
  isplitl [Hs0]; · iexact Hs0
  isplitl [Hown Hd]
  · iapply (bring0 id X Wt z d c s)
    isplitl [Hown]; · iexact Hown
    iexact Hd
  isplitl [Ho]; · iexact Ho
  isplitl [Hk0]; · iexact Hk0
  iintro ⟨Hc, Hb, Ho, -⟩
  ihave Hb := (left0 id X Wt z d c s) $$ Hb
  icases Hb with ⟨Hown, Hd⟩
  iapply WP_bind
  iapply (wp_phaseB κw hg (run_row hg) hX hW (z := z) (R := rowsAt (at1 id c) s) (sh := sh16 s) (q := q0) (q' := q1))
  isplitr; · iexact Hwm
  isplitl [B2]; · iexact B2
  isplitl [Hx0 Hw0 B00 B10 E0 E1]
  · unfold Idle
    isplitl [Hx0]; · iexact Hx0
    isplitl [Hw0]; · iexact Hw0
    isplitl [B00]; · iexact B00
    isplitl [B10]; · iexact B10
    isplitl [E0]; · iexact E0
    iexact E1
  isplitl [Hx1 Hw1 B01 B11 E2 E3]
  · unfold Idle
    isplitl [Hx1]; · iexact Hx1
    isplitl [Hw1]; · iexact Hw1
    isplitl [B01]; · iexact B01
    isplitl [B11]; · iexact B11
    isplitl [E2]; · iexact E2
    iexact E3
  isplitl [B7]; · iexact B7
  isplitl [Hown]; · iexact Hown
  isplitl [Hd]; · iexact Hd
  isplitl [Ho]; · iexact Ho
  isplitl [S4]; · iexact S4
  isplitl [S5]; · iexact S5
  isplitl [S6]; · iexact S6
  isplitl [S7]; · iexact S7
  isplitl [S8]; · iexact S8
  iintro ⟨B2, Hi0, Hi1, ⟨%a1, B7⟩, Hown, Hd, Ho, S4, S5, S6, S7, S8⟩
  iapply (wp_meet (In := In3 id X Wt z d c) (Out := Out3 id X Wt z d c) (hconv3 id X Wt z d c) 1 hO1 (fun g ι h => lt_of_lt_of_le (by decide) (hL1 g ι h)) _)
  isplitr; · iexact Hinv
  isplitr; · iexact Hlev
  isplitl [Hc]; · iexact Hc
  isplitl [Hs1]; · iexact Hs1
  isplitl [Hown Htag]
  · iapply (bring1 id X Wt z d c s)
    isplitl [Hown]; · iexact Hown
    iexact Htag
  isplitl [Ho]; · iexact Ho
  isplitl [Hk1]; · iexact Hk1
  iintro ⟨Hc, Hb, Ho, -⟩
  ihave Hb := (left1 id X Wt z d c s) $$ Hb
  icases Hb with ⟨Hown, Htag⟩
  iapply WP_bind
  iapply (wp_phaseC hg (z := z))
  isplitl [B7]; · iexact B7
  isplitl [B6]; · iexact B6
  isplitl [Hown]; · iexact Hown
  isplitl [Ho]; · iexact Ho
  isplitl [B5]; · iexact B5
  isplitl [Htag]; · iexact Htag
  isplitl [S9]; · iexact S9
  isplitl [ST]; · iexact ST
  isplitl [S24]; · iexact S24
  isplitl [S25]; · iexact S25
  isplitl [S26]; · iexact S26
  iintro ⟨⟨%a2, B7⟩, ⟨%b2, B6⟩, Hown, Ho, B5, Htag, S9, ST, S24, S25, S26⟩
  iapply (wp_meet (In := In3 id X Wt z d c) (Out := Out3 id X Wt z d c) (hconv3 id X Wt z d c) 2 hO0 (fun g ι h => lt_of_lt_of_le (by decide) (hO g ι h)) _)
  isplitr; · iexact Hinv
  isplitr; · iexact Hlev
  isplitl [Hc]; · iexact Hc
  isplitl [Hs2]; · iexact Hs2
  isplitl [Hown Hd Htag]
  · iapply (bring2 id X Wt z d c s)
    isplitl [Hown]; · iexact Hown
    isplitl [Hd]; · iexact Hd
    iexact Htag
  isplitl [Ho]; · iexact Ho
  isplitl [Hk2]; · iexact Hk2
  iintro ⟨-, Hb, Ho, Hsem⟩
  ihave Hb := (left2 id X Wt z d c s) $$ Hb
  icases Hb with ⟨Hown, Hr⟩
  iapply (WP_upd d)
  iapply (wp_phaseD (X := X) (Wt := Wt) (z := z))
  isplitl [Hown]; · iexact Hown
  isplitl [Hout]; · iexact Hout
  isplitl [Ho]; · iexact Ho
  isplitl [S27]; · iexact S27
  iintro ⟨Hown, Hout, Ho, S27⟩
  imod (rows_back id X Wt z d c s κw) $$ [Hown Hr] with Htd
  · isplitr; · iexact Hwm
    isplitl [Hown]; · iexact Hown
    iexact Hr
  imodintro
  unfold Owe Idle Fetched
  icases Hi0 with ⟨-, -, B00, B10, E0, E1⟩
  icases Hi1 with ⟨-, -, B01, B11, E2, E3⟩
  icases Ho with ⟨Ho, -⟩
  isplitl [Htd]; · iexact Htd
  isplitl [Hout]; · iexact Hout
  isplitl [Hsem]; · iapply (Entails.of_eq (show (if (2 : Fin 3).val = 2 then semVal (bc d c s) 0 else (iprop(emp) : SP F)) = semVal (bc d c s) 0 from if_pos rfl)) $$ Hsem
  isplitl [B00 B01 B10 B11 B2 B3 B4 B5 B6 B7]
  · isplitl [B00 B01]
    · iapply xs_halves.2
      isplitl [B00]; · iexact B00
      iexact B01
    isplitl [B10 B11]
    · iapply ws_halves.2
      isplitl [B10]; · iexact B10
      iexact B11
    isplitl [B2]; · iapply (whole_At cc0_scratch2); iexists _; iexact B2
    isplitl [B3]; · iapply (whole_At cc0_scratch3); iexact B3
    isplitl [B4]; · iapply (whole_At cc0_scratch4); iexact B4
    isplitl [B5]; · iapply (whole_At cc0_scratch5); iexact B5
    isplitl [B6]; · iapply (whole_At cc0_scratch6); iapply (At_of_Acc bM); iexists _; iexact B6
    isplitl [B7]; · iapply (whole_At cc0_scratch7); iapply (At_of_Acc aM); iexists _; iexact B7
    iapply emp0
    iempintro
  isplitl [E0 E1 E2 E3 S0 S1 S2 S3 S4 S5 S6 S7 S8 S9 S24 S25 S26 S27 ST]
  · isplitl [E0]; · iexact E0
    isplitl [E1]; · iexact E1
    isplitl [E2]; · iexact E2
    isplitl [E3]; · iexact E3
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S24]; · iexact S24
    isplitl [S25]; · iexact S25
    isplitl [S26]; · iexact S26
    isplitl [S27]; · iexact S27
    iexact ST
  iexact Ho
end Tile

end Cert.KernelIdeal.Sums
-- ==== Proof.Split.lean ====
module

public import proofs.«01_k».proof.Proof.Tile

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # The core's shared buffers dealt to its tiles and gathered from them -/

section Split
variable (d : Dev nD) (c : Fin 2)

/-- The core's shared rows and its tags, at any contents. -/
def rowsAll : SP F := iprop(∃ f : Buf (Elt F) (shM.view.loc (th d (mk c 0))), shM.view.loc (th d (mk c 0)) ↦{fullShare} f)
def tagsAll : SP F := iprop(∃ f : Buf (Elt F) (gM.view.loc (th d (mk c 0))), gM.view.loc (th d (mk c 0)) ↦{fullShare} f)

theorem rset_all (i : grid0.Coords) : (Finset.univ : Finset (Idx (shM.view.loc (th d i)))) = (rset rows0 : Finset (Idx (shM.view.loc (th d i)))) ∪ (rset {512} : Finset (Idx (shM.view.loc (th d i)))) := by
  apply Finset.ext
  intro y
  refine ⟨fun _ => Finset.mem_union.mpr ?_, fun _ => Finset.mem_univ _⟩
  by_cases h : rowOf y = 512
  · exact .inr (Finset.mem_filter.mpr ⟨Finset.mem_univ _, Finset.mem_singleton.mpr h⟩)
  · exact .inl (Finset.mem_filter.mpr ⟨Finset.mem_univ _, Finset.mem_filter.mpr ⟨Finset.mem_univ _, h⟩⟩)

theorem rset_apart : Disjoint (rset rows0) (rset {512}) := rset_disjoint (Finset.disjoint_singleton_right.mpr fun h => (Finset.mem_filter.mp h).2 rfl)

theorem rows_split : rowsAll (F := F) d c ⊢ iprop((bigSep Finset.univ fun s => Own d (mk c 0) (rowsAt at0 s) (fun _ _ _ => True)) ∗ Own d (mk c 0) {512} (fun _ _ _ => True)) := by
  unfold rowsAll
  iintro ⟨%f, H⟩
  ihave H := (BIBase.Entails.trans (Entails.of_eq (congrArg (fun I => (shM.view.loc (th d (mk c 0)) ↦[I]{fullShare} f : SP F)) (rset_all d (mk c 0)))) (pointsTo_union (rset_apart)).1) $$ H
  icases H with ⟨H0, H1⟩
  isplitl [H0]
  · iapply (Own_deal (d := d) (i := mk c 0) (rowsAt at0) (rows0_eq at0) fun t _ t' _ h => rowsAt_disjoint at0 t t' h)
    unfold Own
    iexists f
    isplitr; · ipureintro; exact fun _ _ _ => trivial
    iexact H0
  · unfold Own
    iexists f
    isplitr; · ipureintro; exact fun _ _ _ => trivial
    iexact H1

theorem rows_join : iprop((bigSep Finset.univ fun s => Own d (mk c 0) (rowsAt at3 s) (fun _ _ _ => True)) ∗ Own d (mk c 0) {512} (fun _ _ _ => True)) ⊢ rowsAll (F := F) d c := by
  iintro ⟨H, H1⟩
  ihave H := (Own_gather (F := F) (d := d) (i := mk c 0) (rowsAt at3) (rows0_eq at3) fun t _ t' _ h => rowsAt_disjoint at3 t t' h) $$ H
  unfold Own rowsAll
  icases H with ⟨%f, -, H⟩
  icases H1 with ⟨%g, -, H1⟩
  ihave H := (pointsTo_join (ℓ := shM.view.loc (th d (mk c 0))) (q := fullShare) (f := f) (g := g) rset_apart) $$ [H H1]
  · isplitl [H]; · iexact H
    iexact H1
  iexists _
  iapply (Entails.of_eq (congrArg (fun I => (shM.view.loc (th d (mk c 0)) ↦[I]{fullShare} _ : SP F)) (rset_all d (mk c 0)).symm)) $$ H

theorem tset_all (i : grid0.Coords) : (Finset.univ : Finset (Idx (gM.view.loc (th d i)))) = (tset Finset.univ : Finset (Idx (gM.view.loc (th d i)))) := by
  apply Finset.ext
  intro y
  exact ⟨fun _ => mem_tset.mpr (Finset.mem_univ _), fun _ => Finset.mem_univ _⟩

theorem tags_split : tagsAll (F := F) d c ⊢ bigSep Finset.univ fun s : Fin 16 => iprop(∃ f : Buf (Elt F) (gM.view.loc (th d (mk c 0))), gM.view.loc (th d (mk c 0)) ↦[tset {s}]{fullShare} f) := by
  unfold tagsAll
  iintro ⟨%f, H⟩
  have e : (gM.view.loc (th d (mk c 0)) ↦{fullShare} f : SP F) = bigSep Finset.univ fun s : Fin 16 => (gM.view.loc (th d (mk c 0)) ↦[tset {s}]{fullShare} f : SP F) := by
    rw [tset_all d (mk c 0), tset_cover (mk c 0)]
    exact pointsTo_biUnion (ℓ := gM.view.loc (th d (mk c 0))) Finset.univ (fun t => tset {t}) fun t _ t' _ hne => tset_disjoint (mk c 0) t t' hne
  ihave H := (Entails.of_eq e) $$ H
  iapply (SparseCore.ent (bigSep_mono fun s _ => BI.BIClass.exists_intro (Φ := fun f => (gM.view.loc (th d (mk c 0)) ↦[tset {s}]{fullShare} f : SP F)) f)) $$ H

theorem tags_join (g : Fin 16 → BitVec 32) : Tags (F := F) d (mk c 0) Finset.univ fullShare g ⊢ tagsAll (F := F) d c := by
  unfold Tags tagsAll
  iintro ⟨%f, -, H⟩
  iexists f
  iapply (Entails.of_eq (congrArg (fun I => (gM.view.loc (th d (mk c 0)) ↦[I]{fullShare} f : SP F)) (tset_all d (mk c 0)).symm)) $$ H

/-- What the core's sequencer hands its tiles of the shared buffers, -/
theorem go_split : iprop(rowsAll (F := F) d c ∗ tagsAll (F := F) d c) ⊢ bigSep Finset.univ fun s => goS (F := F) d c s := by
  unfold goS
  rw [bigSep_sep', bigSep_sep']
  iintro ⟨H, Ht⟩
  ihave H := (rows_split (F := F) d c) $$ H
  icases H with ⟨H, H1⟩
  isplitl [H]; · iexact H
  isplitl [Ht]; · iapply (tags_split (F := F) d c) $$ Ht
  iapply (one_only (F := F) 15 _).2 $$ H1

/-- and has back from them. -/
theorem td_join : (bigSep Finset.univ fun s => tdS (F := F) d c s) ⊢ iprop(rowsAll (F := F) d c ∗ tagsAll (F := F) d c) := by
  unfold tdS
  rw [bigSep_sep']
  iintro ⟨H, H1⟩
  ihave H1 := (one_only (F := F) 0 _).1 $$ H1
  icases H1 with ⟨H1, ⟨%g, Ht⟩⟩
  isplitl [H H1]
  · iapply (rows_join (F := F) d c)
    isplitl [H]; · iexact H
    iexact H1
  iapply (tags_join (F := F) d c g) $$ Ht

theorem tags_ne_rows : (cc0_scratch9 : Ref sig .scVector) ≠ cc0_scratch8 := by decide

/-- The shared buffers are among the sequencer's own. -/
theorem ownBufs_core : ∃ R : SP F, (ownBufs (S d (cV (mk c 0))) : SP F) = iprop(iprop(rowsAll (F := F) d c ∗ tagsAll (F := F) d c) ∗ R) := by
  refine ⟨bigSep (((ownRefs (τ := τ) (sig := sig) (.scScalar (cV (mk c 0)))).erase ((Proc.scVector (cV (mk c 0)) (jV (mk c 0))).devRef cc0_scratch8)).erase ((Proc.scVector (cV (mk c 0)) (jV (mk c 0))).devRef cc0_scratch9))
    fun b => iprop(∃ f, ((d, b) : Loc nD τ sig) ↦{fullShare} f), ?_⟩
  unfold SparseCore.Cfg.ownBufs
  have h8 : (Proc.scVector (cV (mk c 0)) (jV (mk c 0))).devRef cc0_scratch8 ∈ ownRefs (τ := τ) (sig := sig) (.scScalar (cV (mk c 0))) :=
    (mem_ownRefs (p := Proc.scScalar (cV (mk c 0))) (b := (Proc.scVector (cV (mk c 0)) (jV (mk c 0))).devRef cc0_scratch8)).mpr rfl
  have h9 : (Proc.scVector (cV (mk c 0)) (jV (mk c 0))).devRef cc0_scratch9 ∈ ownRefs (τ := τ) (sig := sig) (.scScalar (cV (mk c 0))) :=
    (mem_ownRefs (p := Proc.scScalar (cV (mk c 0))) (b := (Proc.scVector (cV (mk c 0)) (jV (mk c 0))).devRef cc0_scratch9)).mpr rfl
  have hne : (Proc.scVector (cV (mk c 0)) (jV (mk c 0))).devRef cc0_scratch9 ≠ (Proc.scVector (cV (mk c 0)) (jV (mk c 0))).devRef cc0_scratch8 :=
    fun h => tags_ne_rows (Proc.devRef_injective _ h)
  rw [SparseCore.bigSep_erase' h8, SparseCore.bigSep_erase' (Finset.mem_erase.mpr ⟨hne, h9⟩)]
  unfold rowsAll tagsAll
  have h1 (A B C : SP F) : iprop(A ∗ B ∗ C) ⊢ iprop((A ∗ B) ∗ C) := by
    iintro ⟨H1, H2, H3⟩
    isplitl [H1 H2]
    · isplitl [H1]; · iexact H1
      iexact H2
    iexact H3
  have h2 (A B C : SP F) : iprop((A ∗ B) ∗ C) ⊢ iprop(A ∗ B ∗ C) := by
    iintro ⟨⟨H1, H2⟩, H3⟩
    isplitl [H1]; · iexact H1
    isplitl [H2]; · iexact H2
    iexact H3
  exact BI.Entails.antisymm (h1 _ _ _) (h2 _ _ _)
end Split

end Cert.KernelIdeal.Sums
-- ==== Proof.Pay.lean ====
module

public import proofs.«01_k».proof.Proof.Split

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # What the launch hands the call's threads -/

section Pay
variable (gX : Dev nD → S100000x512.Idx → Elt F .f32) (gW : Dev nD → S100000x64.Idx → Elt F .f32) (gI : Dev nD → S100000.Idx → BitVec 32)
variable (d : Dev nD) (c : Fin 2) (s : Fin 16)

/-- The kernel's zero. -/
abbrev z0 : Elt F .f32 := Scalar.ofBits .f32 0x00000000#32
/-- The rows' segments, the rows and their weights, by the rows' numbers. -/
def idOf (g : S100000.Idx → BitVec 32) (n : ℕ) : BitVec 32 := if h : n < 100000 then g (ix1 ⟨n, h⟩) else 0#32
def xOf (g : S100000x512.Idx → Elt F .f32) (n : ℕ) (c : Fin 512) : Elt F .f32 := if h : n < 100000 then g (ix2 ⟨n, h⟩ c) else z0
def wOf (g : S100000x64.Idx → Elt F .f32) (n : ℕ) (c : Fin 64) : Elt F .f32 := if h : n < 100000 then g (ix2 ⟨n, h⟩ c) else z0

/-- A tile's share of an array, for its even copies and its odd ones. -/
abbrev q3 (c : Fin 2) (s : Fin 16) (p : Fin 2) : PosShare TreeShare := Transfers.shareTok (Transfers.shareTok (Transfers.shareTok fullShare 2 c) 16 s) 2 p

/-- What a tile reads. -/
def Src : SP F :=
  iprop((vM.view.loc (th d (mk c s)) ↦[Finset.univ]{q3 c s 0} (gX d : Buf (Elt F) (vM.view.loc (th d (mk c s)))))
    ∗ (uM.view.loc (th d (mk c s)) ↦[Finset.univ]{q3 c s 0} (gW d : Buf (Elt F) (uM.view.loc (th d (mk c s)))))
    ∗ (vM.view.loc (th d (mk c s)) ↦[Finset.univ]{q3 c s 1} (gX d : Buf (Elt F) (vM.view.loc (th d (mk c s)))))
    ∗ (uM.view.loc (th d (mk c s)) ↦[Finset.univ]{q3 c s 1} (gW d : Buf (Elt F) (uM.view.loc (th d (mk c s)))))
    ∗ (iM.view.loc (th d (mk c s)) ↦[Finset.univ]{q3 c s 0} (gI d : Buf (Elt F) (iM.view.loc (th d (mk c s))))))

/-- A device's sums. -/
abbrev OutsOf : S1024x512.Idx → Elt F .f32 → Prop := Outs (idOf (gI d)) (xOf (gX d)) (wOf (gW d)) z0

def stP : SP F := bigSep Finset.univ fun s : Fin 16 => iprop(Src gX gW gI d c s ∗ Out (F := F) d c s (fun _ _ => True))
def dnP : SP F := bigSep Finset.univ fun s : Fin 16 => iprop(Out (F := F) d c s (OutsOf gX gW gI d) ∗ semVal (bc d c s) 0)
def goP : SP F := iprop(Src gX gW gI d c s ∗ Out (F := F) d c s (fun _ _ => True) ∗ goS (F := F) d c s)
def tdP : SP F := iprop(tdS (F := F) d c s ∗ Out (F := F) d c s (OutsOf gX gW gI d) ∗ semVal (bc d c s) 0)

instance Src_storable : BI.Storable (upEmb : UEmb _ 𝕄) (Src gX gW gI d c s) := by unfold Src; infer_instance
instance goS_storable : BI.Storable (upEmb : UEmb _ 𝕄) (goS (F := F) d c s) := by unfold goS; split <;> infer_instance
instance tdS_storable : BI.Storable (upEmb : UEmb _ 𝕄) (tdS (F := F) d c s) := by unfold tdS; split <;> infer_instance
instance stP_storable : BI.Storable (upEmb : UEmb _ 𝕄) (stP gX gW gI d c) := by unfold stP; infer_instance
instance dnP_storable : BI.Storable (upEmb : UEmb _ 𝕄) (dnP gX gW gI d c) := by unfold dnP; infer_instance
instance goP_storable : BI.Storable (upEmb : UEmb _ 𝕄) (goP gX gW gI d c s) := by unfold goP; infer_instance
instance tdP_storable : BI.Storable (upEmb : UEmb _ 𝕄) (tdP gX gW gI d c s) := by unfold tdP; infer_instance

theorem oxV_pos {g : GSem nD τ sig} {ι : HIx 3} (h : 0 < oxV d c g ι) : ∃ r : Fin 3, 0 < oxR d c r g ι := by
  unfold oxV at h
  rw [Pi.add_apply, Finsupp.add_apply, Pi.add_apply, Finsupp.add_apply] at h
  rcases Nat.add_pos_iff_pos_or_pos.mp h with h | h
  · rcases Nat.add_pos_iff_pos_or_pos.mp h with h | h
    · exact ⟨2, h⟩
    · exact ⟨1, h⟩
  · exact ⟨0, h⟩

set_option backward.proofsInPublic true in
/-- What passes between the threads. -/
def P : (K (F := F)).Pay (N := 3) (nD := nD) (Val := Elt F) (Name := ℕ) (U := UU F) where
  st := fun q d c => match q with | 0 => stP gX gW gI d c
  dn := fun q d c => match q with | 0 => dnP gX gW gI d c
  go := fun q d c i => match q with | 0 => goP gX gW gI d c i
  td := fun q d c i => match q with | 0 => tdP gX gW gI d c i
  x := fun _ thr => match thr with
    | (d, .scVector c i) => kit (idOf (gI d)) (xOf (gX d)) (wOf (gW d)) z0 d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨r, h⟩ := oxV_pos d c h
      rw [oxR_lev (F := F) d c h]
      exact ⟨by show 8 * 0 + 3 ≤ _; omega, by show _ ≤ 8 * 2 + 5; omega⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P gX gW gI).IsStorable where
  st q d c := match q with | 0 => (stP_storable gX gW gI d c)
  dn q d c := match q with | 0 => (dnP_storable gX gW gI d c)
  go q d c i := match q with | 0 => (goP_storable gX gW gI d c i)
  td q d c i := match q with | 0 => (tdP_storable gX gW gI d c i)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev v₀ : 𝒱.V := Sum.inl none

/-! ## The core's split -/

theorem vecSplit : (K (F := F)).VecSplit (P gX gW gI) 0 := by
  intro d c
  obtain ⟨R, hR⟩ := ownBufs_core (F := F) d c
  show iprop(stP gX gW gI d c ∗ ownBufs (S d (cV (mk c 0)))) ⊢ |={Set.univ}=> iprop(
      (bigSep Finset.univ fun s : Fin 16 => goP gX gW gI d c s)
      ∗ ((bigSep Finset.univ fun s : Fin 16 => tdP gX gW gI d c s) -∗ iprop(dnP gX gW gI d c ∗ ownBufs (S d (cV (mk c 0))))))
  rw [hR]
  unfold stP goP tdP dnP
  rw [bigSep_sep', bigSep_sep', bigSep_sep', bigSep_sep', bigSep_sep']
  iintro ⟨⟨HS, HO⟩, Hsh, HR⟩
  imodintro
  isplitl [HS HO Hsh]
  · isplitl [HS]; · iexact HS
    isplitl [HO]; · iexact HO
    iapply (go_split (F := F) d c) $$ Hsh
  iintro ⟨Ht, HO, Hb⟩
  isplitl [HO Hb]
  · isplitl [HO]; · iexact HO
    iexact Hb
  isplitl [Ht]
  · iapply (td_join (F := F) d c) $$ Ht
  iexact HR

end Pay

end Cert.KernelIdeal.Sums
-- ==== Proof.Init.lean ====
module

public import proofs.«01_k».proof.Proof.Pay

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # What the launch hands over before the threads start -/

section Init
variable (gX : Dev nD → S100000x512.Idx → Elt F .f32) (gW : Dev nD → S100000x64.Idx → Elt F .f32) (gI : Dev nD → S100000.Idx → BitVec 32)

abbrev DCI : Type := Dev nD × Fin τ.nSC × Fin τ.nSub
abbrev bc3 (x : DCI) : GSem nD τ sig := bc x.1 x.2.1 x.2.2
/-- The meetings' cells: of the free semaphores, the ones the call takes. -/
def bCells : Finset (GSem nD τ sig) := Finset.univ.image bc3
def u₀ : UU F := (initOf (K (F := F)).hsCells (K (F := F)).hsToks, (1, (1, (wm₀ nD τ sig (Elt F), 1))))

theorem bc3_injective : Function.Injective (bc3 : DCI → GSem nD τ sig) := fun a b e => by
  obtain ⟨h1, h2⟩ := Prod.mk.inj (Prod.mk.inj e).1
  obtain ⟨h3, h4⟩ := Proc.scVector.inj h2
  exact Prod.ext h1 (Prod.ext h3 h4)

theorem ownU_split (a : UH) (w : UW F) : (ownU ((a, (1, (1, (w, 1)))) : UU F) : SP F) ⊢ iprop(BI.own (EH a) ∗ ownU (EWu w)) :=
  BI.own_op_elim ((uEmb (nD := nD) (sig := sig) (Ix := HIx 3) (Val := Elt F) (Name := ℕ) (U := UU F) (Lvl := ℕ)).toEmb.op_of_mem
    (Prod.mk_mem_op (URA.mem_op_one a) (URA.mem_one_op ((1 : UB), ((1 : UP), (w, (1 : Counters)))))))

/-- Something kept beside each of many. -/
theorem bigSep_beside {I : Type} [DecidableEq I] {R : SP F} [BI.Persistent R] {s : Finset I} {Φ Ψ : I → SP F}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- Many updates are one. -/
theorem upd_all {I : Type} [DecidableEq I] (s : Finset I) (Φ : I → SP F) : (bigSep s fun i => iprop(|={Set.univ}=> Φ i)) ⊢ iprop(|={Set.univ}=> bigSep s Φ) := by
  induction s using Finset.induction_on with
  | empty =>
    rw [bigSep_empty, bigSep_empty]
    iintro H
    imodintro
    iexact H
  | insert a s ha ih =>
    rw [SparseCore.bigSep_insert' ha, SparseCore.bigSep_insert' ha]
    iintro ⟨H1, H2⟩
    ihave H2 := ih $$ H2
    imod H1 with H1
    imod H2 with H2
    imodintro
    isplitl [H1]; · iexact H1
    iexact H2

/-- Counters at zero, one for each. -/
theorem counts (I : Type) [Fintype I] [DecidableEq I] :
    (iprop(emp) : SP F) ⊢ |==> ∃ γ : I → ℕ, (bigSep Finset.univ fun i => countAuth EC (γ i) 0) ∗ bigSep Finset.univ fun i => count EC (γ i) 0 := by
  have e0 : (iprop(emp) : SP F) ⊢ iprop(|==> ∃ γ : ℕ, countAuth (EC (F := F)) γ 0 ∗ count (EC (F := F)) γ 0) := by
    have e : (iprop(∃ γ : ℕ, ⌜γ ∉ (∅ : Finset ℕ)⌝ ∧ countAuth (EC (F := F)) γ 0 ∗ count (EC (F := F)) γ 0) : SP F) ⊢ iprop(∃ γ : ℕ, countAuth (EC (F := F)) γ 0 ∗ count (EC (F := F)) γ 0) := by
      iintro ⟨%γ, -, H⟩
      iexists γ
      iexact H
    exact BIBase.Entails.trans (count_alloc (EC (F := F)) ∅) (BI.bupd_mono e)
  have e1 : (iprop(emp) : SP F) ⊢ bigSep (Finset.univ : Finset I) fun _ => iprop(|==> ∃ γ : ℕ, countAuth (EC (F := F)) γ 0 ∗ count (EC (F := F)) γ 0) := by
    refine BIBase.Entails.trans (Entails.of_eq (show (bigSep (Finset.univ : Finset I) fun _ => (iprop(emp) : SP F)) = iprop(emp) from bigSep_emp_const _).symm) ?_
    exact SparseCore.ent (bigSep_mono fun i _ => e0)
  refine BIBase.Entails.trans e1 (BIBase.Entails.trans (bigSep_bupd _ _) ?_)
  refine BI.bupd_mono ?_
  refine BIBase.Entails.trans (bigSep_exists_pi Finset.univ (fun (_ : I) (γ : ℕ) => iprop(countAuth (EC (F := F)) γ 0 ∗ count (EC (F := F)) γ 0))) ?_
  iintro ⟨%γ, H⟩
  iexists γ
  iapply (Entails.of_eq (bigSep_sep' _ _ _)) $$ H

theorem sum_tally (g : GSem nD τ sig) (ι : HIx 3) : ∀ n : ℕ, ∑ _ : Fin n, tallyAt g ι 1 = (tallyAt g ι n : CellTallies nD τ sig (HIx 3))
  | 0 => by rw [Finset.univ_eq_empty, Finset.sum_empty, tallyAt_zero]
  | n + 1 => by rw [Fin.sum_univ_castSucc, sum_tally g ι n, tallyAt_add]

theorem creds_r (d : Dev nD) (c : Fin 2) (r : Fin 3) : (bigSep Finset.univ fun _ : Fin 16 => (cred (oxR d c r) : SP F)) = bigSep Finset.univ fun j : Fin 16 => cred (tallyAt (bc d c j) (some r) 16) := by
  unfold oxR
  simp only [SparseCore.Cfg.cred_finsum]
  rw [bigSep_univ_comm]
  refine bigSep_congr fun j _ => ?_
  rw [← SparseCore.Cfg.cred_finsum, sum_tally]

/-- A tile's credit for its own arrivals. -/
abbrev cred3 (d : Dev nD) (c : Fin 2) (s : Fin 16) : SP F :=
  iprop(cred (tallyAt (bc d c s) (some 0) 16) ∗ cred (tallyAt (bc d c s) (some 1) 16) ∗ cred (tallyAt (bc d c s) (some 2) 16))

theorem creds_core (d : Dev nD) (c : Fin 2) : (bigSep Finset.univ fun _ : Fin 16 => (cred (oxV d c) : SP F)) ⊢ bigSep Finset.univ fun s : Fin 16 => cred3 d c s := by
  unfold oxV cred3
  simp only [SparseCore.Cfg.cred_add_eq]
  rw [bigSep_sep', bigSep_sep', bigSep_sep', bigSep_sep', creds_r, creds_r, creds_r]
  iintro ⟨⟨H2, H1⟩, H0⟩
  isplitl [H0]; · iexact H0
  isplitl [H1]; · iexact H1
  iexact H2

theorem creds_all : ((P gX gW gI).oxCred : SP F) ⊢ bigSep Finset.univ fun d : Dev nD => bigSep Finset.univ fun c : Fin 2 => bigSep Finset.univ fun s : Fin 16 => cred3 (F := F) d c s := by
  unfold SparseCore.Cfg.Pay.oxCred
  rw [SparseCore.Cfg.bigSep_threads (fun thr : Thread nD τ => (cred ((P gX gW gI).oxFrom 0 thr) : SP F))]
  refine sep_elim_right.trans (sep_elim_right.trans ?_)
  rw [bigSep_univ_prod]
  refine bigSep_mono fun d _ => ?_
  rw [bigSep_univ_prod]
  refine bigSep_mono fun c _ => ?_
  refine BIBase.Entails.trans (Entails.of_eq ?_) (creds_core (F := F) d c)
  refine bigSep_congr fun i _ => ?_
  rw [show (0 : ℕ) = (0 : Fin 1).val from rfl, (P gX gW gI).oxFrom_step, (P gX gW gI).oxFrom_end _ (n := (0 : Fin 1).val + 1) le_rfl, add_zero]
  rfl

theorem bar_free (d : Dev nD) (c : Fin τ.nSC) (s : Fin τ.nSub) (A : Finset (GSem nD τ sig)) (h : (V d c s, SemLoc.reg sc_bar0) ∈ A) (B : Finset (SemLoc sig)) (hB : SemLoc.reg sc_bar0 ∈ B) :
    (bigSep (B.filter fun sm => (V d c s, sm) ∈ A) fun sm : SemLoc sig => (semVal (V d c s, sm) 0 : SP F)) ⊢ semVal (bc d c s) 0 :=
  SparseCore.ent (bigSep_elim (Φ := fun sm : SemLoc sig => (semVal (V d c s, sm) 0 : SP F)) (Finset.mem_filter.mpr ⟨hB, h⟩))

theorem bar_open : ¬(SemLoc.reg sc_bar0 : SemLoc sig).isScoped .scVector := by decide

theorem sems_all : ((K (F := F)).freeOn (· ∈ bCells) : SP F) ⊢ bigSep Finset.univ fun d : Dev nD => bigSep Finset.univ fun c : Fin 2 => bigSep Finset.univ fun s : Fin 16 => semVal (bc d c s) 0 := by
  unfold SparseCore.Cfg.freeOn
  refine sep_elim_right.trans ?_
  rw [bigSep_univ_prod]
  refine bigSep_mono fun d _ => ?_
  rw [bigSep_univ_prod]
  refine bigSep_mono fun c _ => bigSep_mono fun s _ => ?_
  exact bar_free d c s bCells (Finset.mem_image_of_mem bc3 (Finset.mem_univ ((d, c, s) : DCI))) _
    (Finset.mem_erase.mpr ⟨fun h => (show (sc_bar0 : Sem sig) ≠ sc_go by decide) (SemLoc.reg.inj h), Finset.mem_filter.mpr ⟨Finset.mem_univ _, bar_open⟩⟩)

theorem three (Φ : Fin 3 → SP F) : (bigSep Finset.univ Φ) ⊢ iprop(Φ 0 ∗ Φ 1 ∗ Φ 2) := by
  rw [bigSep_fin_succ, bigSep_fin_succ, bigSep_fin_succ]
  rw [show (Fin.succ 0 : Fin 3) = 1 from rfl, show ((Fin.succ 0 : Fin 2).succ : Fin 3) = 2 from rfl]
  iintro ⟨H0, H1, H2, -⟩
  isplitl [H0]; · iexact H0
  isplitl [H1]; · iexact H1
  iexact H2

theorem signs (γ' : Sig3 → ℕ) : (bigSep Finset.univ fun p : Sig3 => (count EC (γ' p) 0 : SP F))
    ⊢ bigSep Finset.univ fun s : Fin 16 => iprop((bigSep Finset.univ fun t : Fin 16 => count EC (γ' (s, t, 0)) 0) ∗ (bigSep Finset.univ fun t : Fin 16 => count EC (γ' (s, t, 1)) 0)
      ∗ (bigSep Finset.univ fun t : Fin 16 => count EC (γ' (s, t, 2)) 0)) := by
  rw [bigSep_univ_prod]
  refine SparseCore.ent (bigSep_mono fun s _ => ?_)
  rw [bigSep_univ_prod]
  refine BIBase.Entails.trans (SparseCore.ent (bigSep_mono (Ψ := fun t : Fin 16 => iprop(count (EC (F := F)) (γ' (s, t, 0)) 0 ∗ count (EC (F := F)) (γ' (s, t, 1)) 0 ∗ count (EC (F := F)) (γ' (s, t, 2)) 0)) fun t _ => three _)) ?_
  · exact Entails.of_eq (by rw [bigSep_sep', bigSep_sep'])

theorem kit_intro (id : ℕ → BitVec 32) (X : ℕ → Fin 512 → Elt F .f32) (Wt : ℕ → Fin 64 → Elt F .f32) (z : Elt F .f32) (d : Dev nD) (c : Fin 2) (s : Fin 16) (κ κw : ℕ) (γ : Fin 16 → ℕ) (γ' : Sig3 → ℕ) :
    iprop(iprop(inv κ (Meets (bc d c) γ γ' (In3 id X Wt z d c) (Out3 id X Wt z d c)) ∗ wmInv (EWu (F := F)) κw)
      ∗ (count EC (γ s) 0
        ∗ iprop((bigSep Finset.univ fun t : Fin 16 => count EC (γ' (s, t, 0)) 0) ∗ (bigSep Finset.univ fun t : Fin 16 => count EC (γ' (s, t, 1)) 0)
          ∗ (bigSep Finset.univ fun t : Fin 16 => count EC (γ' (s, t, 2)) 0)) ∗ cred3 d c s)) ⊢ kit id X Wt z d c s := by
  unfold kit
  iintro ⟨⟨Hi, Hw⟩, Hc, Hs, Hk⟩
  iexists κ, κw, γ, γ'
  isplitl [Hi]; · iexact Hi
  isplitl [Hw]; · iexact Hw
  isplitl [Hc]; · iexact Hc
  isplitl [Hs]; · iexact Hs
  iexact Hk

theorem kits_of (id : ℕ → BitVec 32) (X : ℕ → Fin 512 → Elt F .f32) (Wt : ℕ → Fin 64 → Elt F .f32) (z : Elt F .f32) (d : Dev nD) (c : Fin 2) (κ κw : ℕ) (γ : Fin 16 → ℕ) (γ' : Sig3 → ℕ) :
    iprop(iprop(inv κ (Meets (bc d c) γ γ' (In3 id X Wt z d c) (Out3 id X Wt z d c)) ∗ wmInv (EWu (F := F)) κw)
      ∗ ((bigSep Finset.univ fun s : Fin 16 => count EC (γ s) 0)
        ∗ (bigSep Finset.univ fun s : Fin 16 => iprop((bigSep Finset.univ fun t : Fin 16 => count EC (γ' (s, t, 0)) 0) ∗ (bigSep Finset.univ fun t : Fin 16 => count EC (γ' (s, t, 1)) 0)
          ∗ (bigSep Finset.univ fun t : Fin 16 => count EC (γ' (s, t, 2)) 0))) ∗ bigSep Finset.univ fun s : Fin 16 => cred3 d c s))
      ⊢ bigSep Finset.univ fun s : Fin 16 => kit id X Wt z d c s := by
  rw [← bigSep_sep', ← bigSep_sep']
  exact bigSep_beside fun s _ => kit_intro id X Wt z d c s κ κw γ γ'

/-- A core's tiles' kits. -/
theorem kits_core (id : ℕ → BitVec 32) (X : ℕ → Fin 512 → Elt F .f32) (Wt : ℕ → Fin 64 → Elt F .f32) (z : Elt F .f32) (d : Dev nD) (c : Fin 2) (κw : ℕ) :
    iprop(wmInv (EWu (F := F)) κw ∗ (bigSep Finset.univ fun s : Fin 16 => semVal (bc d c s) 0) ∗ bigSep Finset.univ fun s : Fin 16 => cred3 d c s)
      ⊢ |={Set.univ}=> bigSep Finset.univ fun s : Fin 16 => kit id X Wt z d c s := by
  iintro ⟨#Hw, Hs, Hc⟩
  ihave He := (counts (F := F) (Fin 16)) $$ []
  · iempintro
  ihave He' := (counts (F := F) Sig3) $$ []
  · iempintro
  imod He with ⟨%γ, Ha, Hn⟩
  imod He' with ⟨%γ', Ha', Hn'⟩
  ihave HM := (meets_init (F := F) (B := bc d c) (γ := γ) (γ' := γ') (In := In3 id X Wt z d c) (Out := Out3 id X Wt z d c)) $$ [Hs Ha Ha']
  · isplitl [Ha]; · iexact Ha
    isplitl [Ha']; · iexact Ha'
    iexact Hs
  imod (inv_alloc_fresh (∅ : Finset ℕ)) $$ HM with ⟨%κ, -, #HM⟩
  ihave Hn' := (signs (F := F) γ') $$ Hn'
  imodintro
  iapply (kits_of id X Wt z d c κ κw γ γ')
  isplitr
  · isplitr; · iexact HM
    iexact Hw
  isplitl [Hn]; · iexact Hn
  isplitl [Hn']; · iexact Hn'
  iexact Hc

theorem Px_T (d : Dev nD) : (bigSep Finset.univ fun q : Fin 1 => (P gX gW gI).x q (SparseCore.T d)) = iprop(emp) :=
  bigSep_univ_of_subsingleton (0 : Fin 1)
theorem Px_S (d : Dev nD) (c : Fin τ.nSC) : (bigSep Finset.univ fun q : Fin 1 => (P gX gW gI).x q (S d c)) = iprop(emp) :=
  bigSep_univ_of_subsingleton (0 : Fin 1)
theorem Px_V (d : Dev nD) (c : Fin τ.nSC) (i : Fin τ.nSub) :
    (bigSep Finset.univ fun q : Fin 1 => (P gX gW gI).x q (V d c i)) = kit (idOf (gI d)) (xOf (gX d)) (wOf (gW d)) z0 d c i :=
  bigSep_univ_of_subsingleton (0 : Fin 1)

theorem kits_join : (bigSep Finset.univ fun d : Dev nD => bigSep Finset.univ fun c : Fin 2 => bigSep Finset.univ fun s : Fin 16 => kit (idOf (gI d)) (xOf (gX d)) (wOf (gW d)) z0 d c s)
    ⊢ (bigSep Finset.univ fun thr : Thread nD τ => bigSep Finset.univ fun q : Fin 1 => (P gX gW gI).x q thr : SP F) := by
  rw [SparseCore.Cfg.bigSep_threads (fun thr : Thread nD τ => bigSep Finset.univ fun q : Fin 1 => (P gX gW gI).x q thr)]
  simp only [Px_T, Px_S, Px_V]
  rw [show (bigSep (Finset.univ : Finset (Dev nD)) fun _ => (iprop(emp) : SP F)) = iprop(emp) from bigSep_emp_const _,
    show (bigSep (Finset.univ : Finset (Dev nD × Fin τ.nSC)) fun _ => (iprop(emp) : SP F)) = iprop(emp) from bigSep_emp_const _]
  rw [bigSep_univ_prod (fun dci : Dev nD × Fin τ.nSC × Fin τ.nSub => kit (idOf (gI dci.1)) (xOf (gX dci.1)) (wOf (gW dci.1)) z0 dci.1 dci.2.1 dci.2.2)]
  iintro H
  isplitr; · iempintro
  isplitr; · iempintro
  iapply (Entails.of_eq (bigSep_congr fun d _ => (bigSep_univ_prod (fun ci : Fin τ.nSC × Fin τ.nSub => kit (idOf (gI d)) (xOf (gX d)) (wOf (gW d)) z0 d ci.1 ci.2)).symm)) $$ H

theorem kits_all (κw : ℕ) : iprop(wmInv (EWu (F := F)) κw
      ∗ (bigSep Finset.univ fun d : Dev nD => bigSep Finset.univ fun c : Fin 2 => bigSep Finset.univ fun s : Fin 16 => semVal (bc d c s) 0)
      ∗ (bigSep Finset.univ fun d : Dev nD => bigSep Finset.univ fun c : Fin 2 => bigSep Finset.univ fun s : Fin 16 => cred3 (F := F) d c s))
    ⊢ |={Set.univ}=> (bigSep Finset.univ fun thr : Thread nD τ => bigSep Finset.univ fun q : Fin 1 => (P gX gW gI).x q thr : SP F) := by
  rw [← bigSep_sep', show (fun d : Dev nD => iprop((bigSep Finset.univ fun c : Fin 2 => bigSep Finset.univ fun s : Fin 16 => (semVal (bc d c s) 0 : SP F)) ∗ bigSep Finset.univ fun c : Fin 2 => bigSep Finset.univ fun s : Fin 16 => cred3 (F := F) d c s))
    = fun d : Dev nD => bigSep Finset.univ fun c : Fin 2 => iprop((bigSep Finset.univ fun s : Fin 16 => (semVal (bc d c s) 0 : SP F)) ∗ bigSep Finset.univ fun s : Fin 16 => cred3 (F := F) d c s) from funext fun d => (bigSep_sep' _ _ _).symm]
  refine BIBase.Entails.trans (bigSep_beside (F := F) (R := wmInv (EWu (F := F)) κw) (Ψ := fun d : Dev nD => iprop(|={Set.univ}=> bigSep Finset.univ fun c : Fin 2 => bigSep Finset.univ fun s : Fin 16 => kit (idOf (gI d)) (xOf (gX d)) (wOf (gW d)) z0 d c s)) fun d _ => ?_) ?_
  · exact BIBase.Entails.trans (bigSep_beside (F := F) (R := wmInv (EWu (F := F)) κw) fun c _ => kits_core (F := F) (idOf (gI d)) (xOf (gX d)) (wOf (gW d)) z0 d c κw) (upd_all _ _)
  · refine BIBase.Entails.trans (upd_all _ _) ?_
    iintro H
    imod H with H
    imodintro
    iapply (kits_join gX gW gI) $$ H

theorem hu₀ (mem0 : MemSt nD τ sig (Elt F)) : iprop(ownU (u₀ (F := F)) ∗ (P gX gW gI).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P gX gW gI).x q thr) : SP F) := by
  unfold u₀
  iintro ⟨Hu, Hcred, Hfree⟩
  ihave H := (ownU_split _ _) $$ Hu
  icases H with ⟨HH, HW⟩
  ihave Hc := (creds_all gX gW gI) $$ Hcred
  ihave Hs := (sems_all (F := F)) $$ Hfree
  imod (wmInv_alloc (emb := EWu (F := F)) mem0 (∅ : Finset ℕ)) $$ HW with ⟨%κw, -, #HW⟩
  imod (kits_all gX gW gI κw) $$ [Hs Hc] with Hk
  · isplitr; · iexact HW
    isplitl [Hs]; · iexact Hs
    iexact Hc
  imodintro
  isplitl [HH]; · iexact HH
  isplitr
  · iapply (Entails.of_eq (show (bigSep (Finset.univ : Finset (Dev nD)) fun _ => (iprop(emp) : SP F)) = iprop(emp) from bigSep_emp_const _).symm)
    iempintro
  iexact Hk

end Init

end Cert.KernelIdeal.Sums
-- ==== Proof.Same.lean ====
module
public import proofs.«01_k».proof.Proof.Pieces
@[expose] public section
set_option pp.maxSteps 150
set_option pp.deepTerms false
noncomputable section
namespace Cert.KernelIdeal
open Idealize.ShloMosaic Idealize.SL.Sem
variable {F : FTy → Type} [FloatOps F]
variable [Facts]
open Facts₀ Facts

section Congr
variable {E : Type → Type _} {α β : Type}

theorem bassoc {γ : Type} (p : Prog E α) (k : α → Prog E β) (m : β → Prog E γ) : (p.bind k).bind m = p.bind fun x => (k x).bind m :=
  bind_assoc p k m
theorem bret (p : Prog E α) : p.bind .ret = p := bind_pure p

theorem branch01 {c : Prop} {inst : Decidable c} {A : c → Prog E β} {B0 : Prog E β} {a : c → Prog E PUnit}
     {g0 : PUnit → Prog E β}
    (hk : B0 = g0 ⟨⟩)
    (hA : ∀ h, B0 = g0 ⟨⟩ → A h = (a h).bind g0) :
    (if h : c then A h else B0) = (if h : c then a h else .ret ⟨⟩).bind g0 := by
  by_cases h : c
  · simp only [dif_pos h]; exact hA h hk
  · simp only [dif_neg h]; exact hk

theorem branch02 {r0 : Type} {c : Prop} {inst : Decidable c} {A : c → Prog E β} {B0 : Prog E β} {a : c → Prog E PUnit}
     {g0 : PUnit → Prog E r0} {g1 : r0 → Prog E β}
    (hk : B0 = (g0 ⟨⟩).bind g1)
    (hA : ∀ h, B0 = (g0 ⟨⟩).bind g1 → A h = ((a h).bind g0).bind g1) :
    (if h : c then A h else B0) = ((if h : c then a h else .ret ⟨⟩).bind g0).bind g1 := by
  by_cases h : c
  · simp only [dif_pos h]; exact hA h hk
  · simp only [dif_neg h]; exact hk

theorem branch03 {r0 r1 : Type} {c : Prop} {inst : Decidable c} {A : c → Prog E β} {B0 : Prog E β} {a : c → Prog E PUnit}
     {g0 : PUnit → Prog E r0} {g1 : r0 → Prog E r1} {g2 : r1 → Prog E β}
    (hk : B0 = ((g0 ⟨⟩).bind g1).bind g2)
    (hA : ∀ h, B0 = ((g0 ⟨⟩).bind g1).bind g2 → A h = (((a h).bind g0).bind g1).bind g2) :
    (if h : c then A h else B0) = (((if h : c then a h else .ret ⟨⟩).bind g0).bind g1).bind g2 := by
  by_cases h : c
  · simp only [dif_pos h]; exact hA h hk
  · simp only [dif_neg h]; exact hk

theorem branch11 {l0 : Type} {c : Prop} {inst : Decidable c} {A : c → Prog E l0} {B0 : Prog E l0} {a : c → Prog E PUnit}
    {f0 : l0 → Prog E β} {g0 : PUnit → Prog E β}
    (hk : (B0).bind f0 = g0 ⟨⟩)
    (hA : ∀ h, (B0).bind f0 = g0 ⟨⟩ → (A h).bind f0 = (a h).bind g0) :
    (if h : c then A h else B0).bind f0 = (if h : c then a h else .ret ⟨⟩).bind g0 := by
  by_cases h : c
  · simp only [dif_pos h]; exact hA h hk
  · simp only [dif_neg h]; exact hk

theorem branch12 {l0 r0 : Type} {c : Prop} {inst : Decidable c} {A : c → Prog E l0} {B0 : Prog E l0} {a : c → Prog E PUnit}
    {f0 : l0 → Prog E β} {g0 : PUnit → Prog E r0} {g1 : r0 → Prog E β}
    (hk : (B0).bind f0 = (g0 ⟨⟩).bind g1)
    (hA : ∀ h, (B0).bind f0 = (g0 ⟨⟩).bind g1 → (A h).bind f0 = ((a h).bind g0).bind g1) :
    (if h : c then A h else B0).bind f0 = ((if h : c then a h else .ret ⟨⟩).bind g0).bind g1 := by
  by_cases h : c
  · simp only [dif_pos h]; exact hA h hk
  · simp only [dif_neg h]; exact hk

theorem branch13 {l0 r0 r1 : Type} {c : Prop} {inst : Decidable c} {A : c → Prog E l0} {B0 : Prog E l0} {a : c → Prog E PUnit}
    {f0 : l0 → Prog E β} {g0 : PUnit → Prog E r0} {g1 : r0 → Prog E r1} {g2 : r1 → Prog E β}
    (hk : (B0).bind f0 = ((g0 ⟨⟩).bind g1).bind g2)
    (hA : ∀ h, (B0).bind f0 = ((g0 ⟨⟩).bind g1).bind g2 → (A h).bind f0 = (((a h).bind g0).bind g1).bind g2) :
    (if h : c then A h else B0).bind f0 = (((if h : c then a h else .ret ⟨⟩).bind g0).bind g1).bind g2 := by
  by_cases h : c
  · simp only [dif_pos h]; exact hA h hk
  · simp only [dif_neg h]; exact hk

theorem branch21 {l0 l1 : Type} {c : Prop} {inst : Decidable c} {A : c → Prog E l0} {B0 : Prog E l0} {a : c → Prog E PUnit}
    {f0 : l0 → Prog E l1} {f1 : l1 → Prog E β} {g0 : PUnit → Prog E β}
    (hk : ((B0).bind f0).bind f1 = g0 ⟨⟩)
    (hA : ∀ h, ((B0).bind f0).bind f1 = g0 ⟨⟩ → ((A h).bind f0).bind f1 = (a h).bind g0) :
    ((if h : c then A h else B0).bind f0).bind f1 = (if h : c then a h else .ret ⟨⟩).bind g0 := by
  by_cases h : c
  · simp only [dif_pos h]; exact hA h hk
  · simp only [dif_neg h]; exact hk

theorem branch22 {l0 l1 r0 : Type} {c : Prop} {inst : Decidable c} {A : c → Prog E l0} {B0 : Prog E l0} {a : c → Prog E PUnit}
    {f0 : l0 → Prog E l1} {f1 : l1 → Prog E β} {g0 : PUnit → Prog E r0} {g1 : r0 → Prog E β}
    (hk : ((B0).bind f0).bind f1 = (g0 ⟨⟩).bind g1)
    (hA : ∀ h, ((B0).bind f0).bind f1 = (g0 ⟨⟩).bind g1 → ((A h).bind f0).bind f1 = ((a h).bind g0).bind g1) :
    ((if h : c then A h else B0).bind f0).bind f1 = ((if h : c then a h else .ret ⟨⟩).bind g0).bind g1 := by
  by_cases h : c
  · simp only [dif_pos h]; exact hA h hk
  · simp only [dif_neg h]; exact hk

theorem branch23 {l0 l1 r0 r1 : Type} {c : Prop} {inst : Decidable c} {A : c → Prog E l0} {B0 : Prog E l0} {a : c → Prog E PUnit}
    {f0 : l0 → Prog E l1} {f1 : l1 → Prog E β} {g0 : PUnit → Prog E r0} {g1 : r0 → Prog E r1} {g2 : r1 → Prog E β}
    (hk : ((B0).bind f0).bind f1 = ((g0 ⟨⟩).bind g1).bind g2)
    (hA : ∀ h, ((B0).bind f0).bind f1 = ((g0 ⟨⟩).bind g1).bind g2 → ((A h).bind f0).bind f1 = (((a h).bind g0).bind g1).bind g2) :
    ((if h : c then A h else B0).bind f0).bind f1 = (((if h : c then a h else .ret ⟨⟩).bind g0).bind g1).bind g2 := by
  by_cases h : c
  · simp only [dif_pos h]; exact hA h hk
  · simp only [dif_neg h]; exact hk

theorem branch31 {l0 l1 l2 : Type} {c : Prop} {inst : Decidable c} {A : c → Prog E l0} {B0 : Prog E l0} {a : c → Prog E PUnit}
    {f0 : l0 → Prog E l1} {f1 : l1 → Prog E l2} {f2 : l2 → Prog E β} {g0 : PUnit → Prog E β}
    (hk : (((B0).bind f0).bind f1).bind f2 = g0 ⟨⟩)
    (hA : ∀ h, (((B0).bind f0).bind f1).bind f2 = g0 ⟨⟩ → (((A h).bind f0).bind f1).bind f2 = (a h).bind g0) :
    (((if h : c then A h else B0).bind f0).bind f1).bind f2 = (if h : c then a h else .ret ⟨⟩).bind g0 := by
  by_cases h : c
  · simp only [dif_pos h]; exact hA h hk
  · simp only [dif_neg h]; exact hk

theorem branch32 {l0 l1 l2 r0 : Type} {c : Prop} {inst : Decidable c} {A : c → Prog E l0} {B0 : Prog E l0} {a : c → Prog E PUnit}
    {f0 : l0 → Prog E l1} {f1 : l1 → Prog E l2} {f2 : l2 → Prog E β} {g0 : PUnit → Prog E r0} {g1 : r0 → Prog E β}
    (hk : (((B0).bind f0).bind f1).bind f2 = (g0 ⟨⟩).bind g1)
    (hA : ∀ h, (((B0).bind f0).bind f1).bind f2 = (g0 ⟨⟩).bind g1 → (((A h).bind f0).bind f1).bind f2 = ((a h).bind g0).bind g1) :
    (((if h : c then A h else B0).bind f0).bind f1).bind f2 = ((if h : c then a h else .ret ⟨⟩).bind g0).bind g1 := by
  by_cases h : c
  · simp only [dif_pos h]; exact hA h hk
  · simp only [dif_neg h]; exact hk

theorem branch33 {l0 l1 l2 r0 r1 : Type} {c : Prop} {inst : Decidable c} {A : c → Prog E l0} {B0 : Prog E l0} {a : c → Prog E PUnit}
    {f0 : l0 → Prog E l1} {f1 : l1 → Prog E l2} {f2 : l2 → Prog E β} {g0 : PUnit → Prog E r0} {g1 : r0 → Prog E r1} {g2 : r1 → Prog E β}
    (hk : (((B0).bind f0).bind f1).bind f2 = ((g0 ⟨⟩).bind g1).bind g2)
    (hA : ∀ h, (((B0).bind f0).bind f1).bind f2 = ((g0 ⟨⟩).bind g1).bind g2 → (((A h).bind f0).bind f1).bind f2 = (((a h).bind g0).bind g1).bind g2) :
    (((if h : c then A h else B0).bind f0).bind f1).bind f2 = (((if h : c then a h else .ret ⟨⟩).bind g0).bind g1).bind g2 := by
  by_cases h : c
  · simp only [dif_pos h]; exact hA h hk
  · simp only [dif_neg h]; exact hk

theorem seq11 {p p' : Prog E α} {f0 : α → Prog E β} {g0 : α → Prog E β} (h : p = p')
    (hk : ∀ x, f0 x = g0 x) :
    (p).bind f0 = (p').bind g0 := by
  subst h
  rw [funext hk]

theorem seq12 {r0 : Type} {p p' : Prog E α} {f0 : α → Prog E β} {g0 : α → Prog E r0} {g1 : r0 → Prog E β} (h : p = p')
    (hk : ∀ x, f0 x = (g0 x).bind g1) :
    (p).bind f0 = ((p').bind g0).bind g1 := by
  subst h
  simp only [bassoc] at hk ⊢
  rw [funext hk]

theorem seq13 {r0 r1 : Type} {p p' : Prog E α} {f0 : α → Prog E β} {g0 : α → Prog E r0} {g1 : r0 → Prog E r1} {g2 : r1 → Prog E β} (h : p = p')
    (hk : ∀ x, f0 x = ((g0 x).bind g1).bind g2) :
    (p).bind f0 = (((p').bind g0).bind g1).bind g2 := by
  subst h
  simp only [bassoc] at hk ⊢
  rw [funext hk]

theorem seq21 {l0 : Type} {p p' : Prog E α} {f0 : α → Prog E l0} {f1 : l0 → Prog E β} {g0 : α → Prog E β} (h : p = p')
    (hk : ∀ x, (f0 x).bind f1 = g0 x) :
    ((p).bind f0).bind f1 = (p').bind g0 := by
  subst h
  simp only [bassoc] at hk ⊢
  rw [funext hk]

theorem seq22 {l0 r0 : Type} {p p' : Prog E α} {f0 : α → Prog E l0} {f1 : l0 → Prog E β} {g0 : α → Prog E r0} {g1 : r0 → Prog E β} (h : p = p')
    (hk : ∀ x, (f0 x).bind f1 = (g0 x).bind g1) :
    ((p).bind f0).bind f1 = ((p').bind g0).bind g1 := by
  subst h
  simp only [bassoc] at hk ⊢
  rw [funext hk]

theorem seq23 {l0 r0 r1 : Type} {p p' : Prog E α} {f0 : α → Prog E l0} {f1 : l0 → Prog E β} {g0 : α → Prog E r0} {g1 : r0 → Prog E r1} {g2 : r1 → Prog E β} (h : p = p')
    (hk : ∀ x, (f0 x).bind f1 = ((g0 x).bind g1).bind g2) :
    ((p).bind f0).bind f1 = (((p').bind g0).bind g1).bind g2 := by
  subst h
  simp only [bassoc] at hk ⊢
  rw [funext hk]

theorem seq31 {l0 l1 : Type} {p p' : Prog E α} {f0 : α → Prog E l0} {f1 : l0 → Prog E l1} {f2 : l1 → Prog E β} {g0 : α → Prog E β} (h : p = p')
    (hk : ∀ x, ((f0 x).bind f1).bind f2 = g0 x) :
    (((p).bind f0).bind f1).bind f2 = (p').bind g0 := by
  subst h
  simp only [bassoc] at hk ⊢
  rw [funext hk]

theorem seq32 {l0 l1 r0 : Type} {p p' : Prog E α} {f0 : α → Prog E l0} {f1 : l0 → Prog E l1} {f2 : l1 → Prog E β} {g0 : α → Prog E r0} {g1 : r0 → Prog E β} (h : p = p')
    (hk : ∀ x, ((f0 x).bind f1).bind f2 = (g0 x).bind g1) :
    (((p).bind f0).bind f1).bind f2 = ((p').bind g0).bind g1 := by
  subst h
  simp only [bassoc] at hk ⊢
  rw [funext hk]

theorem seq33 {l0 l1 r0 r1 : Type} {p p' : Prog E α} {f0 : α → Prog E l0} {f1 : l0 → Prog E l1} {f2 : l1 → Prog E β} {g0 : α → Prog E r0} {g1 : r0 → Prog E r1} {g2 : r1 → Prog E β} (h : p = p')
    (hk : ∀ x, ((f0 x).bind f1).bind f2 = ((g0 x).bind g1).bind g2) :
    (((p).bind f0).bind f1).bind f2 = (((p').bind g0).bind g1).bind g2 := by
  subst h
  simp only [bassoc] at hk ⊢
  rw [funext hk]

theorem dite_end {c : Prop} {inst : Decidable c} {a : c → Prog E α} {b : ¬ c → Prog E α}
    {a' : c → Prog E α} {b' : ¬ c → Prog E α}
    (ha : ∀ h, a h = a' h) (hb : ∀ h, b h = b' h) :
    dite c a b = dite c a' b' := by
  rw [show a = a' from funext ha, show b = b' from funext hb]

theorem dite_end1 {γ : Type} {c : Prop} {inst : Decidable c} {a : c → Prog E γ} {b : ¬ c → Prog E γ} {k : γ → Prog E α}
    {a' : c → Prog E α} {b' : ¬ c → Prog E α}
    (ha : ∀ h, (a h).bind k = a' h) (hb : ∀ h, (b h).bind k = b' h) :
    (dite c a b).bind k = dite c a' b' := by
  by_cases h : c
  · simp only [dif_pos h]; exact ha h
  · simp only [dif_neg h]; exact hb h

theorem end_ret {p q : Prog E α} (h : p = q) : p.bind .ret = q := by
  rw [h]; exact bret q
theorem end_ret2 {p q : Prog E α} (h : p = q) : (p.bind .ret).bind .ret = q := by
  rw [h, bret]; exact bret q
theorem retl {a : α} {k : α → Prog E β} {q : Prog E β} (h : k a = q) : (Prog.ret a).bind k = q := h
theorem retl2 {γ : Type} {a : α} {k : α → Prog E β} {m : β → Prog E γ} {q : Prog E γ} (h : (k a).bind m = q) : ((Prog.ret a).bind k).bind m = q := h
theorem retl3 {γ δ : Type} {a : α} {k : α → Prog E β} {m : β → Prog E γ} {m' : γ → Prog E δ} {q : Prog E δ} (h : ((k a).bind m).bind m' = q) : (((Prog.ret a).bind k).bind m).bind m' = q := h
theorem retr {a : α} {k : α → Prog E β} {q : Prog E β} (h : q = k a) : q = (Prog.ret a).bind k := h
theorem retr2 {γ : Type} {a : α} {k : α → Prog E β} {m : β → Prog E γ} {q : Prog E γ} (h : q = (k a).bind m) : q = ((Prog.ret a).bind k).bind m := h
theorem retr3 {γ δ : Type} {a : α} {k : α → Prog E β} {m : β → Prog E γ} {m' : γ → Prog E δ} {q : Prog E δ} (h : q = ((k a).bind m).bind m') : q = (((Prog.ret a).bind k).bind m).bind m' := h

end Congr

theorem for_congr {E : Type → Type _} {σ : Type} {w : ℕ} {l : Scf.Loop w} {ok : l.OK} {x : σ} {f f' : Fin l.trips → σ → Prog E σ}
    (h : ∀ k a, f k a = f' k a) : Scf.Loop.for l ok x f = Scf.Loop.for l ok x f' := by
  rw [show f = f' from funext fun k => funext fun a => h k a]

set_option maxHeartbeats 40000000 in
set_option maxRecDepth 100000 in
theorem same207 (i : grid0.Coords) (arg2 : Memref sig .scVector .hbm S100000x512 .f32) (harg2 : arg2.IsWhole) (arg3 : Memref sig .scVector .hbm S100000x64 .f32) (harg3 : arg3.IsWhole) (arg4 : Memref sig .scVector .hbm S100000 .i32) (harg4 : arg4.IsWhole) (arg5 : Memref sig .scVector .hbm S1024x512 .f32) (harg5 : arg5.IsWhole) (arg6 : Memref sig .scVector .vmem S2x32x512 .f32) (harg6 : arg6.IsWhole) (arg7 : Memref sig .scVector .vmem S2x32x64 .f32) (harg7 : arg7.IsWhole) (arg8 : Memref sig .scVector .vmem S3136 .i32) (harg8 : arg8.IsWhole) (arg9 : Memref sig .scVector .vmem S16 .i32) (harg9 : arg9.IsWhole) (arg10 : Memref sig .scVector .vmem S16 .i32) (harg10 : arg10.IsWhole) (arg11 : Memref sig .scVector .vmem S256 .i32) (harg11 : arg11.IsWhole) (arg12 : Memref sig .scVector .vmem S1x512 .f32) (harg12 : arg12.IsWhole) (arg13 : Memref sig .scVector .vmem S1x512 .f32) (harg13 : arg13.IsWhole) (arg14 : Memref sig .scVector .shared S544x512 .f32) (harg14 : arg14.IsWhole) (arg15 : Memref sig .scVector .shared S256 .i32) (harg15 : arg15.IsWhole) (arg16 : DmaSems sig S2) (arg17 : DmaSems sig S2) (v545_r0 : DmaSems sig S_) (v543_r1 : DmaSems sig S_) (v543_r2 : DmaSems sig S_) (v543_r3 : DmaSems sig S_) (v3741_r4 : DmaSems sig S_) (v1015_r5 : DmaSems sig S_) (v3741_r6 : DmaSems sig S_) (v1015_r7 : DmaSems sig S_) (v543_r8 : DmaSems sig S_) (v543_r9 : DmaSems sig S_) (v767_r10 : DmaSems sig S_) (v767_r11 : DmaSems sig S_) (v767_r12 : DmaSems sig S_) (v767_r13 : DmaSems sig S_) (v767_r14 : DmaSems sig S_) (v767_r15 : DmaSems sig S_) (v767_r16 : DmaSems sig S_) (v767_r17 : DmaSems sig S_) (v767_r18 : DmaSems sig S_) (v767_r19 : DmaSems sig S_) (v767_r20 : DmaSems sig S_) (v767_r21 : DmaSems sig S_) (v767_r22 : DmaSems sig S_) (v767_r23 : DmaSems sig S_) (v767_r24 : DmaSems sig S_) (v767_r25 : DmaSems sig S_) (v767_r26 : DmaSems sig S_) (v543_r27 : DmaSems sig S_) (arg1 v2 v4 v21 v23 : BitVec 32) (v24 : FVec F S16 .f32) (v25 : IVec S16 32)
    (v104 v122 : BitVec 32) (v125 : BitVec 1) (t2 : Fin k0_t2_loop.trips) (cur : BitVec 32) :
    k0_part207 i arg2 harg2 arg3 harg3 arg4 harg4 arg5 harg5 arg6 harg6 arg7 harg7 arg8 harg8 arg9 harg9 arg10 harg10 arg11 harg11 arg12 harg12 arg13 harg13 arg14 harg14 arg15 harg15 arg16 arg17 v545_r0 v543_r1 v543_r2 v543_r3 v3741_r4 v1015_r5 v3741_r6 v1015_r7 v543_r8 v543_r9 v767_r10 v767_r11 v767_r12 v767_r13 v767_r14 v767_r15 v767_r16 v767_r17 v767_r18 v767_r19 v767_r20 v767_r21 v767_r22 v767_r23 v767_r24 v767_r25 v767_r26 v543_r27 arg1 v2 v4 v21 v23 v24 v25 v104 v122 v125 0#32 1#32 t2 cur =
    (slotStep i arg2 arg3 arg6 arg7 arg8 arg13 harg13 arg14 arg16 arg17 v3741_r4 v1015_r5 v24 v25 v104 v122 v21 0
      (k0_chk1 i v104 v122) (k0_chk1.dec i v104 v122) (k0_off12_inb i v104 v122)
      (k0_chk2 i v104 v122) (k0_chk2.dec i v104 v122) (fun mn mx c sid => k0_off49_inb i v104 v122 mn mx c sid) t2
      (k0_off9 i t2) (k0_off9_inb i t2) (k0_off10 i t2) (k0_off10_inb i t2) (k0_off11 i t2) (k0_off11_inb i t2)
      (k0_cond4 t2) (k0_off86 i t2) (k0_off86_inb i t2) (k0_off87 i t2) (k0_off87_inb i t2) cur).bind fun c => .ret ⟨Scf.iv 0#32 1#32 t2, c, 2#32⟩ := by
  repeat (refine op_congr ?_; intro _)
  refine retl ?_
  refine seq12 (for_congr fun t3 c => ?_) fun c => ?_
  · repeat (refine op_congr ?_; intro _)
    refine dite_end (fun h => ?_) (fun h => ?_)
    · refine branch21 rfl (fun h2 hk => ?_)
      exact congrArg (fun K => flushP i arg13 harg13 arg14 v3741_r4 v24 (k0_off12 i v104 v122 c) (fun a => (k0_off12_inb i v104 v122 c _ _ (PLift.down ‹_›) h h2) a) K) hk
    · refine end_ret ?_
      refine for_congr fun t4 c => ?_
      repeat (refine op_congr ?_; intro _)
      refine retl3 ?_
      refine branch21 rfl (fun h2 hk => ?_)
      exact congrArg (fun K => flushP i arg13 harg13 arg14 v1015_r5 v24 (k0_off49 i v104 v122 c) (fun a => (k0_off49_inb i v104 v122 _ _ c _ (PLift.down ‹_›) h h2) a) K) hk
  · refine branch02 rfl (fun h2 hk => ?_)
    exact congrArg (fun K => issue i arg2 arg3 arg6 arg7 arg16 arg17 0 (k0_off86 i t2) (k0_off86_inb i t2 h2) (k0_off87 i t2) (k0_off87_inb i t2 h2) K) hk

set_option maxHeartbeats 40000000 in
set_option maxRecDepth 100000 in
theorem same358 (i : grid0.Coords) (arg2 : Memref sig .scVector .hbm S100000x512 .f32) (harg2 : arg2.IsWhole) (arg3 : Memref sig .scVector .hbm S100000x64 .f32) (harg3 : arg3.IsWhole) (arg4 : Memref sig .scVector .hbm S100000 .i32) (harg4 : arg4.IsWhole) (arg5 : Memref sig .scVector .hbm S1024x512 .f32) (harg5 : arg5.IsWhole) (arg6 : Memref sig .scVector .vmem S2x32x512 .f32) (harg6 : arg6.IsWhole) (arg7 : Memref sig .scVector .vmem S2x32x64 .f32) (harg7 : arg7.IsWhole) (arg8 : Memref sig .scVector .vmem S3136 .i32) (harg8 : arg8.IsWhole) (arg9 : Memref sig .scVector .vmem S16 .i32) (harg9 : arg9.IsWhole) (arg10 : Memref sig .scVector .vmem S16 .i32) (harg10 : arg10.IsWhole) (arg11 : Memref sig .scVector .vmem S256 .i32) (harg11 : arg11.IsWhole) (arg12 : Memref sig .scVector .vmem S1x512 .f32) (harg12 : arg12.IsWhole) (arg13 : Memref sig .scVector .vmem S1x512 .f32) (harg13 : arg13.IsWhole) (arg14 : Memref sig .scVector .shared S544x512 .f32) (harg14 : arg14.IsWhole) (arg15 : Memref sig .scVector .shared S256 .i32) (harg15 : arg15.IsWhole) (arg16 : DmaSems sig S2) (arg17 : DmaSems sig S2) (v545_r0 : DmaSems sig S_) (v543_r1 : DmaSems sig S_) (v543_r2 : DmaSems sig S_) (v543_r3 : DmaSems sig S_) (v3741_r4 : DmaSems sig S_) (v1015_r5 : DmaSems sig S_) (v3741_r6 : DmaSems sig S_) (v1015_r7 : DmaSems sig S_) (v543_r8 : DmaSems sig S_) (v543_r9 : DmaSems sig S_) (v767_r10 : DmaSems sig S_) (v767_r11 : DmaSems sig S_) (v767_r12 : DmaSems sig S_) (v767_r13 : DmaSems sig S_) (v767_r14 : DmaSems sig S_) (v767_r15 : DmaSems sig S_) (v767_r16 : DmaSems sig S_) (v767_r17 : DmaSems sig S_) (v767_r18 : DmaSems sig S_) (v767_r19 : DmaSems sig S_) (v767_r20 : DmaSems sig S_) (v767_r21 : DmaSems sig S_) (v767_r22 : DmaSems sig S_) (v767_r23 : DmaSems sig S_) (v767_r24 : DmaSems sig S_) (v767_r25 : DmaSems sig S_) (v767_r26 : DmaSems sig S_) (v543_r27 : DmaSems sig S_) (arg1 v2 v4 v21 v23 : BitVec 32) (v24 : FVec F S16 .f32) (v25 : IVec S16 32)
    (v104 v122 : BitVec 32) (v125 : BitVec 1) (v153 : BitVec 32) :
    k0_part358 i arg2 harg2 arg3 harg3 arg4 harg4 arg5 harg5 arg6 harg6 arg7 harg7 arg8 harg8 arg9 harg9 arg10 harg10 arg11 harg11 arg12 harg12 arg13 harg13 arg14 harg14 arg15 harg15 arg16 arg17 v545_r0 v543_r1 v543_r2 v543_r3 v3741_r4 v1015_r5 v3741_r6 v1015_r7 v543_r8 v543_r9 v767_r10 v767_r11 v767_r12 v767_r13 v767_r14 v767_r15 v767_r16 v767_r17 v767_r18 v767_r19 v767_r20 v767_r21 v767_r22 v767_r23 v767_r24 v767_r25 v767_r26 v543_r27 arg1 v2 v4 v21 v23 v24 v25 v104 v122 v125 v153 =
    issue i arg2 arg3 arg6 arg7 arg16 arg17 1 (k0_off7 i 1#32) (k0_off7_inb i 1) (k0_off8 i 1#32) (k0_off8_inb i 1)
      ((supers i arg2 arg3 arg6 arg7 arg8 arg13 harg13 arg14 arg16 arg17 v3741_r4 v1015_r5 v3741_r6 v1015_r7 v24 v25 v104 v122 v21).bind fun c =>
        .op (.assume (k0_chk5 i v104 v122 c) (k0_chk5.dec i v104 v122 c)) fun hw => .ret ⟨c, hw.down⟩) := by
  repeat (refine op_congr ?_; intro _)
  refine retl ?_
  refine seq11 (for_congr fun t2 cur => ?_) fun c => rfl
  refine (congrArg (fun P => Prog.bind P _) (same207 i arg2 harg2 arg3 harg3 arg4 harg4 arg5 harg5 arg6 harg6 arg7 harg7 arg8 harg8 arg9 harg9 arg10 harg10 arg11 harg11 arg12 harg12 arg13 harg13 arg14 harg14 arg15 harg15 arg16 arg17 v545_r0 v543_r1 v543_r2 v543_r3 v3741_r4 v1015_r5 v3741_r6 v1015_r7 v543_r8 v543_r9 v767_r10 v767_r11 v767_r12 v767_r13 v767_r14 v767_r15 v767_r16 v767_r17 v767_r18 v767_r19 v767_r20 v767_r21 v767_r22 v767_r23 v767_r24 v767_r25 v767_r26 v543_r27 arg1 v2 v4 v21 v23 v24 v25 v104 v122 v125 t2 cur)).trans ?_
  refine seq21 rfl fun c => ?_
  refine retl ?_
  repeat (refine op_congr ?_; intro _)
  refine retl ?_
  refine seq11 (for_congr fun t3 c => ?_) fun c => ?_
  · repeat (refine op_congr ?_; intro _)
    refine dite_end (fun h => ?_) (fun h => ?_)
    · refine branch21 rfl (fun h2 hk => ?_)
      exact congrArg (fun K => flushP i arg13 harg13 arg14 v3741_r6 v24 (k0_off12 i v104 v122 c) (fun a => (k0_off91_inb i v104 v122 c _ _ (PLift.down ‹_›) h h2) a) K) hk
    · refine end_ret ?_
      refine for_congr fun t4 c => ?_
      repeat (refine op_congr ?_; intro _)
      refine retl3 ?_
      refine branch21 rfl (fun h2 hk => ?_)
      exact congrArg (fun K => flushP i arg13 harg13 arg14 v1015_r7 v24 (k0_off49 i v104 v122 c) (fun a => (k0_off128_inb i v104 v122 _ _ c _ (PLift.down ‹_›) h h2) a) K) hk
  · refine branch01 rfl (fun h2 hk => ?_)
    exact congrArg (fun K => issue i arg2 arg3 arg6 arg7 arg16 arg17 1 (k0_off165 i t2) (k0_off165_inb i t2 h2) (k0_off166 i t2) (k0_off166_inb i t2 h2) K) hk

end Cert.KernelIdeal
-- ==== Proof.SameBody.lean ====
module
public import proofs.«01_k».proof.Proof.Same
@[expose] public section
set_option pp.maxSteps 150
set_option pp.deepTerms false
noncomputable section
namespace Cert.KernelIdeal
open Idealize.ShloMosaic Idealize.SL.Sem
variable {F : FTy → Type} [FloatOps F]
variable [Facts]
open Facts₀ Facts

section
variable {E : Type → Type} {β : Type}

/-- A choice with a shared rest, against a choice that ends early, one layer deep. -/
theorem ibranch32 {l0 l1 l2 r0 : Type} {c : Prop} {inst : Decidable c} {A B0 : Prog E l0} {a : Prog E PUnit}
    {f0 : l0 → Prog E l1} {f1 : l1 → Prog E l2} {f2 : l2 → Prog E β} {g0 : PUnit → Prog E r0} {g1 : r0 → Prog E β}
    (hk : ((B0.bind f0).bind f1).bind f2 = (g0 ⟨⟩).bind g1)
    (hA : ((B0.bind f0).bind f1).bind f2 = (g0 ⟨⟩).bind g1 → ((A.bind f0).bind f1).bind f2 = (a.bind g0).bind g1) :
    (((if c then A else B0).bind f0).bind f1).bind f2 = ((if c then a else .ret ⟨⟩).bind g0).bind g1 := by
  by_cases h : c
  · simp only [if_pos h]; exact hA hk
  · simp only [if_neg h]; exact hk

theorem ibranch12 {l0 r0 : Type} {c : Prop} {inst : Decidable c} {A B0 : Prog E l0} {a : Prog E PUnit}
    {f0 : l0 → Prog E β} {g0 : PUnit → Prog E r0} {g1 : r0 → Prog E β}
    (hk : B0.bind f0 = (g0 ⟨⟩).bind g1)
    (hA : B0.bind f0 = (g0 ⟨⟩).bind g1 → A.bind f0 = (a.bind g0).bind g1) :
    (if c then A else B0).bind f0 = ((if c then a else .ret ⟨⟩).bind g0).bind g1 := by
  by_cases h : c
  · simp only [if_pos h]; exact hA hk
  · simp only [if_neg h]; exact hk

theorem ibranch22 {l0 l1 r0 : Type} {c : Prop} {inst : Decidable c} {A B0 : Prog E l0} {a : Prog E PUnit}
    {f0 : l0 → Prog E l1} {f1 : l1 → Prog E β} {g0 : PUnit → Prog E r0} {g1 : r0 → Prog E β}
    (hk : (B0.bind f0).bind f1 = (g0 ⟨⟩).bind g1)
    (hA : (B0.bind f0).bind f1 = (g0 ⟨⟩).bind g1 → (A.bind f0).bind f1 = (a.bind g0).bind g1) :
    ((if c then A else B0).bind f0).bind f1 = ((if c then a else .ret ⟨⟩).bind g0).bind g1 := by
  by_cases h : c
  · simp only [if_pos h]; exact hA hk
  · simp only [if_neg h]; exact hk
end

set_option maxHeartbeats 40000000 in
set_option maxRecDepth 100000 in
theorem sameBody (i : grid0.Coords) (arg2 : Memref sig .scVector .hbm S100000x512 .f32) (harg2 : arg2.IsWhole) (arg3 : Memref sig .scVector .hbm S100000x64 .f32) (harg3 : arg3.IsWhole) (arg4 : Memref sig .scVector .hbm S100000 .i32) (harg4 : arg4.IsWhole) (arg5 : Memref sig .scVector .hbm S1024x512 .f32) (harg5 : arg5.IsWhole) (arg6 : Memref sig .scVector .vmem S2x32x512 .f32) (harg6 : arg6.IsWhole) (arg7 : Memref sig .scVector .vmem S2x32x64 .f32) (harg7 : arg7.IsWhole) (arg8 : Memref sig .scVector .vmem S3136 .i32) (harg8 : arg8.IsWhole) (arg9 : Memref sig .scVector .vmem S16 .i32) (harg9 : arg9.IsWhole) (arg10 : Memref sig .scVector .vmem S16 .i32) (harg10 : arg10.IsWhole) (arg11 : Memref sig .scVector .vmem S256 .i32) (harg11 : arg11.IsWhole) (arg12 : Memref sig .scVector .vmem S1x512 .f32) (harg12 : arg12.IsWhole) (arg13 : Memref sig .scVector .vmem S1x512 .f32) (harg13 : arg13.IsWhole) (arg14 : Memref sig .scVector .shared S544x512 .f32) (harg14 : arg14.IsWhole) (arg15 : Memref sig .scVector .shared S256 .i32) (harg15 : arg15.IsWhole) (arg16 : DmaSems sig S2) (arg17 : DmaSems sig S2) (v545_r0 : DmaSems sig S_) (v543_r1 : DmaSems sig S_) (v543_r2 : DmaSems sig S_) (v543_r3 : DmaSems sig S_) (v3741_r4 : DmaSems sig S_) (v1015_r5 : DmaSems sig S_) (v3741_r6 : DmaSems sig S_) (v1015_r7 : DmaSems sig S_) (v543_r8 : DmaSems sig S_) (v543_r9 : DmaSems sig S_) (v767_r10 : DmaSems sig S_) (v767_r11 : DmaSems sig S_) (v767_r12 : DmaSems sig S_) (v767_r13 : DmaSems sig S_) (v767_r14 : DmaSems sig S_) (v767_r15 : DmaSems sig S_) (v767_r16 : DmaSems sig S_) (v767_r17 : DmaSems sig S_) (v767_r18 : DmaSems sig S_) (v767_r19 : DmaSems sig S_) (v767_r20 : DmaSems sig S_) (v767_r21 : DmaSems sig S_) (v767_r22 : DmaSems sig S_) (v767_r23 : DmaSems sig S_) (v767_r24 : DmaSems sig S_) (v767_r25 : DmaSems sig S_) (v767_r26 : DmaSems sig S_) (v543_r27 : DmaSems sig S_) :
    cc0__sc_pool_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v545_r0 v543_r1 v543_r2 v543_r3 v3741_r4 v1015_r5 v3741_r6 v1015_r7 v543_r8 v543_r9 v767_r10 v767_r11 v767_r12 v767_r13 v767_r14 v767_r15 v767_r16 v767_r17 v767_r18 v767_r19 v767_r20 v767_r21 v767_r22 v767_r23 v767_r24 v767_r25 v767_r26 v543_r27 =
    bodyG i arg2 arg3 arg4 arg5 arg6 arg7 arg8 harg8 arg9 harg9 arg10 harg10 arg11 harg11 arg12 harg12 arg13 harg13 arg14 arg15 harg15 arg16 arg17 v545_r0 v543_r1 v543_r2 v543_r3 v3741_r4 v1015_r5 v3741_r6 v1015_r7 v543_r8 v543_r9 v767_r24 v767_r25 v767_r26 v543_r27 ![v767_r10, v767_r11, v767_r12, v767_r13, v767_r14, v767_r15, v767_r16, v767_r17, v767_r18, v767_r19, v767_r20, v767_r21, v767_r22, v767_r23] (broadcast S16 (Scalar.ofBits .f32 0x00000000#32)) (iota .scVector S16 32 [0] iota_S16_d0_w32_scVector) := by
  unfold cc0__sc_pool_body k0_part371
  simp only [same358]
  repeat (refine op_congr ?_; intro _)
  refine retl3 ?_
  refine seq32 (for_congr fun _ _ => rfl) fun _ => ?_
  repeat (refine op_congr ?_; intro _)
  refine seq32 rfl fun _ => ?_
  repeat (refine op_congr ?_; intro _)
  first
    | refine ibranch22 ?_ (fun hk => congrArg (fun K => rowIn i arg12 harg12 arg14 v767_r10 ![514, 0] inb_S544x512_S1x512_514_0 (addTmp i arg12 arg13 K)) hk)
    | refine ibranch32 ?_ (fun hk => congrArg (fun K => rowIn i arg12 harg12 arg14 v767_r10 ![514, 0] inb_S544x512_S1x512_514_0 (addTmp i arg12 arg13 K)) hk)
    | refine retl3 (ibranch22 ?_ (fun hk => congrArg (fun K => rowIn i arg12 harg12 arg14 v767_r10 ![514, 0] inb_S544x512_S1x512_514_0 (addTmp i arg12 arg13 K)) hk))
  repeat (refine op_congr ?_; intro _)
  first
    | refine ibranch22 ?_ (fun hk => congrArg (fun K => rowIn i arg12 harg12 arg14 v767_r11 ![515, 0] inb_S544x512_S1x512_515_0 (addTmp i arg12 arg13 K)) hk)
    | refine ibranch32 ?_ (fun hk => congrArg (fun K => rowIn i arg12 harg12 arg14 v767_r11 ![515, 0] inb_S544x512_S1x512_515_0 (addTmp i arg12 arg13 K)) hk)
    | refine retl3 (ibranch22 ?_ (fun hk => congrArg (fun K => rowIn i arg12 harg12 arg14 v767_r11 ![515, 0] inb_S544x512_S1x512_515_0 (addTmp i arg12 arg13 K)) hk))
  repeat (refine op_congr ?_; intro _)
  first
    | refine ibranch22 ?_ (fun hk => congrArg (fun K => rowIn i arg12 harg12 arg14 v767_r12 ![516, 0] inb_S544x512_S1x512_516_0 (addTmp i arg12 arg13 K)) hk)
    | refine ibranch32 ?_ (fun hk => congrArg (fun K => rowIn i arg12 harg12 arg14 v767_r12 ![516, 0] inb_S544x512_S1x512_516_0 (addTmp i arg12 arg13 K)) hk)
    | refine retl3 (ibranch22 ?_ (fun hk => congrArg (fun K => rowIn i arg12 harg12 arg14 v767_r12 ![516, 0] inb_S544x512_S1x512_516_0 (addTmp i arg12 arg13 K)) hk))
  repeat (refine op_congr ?_; intro _)
  first
    | refine ibranch22 ?_ (fun hk => congrArg (fun K => rowIn i arg12 harg12 arg14 v767_r13 ![517, 0] inb_S544x512_S1x512_517_0 (addTmp i arg12 arg13 K)) hk)
    | refine ibranch32 ?_ (fun hk => congrArg (fun K => rowIn i arg12 harg12 arg14 v767_r13 ![517, 0] inb_S544x512_S1x512_517_0 (addTmp i arg12 arg13 K)) hk)
    | refine retl3 (ibranch22 ?_ (fun hk => congrArg (fun K => rowIn i arg12 harg12 arg14 v767_r13 ![517, 0] inb_S544x512_S1x512_517_0 (addTmp i arg12 arg13 K)) hk))
  repeat (refine op_congr ?_; intro _)
  first
    | refine ibranch22 ?_ (fun hk => congrArg (fun K => rowIn i arg12 harg12 arg14 v767_r14 ![518, 0] inb_S544x512_S1x512_518_0 (addTmp i arg12 arg13 K)) hk)
    | refine ibranch32 ?_ (fun hk => congrArg (fun K => rowIn i arg12 harg12 arg14 v767_r14 ![518, 0] inb_S544x512_S1x512_518_0 (addTmp i arg12 arg13 K)) hk)
    | refine retl3 (ibranch22 ?_ (fun hk => congrArg (fun K => rowIn i arg12 harg12 arg14 v767_r14 ![518, 0] inb_S544x512_S1x512_518_0 (addTmp i arg12 arg13 K)) hk))
  repeat (refine op_congr ?_; intro _)
  first
    | refine ibranch22 ?_ (fun hk => congrArg (fun K => rowIn i arg12 harg12 arg14 v767_r15 ![519, 0] inb_S544x512_S1x512_519_0 (addTmp i arg12 arg13 K)) hk)
    | refine ibranch32 ?_ (fun hk => congrArg (fun K => rowIn i arg12 harg12 arg14 v767_r15 ![519, 0] inb_S544x512_S1x512_519_0 (addTmp i arg12 arg13 K)) hk)
    | refine retl3 (ibranch22 ?_ (fun hk => congrArg (fun K => rowIn i arg12 harg12 arg14 v767_r15 ![519, 0] inb_S544x512_S1x512_519_0 (addTmp i arg12 arg13 K)) hk))
  repeat (refine op_congr ?_; intro _)
  first
    | refine ibranch22 ?_ (fun hk => congrArg (fun K => rowIn i arg12 harg12 arg14 v767_r16 ![520, 0] inb_S544x512_S1x512_520_0 (addTmp i arg12 arg13 K)) hk)
    | refine ibranch32 ?_ (fun hk => congrArg (fun K => rowIn i arg12 harg12 arg14 v767_r16 ![520, 0] inb_S544x512_S1x512_520_0 (addTmp i arg12 arg13 K)) hk)
    | refine retl3 (ibranch22 ?_ (fun hk => congrArg (fun K => rowIn i arg12 harg12 arg14 v767_r16 ![520, 0] inb_S544x512_S1x512_520_0 (addTmp i arg12 arg13 K)) hk))
  repeat (refine op_congr ?_; intro _)
  first
    | refine ibranch22 ?_ (fun hk => congrArg (fun K => rowIn i arg12 harg12 arg14 v767_r17 ![521, 0] inb_S544x512_S1x512_521_0 (addTmp i arg12 arg13 K)) hk)
    | refine ibranch32 ?_ (fun hk => congrArg (fun K => rowIn i arg12 harg12 arg14 v767_r17 ![521, 0] inb_S544x512_S1x512_521_0 (addTmp i arg12 arg13 K)) hk)
    | refine retl3 (ibranch22 ?_ (fun hk => congrArg (fun K => rowIn i arg12 harg12 arg14 v767_r17 ![521, 0] inb_S544x512_S1x512_521_0 (addTmp i arg12 arg13 K)) hk))
  repeat (refine op_congr ?_; intro _)
  first
    | refine ibranch22 ?_ (fun hk => congrArg (fun K => rowIn i arg12 harg12 arg14 v767_r18 ![522, 0] inb_S544x512_S1x512_522_0 (addTmp i arg12 arg13 K)) hk)
    | refine ibranch32 ?_ (fun hk => congrArg (fun K => rowIn i arg12 harg12 arg14 v767_r18 ![522, 0] inb_S544x512_S1x512_522_0 (addTmp i arg12 arg13 K)) hk)
    | refine retl3 (ibranch22 ?_ (fun hk => congrArg (fun K => rowIn i arg12 harg12 arg14 v767_r18 ![522, 0] inb_S544x512_S1x512_522_0 (addTmp i arg12 arg13 K)) hk))
  repeat (refine op_congr ?_; intro _)
  first
    | refine ibranch22 ?_ (fun hk => congrArg (fun K => rowIn i arg12 harg12 arg14 v767_r19 ![523, 0] inb_S544x512_S1x512_523_0 (addTmp i arg12 arg13 K)) hk)
    | refine ibranch32 ?_ (fun hk => congrArg (fun K => rowIn i arg12 harg12 arg14 v767_r19 ![523, 0] inb_S544x512_S1x512_523_0 (addTmp i arg12 arg13 K)) hk)
    | refine retl3 (ibranch22 ?_ (fun hk => congrArg (fun K => rowIn i arg12 harg12 arg14 v767_r19 ![523, 0] inb_S544x512_S1x512_523_0 (addTmp i arg12 arg13 K)) hk))
  repeat (refine op_congr ?_; intro _)
  first
    | refine ibranch22 ?_ (fun hk => congrArg (fun K => rowIn i arg12 harg12 arg14 v767_r20 ![524, 0] inb_S544x512_S1x512_524_0 (addTmp i arg12 arg13 K)) hk)
    | refine ibranch32 ?_ (fun hk => congrArg (fun K => rowIn i arg12 harg12 arg14 v767_r20 ![524, 0] inb_S544x512_S1x512_524_0 (addTmp i arg12 arg13 K)) hk)
    | refine retl3 (ibranch22 ?_ (fun hk => congrArg (fun K => rowIn i arg12 harg12 arg14 v767_r20 ![524, 0] inb_S544x512_S1x512_524_0 (addTmp i arg12 arg13 K)) hk))
  repeat (refine op_congr ?_; intro _)
  first
    | refine ibranch22 ?_ (fun hk => congrArg (fun K => rowIn i arg12 harg12 arg14 v767_r21 ![525, 0] inb_S544x512_S1x512_525_0 (addTmp i arg12 arg13 K)) hk)
    | refine ibranch32 ?_ (fun hk => congrArg (fun K => rowIn i arg12 harg12 arg14 v767_r21 ![525, 0] inb_S544x512_S1x512_525_0 (addTmp i arg12 arg13 K)) hk)
    | refine retl3 (ibranch22 ?_ (fun hk => congrArg (fun K => rowIn i arg12 harg12 arg14 v767_r21 ![525, 0] inb_S544x512_S1x512_525_0 (addTmp i arg12 arg13 K)) hk))
  repeat (refine op_congr ?_; intro _)
  first
    | refine ibranch22 ?_ (fun hk => congrArg (fun K => rowIn i arg12 harg12 arg14 v767_r22 ![526, 0] inb_S544x512_S1x512_526_0 (addTmp i arg12 arg13 K)) hk)
    | refine ibranch32 ?_ (fun hk => congrArg (fun K => rowIn i arg12 harg12 arg14 v767_r22 ![526, 0] inb_S544x512_S1x512_526_0 (addTmp i arg12 arg13 K)) hk)
    | refine retl3 (ibranch22 ?_ (fun hk => congrArg (fun K => rowIn i arg12 harg12 arg14 v767_r22 ![526, 0] inb_S544x512_S1x512_526_0 (addTmp i arg12 arg13 K)) hk))
  repeat (refine op_congr ?_; intro _)
  first
    | refine ibranch22 ?_ (fun hk => congrArg (fun K => rowIn i arg12 harg12 arg14 v767_r23 ![527, 0] inb_S544x512_S1x512_527_0 (addTmp i arg12 arg13 K)) hk)
    | refine ibranch32 ?_ (fun hk => congrArg (fun K => rowIn i arg12 harg12 arg14 v767_r23 ![527, 0] inb_S544x512_S1x512_527_0 (addTmp i arg12 arg13 K)) hk)
    | refine retl3 (ibranch22 ?_ (fun hk => congrArg (fun K => rowIn i arg12 harg12 arg14 v767_r23 ![527, 0] inb_S544x512_S1x512_527_0 (addTmp i arg12 arg13 K)) hk))
  repeat (refine op_congr ?_; intro _)
  rename_i hw
  refine retl2 ?_
  refine ibranch12 ?_ (fun hk => congrArg (fun K => rowIn i arg12 harg12 arg14 v767_r24 ![528, 0] inb_S544x512_S1x512_528_0 (addTmp i arg12 arg13 K)) hk)
  refine branch11 ?_ (fun h hk => congrArg (fun K => pickup i arg12 harg12 arg13 harg13 arg14 v767_r25 v767_r26 (k0_off168 _) (k0_off168_inb i _ _ _ _ _ _ _ _ _ _ _ _ _ _ _ _ _ _ (PLift.down hw) h) K) hk)
  rfl

end Cert.KernelIdeal
-- ==== Proof.Obl.lean ====
module

public import proofs.«01_k».proof.Proof.Pay
public import proofs.«01_k».proof.Proof.SameBody

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # A tile's obligation -/

section Obl
variable (gX : Dev nD → S100000x512.Idx → Elt F .f32) (gW : Dev nD → S100000x64.Idx → Elt F .f32) (gI : Dev nD → S100000.Idx → BitVec 32)
variable (d : Dev nD) (c : Fin 2) (s : Fin 16)

def coordsV (c : Fin (grid0.bound 0)) (s : Fin (grid0.bound 1)) : grid0.Coords :=
  fun | 0 => c | 1 => s | ⟨_ + 2, h⟩ => absurd h (Nat.not_lt.2 (Nat.le_add_left _ _))

theorem coordsV_mk (c : Fin 2) (s : Fin 16) : coordsV c s = mk c s := by
  funext a; fin_cases a <;> rfl

/-- A tile's program. -/
abbrev bodyAt (i : grid0.Coords) : Prog (TE F i) PUnit :=
  cc0__sc_pool_body (F := F) i vM (Memref.isWhole_whole _) uM (Memref.isWhole_whole _) iM (Memref.isWhole_whole _) (Memref.whole main_v1_scv) (Memref.isWhole_whole _)
    xM (Memref.isWhole_whole _) wM (Memref.isWhole_whole _) idM (Memref.isWhole_whole _) pM (Memref.isWhole_whole _)
    oM (Memref.isWhole_whole _) tM (Memref.isWhole_whole _) bM (Memref.isWhole_whole _) aM (Memref.isWhole_whole _) shM (Memref.isWhole_whole _)
    gM (Memref.isWhole_whole _) cc0_scratch10 cc0_scratch11 cc0_scoped0 cc0_scoped1 cc0_scoped2 cc0_scoped3 cc0_scoped4 cc0_scoped5 cc0_scoped6 cc0_scoped7 cc0_scoped8 cc0_scoped9
    cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23
    cc0_scoped24 cc0_scoped25 cc0_scoped26 cc0_scoped27

theorem defs₀_vector (c : Fin τ.nSC) (s : Fin τ.nSub) :
    defs₀ (F := F) (.scVector c s) 0 () = SparseCore.onTile hcore0 hsub0 (fun c s => bodyAt (F := F) (coordsV c s)) ⟨⟩ c s := rfl

theorem bodyAt_eq (i : grid0.Coords) : bodyAt (F := F) i = bodyG i vM uM iM (Memref.whole main_v1_scv) xM wM idM (Memref.isWhole_whole _) pM (Memref.isWhole_whole _)
          oM (Memref.isWhole_whole _) tM (Memref.isWhole_whole _) bM (Memref.isWhole_whole _) aM (Memref.isWhole_whole _) shM
          gM (Memref.isWhole_whole _) cc0_scratch10 cc0_scratch11 cc0_scoped0 cc0_scoped1 cc0_scoped2 cc0_scoped3 cc0_scoped4 cc0_scoped5 cc0_scoped6 cc0_scoped7 cc0_scoped8 cc0_scoped9
          cc0_scoped24 cc0_scoped25 cc0_scoped26 cc0_scoped27 tSems (broadcast S16 z0) (iota .scVector S16 32 [0] iota_S16_d0_w32_scVector) :=
  sameBody i vM (Memref.isWhole_whole _) uM (Memref.isWhole_whole _) iM (Memref.isWhole_whole _) (Memref.whole main_v1_scv) (Memref.isWhole_whole _)
    xM (Memref.isWhole_whole _) wM (Memref.isWhole_whole _) idM (Memref.isWhole_whole _) pM (Memref.isWhole_whole _)
    oM (Memref.isWhole_whole _) tM (Memref.isWhole_whole _) bM (Memref.isWhole_whole _) aM (Memref.isWhole_whole _) shM (Memref.isWhole_whole _)
    gM (Memref.isWhole_whole _) cc0_scratch10 cc0_scratch11 cc0_scoped0 cc0_scoped1 cc0_scoped2 cc0_scoped3 cc0_scoped4 cc0_scoped5 cc0_scoped6 cc0_scoped7 cc0_scoped8 cc0_scoped9
    cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23
    cc0_scoped24 cc0_scoped25 cc0_scoped26 cc0_scoped27

theorem tile_body (hg : Good (idOf (gI d))) {O : CellTallies nD τ sig (HIx 3)} {W : Waits sig (HIx 3)} (hO0 : ∀ g, O g none = 0) (hO : ∀ g ι, 0 < O g ι → 22 ≤ (K (F := F)).lev g ι) :
    iprop(levAts (K (F := F)).L (K (F := F)).lev ∗ kit (idOf (gI d)) (xOf (gX d)) (wOf (gW d)) z0 d c s ∗ goP gX gW gI d c s ∗ scopedBufs (th d (mk c s)) ∗ scopedSems0 (th d (mk c s))
        ∗ owes (th d (mk c s)) (O + oxV d c) W)
      ⊢ WP d (mk c s) (bodyAt (F := F) (mk c s)) fun _ =>
        iprop(tdP gX gW gI d c s ∗ scopedBufs (th d (mk c s)) ∗ scopedSems0 (th d (mk c s)) ∗ ∃ W', ⌜∀ p ∈ W', p ∈ W ∨ p.2 = none ∨ ∃ j, p.2 = some j⌝ ∗ owes (th d (mk c s)) O W') := by
  rw [bodyAt_eq, (K (F := F)).scopedBufs_V facts d (cV (mk c s)) (jV (mk c s)), SparseCore.Cfg.scopedSems0_V (Val := Elt F) d (cV (mk c s)) (jV (mk c s)), ownBufs_tile, ownSems_tile]
  have hrun := tile_run (F := F) (idOf (gI d)) (xOf (gX d)) (wOf (gW d)) z0 d c s hg
    (fX := (gX d : Buf (Elt F) (vM.view.loc (th d (mk c s))))) (fW := (gW d : Buf (Elt F) (uM.view.loc (th d (mk c s))))) (fI := (gI d : Buf (Elt F) (iM.view.loc (th d (mk c s)))))
    (fun n c => by unfold xOf; rw [dif_pos n.isLt]) (fun n c => by unfold wOf; rw [dif_pos n.isLt]) (fun n => by unfold idOf; rw [dif_pos n.isLt]) (q0 := q3 c s 0) (q1 := q3 c s 1) (qI := q3 c s 0) hO0 hO (W := W)
  unfold goP Src tdP
  iintro ⟨Hlev, Hkit, ⟨⟨H0, H1, H2, H3, H4⟩, Hout, Hgo⟩, ⟨HB, HrB⟩, ⟨HE, HrE⟩, Ho⟩
  ihave Hw := hrun $$ [Hlev Hkit H0 H1 H2 H3 H4 Hout Hgo HB HE Ho]
  · isplitl [Hlev]; · iexact Hlev
    isplitl [Hkit]; · iexact Hkit
    isplitl [Hgo]; · iexact Hgo
    isplitl [H0]; · iexact H0
    isplitl [H1]; · iexact H1
    isplitl [H2]; · iexact H2
    isplitl [H3]; · iexact H3
    isplitl [H4]; · iexact H4
    isplitl [Hout]; · iexact Hout
    isplitl [HB]; · iexact HB
    isplitl [HE]; · iexact HE
    iexact Ho
  iapply (wp_wand_r frame (wpE (defs₀ (F := F)) 𝒱₀ (th d (mk c s)) none) Set.univ)
  isplitl [Hw]; · iexact Hw
  iintro %v
  iintro ⟨Ht, Hout, Hb, HB, HE, Ho⟩
  isplitl [Ht Hout Hb]
  · isplitl [Ht]; · iexact Ht
    isplitl [Hout]; · iexact Hout
    iexact Hb
  isplitl [HB HrB]
  · isplitl [HB]; · iexact HB
    iexact HrB
  isplitl [HE HrE]
  · isplitl [HE]; · iexact HE
    iexact HrE
  iexact Ho

theorem tile_body_at (i : grid0.Coords) (hi : i = mk c s) (hg : Good (idOf (gI d))) {O : CellTallies nD τ sig (HIx 3)} {W : Waits sig (HIx 3)} (hO0 : ∀ g, O g none = 0)
    (hO : ∀ g ι, 0 < O g ι → 22 ≤ (K (F := F)).lev g ι) :
    iprop(levAts (K (F := F)).L (K (F := F)).lev ∗ kit (idOf (gI d)) (xOf (gX d)) (wOf (gW d)) z0 d c s ∗ goP gX gW gI d c s ∗ scopedBufs (th d i) ∗ scopedSems0 (th d i)
        ∗ owes (th d i) (O + oxV d c) W)
      ⊢ WP d i (bodyAt (F := F) i) fun _ =>
        iprop(tdP gX gW gI d c s ∗ scopedBufs (th d i) ∗ scopedSems0 (th d i) ∗ ∃ W', ⌜∀ p ∈ W', p ∈ W ∨ p.2 = none ∨ ∃ j, p.2 = some j⌝ ∗ owes (th d i) O W') := by
  subst hi
  exact tile_body gX gW gI d c s hg hO0 hO

theorem tileObl (hg : ∀ d, Good (idOf (gI d))) : (K (F := F)).TileObl (D (F := F)) 𝒱 (P gX gW gI) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body_at gX gW gI d c i (coordsV ⟨_, hci.1⟩ ⟨_, hci.2⟩) (coordsV_mk c i) (hg d) hO hOlev

end Obl

end Cert.KernelIdeal.Sums
-- ==== Proof.Run.lean ====
module

public import proofs.«01_k».proof.Proof.Init
public import proofs.«01_k».proof.Proof.Obl
public import Idealize.ShloMosaic.Lib.StableHlo.Run

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # The run of the program -/

section Run
open Idealize.ShloMosaic.StableHlo
variable (m : (ℓ : Loc nD τ sig) → Buf (Elt F) ℓ) (ρ : Dev nD → PrngReg)

/-- The arguments, as the call has them. -/
def aX (d : Dev nD) : S100000x512.Idx → Elt F .f32 := shapeCast S100000x512 (m ((SparseCore.T d).loc main_arg0)) shapeCasts_S100000x8x64_S100000x512
def aW (d : Dev nD) : S100000x64.Idx → Elt F .f32 := m ((SparseCore.T d).loc main_arg1)
def aI (d : Dev nD) : S100000.Idx → BitVec 32 := m ((SparseCore.T d).loc main_arg2)

/-! ## Dealing -/

theorem fin_pair (Φ : Fin 2 → SP F) : (bigSep Finset.univ Φ) ⊢ iprop(Φ 0 ∗ Φ 1) := by
  rw [bigSep_fin_succ, bigSep_fin_succ]
  rw [show (Fin.succ 0 : Fin 2) = 1 from rfl]
  iintro ⟨H0, H1, -⟩
  isplitl [H0]; · iexact H0
  iexact H1

/-- An array dealt to the tiles in shares. -/
theorem pts_deal {ℓ : Loc nD τ sig} (f : Buf (Elt F) ℓ) :
    (ℓ ↦[Finset.univ]{fullShare} f : SP F) ⊢ iprop((ℓ ↦[Finset.univ]{Transfers.shareDrop fullShare 2} f)
      ∗ bigSep Finset.univ fun c : Fin 2 => bigSep Finset.univ fun s : Fin 16 => iprop((ℓ ↦[Finset.univ]{q3 c s 0} f) ∗ (ℓ ↦[Finset.univ]{q3 c s 1} f))) := by
  refine BIBase.Entails.trans (Transfers.pointsTo_toks_split fullShare 2) (sep_mono_right ?_)
  refine SparseCore.ent (bigSep_mono fun c _ => ?_)
  refine BIBase.Entails.trans ((Transfers.pointsTo_toks_split (Transfers.shareTok fullShare 2 c) 16).trans sep_elim_right) ?_
  refine SparseCore.ent (bigSep_mono fun s _ => ?_)
  exact ((Transfers.pointsTo_toks_split (Transfers.shareTok (Transfers.shareTok fullShare 2 c) 16 s) 2).trans sep_elim_right).trans (fin_pair _)

variable (gX : Dev nD → S100000x512.Idx → Elt F .f32) (gW : Dev nD → S100000x64.Idx → Elt F .f32) (gI : Dev nD → S100000.Idx → BitVec 32) (d : Dev nD)

abbrev lX : Loc nD τ sig := (SparseCore.T d : Thread nD τ).loc main_v0
abbrev lW : Loc nD τ sig := (SparseCore.T d : Thread nD τ).loc main_arg1
abbrev lI : Loc nD τ sig := (SparseCore.T d : Thread nD τ).loc main_arg2
abbrev lO : Loc nD τ sig := (SparseCore.T d : Thread nD τ).loc main_v1
abbrev lA : Loc nD τ sig := (SparseCore.T d : Thread nD τ).loc main_arg0

theorem src_one (c : Fin 2) (s : Fin 16) :
    iprop(((lX d ↦[Finset.univ]{q3 c s 0} (gX d : Buf (Elt F) (lX d))) ∗ (lX d ↦[Finset.univ]{q3 c s 1} (gX d : Buf (Elt F) (lX d))))
      ∗ ((lW d ↦[Finset.univ]{q3 c s 0} (gW d : Buf (Elt F) (lW d))) ∗ (lW d ↦[Finset.univ]{q3 c s 1} (gW d : Buf (Elt F) (lW d))))
      ∗ ((lI d ↦[Finset.univ]{q3 c s 0} (gI d : Buf (Elt F) (lI d))) ∗ (lI d ↦[Finset.univ]{q3 c s 1} (gI d : Buf (Elt F) (lI d)))))
      ⊢ (Src gX gW gI d c s : SP F) := by
  unfold Src
  iintro ⟨⟨H0, H1⟩, ⟨H2, H3⟩, H4, -⟩
  isplitl [H0]; · iexact H0
  isplitl [H2]; · iexact H2
  isplitl [H1]; · iexact H1
  isplitl [H3]; · iexact H3
  iexact H4

/-- What the tiles read, from the arrays. -/
theorem src_deal :
    iprop((lX d ↦[Finset.univ]{fullShare} (gX d : Buf (Elt F) (lX d))) ∗ (lW d ↦[Finset.univ]{fullShare} (gW d : Buf (Elt F) (lW d))) ∗ (lI d ↦[Finset.univ]{fullShare} (gI d : Buf (Elt F) (lI d))))
      ⊢ (iprop((lW d ↦[Finset.univ]{Transfers.shareDrop fullShare 2} (gW d : Buf (Elt F) (lW d))) ∗ (lI d ↦[Finset.univ]{Transfers.shareDrop fullShare 2} (gI d : Buf (Elt F) (lI d)))
        ∗ bigSep Finset.univ fun c : Fin 2 => bigSep Finset.univ fun s : Fin 16 => Src gX gW gI d c s) : SP F) := by
  have h : iprop((bigSep Finset.univ fun c : Fin 2 => bigSep Finset.univ fun s : Fin 16 => iprop((lX d ↦[Finset.univ]{q3 c s 0} (gX d : Buf (Elt F) (lX d))) ∗ (lX d ↦[Finset.univ]{q3 c s 1} (gX d : Buf (Elt F) (lX d)))))
      ∗ (bigSep Finset.univ fun c : Fin 2 => bigSep Finset.univ fun s : Fin 16 => iprop((lW d ↦[Finset.univ]{q3 c s 0} (gW d : Buf (Elt F) (lW d))) ∗ (lW d ↦[Finset.univ]{q3 c s 1} (gW d : Buf (Elt F) (lW d)))))
      ∗ (bigSep Finset.univ fun c : Fin 2 => bigSep Finset.univ fun s : Fin 16 => iprop((lI d ↦[Finset.univ]{q3 c s 0} (gI d : Buf (Elt F) (lI d))) ∗ (lI d ↦[Finset.univ]{q3 c s 1} (gI d : Buf (Elt F) (lI d))))))
      ⊢ (bigSep Finset.univ fun c : Fin 2 => bigSep Finset.univ fun s : Fin 16 => Src gX gW gI d c s : SP F) := by
    rw [← bigSep_sep', ← bigSep_sep']
    refine SparseCore.ent (bigSep_mono fun c _ => ?_)
    rw [← bigSep_sep', ← bigSep_sep']
    exact bigSep_mono fun s _ => src_one gX gW gI d c s
  iintro ⟨H0, H1, H2⟩
  ihave H0 := (pts_deal (F := F) _) $$ H0
  ihave H1 := (pts_deal (F := F) _) $$ H1
  ihave H2 := (pts_deal (F := F) _) $$ H2
  icases H0 with ⟨-, H0⟩
  icases H1 with ⟨H1', H1⟩
  icases H2 with ⟨H2', H2⟩
  isplitl [H1']; · iexact H1'
  isplitl [H2']; · iexact H2'
  iapply h
  isplitl [H0]; · iexact H0
  isplitl [H1]; · iexact H1
  iexact H2

theorem oset_cover : (Finset.univ : Finset S1024x512.Idx) = (Finset.univ : Finset (Fin 2 × Fin 16)).biUnion fun p => oset p.1 p.2 := by
  refine Finset.ext fun y => ⟨fun _ => Finset.mem_biUnion.mpr ?_, fun _ => Finset.mem_univ _⟩
  have := (outOf y).isLt
  exact ⟨(⟨(outOf y).val / 16, by omega⟩, ⟨(outOf y).val % 16, by omega⟩), Finset.mem_univ _, mem_oset.mpr (by show _ = 16 * ((outOf y).val / 16) + (outOf y).val % 16; omega)⟩

theorem oset_disjoint (p q : Fin 2 × Fin 16) (h : p ≠ q) : Disjoint (oset p.1 p.2) (oset q.1 q.2) := by
  refine Finset.disjoint_left.mpr fun y hp hq => h ?_
  rw [mem_oset] at hp hq
  have h1 := p.2.isLt; have h2 := q.2.isLt
  exact Prod.ext (Fin.ext (by omega)) (Fin.ext (by omega))

/-- The sums' array dealt to the tiles that write it. -/
theorem out_split (f : Buf (Elt F) (lO d)) : (lO d ↦[Finset.univ]{fullShare} f : SP F) ⊢ bigSep Finset.univ fun c : Fin 2 => bigSep Finset.univ fun s : Fin 16 => Out (F := F) d c s (fun _ _ => True) := by
  have h : (lO d ↦[Finset.univ]{fullShare} f : SP F) = bigSep Finset.univ fun p : Fin 2 × Fin 16 => (lO d ↦[oset p.1 p.2]{fullShare} f) :=
    (congrArg (fun S => (lO d ↦[S]{fullShare} f : SP F)) oset_cover).trans (pointsTo_biUnion (ℓ := lO d) Finset.univ (fun p : Fin 2 × Fin 16 => oset p.1 p.2) fun p _ q _ h => oset_disjoint p q h)
  rw [h, bigSep_univ_prod]
  refine SparseCore.ent (bigSep_mono fun c _ => bigSep_mono fun s _ => ?_)
  have h1 : (lO d ↦[oset c s]{fullShare} f : SP F) ⊢ Out (F := F) d c s (fun _ _ => True) := by
    unfold Out
    iintro H
    iexists f
    isplitr
    · ipureintro; exact fun _ _ => trivial
    iexact H
  exact h1

/-- The sums' array back whole. -/
theorem out_join (G : S1024x512.Idx → Elt F .f32 → Prop) :
    (bigSep Finset.univ fun c : Fin 2 => bigSep Finset.univ fun s : Fin 16 => Out (F := F) d c s G) ⊢ (iprop(∃ f : Buf (Elt F) (lO d), ⌜∀ y, G y (f y)⌝ ∗ (lO d ↦[Finset.univ]{fullShare} f)) : SP F) := by
  rw [← bigSep_univ_prod (fun p : Fin 2 × Fin 16 => Out (F := F) d p.1 p.2 G)]
  unfold Out
  haveI : Nonempty (Buf (Elt F) (lO d)) := ⟨fun _ => (z0 (F := F))⟩
  refine BIBase.Entails.trans (bigSep_exists_pi Finset.univ fun (p : Fin 2 × Fin 16) (f : Buf (Elt F) (lO d)) => iprop(⌜∀ y ∈ oset p.1 p.2, G y (f y)⌝ ∗ (lO d ↦[oset p.1 p.2]{fullShare} f))) ?_
  iintro ⟨%fs, H⟩
  ihave H := (bigSep_pure_sep Finset.univ (fun p : Fin 2 × Fin 16 => ∀ y ∈ oset p.1 p.2, G y (fs p y)) _) $$ H
  icases H with ⟨%hG, H⟩
  ihave H := (pointsTo_biUnion_join (ℓ := lO d) (q := fullShare) Finset.univ (fun p : Fin 2 × Fin 16 => oset p.1 p.2) fs (fs (0, 0)) fun p _ q _ h => oset_disjoint p q h) $$ H
  icases H with ⟨%g, %hg, H⟩
  iexists g
  isplitr
  · ipureintro
    intro y
    obtain ⟨p, hp, hy⟩ := Finset.mem_biUnion.mp (oset_cover ▸ Finset.mem_univ y)
    rw [hg p hp y hy]
    exact hG p hp y hy
  iapply (Entails.of_eq (congrArg (fun S => (lO d ↦[S]{fullShare} g : SP F)) oset_cover.symm)) $$ H

/-! ## The program -/

abbrev bars (d : Dev nD) : SP F := bigSep Finset.univ fun c : Fin 2 => bigSep Finset.univ fun s : Fin 16 => semVal (bc d c s) 0

theorem st_intro (f : Buf (Elt F) (lO d)) :
    iprop((lX d ↦[Finset.univ]{fullShare} (gX d : Buf (Elt F) (lX d))) ∗ (lW d ↦[Finset.univ]{fullShare} (gW d : Buf (Elt F) (lW d))) ∗ (lI d ↦[Finset.univ]{fullShare} (gI d : Buf (Elt F) (lI d))) ∗ (lO d ↦[Finset.univ]{fullShare} f))
      ⊢ (iprop(((lW d ↦[Finset.univ]{Transfers.shareDrop fullShare 2} (gW d : Buf (Elt F) (lW d))) ∗ (lI d ↦[Finset.univ]{Transfers.shareDrop fullShare 2} (gI d : Buf (Elt F) (lI d))))
        ∗ bigSep Finset.univ fun c : Fin ((K (F := F)).nCore 0) => (P gX gW gI).st 0 d c) : SP F) := by
  have h : iprop((bigSep Finset.univ fun c : Fin 2 => bigSep Finset.univ fun s : Fin 16 => Src gX gW gI d c s) ∗ (bigSep Finset.univ fun c : Fin 2 => bigSep Finset.univ fun s : Fin 16 => Out (F := F) d c s (fun _ _ => True)))
      ⊢ (bigSep Finset.univ fun c : Fin ((K (F := F)).nCore 0) => (P gX gW gI).st 0 d c : SP F) := by
    rw [← bigSep_sep']
    refine SparseCore.ent (bigSep_mono fun c _ => ?_)
    rw [← bigSep_sep']
    exact fun _ h => h
  iintro ⟨H0, H1, H2, HO⟩
  ihave H := (src_deal gX gW gI d) $$ [H0 H1 H2]
  · isplitl [H0]; · iexact H0
    isplitl [H1]; · iexact H1
    iexact H2
  icases H with ⟨H1, H2, HS⟩
  isplitl [H1 H2]
  · isplitl [H1]; · iexact H1
    iexact H2
  iapply h
  isplitl [HS]; · iexact HS
  iapply (out_split (F := F) d f) $$ HO

theorem dn_elim : (bigSep Finset.univ fun c : Fin ((K (F := F)).nCore 0) => (P gX gW gI).dn 0 d c : SP F)
    ⊢ iprop((∃ f : Buf (Elt F) (lO d), ⌜∀ y, OutsOf gX gW gI d y (f y)⌝ ∗ (lO d ↦[Finset.univ]{fullShare} f)) ∗ bars d) := by
  show (bigSep Finset.univ fun c : Fin 2 => dnP gX gW gI d c : SP F) ⊢ _
  unfold dnP
  rw [show (fun c : Fin 2 => bigSep Finset.univ fun s : Fin 16 => iprop(Out (F := F) d c s (OutsOf gX gW gI d) ∗ semVal (bc d c s) 0)) = fun c : Fin 2 => iprop((bigSep Finset.univ fun s : Fin 16 => Out (F := F) d c s (OutsOf gX gW gI d)) ∗ bigSep Finset.univ fun s : Fin 16 => semVal (bc d c s) 0) from funext fun c => bigSep_sep' _ _ _, bigSep_sep']
  iintro ⟨H, Hb⟩
  isplitl [H]; · iapply (out_join (F := F) d _) $$ H
  iexact Hb

abbrev xr : DevRef τ sig := Proc.devRef .tc main_arg0
abbrev vr : DevRef τ sig := Proc.devRef .tc main_v0
abbrev opR : HloOp τ sig (Elt F) := StableHlo.reshape main_arg0 main_v0 rfl shapeCasts_S100000x8x64_S100000x512
abbrev V0 (d : Dev nD) : Valuation τ sig (Elt F) := fun b => m (d, b)

theorem held_two (V : Valuation τ sig (Elt F)) : (held (SparseCore.T d) {xr, vr} V : SP F) = iprop((lA d ↦[Finset.univ]{fullShare} V xr) ∗ (lX d ↦[Finset.univ]{fullShare} V vr)) := by
  unfold held
  rw [SparseCore.bigSep_insert' (by decide), bigSep_singleton]

theorem unscopedBufs_eq (W : (b : Ref sig .tc) → Buf (Elt F) ((d.tc : Thread nD τ).loc b)) :
    (unscopedBufs d W : SP F) = iprop((lA d ↦[Finset.univ]{fullShare} W main_arg0) ∗ (lW d ↦[Finset.univ]{fullShare} W main_arg1) ∗ (lI d ↦[Finset.univ]{fullShare} W main_arg2)
      ∗ (lX d ↦[Finset.univ]{fullShare} W main_v0) ∗ (lO d ↦[Finset.univ]{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide), SparseCore.bigSep_insert' (by decide), bigSep_singleton]

/-- What the program leaves. -/
abbrev FIN (d : Dev nD) : SP F :=
  iprop((lA d ↦[Finset.univ]{fullShare} m (lA d)) ∗ (lW d ↦[Finset.univ]{Transfers.shareDrop fullShare 2} m (lW d)) ∗ (lI d ↦[Finset.univ]{Transfers.shareDrop fullShare 2} m (lI d))
    ∗ (∃ f : Buf (Elt F) (lO d), ⌜∀ y, OutsOf (aX m) (aW m) (aI m) d y (f y)⌝ ∗ (lO d ↦[Finset.univ]{fullShare} f)) ∗ bars d)

theorem hmain (κ : GSem nD τ sig → ℕ) (d : Dev nD) :
    iprop((K (F := F)).ctx EH (P (aX m) (aW m) (aI m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨HA, HW, HI, HX, HO⟩, Hts, -⟩, -⟩
  iapply (wp_hlo_within 𝒱 (SparseCore.T d) none Set.univ (op := opR) (S := {xr, vr}) (V := V0 m d) (show ({xr, vr} : Finset (DevRef τ sig)) ⊆ {xr, vr} from subset_rfl)) $$ [Hb HA HX]
  · isplitl [Hb]; · iexact Hb
    rw [held_two]
    isplitl [HA]; · iexact HA
    iexact HX
  iintro ⟨Hb, Hh⟩
  rw [wp_ret]
  imodintro
  ihave Hh := (Entails.of_eq (held_two (F := F) d _)) $$ Hh
  icases Hh with ⟨HA, HX⟩
  ihave HA := (Entails.of_eq (congrArg (fun f => (lA d ↦[Finset.univ]{fullShare} f : SP F)) (StableHlo.reshape_result_ne main_arg0 main_v0 rfl shapeCasts_S100000x8x64_S100000x512 _ _ (V0 m d) (r := main_arg0) (by decide)))) $$ HA
  ihave HX := (Entails.of_eq (congrArg (fun f => (lX d ↦[Finset.univ]{fullShare} f : SP F)) (StableHlo.reshape_result main_arg0 main_v0 rfl shapeCasts_S100000x8x64_S100000x512 _ _ (V0 m d)))) $$ HX
  ihave H := (st_intro (aX m) (aW m) (aI m) d (m (lO d))) $$ [HX HW HI HO]
  · isplitl [HX]; · iexact HX
    isplitl [HW]; · iexact HW
    isplitl [HI]; · iexact HI
    iexact HO
  icases H with ⟨⟨HW, HI⟩, Hs⟩
  iapply ((K (F := F)).wp_run (D (F := F)) 𝒱 (EH := EH) (P := P (aX m) (aW m) (aI m)) κ d 0) $$ [Hst Hs HA HW HI Hb Hts]
  isplitr; · iexact Hctx
  isplitl [Hst]; · iexact Hst
  isplitl [Hs]; · iexact Hs
  iintro ⟨Hst, Hdn⟩
  ihave Hdn := (dn_elim (aX m) (aW m) (aI m) d) $$ Hdn
  icases Hdn with ⟨HO, Hbars⟩
  imodintro
  isplitl [Hst]; · iexact Hst
  isplitr [Hb Hts]
  · isplitl [HA]; · iexact HA
    isplitl [HW]; · iexact HW
    isplitl [HI]; · iexact HI
    isplitl [HO]; · iexact HO
    iexact Hbars
  isplitl [Hb] <;> iassumption

/-! ## What the claims read -/

def fq (d : Dev nD) (s' : Phys nD τ sig (Elt F)) : Prop :=
  s'.mem.mem (lA d) = m (lA d) ∧ s'.mem.mem (lW d) = m (lW d) ∧ s'.mem.mem (lI d) = m (lI d)
    ∧ (∀ y, OutsOf (aX m) (aW m) (aI m) d y ((s'.mem.mem (lO d) : Buf (Elt F) (lO d)) y)) ∧ ∀ (c : Fin 2) (s : Fin 16), s'.mem.sem (bc d c s) = 0

theorem read_all {ℓ : Loc nD τ sig} (q : PosShare TreeShare) (f : Buf (Elt F) ℓ) (s' : Phys nD τ sig (Elt F)) : iprop((ℓ ↦[Finset.univ]{q} f) ∗ SI s') ⊢ (⌜s'.mem.mem ℓ = f⌝ : SP F) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem read_out (G : S1024x512.Idx → Elt F .f32 → Prop) (s' : Phys nD τ sig (Elt F)) :
    iprop((∃ f : Buf (Elt F) (lO d), ⌜∀ y, G y (f y)⌝ ∗ (lO d ↦[Finset.univ]{fullShare} f)) ∗ SI s') ⊢ (⌜∀ y, G y ((s'.mem.mem (lO d) : Buf (Elt F) (lO d)) y)⌝ : SP F) := by
  iintro ⟨⟨%f, %hf, Hx⟩, HSI⟩
  ihave H := (read_all (F := F) fullShare f s') $$ [HSI Hx]
  · isplitl [Hx] <;> iassumption
  icases H with %hx
  ipureintro; rw [hx]; exact hf

theorem hfin (d : Dev nD) (s' : Phys nD τ sig (Elt F)) : iprop(FIN m d ∗ SI s') ⊢ (⌜fq m d s'⌝ : SP F) :=
  fun x hx => ⟨((sep_mono_left sep_elim_left).trans (read_all _ _ s')) x hx,
    ((sep_mono_left (sep_elim_right.trans sep_elim_left)).trans (read_all _ _ s')) x hx,
    ((sep_mono_left (sep_elim_right.trans (sep_elim_right.trans sep_elim_left))).trans (read_all _ _ s')) x hx,
    ((sep_mono_left (sep_elim_right.trans (sep_elim_right.trans (sep_elim_right.trans sep_elim_left)))).trans (read_out d _ s')) x hx,
    fun c s => ((sep_mono_left (sep_elim_right.trans (sep_elim_right.trans (sep_elim_right.trans (sep_elim_right.trans
      ((SparseCore.ent (bigSep_elim (Finset.mem_univ c))).trans (SparseCore.ent (bigSep_elim (Finset.mem_univ s))))))))).trans (SparseCore.Cfg.semVal_zero_read _ s')) x hx⟩

/-- The meetings' cells end at zero. -/
theorem hA (s' : Phys nD τ sig (Elt F)) (h : ∀ d, fq m d s') (g : GSem nD τ sig) (hg : g ∈ bCells) : s'.mem.sem g = 0 := by
  obtain ⟨⟨d, c, s⟩, -, rfl⟩ := Finset.mem_image.mp hg
  exact (h d).2.2.2.2 c s

/-! ## The run -/

theorem run_main [∀ e, Nonempty (Elt F e)] (hg : ∀ d, Good (idOf (aI m d))) : θ_run (defs (F := F)) (threads (F := F)) ⟨m, fun _ => 0, ρ⟩ (fun r =>
    (∀ d : Dev nD, r.2.mem (lA d) = m (lA d) ∧ r.2.mem (lW d) = m (lW d) ∧ r.2.mem (lI d) = m (lI d) ∧ ∀ y, OutsOf (aX m) (aW m) (aI m) d y ((r.2.mem (lO d) : Buf (Elt F) (lO d)) y)) ∧ r.2.sem = fun _ => 0) :=
  SparseCore.Cfg.θ_run_sc_quiescent (K := K (F := F)) (D := D (F := F)) (𝒱 := 𝒱) (EH := EH) (P := P (aX m) (aW m) (aI m)) (hA := hA m) facts v₀
    (fun q hq => match q with | 0 => nomatch hq)
    (fun q _ => match q with | 0 => tileObl (aX m) (aW m) (aI m) hg)
    (fun q _ => match q with | 0 => vecSplit (aX m) (aW m) (aI m))
    m ρ main (fun _ => iprop(emp)) (FIN m) (u₀ (F := F)) (hu₀ (aX m) (aW m) (aI m) ⟨m, fun _ => 0, ρ⟩) (hmain m ρ) (fq m) (hfin m) _ (fun _ h hz => ⟨fun d => ⟨(h d).1, (h d).2.1, (h d).2.2.1, (h d).2.2.2.1⟩, hz⟩)

end Run

end Cert.KernelIdeal.Sums
-- ==== Proof.Decode.lean ====
module

public import proofs.«01_k».proof.Proof.Pay
public import proofs.«01_k».proof.Pre_sorted_ids
public import Idealize.ShloMosaic.Lib.ReduceAll
public import Idealize.ShloMosaic.Lib.Affine

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # What the precondition says -/

section Decode
variable [Cert.Pre_sorted_ids.Facts]

theorem toInt_small {v : BitVec 32} (h0 : 0 ≤ v.toInt) : v.toInt = (v.toNat : Int) := by
  rw [BitVec.toInt_eq_toNat_cond] at h0 ⊢
  have := v.isLt
  split <;> rename_i h <;> simp only [h, if_true, if_false] at h0 ⊢ <;> omega

theorem good_of (x : S100000x8x64.Idx → F .f32) (w : S100000x64.Idx → F .f32) (b : S100000.Idx → BitVec 32)
    (h : Cert.Pre_sorted_ids.fn (F := F) x w b = fun _ => 1#1) : Good (idOf b) := by
  have h0 := congrFun h (fun a : Fin 0 => a.elim0)
  dsimp only [Cert.Pre_sorted_ids.fn] at h0
  obtain ⟨h1, hs⟩ := IntOp.andi_eq_one.mp h0
  obtain ⟨hl, hu⟩ := IntOp.andi_eq_one.mp h1
  haveI : Subsingleton Cert.Pre_sorted_ids.S_.Idx := ⟨fun a a' => funext fun i : Fin 0 => i.elim0⟩
  have hge : ∀ n : Fin 100000, 0 ≤ (b (ix1 n)).toInt := fun n => IntOp.cmpi_sge.mp (Host.reduce_andi_all _ _ _ _ _ hl (ix1 n))
  have hlt : ∀ n : Fin 100000, (b (ix1 n)).toInt < 512 := fun n => IntOp.cmpi_slt.mp (Host.reduce_andi_all _ _ _ _ _ hu (ix1 n))
  have hle : ∀ n : Fin 99999, (b (ix1 ⟨n.val, by omega⟩)).toInt ≤ (b (ix1 ⟨n.val + 1, by omega⟩)).toInt := fun n => by
    have := IntOp.cmpi_sle.mp (Host.reduce_andi_all _ _ _ _ _ hs (ix1 n))
    refine le_trans (le_of_eq (congrArg (fun i => (b i).toInt) ?_)) (le_trans this (le_of_eq (congrArg (fun i => (b i).toInt) ?_)))
    · funext a; match a with | 0 => exact Fin.ext (by show n.val = 0 + n.val; omega)
    · funext a; match a with | 0 => exact Fin.ext (by show 1 + n.val = n.val + 1; omega)
  have hid : ∀ n (hn : n < 100000), idOf b n = b (ix1 ⟨n, hn⟩) := fun n hn => by unfold idOf; rw [dif_pos hn]
  refine ⟨fun n hn => ?_, fun n n' hnn hn' => ?_⟩
  · rw [hid n hn]
    have h1 := hlt ⟨n, hn⟩
    rw [toInt_small (hge ⟨n, hn⟩)] at h1
    omega
  · induction n', hnn using Nat.le_induction with
    | base => exact le_rfl
    | succ k hk ih =>
      refine le_trans (ih (by omega)) ?_
      rw [hid k (by omega), hid (k + 1) hn']
      have h1 := hle ⟨k, by omega⟩
      have e1 := toInt_small (hge ⟨k, by omega⟩)
      have e2 := toInt_small (hge ⟨k + 1, hn'⟩)
      dsimp only at h1
      omega

end Decode

end Cert.KernelIdeal.Sums
-- ==== Proof.Value.lean ====
module

public import proofs.«01_k».proof.Proof.Pay
public import proofs.«01_k».proof.ReferenceIdeal
public import Idealize.ShloMosaic.PureOps.Ideal
public import Idealize.ShloMosaic.PureOps.Ideal.Laws
public import Idealize.ShloMosaic.Lib.StableHlo.Predicate
public import Idealize.ShloMosaic.Lib.Affine
public import Idealize.ShloMosaic.Lib.Pipeline.Value
public import Idealize.ShloMosaic.Lib.StableHlo.Run

@[expose] public section

noncomputable section

namespace Cert.KernelIdeal.Sums

open Cert.KernelIdeal
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Facts]
open Facts₀ Facts

attribute [local instance] blocks

local notation "𝕄" => MM F

/-! # The sums, as the reference has them -/

section Value
variable [Cert.ReferenceIdeal.Facts]

/-- At the ideal floats a sum in any order is the sum. -/
theorem SumOf.eq_sum {z : Elt Ideal .f32} {t : ℕ → Elt Ideal .f32} {S : Finset ℕ} {a : Elt Ideal .f32} (hz : z = (0 : EReal)) (h : SumOf (F := Ideal) z t S a) :
    (a : EReal) = ∑ n ∈ S, (t n : EReal) := by
  induction h with
  | zero => rw [Finset.sum_empty]; exact hz
  | add hn _ ih => rw [Finset.sum_insert hn, ← ih, add_comm]; rfl
  | join hd _ _ ih ih' => rw [Finset.sum_union hd, ← ih, ← ih']; rfl

abbrev dims := Cert.ReferenceIdeal.scatter_S1024x8x64_S100000x1_S100000x8x64_12_0_0_1

/-- Where an update of the reference's scatter goes. -/
theorem lands (idx : IVec Cert.ReferenceIdeal.S100000x1 32) (n : Fin 100000) (p : Fin 8) (q : Fin 64) (a : Fin 1024) (p' : Fin 8) (q' : Fin 64) :
    dims.resultIdx? (ix3 n p q) idx = some (ix3 a p' q') ↔ (idx (ix2 n (0 : Fin 1))).toInt = (a.val : Int) ∧ p = p' ∧ q = q' := by
  have w0 : dims.window (ix3 n p q) 0 = 0 := rfl
  have w1 : dims.window (ix3 n p q) 1 = p.val := rfl
  have w2 : dims.window (ix3 n p q) 2 = q.val := rfl
  have s1 : dims.start (ix3 n p q) idx 1 = 0 := rfl
  have s2 : dims.start (ix3 n p q) idx 2 = 0 := rfl
  have s0 : dims.start (ix3 n p q) idx 0 = (idx (ix2 n (0 : Fin 1))).toInt := by
    show (idx _).toInt = _
    refine congrArg (fun i => (idx i).toInt) (funext fun b => ?_)
    match b with
    | 0 => rfl
    | 1 => rfl
  have ha := a.isLt
  have hp := p.isLt
  have hq := q.isLt
  unfold ScatterDims.resultIdx?
  split
  · rename_i h
    constructor
    · intro e
      have e' := Option.some.inj e
      have e0 : (dims.start (ix3 n p q) idx 0 + (dims.window (ix3 n p q) 0 : Int)).toNat = a.val := congrArg Fin.val (congrFun e' 0)
      have e1 : (dims.start (ix3 n p q) idx 1 + (dims.window (ix3 n p q) 1 : Int)).toNat = p'.val := congrArg Fin.val (congrFun e' 1)
      have e2 : (dims.start (ix3 n p q) idx 2 + (dims.window (ix3 n p q) 2 : Int)).toNat = q'.val := congrArg Fin.val (congrFun e' 2)
      have h0 := (h 0).1
      rw [w0, s0] at e0 h0
      rw [w1, s1] at e1
      rw [w2, s2] at e2
      exact ⟨by omega, Fin.ext (by omega), Fin.ext (by omega)⟩
    · rintro ⟨e, rfl, rfl⟩
      refine congrArg some (funext fun b => Fin.ext ?_)
      match b with
      | 0 => show (dims.start (ix3 n p q) idx 0 + (dims.window (ix3 n p q) 0 : Int)).toNat = a.val; rw [w0, s0]; omega
      | 1 => show (dims.start (ix3 n p q) idx 1 + (dims.window (ix3 n p q) 1 : Int)).toNat = p.val; rw [w1, s1]; omega
      | 2 => show (dims.start (ix3 n p q) idx 2 + (dims.window (ix3 n p q) 2 : Int)).toNat = q.val; rw [w2, s2]; omega
  · rename_i h
    constructor
    · intro e; cases e
    · rintro ⟨e, rfl, rfl⟩
      refine (h fun b => ?_).elim
      match b with
      | 0 => show 0 ≤ dims.start (ix3 n p q) idx 0 + (dims.window (ix3 n p q) 0 : Int) ∧ dims.start (ix3 n p q) idx 0 + (dims.window (ix3 n p q) 0 : Int) < ((1024 : ℕ) : Int); rw [w0, s0]; omega
      | 1 => show 0 ≤ dims.start (ix3 n p q) idx 1 + (dims.window (ix3 n p q) 1 : Int) ∧ dims.start (ix3 n p q) idx 1 + (dims.window (ix3 n p q) 1 : Int) < ((8 : ℕ) : Int); rw [w1, s1]; omega
      | 2 => show 0 ≤ dims.start (ix3 n p q) idx 2 + (dims.window (ix3 n p q) 2 : Int) ∧ dims.start (ix3 n p q) idx 2 + (dims.window (ix3 n p q) 2 : Int) < ((64 : ℕ) : Int); rw [w2, s2]; omega

variable (x : S100000x8x64.Idx → EReal) (w : S100000x64.Idx → EReal) (b : S100000.Idx → BitVec 32)

/-- The reference's segments. -/
abbrev segR : IVec Cert.ReferenceIdeal.S100000 32 :=
  select (cmpi .slt (iotaInDim Cert.ReferenceIdeal.S100000 32 0) (broadcastInDim Cert.ReferenceIdeal.S100000 ![] Cert.ReferenceIdeal.Facts₀.bcast_S_S100000 (constantI Cert.ReferenceIdeal.S_ 32 50176#32)))
    b (addi b (broadcastInDim Cert.ReferenceIdeal.S100000 ![] Cert.ReferenceIdeal.Facts₀.bcast_S_S100000 (constantI Cert.ReferenceIdeal.S_ 32 512#32)))

theorem segR_apply (n : Fin 100000) : segR b (ix1 n) = if n.val < 50176 then b (ix1 n) else b (ix1 n) + 512#32 := by
  show (if IntOp.cmpi .slt (BitVec.ofNat 32 n.val) 50176#32 = 1#1 then b (ix1 n) else b (ix1 n) + 512#32) = _
  have e : IntOp.cmpi .slt (BitVec.ofNat 32 n.val) 50176#32 = 1#1 ↔ n.val < 50176 := by
    rw [IntOp.cmpi_slt, StableHlo.Predicate.toInt_ofNat_small _ (by have := n.isLt; omega)]
    rw [show (50176#32).toInt = 50176 from by decide]
    omega
  by_cases h : n.val < 50176
  · rw [if_pos h, if_pos (e.mpr h)]
  · rw [if_neg h, if_neg (fun h' => h (e.mp h'))]

abbrev updR : Cert.ReferenceIdeal.S100000x8x64.Idx → EReal :=
  mulf (F := Ideal) (φ := .f32) x (broadcastInDim Cert.ReferenceIdeal.S100000x8x64 ![0, 1, 2] Cert.ReferenceIdeal.Facts₀.bcast_S100000x1x64_S100000x8x64_0_1_2
    (broadcastInDim Cert.ReferenceIdeal.S100000x1x64 ![0, 2] Cert.ReferenceIdeal.Facts₀.bcast_S100000x64_S100000x1x64_0_2 w))

theorem updR_apply (n : Fin 100000) (p : Fin 8) (q : Fin 64) : updR x w (ix3 n p q) = x (ix3 n p q) * w (ix2 n q) := by
  show x (ix3 n p q) * w _ = _
  refine congrArg (fun i => x (ix3 n p q) * w i) (funext fun a => ?_)
  match a with
  | 0 => rfl
  | 1 => rfl

/-- The reference's result. -/
abbrev refR : Cert.ReferenceIdeal.S1024x512.Idx → EReal :=
  shapeCast _ (Host.scatterAdd (F := Ideal) (φ := .f32) dims (broadcastInDim Cert.ReferenceIdeal.S1024x8x64 ![] Cert.ReferenceIdeal.Facts₀.bcast_S_S1024x8x64 (constant (F := Ideal) Cert.ReferenceIdeal.S_ .f32 0x00000000#32))
    (broadcastInDim Cert.ReferenceIdeal.S100000x1 ![0] Cert.ReferenceIdeal.Facts₀.bcast_S100000_S100000x1_0 (segR b)) (updR x w)) Cert.ReferenceIdeal.Facts₀.shapeCasts_S1024x8x64_S1024x512

theorem zero_ideal : (FloatOps.ofBits (F := Ideal) .f32 0x00000000#32 : EReal) = 0 := Ideal.ofBits_zero_f32

/-- Each element of the reference's result. -/
theorem refR_apply (hg : Good (idOf b)) (c : Fin 2) (r : ℕ) (hr : r < 512) (a : Fin 1024) (ha : a.val = 512 * c.val + r) (col : Fin 512) :
    refR x w b (ix2 a col) = ∑ n ∈ (rowsC c).filter (fun n => idOf b n = BitVec.ofNat 32 r),
      (term (F := Ideal) (xOf (F := Ideal) (shapeCast S100000x512 x shapeCasts_S100000x8x64_S100000x512)) (wOf (F := Ideal) w) n col : EReal) := by
  have hcol := col.isLt
  let p : Fin 8 := ⟨col.val / 64, by omega⟩
  let q : Fin 64 := ⟨col.val % 64, by omega⟩
  have e1 : refR x w b (ix2 a col) = (Ideal.hostScatterAdd dims (fun _ => (FloatOps.ofBits (F := Ideal) .f32 0x00000000#32 : EReal))
      (broadcastInDim Cert.ReferenceIdeal.S100000x1 ![0] Cert.ReferenceIdeal.Facts₀.bcast_S100000_S100000x1_0 (segR b)) (updR x w)) (ix3 a p q) :=
    shapeCast_apply _ _ (ix2 a col) (ix3 a p q) (by
      rw [Shape.rowMajor_val_two, Shape.rowMajor_val_three]
      show (a.val * 8 + col.val / 64) * 64 + col.val % 64 = a.val * 512 + col.val
      omega)
  rw [e1]
  unfold Ideal.hostScatterAdd
  rw [zero_ideal, zero_add]
  have hidx : ∀ n : Fin 100000, (broadcastInDim Cert.ReferenceIdeal.S100000x1 ![0] Cert.ReferenceIdeal.Facts₀.bcast_S100000_S100000x1_0 (segR b) : IVec Cert.ReferenceIdeal.S100000x1 32) (ix2 n (0 : Fin 1)) = segR b (ix1 n) := fun n =>
    congrArg (segR b) (funext fun k => match k with | 0 => rfl)
  have hid : ∀ n : Fin 100000, idOf b n.val = b (ix1 n) := fun n => by unfold idOf; rw [dif_pos n.isLt]
  have hseg : ∀ n : Fin 100000, (segR b (ix1 n)).toInt = (a.val : Int) ↔ n.val ∈ (rowsC c).filter (fun n => idOf b n = BitVec.ofNat 32 r) := fun n => by
    have hn := n.isLt
    have hl := hg.lt n.val n.isLt
    have hc := c.isLt
    rw [segR_apply, Finset.mem_filter, ← hid]
    have hrow : n.val ∈ rowsC c ↔ 50176 * c.val ≤ n.val ∧ n.val < min (50176 * c.val + 50176) 100000 := Finset.mem_Ico
    rw [hrow, ha]
    have hv : idOf b n.val = BitVec.ofNat 32 r ↔ (idOf b n.val).toNat = r := by
      rw [← BitVec.toNat_inj, BitVec.toNat_ofNat, Nat.mod_eq_of_lt (by omega)]
    rw [hv]
    generalize idOf b n.val = v at hl ⊢
    by_cases h : n.val < 50176
    · rw [if_pos h, BitVec.toInt_eq_toNat_of_lt (by omega)]
      omega
    · rw [if_neg h, BitVec.toInt_eq_toNat_of_lt (by rw [BitVec.toNat_add]; show 2 * ((v.toNat + 512) % 2 ^ 32) < 2 ^ 32; omega), BitVec.toNat_add]
      show (((v.toNat + 512) % 2 ^ 32 : ℕ) : Int) = _ ↔ _
      omega
  symm
  refine Finset.sum_bij (fun n hn => ix3 (⟨n, by have := Finset.mem_Ico.mp (Finset.mem_filter.mp hn).1; omega⟩ : Fin 100000) p q) ?_ ?_ ?_ ?_
  · intro n hn
    refine Finset.mem_filter.mpr ⟨Finset.mem_univ _, (lands _ _ p q a p q).mpr ⟨?_, rfl, rfl⟩⟩
    rw [hidx]
    exact (hseg _).mpr hn
  · intro n hn n' hn' e
    exact congrArg Fin.val (congrFun e 0)
  · intro j hj
    obtain ⟨-, hj⟩ := Finset.mem_filter.mp hj
    rw [eq_ix3 j] at hj
    obtain ⟨h0, h1, h2⟩ := (lands _ (j 0) (j 1) (j 2) a p q).mp hj
    refine ⟨(j 0).val, (hseg (j 0)).mp ((congrArg BitVec.toInt (hidx (j 0))).symm.trans h0), ?_⟩
    exact (congrArg₂ (fun p q => ix3 (j 0) p q) h1 h2).symm.trans (eq_ix3 j).symm
  · intro n hn
    have hn' : n < 100000 := by have := Finset.mem_Ico.mp (Finset.mem_filter.mp hn).1; omega
    rw [updR_apply]
    unfold term xOf wOf
    rw [dif_pos hn', dif_pos hn']
    refine congrArg (fun v : EReal => v * w (ix2 ⟨n, hn'⟩ q)) (shapeCast_apply _ _ (ix2 (⟨n, hn'⟩ : Fin 100000) col) (ix3 (⟨n, hn'⟩ : Fin 100000) p q) (by
      rw [Shape.rowMajor_val_two, Shape.rowMajor_val_three]
      show (n * 8 + col.val / 64) * 64 + col.val % 64 = n * 512 + col.val
      omega))

/-- The kernel's sums are the reference's. -/
theorem outs_eq (hg : Good (idOf b)) (f : S1024x512.Idx → EReal)
    (hf : ∀ y, Outs (F := Ideal) (idOf b) (xOf (F := Ideal) (shapeCast S100000x512 x shapeCasts_S100000x8x64_S100000x512)) (wOf (F := Ideal) w) (z0 (F := Ideal)) y (f y)) :
    f = refR x w b := by
  funext y
  have hy : (y 0).val < 1024 := (y 0).isLt
  have h := hf y ⟨(y 0).val / 512, by omega⟩ ⟨(y 0).val % 512, by omega⟩ (Nat.mod_lt _ (by decide)) (by show (y 0).val = 512 * ((y 0).val / 512) + (y 0).val % 512; omega) (Nat.mod_lt _ (by decide))
  have h := SumOf.eq_sum zero_ideal h
  rw [h]
  refine Eq.trans ?_ (congrArg (refR x w b) (eq_ix2 y)).symm
  exact (refR_apply x w b hg ⟨(y 0).val / 512, by omega⟩ ((y 0).val % 512) (Nat.mod_lt _ (by decide)) (y 0) (by show (y 0).val = 512 * ((y 0).val / 512) + (y 0).val % 512; omega) (y 1)).symm

end Value

end Cert.KernelIdeal.Sums
-- ==== Proof.Combine.lean ====
/- The combination of the two cores' partial sums, beside the sum over the cores that the reference takes. -/
module

public import proofs.«01_k».proof.Defs
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import Idealize.ShloMosaic.Lib.Pointwise

@[expose] public section

noncomputable section

namespace Cert.Proof.Combine

open Idealize.ShloMosaic Idealize.ShloMosaic.TcCoe Idealize.SL.Sem

/-- What the call stores at row `r` is the sum of rows `r` and `512 + r` of its argument: the reference's sum over the two
    cores' slices. -/
theorem value (a : FVec Ideal Cert.CombineIdeal.S1024x512 .f32) :
    Cert.CombineIdeal.Value.G1 (F := Ideal) a
      = Host.reduceAdd (shapeCast Cert.CombineReferenceIdeal.S2x512x512 a Cert.CombineReferenceIdeal.Gen.shapeCasts_S1024x512_S2x512x512)
          (constant Cert.CombineReferenceIdeal.S_ .f32 0x00000000#32)
          Cert.CombineReferenceIdeal.Gen.reducesTo_S2x512x512_S512x512_d0 Cert.CombineReferenceIdeal.Gen.h_S_ := by
  funext j
  pointwise [Cert.CombineIdeal.Value.G1, Cert.CombineIdeal.Gen.k0_pay1]
  rw [Fin.sum_univ_two]
  congr 2
  exact congrArg (fun p => ix2 p (j 1)) (Fin.ext (by simp))

/-- The combination runs and leaves its argument as it was, over the float words … -/
theorem frame : Cert.quiescent_Combine (hCombine := Cert.Combine.Gen.facts) := fun m ρ _ => Cert.Combine.Gen.frame m ρ

/-- … and over the extended reals. -/
theorem frame_ideal : Cert.quiescent_CombineIdeal (hCombineIdeal := Cert.CombineIdeal.Gen.facts) := fun m ρ _ => Cert.CombineIdeal.Gen.frame m ρ

/-- The reference of the combination runs, leaves its argument and declares no semaphore. -/
theorem frame_ref : Cert.quiescent_CombineReferenceIdeal (hCombineReferenceIdeal := Cert.CombineReferenceIdeal.Gen.facts) := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

/-- Over the extended reals the combined array is the reference's sum over the two cores. -/
theorem algebraic : Cert.algebraic_CombineIdeal_CombineReferenceIdeal (hCombineIdeal := Cert.CombineIdeal.Gen.facts)
    (hCombineReferenceIdeal := Cert.CombineReferenceIdeal.Gen.facts) := fun m g m' g' _ hm => by
  refine ⟨fun c => Cert.CombineIdeal.Value.G1 (F := Ideal) (m ((c.tc : Thread Cert.CombineIdeal.nD Cert.CombineIdeal.τ).loc Cert.CombineIdeal.main_arg0)),
    Cert.CombineIdeal.Value.run (F := Ideal) m g, ?_⟩
  refine (θ_run Cert.CombineReferenceIdeal.defs _ _).mono (fun _ h c => ⟨(h c).1.trans ?_, (h c).2⟩)
    (Cert.CombineReferenceIdeal.Value.run (F := Ideal) m' g')
  rw [hm c]
  exact (value _).symm

end Cert.Proof.Combine

end
-- ==== Proof.Weights.lean ====
/- The weights of the points: the call's two layers and row normalization, beside the reference's. -/
module

public import proofs.«01_k».proof.Defs
public import proofs.«01_k».proof.Proof.Gen.Weights
public import proofs.«01_k».proof.Proof.Gen.Weights.Frame
public import proofs.«01_k».proof.Proof.Gen.WeightsIdeal
public import proofs.«01_k».proof.Proof.Gen.WeightsIdeal.Frame
public import proofs.«01_k».proof.Proof.Gen.WeightsIdeal.Value
public import proofs.«01_k».proof.Proof.Gen.WeightsReferenceIdeal
public import proofs.«01_k».proof.Proof.Gen.WeightsReferenceIdeal.Run
public import Idealize.ShloMosaic.Lib.Pointwise

@[expose] public section

noncomputable section

namespace Cert.Proof.Weights

open Idealize.ShloMosaic Idealize.ShloMosaic.TcCoe Idealize.SL.Sem

/-! ## One row of the result -/

abbrev SW1 : Shape := ⟨2, ![3, 64]⟩
abbrev SW2 : Shape := ⟨2, ![64, 64]⟩

/-- A point's hidden layer before the activation. -/
def hid (p : Fin 3 → EReal) (w : SW1.Idx → EReal) (b : Fin 64 → EReal) (q : Fin 64) : EReal :=
  (∑ k : Fin 3, p k * w (ix2 k q)) + b q

/-- The activation: the identity above zero, `eˣ − 1` elsewhere. -/
def act (h : EReal) : EReal := if 0 < h then h else Ideal.exp h - 1

/-- The second layer. -/
def lin (e : Fin 64 → EReal) (w : SW2.Idx → EReal) (b : Fin 64 → EReal) (q : Fin 64) : EReal :=
  (∑ k : Fin 64, e k * w (ix2 k q)) + b q

/-- A row's exponentials, taken from its maximum. -/
def ex (l : Fin 64 → EReal) (q : Fin 64) : EReal := Ideal.exp (l q - Finset.univ.fold max ⊥ l)

/-- The row normalized. -/
def soft (l : Fin 64 → EReal) (q : Fin 64) : EReal := Ideal.div (ex l q) (∑ k : Fin 64, ex l k)

theorem one_word : Ideal.ofBits .f32 0x3F800000#32 = 1 := by simp [Ideal.ofBits, Ideal.ieee, -EReal.coe_mul]; norm_num
theorem bot_word : Ideal.ofBits .f32 0xFF800000#32 = ⊥ := by simp [Ideal.ofBits, Ideal.ieee]

theorem div_one_right (x : EReal) : Ideal.div x 1 = x := by
  unfold Ideal.div
  rw [if_neg one_ne_zero, inv_one, mul_one]

/-- A row's maximum on the host: the fold of `max` over the row. -/
theorem max_row {n : Nat} {u : Shape} (l : FVec Ideal ⟨2, ![n, 64]⟩ .f32) (c : FVec Ideal u .f32)
    (h : (⟨2, ![n, 64]⟩ : Shape).ReducesTo [1] ⟨1, ![n]⟩) (hu : 0 < u.numel) (r : Fin n) :
    Host.reduce FloatOps.maximumf l c h hu (ix1 r) = Finset.univ.fold max (c (Shape.Idx.first hu)) fun k => l (ix2 r k) := by
  pointwise

/-! ## The call's payload -/

section Call
open Cert.WeightsIdeal Cert.WeightsIdeal.Gen

def hidK (x : FVec Ideal S2000x3 .f32) (w : FVec Ideal S3x64 .f32) (b : FVec Ideal S1x64 .f32) : FVec Ideal S2000x64 .f32 :=
  addf (matmul dot_S2000x3_S3x64_S2000x64_1_0_0_1_n_n none x w (constant S2000x64 .f32 0x00000000#32))
    (broadcastTo S2000x64 (shapeCast S1x64 b shapeCasts_S1x64_S1x64) broadcasts_S1x64_S2000x64)

def actK (h : FVec Ideal S2000x64 .f32) : FVec Ideal S2000x64 .f32 :=
  select (cmpf .ogt h (broadcast S2000x64 (Scalar.ofBits .f32 0x00000000#32))) h
    (subf (exp h) (broadcast S2000x64 (Scalar.ofBits .f32 0x3F800000#32)))

def linK (e : FVec Ideal S2000x64 .f32) (w : FVec Ideal S64x64 .f32) (b : FVec Ideal S1x64 .f32) : FVec Ideal S2000x64 .f32 :=
  addf (matmul dot_S2000x64_S64x64_S2000x64_1_0_0_1_n_n none e w (constant S2000x64 .f32 0x00000000#32))
    (broadcastTo S2000x64 (shapeCast S1x64 b shapeCasts_S1x64_S1x64) broadcasts_S1x64_S2000x64)

def exK (l : FVec Ideal S2000x64 .f32) : FVec Ideal S2000x64 .f32 :=
  exp (subf l (broadcastTo S2000x64 (shapeCast S2000x1 (multiReduction .maximumf [1] S2000 l 0xFF800000#32 reduces_S2000x64_S2000 (.inl rfl) rfl)
    shapeCasts_S2000_S2000x1) broadcasts_S2000x1_S2000x64))

def softK (x : FVec Ideal S2000x64 .f32) : FVec Ideal S2000x64 .f32 :=
  divf x (broadcastTo S2000x64 (shapeCast S2000x1 (multiReduction .add [1] S2000 x 0x00000000#32 reduces_S2000x64_S2000 (.inl rfl) rfl)
    shapeCasts_S2000_S2000x1) broadcasts_S2000x1_S2000x64)

theorem pay_eq (x : FVec Ideal S2000x3 .f32) (w : FVec Ideal S3x64 .f32) (b : FVec Ideal S1x64 .f32) (w' : FVec Ideal S64x64 .f32)
    (b' : FVec Ideal S1x64 .f32) : k0_pay1 (F := Ideal) x w b w' b' = softK (exK (linK (actK (hidK x w b)) w' b')) := rfl

theorem hidK_at (x : FVec Ideal S2000x3 .f32) (w : FVec Ideal S3x64 .f32) (b : FVec Ideal S1x64 .f32) (r : Fin 2000) (q : Fin 64) :
    hidK x w b (ix2 r q) = hid (fun k => x (ix2 r k)) w (fun q => b (ix2 0 q)) q := by
  pointwise [hidK, hid]

theorem actK_at (h : FVec Ideal S2000x64 .f32) (r : Fin 2000) (q : Fin 64) : actK h (ix2 r q) = act (h (ix2 r q)) := by
  pointwise [actK]
  rfl

theorem linK_at (e : FVec Ideal S2000x64 .f32) (w : FVec Ideal S64x64 .f32) (b : FVec Ideal S1x64 .f32) (r : Fin 2000) (q : Fin 64) :
    linK e w b (ix2 r q) = lin (fun k => e (ix2 r k)) w (fun q => b (ix2 0 q)) q := by
  pointwise [linK, lin]

theorem exK_at (l : FVec Ideal S2000x64 .f32) (r : Fin 2000) (q : Fin 64) : exK l (ix2 r q) = ex (fun k => l (ix2 r k)) q := by
  pointwise [exK, ex]
  rw [bot_word]

theorem softK_at (x : FVec Ideal S2000x64 .f32) (r : Fin 2000) (q : Fin 64) :
    softK x (ix2 r q) = Ideal.div (x (ix2 r q)) (∑ k : Fin 64, x (ix2 r k)) := by
  pointwise [softK]

/-- The payload at row `r` of a block is the row function of the block's row. -/
theorem pay_at (x : FVec Ideal S2000x3 .f32) (w : FVec Ideal S3x64 .f32) (b : FVec Ideal S1x64 .f32) (w' : FVec Ideal S64x64 .f32)
    (b' : FVec Ideal S1x64 .f32) (r : Fin 2000) (q : Fin 64) :
    k0_pay1 (F := Ideal) x w b w' b' (ix2 r q)
      = soft (lin (fun k => act (hid (fun k => x (ix2 r k)) w (fun q => b (ix2 0 q)) k)) w' (fun q => b' (ix2 0 q))) q := by
  simp only [pay_eq, softK_at, exK_at, linK_at, actK_at, hidK_at, soft]

end Call

/-! ## The reference's term -/

section Ref
open Cert.WeightsReferenceIdeal Cert.WeightsReferenceIdeal.Gen

def hidR (x : FVec Ideal S100000x3 .f32) (w : FVec Ideal S3x64 .f32) (b : FVec Ideal S64 .f32) : FVec Ideal S100000x64 .f32 :=
  addf (Host.dotGeneral dot_S100000x3_S3x64_S100000x64_1_0_0_1_n_n none x w)
    (broadcastInDim S100000x64 ![0, 1] bcast_S1x64_S100000x64_0_1 (broadcastInDim S1x64 ![1] bcast_S64_S1x64_1 b))

def actR (h : FVec Ideal S100000x64 .f32) : FVec Ideal S100000x64 .f32 :=
  select (cmpf .ogt h (broadcastInDim S100000x64 ![] bcast_S_S100000x64 (constant S_ .f32 0x00000000#32))) h
    (mulf (broadcastInDim S100000x64 ![] bcast_S_S100000x64 (constant S_ .f32 0x3F800000#32))
      (Host.expm1 (select (cmpf .ogt h (broadcastInDim S100000x64 ![] bcast_S_S100000x64 (constant S_ .f32 0x00000000#32)))
        (broadcastInDim S100000x64 ![] bcast_S_S100000x64 (id (constant S_ .f32 0x00000000#32))) h)))

def linR (e : FVec Ideal S100000x64 .f32) (w : FVec Ideal S64x64 .f32) (b : FVec Ideal S64 .f32) : FVec Ideal S100000x64 .f32 :=
  Host.divf (addf (Host.dotGeneral dot_S100000x64_S64x64_S100000x64_1_0_0_1_n_n none e w)
    (broadcastInDim S100000x64 ![0, 1] bcast_S1x64_S100000x64_0_1 (broadcastInDim S1x64 ![1] bcast_S64_S1x64_1 b)))
    (broadcastInDim S100000x64 ![] bcast_S_S100000x64 (constant S_ .f32 0x3F800000#32))

def maxR (l : FVec Ideal S100000x64 .f32) : FVec Ideal S100000 .f32 :=
  Host.reduce FloatOps.maximumf l (constant S_ .f32 0xFF800000#32) reducesTo_S100000x64_S100000_d1 h_S_

def exR (l : FVec Ideal S100000x64 .f32) (v : FVec Ideal S100000 .f32) : FVec Ideal S100000x64 .f32 :=
  Host.exp (subf l (broadcastInDim S100000x64 ![0, 1] bcast_S100000x1_S100000x64_0_1 (broadcastInDim S100000x1 ![0] bcast_S100000_S100000x1_0
    (maximumf (broadcastInDim S100000 ![] bcast_S_S100000 (constant S_ .f32 0xFF800000#32)) v))))

def softR (x : FVec Ideal S100000x64 .f32) : FVec Ideal S100000x64 .f32 :=
  Host.divf x (broadcastInDim S100000x64 ![0, 1] bcast_S100000x1_S100000x64_0_1 (broadcastInDim S100000x1 ![0] bcast_S100000_S100000x1_0
    (Host.reduceAdd x (constant S_ .f32 0x00000000#32) reducesTo_S100000x64_S100000_d1 h_S_)))

theorem hidR_at (x : FVec Ideal S100000x3 .f32) (w : FVec Ideal S3x64 .f32) (b : FVec Ideal S64 .f32) (r : Fin 100000) (q : Fin 64) :
    hidR x w b (ix2 r q) = hid (fun k => x (ix2 r k)) w (fun q => b (ix1 q)) q := by
  pointwise [hidR, hid]

theorem actR_at (h : FVec Ideal S100000x64 .f32) (r : Fin 100000) (q : Fin 64) : actR h (ix2 r q) = act (h (ix2 r q)) := by
  pointwise [actR]
  unfold act
  split <;> rfl

theorem linR_at (e : FVec Ideal S100000x64 .f32) (w : FVec Ideal S64x64 .f32) (b : FVec Ideal S64 .f32) (r : Fin 100000) (q : Fin 64) :
    linR e w b (ix2 r q) = lin (fun k => e (ix2 r k)) w (fun q => b (ix1 q)) q := by
  pointwise [linR, lin]
  exact div_one_right _

theorem maxR_at (l : FVec Ideal S100000x64 .f32) (r : Fin 100000) :
    maxR l (ix1 r) = Finset.univ.fold max ⊥ fun k => l (ix2 r k) :=
  (max_row l _ _ _ r).trans (congrArg (fun b : EReal => Finset.univ.fold max b fun k : Fin 64 => l (ix2 r k)) bot_word)

theorem exR_row (l : FVec Ideal S100000x64 .f32) (v : FVec Ideal S100000 .f32) (r : Fin 100000) (q : Fin 64) :
    exR l v (ix2 r q) = Ideal.exp (l (ix2 r q) - v (ix1 r)) := by
  pointwise [exR]
  rw [bot_word, max_eq_right bot_le]

theorem exR_at (l : FVec Ideal S100000x64 .f32) (r : Fin 100000) (q : Fin 64) : exR l (maxR l) (ix2 r q) = ex (fun k => l (ix2 r k)) q := by
  rw [exR_row, maxR_at]
  rfl

theorem softR_at (x : FVec Ideal S100000x64 .f32) (r : Fin 100000) (q : Fin 64) :
    softR x (ix2 r q) = Ideal.div (x (ix2 r q)) (∑ k : Fin 64, x (ix2 r k)) := by
  pointwise [softR]

/-- The reference's logits. -/
def logR (x : FVec Ideal S100000x3 .f32) (w : FVec Ideal S3x64 .f32) (b : FVec Ideal S64 .f32) (w' : FVec Ideal S64x64 .f32)
    (b' : FVec Ideal S64 .f32) : FVec Ideal S100000x64 .f32 :=
  linR (actR (hidR x w b)) w' b'

/-- The reference's composition at row `r` is the row function of the argument's row. -/
theorem ref_at (x : FVec Ideal S100000x3 .f32) (w : FVec Ideal S3x64 .f32) (b : FVec Ideal S64 .f32) (w' : FVec Ideal S64x64 .f32)
    (b' : FVec Ideal S64 .f32) (r : Fin 100000) (q : Fin 64) :
    softR (exR (logR x w b w' b') (maxR (logR x w b w' b'))) (ix2 r q)
      = soft (lin (fun k => act (hid (fun k => x (ix2 r k)) w (fun q => b (ix1 q)) k)) w' (fun q => b' (ix1 q))) q := by
  simp only [softR_at, exR_at, logR, linR_at, actR_at, hidR_at, soft]

/-- The reference's result is the composition of its stages. -/
theorem res_eq (m : (ℓ : Loc nD τ sig) → Buf (Elt Ideal) ℓ) (c : Dev nD) {L : FVec Ideal S100000x64 .f32}
    (hL : L = logR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) :
    Cert.WeightsReferenceIdeal.Value.res_main_v21 m c = softR (exR L (maxR L)) := by
  subst hL
  rfl

end Ref

end Cert.Proof.Weights

end
-- ==== Proof.WeightsRun.lean ====
/- The weights of the points: what the call's array ends holding, and its equality with the reference's. -/
module

public import proofs.«01_k».proof.Proof.Weights

@[expose] public section

noncomputable section

namespace Cert.Proof.Weights

open Idealize.ShloMosaic Idealize.ShloMosaic.TcCoe Idealize.SL.Sem

/-- The whole result as a function of the five arguments: each row the row function of the point's row. -/
def out (x : FVec Ideal ⟨2, ![100000, 3]⟩ .f32) (w : FVec Ideal SW1 .f32) (b : FVec Ideal ⟨1, ![64]⟩ .f32) (w' : FVec Ideal SW2 .f32)
    (b' : FVec Ideal ⟨1, ![64]⟩ .f32) : FVec Ideal ⟨2, ![100000, 64]⟩ .f32 := fun j =>
  soft (lin (fun k => act (hid (fun k => x (ix2 (n0 := 100000) (j 0) k)) w (fun q => b (ix1 q)) k)) w' (fun q => b' (ix1 q))) (j 1)

section Call
open Cert.WeightsIdeal Cert.WeightsIdeal.Gen

variable (m : (ℓ : Loc nD τ sig) → Buf (Elt Ideal) ℓ)

/-! ## The windows -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- Row `r` of point `t`'s block is row `2000·t + r` of the array. -/
def row (t : Fin cfg0.N) (r : Fin 2000) : Fin 100000 :=
  ⟨t.val * 2000 + r.val, by have h : t.val < 50 := t.isLt; have := r.isLt; omega⟩

theorem emb0 (t : Fin cfg0.N) (r : Fin 2000) (k : Fin 3) : ((cfg0.win 0).blk t).view.emb (ix2 r k) = ix2 (row t r) k := by
  obtain ⟨e0, e1⟩ := idx0 t
  funext a; apply Fin.ext
  match a with
  | ⟨0, _⟩ => show win0_0.index t (0 : Fin 2) * 2000 + 1 * r.val = t.val * 2000 + r.val; omega
  | ⟨1, _⟩ => show win0_0.index t (1 : Fin 2) * 3 + 1 * k.val = k.val; omega

theorem emb5 (t : Fin cfg0.N) (r : Fin 2000) (q : Fin 64) : ((cfg0.win 5).blk t).view.emb (ix2 r q) = ix2 (row t r) q := by
  obtain ⟨e0, e1⟩ := idx5 t
  funext a; apply Fin.ext
  match a with
  | ⟨0, _⟩ => show win0_5.index t (0 : Fin 2) * 2000 + 1 * r.val = t.val * 2000 + r.val; omega
  | ⟨1, _⟩ => show win0_5.index t (1 : Fin 2) * 64 + 1 * q.val = q.val; omega

theorem emb1 (t : Fin cfg0.N) (j : S3x64.Idx) : ((cfg0.win 1).blk t).view.emb j = j := by
  obtain ⟨e0, e1⟩ := idx1 t
  funext a; apply Fin.ext
  match a with
  | ⟨0, _⟩ => show win0_1.index t (0 : Fin 2) * 3 + 1 * (j 0).val = (j 0).val; omega
  | ⟨1, _⟩ => show win0_1.index t (1 : Fin 2) * 64 + 1 * (j 1).val = (j 1).val; omega

theorem emb2 (t : Fin cfg0.N) (j : S1x64.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 64 + 1 * (j 1).val = (j 1).val; omega

theorem emb3 (t : Fin cfg0.N) (j : S64x64.Idx) : ((cfg0.win 3).blk t).view.emb j = j := by
  obtain ⟨e0, e1⟩ := idx3 t
  funext a; apply Fin.ext
  match a with
  | ⟨0, _⟩ => show win0_3.index t (0 : Fin 2) * 64 + 1 * (j 0).val = (j 0).val; omega
  | ⟨1, _⟩ => show win0_3.index t (1 : Fin 2) * 64 + 1 * (j 1).val = (j 1).val; omega

theorem emb4 (t : Fin cfg0.N) (j : S1x64.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 64 + 1 * (j 1).val = (j 1).val; omega

/-! ## The input blocks -/

theorem iblk0_at (c : Dev nD) (t : Fin cfg0.N) (r : Fin 2000) (k : Fin 3) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_eq (c : Dev nD) (t : Fin cfg0.N) : iblk m c 1 t = m ((c : Thread nD τ).loc main_arg1) := by
  funext j; show V m c main_arg1 (((cfg0.win 1).blk t).view.emb j) = _; rw [emb1, V_main_arg1]

theorem iblk3_eq (c : Dev nD) (t : Fin cfg0.N) : iblk m c 3 t = m ((c : Thread nD τ).loc main_arg3) := by
  funext j; show V m c main_arg3 (((cfg0.win 3).blk t).view.emb j) = _; rw [emb3, V_main_arg3]

/-- The region finds the first bias as one row. -/
theorem V_v0 (c : Dev nD) : V m c main_v0 = shapeCast S1x64 (m ((c : Thread nD τ).loc main_arg2)) shapeCasts_S64_S1x64 := by
  show StableHlo.after hostOps0 _ (Proc.devRef .tc main_v0) = _
  after_results
  rfl

/-- And the second. -/
theorem V_v1 (c : Dev nD) : V m c main_v1 = shapeCast S1x64 (m ((c : Thread nD τ).loc main_arg4)) shapeCasts_S64_S1x64 := by
  show StableHlo.after hostOps0 _ (Proc.devRef .tc main_v1) = _
  after_results
  rfl

/-- A vector relaid as one row is read at the row's position. -/
theorem bias_at (b : FVec Ideal S64 .f32) (q : Fin 64) : shapeCast S1x64 b shapeCasts_S64_S1x64 (ix2 0 q) = b (ix1 q) := by
  pointwise

theorem iblk2_at (c : Dev nD) (t : Fin cfg0.N) (q : Fin 64) : iblk m c 2 t (ix2 0 q) = m ((c : Thread nD τ).loc main_arg2) (ix1 q) := by
  show V m c main_v0 (((cfg0.win 2).blk t).view.emb (ix2 0 q)) = _
  rw [emb2, V_v0]
  exact bias_at _ q

theorem iblk4_at (c : Dev nD) (t : Fin cfg0.N) (q : Fin 64) : iblk m c 4 t (ix2 0 q) = m ((c : Thread nD τ).loc main_arg4) (ix1 q) := by
  show V m c main_v1 (((cfg0.win 4).blk t).view.emb (ix2 0 q)) = _
  rw [emb4, V_v1]
  exact bias_at _ q

/-! ## The array after the run -/

theorem hz : (![0, 0] : Fin 2 → Nat) = fun _ => 0 := funext fun a => by fin_cases a <;> rfl

theorem out0_eq (x0 : FVec Ideal S2000x3 .f32) (x1 : FVec Ideal S3x64 .f32) (x2 : FVec Ideal S1x64 .f32) (x3 : FVec Ideal S64x64 .f32)
    (x4 : FVec Ideal S1x64 .f32) : out0_5 (F := Ideal) x0 x1 x2 x3 x4 = k0_pay1 (F := Ideal) x0 x1 x2 x3 x4 := by
  unfold out0_5
  rw [View.canon_unit_zero hz, View.ld_unit_zero hz, View.ld_unit_zero hz, View.ld_unit_zero hz, View.ld_unit_zero hz, View.ld_unit_zero hz]

/-- The arguments' result, at the call. -/
abbrev outM (c : Dev nD) : FVec Ideal S100000x64 .f32 :=
  out (m ((c : Thread nD τ).loc main_arg0)) (m ((c : Thread nD τ).loc main_arg1)) (m ((c : Thread nD τ).loc main_arg2))
    (m ((c : Thread nD τ).loc main_arg3)) (m ((c : Thread nD τ).loc main_arg4))

/-- The block that point `t` writes, at row `r`, is row `2000·t + r` of the result. -/
theorem block_at (c : Dev nD) (t : Fin cfg0.N) (r : Fin 2000) (q : Fin 64) :
    k0_pay1 (F := Ideal) (iblk m c 0 t) (iblk m c 1 t) (iblk m c 2 t) (iblk m c 3 t) (iblk m c 4 t) (ix2 r q) = outM m c (ix2 (row t r) q) := by
  rw [pay_at]
  simp only [iblk0_at, iblk1_eq, iblk2_at, iblk3_eq, iblk4_at]
  rfl

/-- What point `t` writes back is its block of the result. -/
theorem flushed_eq (c : Dev nD) (t : Fin cfg0.N) :
    (dats m 0 c).flushed 5 t = ((cfg0.win 5).blk t).view.read (Elt Ideal) (outM m c) := by
  rw [Cert.WeightsIdeal.Value.flushed5, out0_eq]
  funext j
  obtain ⟨r, q, rfl⟩ : ∃ (r : Fin 2000) (q : Fin 64), j = ix2 r q := ⟨j 0, j 1, eq_ix2 j⟩
  show k0_pay1 (F := Ideal) _ _ _ _ _ (ix2 r q) = outM m c (((cfg0.win 5).blk t).view.emb (ix2 r q))
  rw [emb5, block_at]

/-- Every row is in some point's block. -/
theorem covered (i : S100000x64.Idx) :
    ∃ t : Fin cfg0.N, (cfg0.win 5).flush t = true ∧ i ∈ ((cfg0.win 5).blk t).view.set := by
  have hi : (i 0).val < 100000 := (i 0).isLt
  have ht : (i 0).val / 2000 < 50 := by omega
  refine ⟨⟨(i 0).val / 2000, ht⟩, flush0_5 _, ?_⟩
  have e : ((cfg0.win 5).blk (⟨(i 0).val / 2000, ht⟩ : Fin cfg0.N)).view.emb
      (ix2 (n0 := 2000) (n1 := 64) ⟨(i 0).val % 2000, Nat.mod_lt _ (by omega)⟩ (i 1)) = i :=
    ((emb5 ⟨(i 0).val / 2000, ht⟩ ⟨(i 0).val % 2000, Nat.mod_lt _ (by omega)⟩ (i 1)).trans
      (congrArg (fun p => ix2 p (n1 := 64) (i 1)) (Fin.ext (by show (i 0).val / 2000 * 2000 + (i 0).val % 2000 = (i 0).val; omega)))).trans
      (eq_ix2 i).symm
  exact (congrArg (· ∈ ((cfg0.win 5).blk (⟨(i 0).val / 2000, ht⟩ : Fin cfg0.N)).view.set) e).mp
    (((cfg0.win 5).blk (⟨(i 0).val / 2000, ht⟩ : Fin cfg0.N)).view.emb_mem_set _)

/-- The result array after the run. -/
theorem final (c : Dev nD) : (dats m 0 c).arrAt 5 cfg0.N = outM m c :=
  (dats m 0 c).arrAt_eq_of_cover 5 (outM m c) (fun t _ => flushed_eq m c t) covered

end Call

/-- The reference's result is the same function of its arguments. -/
theorem ref_eq (m : (ℓ : Loc Cert.WeightsReferenceIdeal.nD Cert.WeightsReferenceIdeal.τ Cert.WeightsReferenceIdeal.sig) → Buf (Elt Ideal) ℓ)
    (c : Dev Cert.WeightsReferenceIdeal.nD) : Cert.WeightsReferenceIdeal.Value.res_main_v21 m c
      = out (m ((c.tc : Thread Cert.WeightsReferenceIdeal.nD Cert.WeightsReferenceIdeal.τ).loc Cert.WeightsReferenceIdeal.main_arg0))
          (m ((c.tc : Thread Cert.WeightsReferenceIdeal.nD Cert.WeightsReferenceIdeal.τ).loc Cert.WeightsReferenceIdeal.main_arg1))
          (m ((c.tc : Thread Cert.WeightsReferenceIdeal.nD Cert.WeightsReferenceIdeal.τ).loc Cert.WeightsReferenceIdeal.main_arg2))
          (m ((c.tc : Thread Cert.WeightsReferenceIdeal.nD Cert.WeightsReferenceIdeal.τ).loc Cert.WeightsReferenceIdeal.main_arg3))
          (m ((c.tc : Thread Cert.WeightsReferenceIdeal.nD Cert.WeightsReferenceIdeal.τ).loc Cert.WeightsReferenceIdeal.main_arg4)) := by
  rw [res_eq m c rfl]
  funext j
  obtain ⟨r, q, rfl⟩ : ∃ (r : Fin 100000) (q : Fin 64), j = ix2 r q := ⟨j 0, j 1, eq_ix2 j⟩
  rw [ref_at]
  rfl

/-! ## The claims -/

/-- The call runs and leaves its arguments as they were, over the float words … -/
theorem frame : Cert.quiescent_Weights (hWeights := Cert.Weights.Gen.facts) := fun m ρ _ => Cert.Weights.Gen.frame m ρ

/-- … and over the extended reals. -/
theorem frame_ideal : Cert.quiescent_WeightsIdeal (hWeightsIdeal := Cert.WeightsIdeal.Gen.facts) := fun m ρ _ => Cert.WeightsIdeal.Gen.frame m ρ

/-- The reference of the weights runs, leaves its arguments and declares no semaphore. -/
theorem frame_ref : Cert.quiescent_WeightsReferenceIdeal (hWeightsReferenceIdeal := Cert.WeightsReferenceIdeal.Gen.facts) := fun m ρ _ =>
  (θ_run Cert.WeightsReferenceIdeal.defs _ _).mono (fun r h => ⟨fun c => (h c).2, sem_eq_zero_of_no_sems (by decide) r.2⟩)
    (Cert.WeightsReferenceIdeal.Value.run (F := Ideal) m ρ)

/-- Over the extended reals the call's array is the reference's weights. -/
theorem algebraic : Cert.algebraic_WeightsIdeal_WeightsReferenceIdeal (hWeightsIdeal := Cert.WeightsIdeal.Gen.facts)
    (hWeightsReferenceIdeal := Cert.WeightsReferenceIdeal.Gen.facts) := fun m g m' g' _ hm => by
  refine ⟨fun c => outM m c, ?_, ?_⟩
  · exact (θ_run Cert.WeightsIdeal.defs _ _).mono (fun _ h c => ⟨(h c).1.trans (final m c), (h c).2⟩)
      (Cert.WeightsIdeal.Value.run_blocks (F := Ideal) m g)
  · refine (θ_run Cert.WeightsReferenceIdeal.defs _ _).mono (fun _ h c => ⟨((h c).1.trans (ref_eq m' c)).trans ?_, (h c).2⟩)
      (Cert.WeightsReferenceIdeal.Value.run (F := Ideal) m' g')
    rw [(hm c).1, (hm c).2.1, (hm c).2.2.1, (hm c).2.2.2.1, (hm c).2.2.2.2]

end Cert.Proof.Weights

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sorted_ids
public import proofs.«01_k».proof.Proof.Run
public import proofs.«01_k».proof.Proof.Decode
public import proofs.«01_k».proof.Proof.Value
public import proofs.«01_k».proof.Proof.Combine
public import proofs.«01_k».proof.Proof.WeightsRun

@[expose] public section

noncomputable section

namespace Cert.Proof

open Idealize.ShloMosaic Idealize.SL.Sem

open Cert.KernelIdeal.Sums

/-- The kernel at the float words: every tile ends without a fault, the three arguments are as they were and every semaphore
    counter is zero, of sorted ids below 512. -/
theorem frame_kernel : Cert.quiescent_Kernel (hKernel := Cert.Kernel.Gen.facts) (hPre_sorted_ids := Cert.Pre_sorted_ids.Gen.facts) := fun m ρ hp =>
  (θ_run Cert.KernelIdeal.defs _ _).mono (fun _ h => ⟨fun c => ⟨(h.1 c).1, (h.1 c).2.1, (h.1 c).2.2.1⟩, h.2⟩)
    (run_main (F := Bits) m ρ fun d => good_of (F := Bits) _ _ _ (hp d))

/-- The same of the kernel over the extended reals. -/
theorem frame_ideal : Cert.quiescent_KernelIdeal (hKernelIdeal := Cert.KernelIdeal.Gen.facts) (hPre_sorted_ids := Cert.Pre_sorted_ids.Gen.facts) := fun m ρ hp =>
  (θ_run Cert.KernelIdeal.defs _ _).mono (fun _ h => ⟨fun c => ⟨(h.1 c).1, (h.1 c).2.1, (h.1 c).2.2.1⟩, h.2⟩)
    (run_main (F := Ideal) m ρ fun d => good_of (F := Ideal) _ _ _ (hp d))

/-- The reference runs, leaves its arguments and declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the array that the SparseCore call leaves is the reference's: row `512·c + k` is the sum of
    `x·w` over those rows of core `c`'s half whose id is `k`. -/
theorem algebraic : Cert.algebraic_KernelIdeal_ReferenceIdeal (hKernelIdeal := Cert.KernelIdeal.Gen.facts) (hReferenceIdeal := Cert.ReferenceIdeal.Gen.facts) (hPre_sorted_ids := Cert.Pre_sorted_ids.Gen.facts) :=
  fun m g m' g' hp hm => by
  have hg : ∀ d, Good (idOf (aI (F := Ideal) m d)) := fun d => good_of (F := Ideal) _ _ _ (hp d)
  refine ⟨fun c => refR (m (lA c)) (m (lW c)) (m (lI c)), ?_, ?_⟩
  · exact (θ_run Cert.KernelIdeal.defs _ _).mono
      (fun _ h c => ⟨outs_eq (m (lA c)) (m (lW c)) (m (lI c)) (hg c) _ (h.1 c).2.2.2, (h.1 c).1, (h.1 c).2.1, (h.1 c).2.2.1⟩)
      (run_main (F := Ideal) m g hg)
  · refine (θ_run Cert.ReferenceIdeal.defs _ _).mono (fun _ h c => ⟨(h c).1.trans ?_, (h c).2⟩) (Cert.ReferenceIdeal.Value.run (F := Ideal) m' g')
    rw [(hm c).1, (hm c).2.1, (hm c).2.2]

/-- All the claims. -/
theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts,
  Cert.Weights.Gen.facts, Cert.WeightsIdeal.Gen.facts, Cert.WeightsReferenceIdeal.Gen.facts, Cert.Pre_sorted_ids.Gen.facts,
  frame_kernel, frame_ideal, frame_ref, fun m ρ _ => frame_ref m ρ trivial,
  Combine.frame, Combine.frame_ideal, Combine.frame_ref, Weights.frame, Weights.frame_ideal, Weights.frame_ref,
  trivial, algebraic, trivial, Combine.algebraic, trivial, Weights.algebraic⟩

end Cert.Proof

end
